-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkf [hPre_finite_qkf : Cert.Pre_finite_qkf.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qkf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_qkf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkf [hPre_finite_qkf : Cert.Pre_finite_qkf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qkf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_qkf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qkf [hKernelIdeal : Cert.KernelIdeal.Facts] [hPre_finite_qkf : Cert.Pre_finite_qkf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qkf [hReferenceIdeal : Cert.ReferenceIdeal.Facts] [hPre_finite_qkf : Cert.Pre_finite_qkf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite_qkf [hKernelIdeal : Cert.KernelIdeal.Facts] [hReferenceIdeal : Cert.ReferenceIdeal.Facts] [hPre_finite_qkf : Cert.Pre_finite_qkf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qkf : Cert.Pre_finite_qkf.Facts),
    quiescent_Kernel (hKernel := hKernel)
    ∧ quiescent_KernelIdeal (hKernelIdeal := hKernelIdeal)
    ∧ quiescent_KernelIdeal_pre_finite_qkf (hKernelIdeal := hKernelIdeal) (hPre_finite_qkf := hPre_finite_qkf)
    ∧ quiescent_ReferenceIdeal (hReferenceIdeal := hReferenceIdeal)
    ∧ quiescent_ReferenceIdeal_pre_finite_qkf (hReferenceIdeal := hReferenceIdeal) (hPre_finite_qkf := hPre_finite_qkf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qkf (hKernelIdeal := hKernelIdeal) (hReferenceIdeal := hReferenceIdeal) (hPre_finite_qkf := hPre_finite_qkf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_qkf.lean ====
abbrev S2x8192x16x64 : Shape := ⟨4, ![2, 8192, 16, 64]⟩
abbrev S2x8192x16 : Shape := ⟨3, ![2, 8192, 16]⟩
abbrev S_ : Shape := ⟨0, ![]⟩

class Facts : Prop where
  bcast_S_S2x8192x16x64 : S_.BroadcastsInDim S2x8192x16x64 (![] : Fin 0 → Fin S2x8192x16x64.rank)
  bcast_S_S2x8192x16 : S_.BroadcastsInDim S2x8192x16 (![] : Fin 0 → Fin S2x8192x16.rank)

variable [Facts]

def fn {F : FTy → Type} [FloatOps F] (main_arg0 : FVec F S2x8192x16x64 .f32) (main_arg1 : FVec F S2x8192x16x64 .f32) (main_arg2 : FVec F S2x8192x16x64 .f32) (main_arg3 : FVec F S2x8192x16 .f32) : IVec S2x8192x16x64 1 × IVec S2x8192x16x64 1 × IVec S2x8192x16 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_v3 : FVec F S2x8192x16x64 .f32 := Host.absf main_arg1
  let main_cst_0 : FVec F S_ .f32 := constant S_ .f32 0x7F800000#32
  let main_v4 : FVec F S2x8192x16x64 .f32 := broadcastInDim S2x8192x16x64 ![] bcast_S_S2x8192x16x64 main_cst_0
  let main_v5 : IVec S2x8192x16x64 1 := cmpf .olt main_v3 main_v4
  let main_v6 : FVec F S2x8192x16 .f32 := Host.absf main_arg3
  let main_cst_1 : FVec F S_ .f32 := constant S_ .f32 0x7F800000#32
  let main_v7 : FVec F S2x8192x16 .f32 := broadcastInDim S2x8192x16 ![] bcast_S_S2x8192x16 main_cst_1
  let main_v8 : IVec S2x8192x16 1 := cmpf .olt main_v6 main_v7
  (main_v2, main_v5, main_v8)
-- ==== Kernel.lean ====
abbrev S2x8192x16x64 : Shape := ⟨4, ![2, 8192, 16, 64]⟩
abbrev S2x8192x16 : Shape := ⟨3, ![2, 8192, 16]⟩
abbrev S_ : Shape := ⟨0, ![]⟩
abbrev S2x8192x16x3 : Shape := ⟨4, ![2, 8192, 16, 3]⟩
abbrev S2x8192x16x61 : Shape := ⟨4, ![2, 8192, 16, 61]⟩
abbrev S2x8192x16x128 : Shape := ⟨4, ![2, 8192, 16, 128]⟩
abbrev S2x8192x16x1 : Shape := ⟨4, ![2, 8192, 16, 1]⟩
abbrev S2x16x512x16x64 : Shape := ⟨5, ![2, 16, 512, 16, 64]⟩
abbrev S2x16x16x64x512 : Shape := ⟨5, ![2, 16, 16, 64, 512]⟩
abbrev S2x16x16x1x512 : Shape := ⟨5, ![2, 16, 16, 1, 512]⟩
abbrev S2x16x16x15x512 : Shape := ⟨5, ![2, 16, 16, 15, 512]⟩
abbrev S2x16x16x80x512 : Shape := ⟨5, ![2, 16, 16, 80, 512]⟩
abbrev S2x16x8192x128 : Shape := ⟨4, ![2, 16, 8192, 128]⟩
abbrev S2x8192x1024 : Shape := ⟨3, ![2, 8192, 1024]⟩
abbrev S1x4x512x128 : Shape := ⟨4, ![1, 4, 512, 128]⟩
abbrev S1x4x8192x128 : Shape := ⟨4, ![1, 4, 8192, 128]⟩
abbrev S1x4x16x80x512 : Shape := ⟨5, ![1, 4, 16, 80, 512]⟩
abbrev S1x512x256 : Shape := ⟨3, ![1, 512, 256]⟩
abbrev S4x512x512 : Shape := ⟨3, ![4, 512, 512]⟩
abbrev S4x1x512 : Shape := ⟨3, ![4, 1, 512]⟩
abbrev S4x80x512 : Shape := ⟨3, ![4, 80, 512]⟩
abbrev S1x1x512x128 : Shape := ⟨4, ![1, 1, 512, 128]⟩
abbrev S512x128 : Shape := ⟨2, ![512, 128]⟩
abbrev S1x1x256x128 : Shape := ⟨4, ![1, 1, 256, 128]⟩
abbrev S256x128 : Shape := ⟨2, ![256, 128]⟩
abbrev S512x256 : Shape := ⟨2, ![512, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S80x256 : Shape := ⟨2, ![80, 256]⟩
abbrev S1x1x1x80x512 : Shape := ⟨5, ![1, 1, 1, 80, 512]⟩
abbrev S80x512 : Shape := ⟨2, ![80, 512]⟩
abbrev S1x256x256 : Shape := ⟨3, ![1, 256, 256]⟩
abbrev S256x256 : Shape := ⟨2, ![256, 256]⟩
abbrev S1x1x1x80x256 : Shape := ⟨5, ![1, 1, 1, 80, 256]⟩
abbrev S1x64x512 : Shape := ⟨3, ![1, 64, 512]⟩
abbrev S64x512 : Shape := ⟨2, ![64, 512]⟩
abbrev S1x1x512 : Shape := ⟨3, ![1, 1, 512]⟩
abbrev S1x512 : Shape := ⟨2, ![1, 512]⟩
abbrev S256x512 : Shape := ⟨2, ![256, 512]⟩

abbrev nBuf : Space → Nat
  | .hbm => 50
  | .vmem => 12
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S2x8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8192x16, .f32⟩
  | .hbm, ⟨11, _⟩ => ⟨S_, .f32⟩
  | .hbm, ⟨12, _⟩ => ⟨S2x8192x16, .f32⟩
  | .hbm, ⟨13, _⟩ => ⟨S2x8192x16, .f32⟩
  | .hbm, ⟨14, _⟩ => ⟨S2x8192x16, .bf16⟩
  | .hbm, ⟨15, _⟩ => ⟨S2x8192x16, .f32⟩
  | .hbm, ⟨16, _⟩ => ⟨S2x8192x16, .f32⟩
  | .hbm, ⟨17, _⟩ => ⟨S2x8192x16, .bf16⟩
  | .hbm, ⟨18, _⟩ => ⟨S2x8192x16, .f32⟩
  | .hbm, ⟨19, _⟩ => ⟨S2x8192x16, .f32⟩
  | .hbm, ⟨20, _⟩ => ⟨S2x8192x16, .bf16⟩
  | .hbm, ⟨21, _⟩ => ⟨S_, .f32⟩
  | .hbm, ⟨22, _⟩ => ⟨S2x8192x16x64, .f32⟩
  | .hbm, ⟨23, _⟩ => ⟨S2x8192x16x64, .f32⟩
  | .hbm, ⟨24, _⟩ => ⟨S2x8192x16x64, .f32⟩
  | .hbm, ⟨25, _⟩ => ⟨S2x8192x16x64, .f32⟩
  | .hbm, ⟨26, _⟩ => ⟨S2x8192x16x64, .bf16⟩
  | .hbm, ⟨27, _⟩ => ⟨S_, .bf16⟩
  | .hbm, ⟨28, _⟩ => ⟨S2x8192x16x3, .bf16⟩
  | .hbm, ⟨29, _⟩ => ⟨S_, .bf16⟩
  | .hbm, ⟨30, _⟩ => ⟨S2x8192x16x61, .bf16⟩
  | .hbm, ⟨31, _⟩ => ⟨S2x8192x16x128, .bf16⟩
  | .hbm, ⟨32, _⟩ => ⟨S2x8192x16x64, .bf16⟩
  | .hbm, ⟨33, _⟩ => ⟨S2x8192x16x1, .bf16⟩
  | .hbm, ⟨34, _⟩ => ⟨S2x8192x16x1, .bf16⟩
  | .hbm, ⟨35, _⟩ => ⟨S2x8192x16x1, .bf16⟩
  | .hbm, ⟨36, _⟩ => ⟨S_, .bf16⟩
  | .hbm, ⟨37, _⟩ => ⟨S2x8192x16x61, .bf16⟩
  | .hbm, ⟨38, _⟩ => ⟨S2x8192x16x128, .bf16⟩
  | .hbm, ⟨39, _⟩ => ⟨S2x8192x16x64, .bf16⟩
  | .hbm, ⟨40, _⟩ => ⟨S2x16x512x16x64, .bf16⟩
  | .hbm, ⟨41, _⟩ => ⟨S2x16x16x64x512, .bf16⟩
  | .hbm, ⟨42, _⟩ => ⟨S_, .bf16⟩
  | .hbm, ⟨43, _⟩ => ⟨S2x16x16x1x512, .bf16⟩
  | .hbm, ⟨44, _⟩ => ⟨S_, .bf16⟩
  | .hbm, ⟨45, _⟩ => ⟨S2x16x16x15x512, .bf16⟩
  | .hbm, ⟨46, _⟩ => ⟨S2x16x16x80x512, .bf16⟩
  | .hbm, ⟨47, _⟩ => ⟨S2x16x8192x128, .bf16⟩
  | .hbm, ⟨48, _⟩ => ⟨S2x16x8192x128, .bf16⟩
  | .hbm, ⟨49, _⟩ => ⟨S2x8192x1024, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x8192x128, .bf16⟩
  | .local _ .vmem, ⟨3, _⟩ => ⟨S1x4x8192x128, .bf16⟩
  | .local _ .vmem, ⟨4, _⟩ => ⟨S1x4x16x80x512, .bf16⟩
  | .local _ .vmem, ⟨5, _⟩ => ⟨S1x4x16x80x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x512x512, .f32⟩
  | .local _ .vmem, ⟨9, _⟩ => ⟨S4x512x512, .f32⟩
  | .local _ .vmem, ⟨10, _⟩ => ⟨S4x1x512, .f32⟩
  | .local _ .vmem, ⟨11, _⟩ => ⟨S4x80x512, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
def k0_mult2 : BitVec 32 :=
  let c0_i32_24 : BitVec 32 := 0#32
  c0_i32_24
def k0_mult3 : BitVec 32 :=
  let c0_i32_43 : BitVec 32 := 0#32
  c0_i32_43
def k0_mult4 : BitVec 32 :=
  let c0_i32_62 : BitVec 32 := 0#32
  c0_i32_62
@[reducible] def k0_t1_loop (i : grid0.Coords) : Scf.Loop 32 :=
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_89 : BitVec 32 := 1#32
  ⟨c0_i32_87, v93, c1_i32_89⟩
def k0_mult5 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_138 : BitVec 32 := 1#32
  let v159 : BitVec 32 := Scalar.addi v158 c1_i32_138
  let c512_i32 : BitVec 32 := 512#32
  let v160 : BitVec 32 := Scalar.muli v159 c512_i32
  v160
def k0_off1 (i : grid0.Coords) (k0_t1 : Fin (k0_t1_loop i).trips) (c1_i32_138 : BitVec 32) : Fin 4 → Nat :=
  let c0_139 : Index := 0#32
  let c0_140 : Index := 0#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v159 : BitVec 32 := Scalar.addi v158 c1_i32_138
  let c512_i32 : BitVec 32 := 512#32
  let v160 : BitVec 32 := Scalar.muli v159 c512_i32
  let v161 : BitVec 32 := v160
  let v162 : Index := Scalar.indexCast v161
  let c0_141 : Index := 0#32
  ![0, 0, v162.toNat, 0]
def k0_off2 (i : grid0.Coords) (k0_t1 : Fin (k0_t1_loop i).trips) : Fin 5 → Nat :=
  let c0_168 : Index := 0#32
  let c0_169 : Index := 0#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v194 : Index := Scalar.indexCast v158
  let c0_170 : Index := 0#32
  let c0_171 : Index := 0#32
  ![0, 0, v194.toNat, 0, 0]
def k0_mult6 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_200 : BitVec 32 := 1#32
  let v233 : BitVec 32 := Scalar.addi v158 c1_i32_200
  let c512_i32_201 : BitVec 32 := 512#32
  let v234 : BitVec 32 := Scalar.muli v233 c512_i32_201
  v234
def k0_off3 (i : grid0.Coords) (k0_t1 : Fin (k0_t1_loop i).trips) (c1_i32_200 : BitVec 32) : Fin 4 → Nat :=
  let c0_202 : Index := 0#32
  let c1_203 : Index := 1#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v233 : BitVec 32 := Scalar.addi v158 c1_i32_200
  let c512_i32_201 : BitVec 32 := 512#32
  let v234 : BitVec 32 := Scalar.muli v233 c512_i32_201
  let v235 : BitVec 32 := v234
  let v236 : Index := Scalar.indexCast v235
  let c0_204 : Index := 0#32
  ![0, 1, v236.toNat, 0]
def k0_off4 (i : grid0.Coords) (k0_t1 : Fin (k0_t1_loop i).trips) : Fin 5 → Nat :=
  let c0_231 : Index := 0#32
  let c1_232 : Index := 1#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v268 : Index := Scalar.indexCast v158
  let c0_233 : Index := 0#32
  let c0_234 : Index := 0#32
  ![0, 1, v268.toNat, 0, 0]
def k0_mult7 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_263 : BitVec 32 := 1#32
  let v307 : BitVec 32 := Scalar.addi v158 c1_i32_263
  let c512_i32_264 : BitVec 32 := 512#32
  let v308 : BitVec 32 := Scalar.muli v307 c512_i32_264
  v308
def k0_off5 (i : grid0.Coords) (k0_t1 : Fin (k0_t1_loop i).trips) (c1_i32_263 : BitVec 32) : Fin 4 → Nat :=
  let c0_265 : Index := 0#32
  let c2_266 : Index := 2#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v307 : BitVec 32 := Scalar.addi v158 c1_i32_263
  let c512_i32_264 : BitVec 32 := 512#32
  let v308 : BitVec 32 := Scalar.muli v307 c512_i32_264
  let v309 : BitVec 32 := v308
  let v310 : Index := Scalar.indexCast v309
  let c0_267 : Index := 0#32
  ![0, 2, v310.toNat, 0]
def k0_off6 (i : grid0.Coords) (k0_t1 : Fin (k0_t1_loop i).trips) : Fin 5 → Nat :=
  let c0_294 : Index := 0#32
  let c2_295 : Index := 2#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v342 : Index := Scalar.indexCast v158
  let c0_296 : Index := 0#32
  let c0_297 : Index := 0#32
  ![0, 2, v342.toNat, 0, 0]
def k0_mult8 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_326 : BitVec 32 := 1#32
  let v381 : BitVec 32 := Scalar.addi v158 c1_i32_326
  let c512_i32_327 : BitVec 32 := 512#32
  let v382 : BitVec 32 := Scalar.muli v381 c512_i32_327
  v382
def k0_off7 (i : grid0.Coords) (k0_t1 : Fin (k0_t1_loop i).trips) (c1_i32_326 : BitVec 32) : Fin 4 → Nat :=
  let c0_328 : Index := 0#32
  let c3_329 : Index := 3#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v381 : BitVec 32 := Scalar.addi v158 c1_i32_326
  let c512_i32_327 : BitVec 32 := 512#32
  let v382 : BitVec 32 := Scalar.muli v381 c512_i32_327
  let v383 : BitVec 32 := v382
  let v384 : Index := Scalar.indexCast v383
  let c0_330 : Index := 0#32
  ![0, 3, v384.toNat, 0]
def k0_off8 (i : grid0.Coords) (k0_t1 : Fin (k0_t1_loop i).trips) : Fin 5 → Nat :=
  let c0_357 : Index := 0#32
  let c3_358 : Index := 3#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let v416 : Index := Scalar.indexCast v158
  let c0_359 : Index := 0#32
  let c0_360 : Index := 0#32
  ![0, 3, v416.toNat, 0, 0]
def k0_mult9 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c2_i32_389 : BitVec 32 := 2#32
  let v455 : BitVec 32 := Scalar.addi v158 c2_i32_389
  let c512_i32_390 : BitVec 32 := 512#32
  let v456 : BitVec 32 := Scalar.muli v455 c512_i32_390
  v456
def k0_off9 (i : grid0.Coords) (k0_t1 : Fin (k0_t1_loop i).trips) : Fin 5 → Nat :=
  let c0_421 : Index := 0#32
  let c0_422 : Index := 0#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_410 : BitVec 32 := 1#32
  let v473 : BitVec 32 := Scalar.addi v158 c1_i32_410
  let v491 : Index := Scalar.indexCast v473
  let c0_423 : Index := 0#32
  let c0_424 : Index := 0#32
  ![0, 0, v491.toNat, 0, 0]
def k0_mult10 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c2_i32_453 : BitVec 32 := 2#32
  let v530 : BitVec 32 := Scalar.addi v158 c2_i32_453
  let c512_i32_454 : BitVec 32 := 512#32
  let v531 : BitVec 32 := Scalar.muli v530 c512_i32_454
  v531
def k0_off10 (i : grid0.Coords) (k0_t1 : Fin (k0_t1_loop i).trips) : Fin 5 → Nat :=
  let c0_485 : Index := 0#32
  let c1_486 : Index := 1#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_474 : BitVec 32 := 1#32
  let v548 : BitVec 32 := Scalar.addi v158 c1_i32_474
  let v566 : Index := Scalar.indexCast v548
  let c0_487 : Index := 0#32
  let c0_488 : Index := 0#32
  ![0, 1, v566.toNat, 0, 0]
def k0_mult11 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c2_i32_517 : BitVec 32 := 2#32
  let v605 : BitVec 32 := Scalar.addi v158 c2_i32_517
  let c512_i32_518 : BitVec 32 := 512#32
  let v606 : BitVec 32 := Scalar.muli v605 c512_i32_518
  v606
def k0_off11 (i : grid0.Coords) (k0_t1 : Fin (k0_t1_loop i).trips) : Fin 5 → Nat :=
  let c0_549 : Index := 0#32
  let c2_550 : Index := 2#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_538 : BitVec 32 := 1#32
  let v623 : BitVec 32 := Scalar.addi v158 c1_i32_538
  let v641 : Index := Scalar.indexCast v623
  let c0_551 : Index := 0#32
  let c0_552 : Index := 0#32
  ![0, 2, v641.toNat, 0, 0]
def k0_mult12 (i : grid0.Coords) (k0_t1 : Fin (k0_t1_loop i).trips) : BitVec 32 :=
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c2_i32_581 : BitVec 32 := 2#32
  let v680 : BitVec 32 := Scalar.addi v158 c2_i32_581
  let c512_i32_582 : BitVec 32 := 512#32
  let v681 : BitVec 32 := Scalar.muli v680 c512_i32_582
  v681
def k0_off12 (i : grid0.Coords) (k0_t1 : Fin (k0_t1_loop i).trips) : Fin 5 → Nat :=
  let c0_613 : Index := 0#32
  let c3_614 : Index := 3#32
  let c2_i32_137 : BitVec 32 := 2#32
  let c0_i32_87 : BitVec 32 := 0#32
  let c1_i32_89 : BitVec 32 := 1#32
  let arg11 : BitVec 32 := Scf.iv c0_i32_87 c1_i32_89 k0_t1
  let v158 : BitVec 32 := Scalar.muli c2_i32_137 arg11
  let c1_i32_602 : BitVec 32 := 1#32
  let v698 : BitVec 32 := Scalar.addi v158 c1_i32_602
  let v716 : Index := Scalar.indexCast v698
  let c0_615 : Index := 0#32
  let c0_616 : Index := 0#32
  ![0, 3, v716.toNat, 0, 0]
@[reducible] def k0_t2_loop (i : grid0.Coords) : Scf.Loop 32 :=
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let v90 : BitVec 32 := Scalar.addi c0_i32_87 v89
  let c1_i32_90 : BitVec 32 := 1#32
  ⟨v93, v90, c1_i32_90⟩
def k0_mult13 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_138 : BitVec 32 := 1#32
  let v159 : BitVec 32 := Scalar.addi v158 c1_i32_138
  let c512_i32 : BitVec 32 := 512#32
  let v160 : BitVec 32 := Scalar.muli v159 c512_i32
  v160
def k0_off13 (i : grid0.Coords) (k0_t2 : Fin (k0_t2_loop i).trips) (c1_i32_138 : BitVec 32) : Fin 4 → Nat :=
  let c0_139 : Index := 0#32
  let c0_140 : Index := 0#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v159 : BitVec 32 := Scalar.addi v158 c1_i32_138
  let c512_i32 : BitVec 32 := 512#32
  let v160 : BitVec 32 := Scalar.muli v159 c512_i32
  let v161 : BitVec 32 := v160
  let v162 : Index := Scalar.indexCast v161
  let c0_141 : Index := 0#32
  ![0, 0, v162.toNat, 0]
def k0_off14 (i : grid0.Coords) (k0_t2 : Fin (k0_t2_loop i).trips) : Fin 5 → Nat :=
  let c0_168 : Index := 0#32
  let c0_169 : Index := 0#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v194 : Index := Scalar.indexCast v158
  let c0_170 : Index := 0#32
  let c0_171 : Index := 0#32
  ![0, 0, v194.toNat, 0, 0]
def k0_mult14 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_200 : BitVec 32 := 1#32
  let v233 : BitVec 32 := Scalar.addi v158 c1_i32_200
  let c512_i32_201 : BitVec 32 := 512#32
  let v234 : BitVec 32 := Scalar.muli v233 c512_i32_201
  v234
def k0_off15 (i : grid0.Coords) (k0_t2 : Fin (k0_t2_loop i).trips) (c1_i32_200 : BitVec 32) : Fin 4 → Nat :=
  let c0_202 : Index := 0#32
  let c1_203 : Index := 1#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v233 : BitVec 32 := Scalar.addi v158 c1_i32_200
  let c512_i32_201 : BitVec 32 := 512#32
  let v234 : BitVec 32 := Scalar.muli v233 c512_i32_201
  let v235 : BitVec 32 := v234
  let v236 : Index := Scalar.indexCast v235
  let c0_204 : Index := 0#32
  ![0, 1, v236.toNat, 0]
def k0_off16 (i : grid0.Coords) (k0_t2 : Fin (k0_t2_loop i).trips) : Fin 5 → Nat :=
  let c0_231 : Index := 0#32
  let c1_232 : Index := 1#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v268 : Index := Scalar.indexCast v158
  let c0_233 : Index := 0#32
  let c0_234 : Index := 0#32
  ![0, 1, v268.toNat, 0, 0]
def k0_mult15 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_263 : BitVec 32 := 1#32
  let v307 : BitVec 32 := Scalar.addi v158 c1_i32_263
  let c512_i32_264 : BitVec 32 := 512#32
  let v308 : BitVec 32 := Scalar.muli v307 c512_i32_264
  v308
def k0_off17 (i : grid0.Coords) (k0_t2 : Fin (k0_t2_loop i).trips) (c1_i32_263 : BitVec 32) : Fin 4 → Nat :=
  let c0_265 : Index := 0#32
  let c2_266 : Index := 2#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v307 : BitVec 32 := Scalar.addi v158 c1_i32_263
  let c512_i32_264 : BitVec 32 := 512#32
  let v308 : BitVec 32 := Scalar.muli v307 c512_i32_264
  let v309 : BitVec 32 := v308
  let v310 : Index := Scalar.indexCast v309
  let c0_267 : Index := 0#32
  ![0, 2, v310.toNat, 0]
def k0_off18 (i : grid0.Coords) (k0_t2 : Fin (k0_t2_loop i).trips) : Fin 5 → Nat :=
  let c0_294 : Index := 0#32
  let c2_295 : Index := 2#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v342 : Index := Scalar.indexCast v158
  let c0_296 : Index := 0#32
  let c0_297 : Index := 0#32
  ![0, 2, v342.toNat, 0, 0]
def k0_mult16 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_326 : BitVec 32 := 1#32
  let v381 : BitVec 32 := Scalar.addi v158 c1_i32_326
  let c512_i32_327 : BitVec 32 := 512#32
  let v382 : BitVec 32 := Scalar.muli v381 c512_i32_327
  v382
def k0_off19 (i : grid0.Coords) (k0_t2 : Fin (k0_t2_loop i).trips) (c1_i32_326 : BitVec 32) : Fin 4 → Nat :=
  let c0_328 : Index := 0#32
  let c3_329 : Index := 3#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v381 : BitVec 32 := Scalar.addi v158 c1_i32_326
  let c512_i32_327 : BitVec 32 := 512#32
  let v382 : BitVec 32 := Scalar.muli v381 c512_i32_327
  let v383 : BitVec 32 := v382
  let v384 : Index := Scalar.indexCast v383
  let c0_330 : Index := 0#32
  ![0, 3, v384.toNat, 0]
def k0_off20 (i : grid0.Coords) (k0_t2 : Fin (k0_t2_loop i).trips) : Fin 5 → Nat :=
  let c0_357 : Index := 0#32
  let c3_358 : Index := 3#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let v416 : Index := Scalar.indexCast v158
  let c0_359 : Index := 0#32
  let c0_360 : Index := 0#32
  ![0, 3, v416.toNat, 0, 0]
def k0_mult17 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c2_i32_389 : BitVec 32 := 2#32
  let v455 : BitVec 32 := Scalar.addi v158 c2_i32_389
  let c512_i32_390 : BitVec 32 := 512#32
  let v456 : BitVec 32 := Scalar.muli v455 c512_i32_390
  v456
def k0_off21 (i : grid0.Coords) (k0_t2 : Fin (k0_t2_loop i).trips) : Fin 5 → Nat :=
  let c0_421 : Index := 0#32
  let c0_422 : Index := 0#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_410 : BitVec 32 := 1#32
  let v473 : BitVec 32 := Scalar.addi v158 c1_i32_410
  let v491 : Index := Scalar.indexCast v473
  let c0_423 : Index := 0#32
  let c0_424 : Index := 0#32
  ![0, 0, v491.toNat, 0, 0]
def k0_mult18 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c2_i32_453 : BitVec 32 := 2#32
  let v530 : BitVec 32 := Scalar.addi v158 c2_i32_453
  let c512_i32_454 : BitVec 32 := 512#32
  let v531 : BitVec 32 := Scalar.muli v530 c512_i32_454
  v531
def k0_off22 (i : grid0.Coords) (k0_t2 : Fin (k0_t2_loop i).trips) : Fin 5 → Nat :=
  let c0_485 : Index := 0#32
  let c1_486 : Index := 1#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_474 : BitVec 32 := 1#32
  let v548 : BitVec 32 := Scalar.addi v158 c1_i32_474
  let v566 : Index := Scalar.indexCast v548
  let c0_487 : Index := 0#32
  let c0_488 : Index := 0#32
  ![0, 1, v566.toNat, 0, 0]
def k0_mult19 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c2_i32_517 : BitVec 32 := 2#32
  let v605 : BitVec 32 := Scalar.addi v158 c2_i32_517
  let c512_i32_518 : BitVec 32 := 512#32
  let v606 : BitVec 32 := Scalar.muli v605 c512_i32_518
  v606
def k0_off23 (i : grid0.Coords) (k0_t2 : Fin (k0_t2_loop i).trips) : Fin 5 → Nat :=
  let c0_549 : Index := 0#32
  let c2_550 : Index := 2#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_538 : BitVec 32 := 1#32
  let v623 : BitVec 32 := Scalar.addi v158 c1_i32_538
  let v641 : Index := Scalar.indexCast v623
  let c0_551 : Index := 0#32
  let c0_552 : Index := 0#32
  ![0, 2, v641.toNat, 0, 0]
def k0_mult20 (i : grid0.Coords) (k0_t2 : Fin (k0_t2_loop i).trips) : BitVec 32 :=
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c2_i32_581 : BitVec 32 := 2#32
  let v680 : BitVec 32 := Scalar.addi v158 c2_i32_581
  let c512_i32_582 : BitVec 32 := 512#32
  let v681 : BitVec 32 := Scalar.muli v680 c512_i32_582
  v681
def k0_off24 (i : grid0.Coords) (k0_t2 : Fin (k0_t2_loop i).trips) : Fin 5 → Nat :=
  let c0_613 : Index := 0#32
  let c3_614 : Index := 3#32
  let c2_i32_137 : BitVec 32 := 2#32
  let c0_i32_87 : BitVec 32 := 0#32
  let arg2 : BitVec 32 := BitVec.ofNat 32 (i 2).val
  let c0_i32_81 : BitVec 32 := 0#32
  let v73 : BitVec 1 := Scalar.cmpi .sgt arg2 c0_i32_81
  let v74 : BitVec 32 := Scalar.extui v73
  let c0_i32_82 : BitVec 32 := 0#32
  let v75 : BitVec 1 := Scalar.cmpi .slt arg2 c0_i32_82
  let v76 : BitVec 32 := Scalar.extui v75
  let v77 : BitVec 32 := Scalar.subi v74 v76
  let c2_i32 : BitVec 32 := 2#32
  let c0_i32_83 : BitVec 32 := 0#32
  let v78 : BitVec 1 := Scalar.cmpi .sgt c2_i32 c0_i32_83
  let v79 : BitVec 32 := Scalar.extui v78
  let c0_i32_84 : BitVec 32 := 0#32
  let v80 : BitVec 1 := Scalar.cmpi .slt c2_i32 c0_i32_84
  let v81 : BitVec 32 := Scalar.extui v80
  let v82 : BitVec 32 := Scalar.subi v79 v81
  let v83 : BitVec 1 := Scalar.cmpi .ne v77 v82
  let v84 : BitVec 32 := Scalar.remsi arg2 c2_i32
  let c0_i32_85 : BitVec 32 := 0#32
  let v85 : BitVec 1 := Scalar.cmpi .ne v84 c0_i32_85
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_87
  let c1_i32_88 : BitVec 32 := 1#32
  let v91 : BitVec 32 := Scalar.divsi v89 c1_i32_88
  let v92 : BitVec 32 := Scalar.muli v91 c1_i32_88
  let v93 : BitVec 32 := Scalar.addi c0_i32_87 v92
  let c1_i32_90 : BitVec 32 := 1#32
  let arg11 : BitVec 32 := Scf.iv v93 c1_i32_90 k0_t2
  let v158 : BitVec 32 := Scalar.muli c2_i32_137 arg11
  let c1_i32_602 : BitVec 32 := 1#32
  let v698 : BitVec 32 := Scalar.addi v158 c1_i32_602
  let v716 : Index := Scalar.indexCast v698
  let c0_615 : Index := 0#32
  let c0_616 : Index := 0#32
  ![0, 3, v716.toNat, 0, 0]
def k0_cond1 (i : grid0.Coords) : BitVec 1 :=
  let arg2 : BitVec 32 := BitVec.ofNat 32 (i 2).val
  let c2_i32_91 : BitVec 32 := 2#32
  let c0_i32_92 : BitVec 32 := 0#32
  let v94 : BitVec 1 := Scalar.cmpi .eq c2_i32_91 c0_i32_92
  let c1_i32_93 : BitVec 32 := 1#32
  let v95 : BitVec 32 := Scalar.select v94 c1_i32_93 c2_i32_91
  let v96 : BitVec 32 := Scalar.remsi arg2 v95
  let c0_i32_95 : BitVec 32 := 0#32
  let v98 : BitVec 1 := Scalar.cmpi .slt v96 c0_i32_95
  let c0_i32_96 : BitVec 32 := 0#32
  let v99 : BitVec 1 := Scalar.cmpi .slt v95 c0_i32_96
  let v100 : BitVec 1 := Scalar.xori v98 v99
  let c0_i32_94 : BitVec 32 := 0#32
  let v97 : BitVec 1 := Scalar.cmpi .ne v96 c0_i32_94
  let v101 : BitVec 1 := Scalar.andi v100 v97
  let v102 : BitVec 32 := Scalar.addi v96 v95
  let v103 : BitVec 32 := Scalar.select v101 v102 v96
  let c0_i32_97 : BitVec 32 := 0#32
  let v104 : BitVec 1 := Scalar.cmpi .eq v103 c0_i32_97
  let v105 : BitVec 32 := Scalar.extui v104
  let c0_i32_98 : BitVec 32 := 0#32
  let v106 : BitVec 1 := Scalar.cmpi .ne v105 c0_i32_98
  v106

def k0_off25 (i : grid0.Coords) : Fin 5 → Nat :=
  let c0_149 : Index := 0#32
  let c0_150 : Index := 0#32
  let arg2 : BitVec 32 := BitVec.ofNat 32 (i 2).val
  let v182 : Index := Scalar.indexCast arg2
  let c0_151 : Index := 0#32
  let c0_152 : Index := 0#32
  ![0, 0, v182.toNat, 0, 0]
def k0_off26 (i : grid0.Coords) : Fin 5 → Nat :=
  let c0_171 : Index := 0#32
  let c0_172 : Index := 0#32
  let arg2 : BitVec 32 := BitVec.ofNat 32 (i 2).val
  let v217 : Index := Scalar.indexCast arg2
  let c0_173 : Index := 0#32
  let c0_174 : Index := 0#32
  ![0, 0, v217.toNat, 0, 0]
def k0_off27 (i : grid0.Coords) : Fin 5 → Nat :=
  let c0_194 : Index := 0#32
  let c1_195 : Index := 1#32
  let arg2 : BitVec 32 := BitVec.ofNat 32 (i 2).val
  let v252 : Index := Scalar.indexCast arg2
  let c0_196 : Index := 0#32
  let c0_197 : Index := 0#32
  ![0, 1, v252.toNat, 0, 0]
def k0_off28 (i : grid0.Coords) : Fin 5 → Nat :=
  let c0_217 : Index := 0#32
  let c1_218 : Index := 1#32
  let arg2 : BitVec 32 := BitVec.ofNat 32 (i 2).val
  let v287 : Index := Scalar.indexCast arg2
  let c0_219 : Index := 0#32
  let c0_220 : Index := 0#32
  ![0, 1, v287.toNat, 0, 0]
def k0_off29 (i : grid0.Coords) : Fin 5 → Nat :=
  let c0_240 : Index := 0#32
  let c2_241 : Index := 2#32
  let arg2 : BitVec 32 := BitVec.ofNat 32 (i 2).val
  let v322 : Index := Scalar.indexCast arg2
  let c0_242 : Index := 0#32
  let c0_243 : Index := 0#32
  ![0, 2, v322.toNat, 0, 0]
def k0_off30 (i : grid0.Coords) : Fin 5 → Nat :=
  let c0_263 : Index := 0#32
  let c2_264 : Index := 2#32
  let arg2 : BitVec 32 := BitVec.ofNat 32 (i 2).val
  let v357 : Index := Scalar.indexCast arg2
  let c0_265 : Index := 0#32
  let c0_266 : Index := 0#32
  ![0, 2, v357.toNat, 0, 0]
def k0_off31 (i : grid0.Coords) : Fin 5 → Nat :=
  let c0_286 : Index := 0#32
  let c3_287 : Index := 3#32
  let arg2 : BitVec 32 := BitVec.ofNat 32 (i 2).val
  let v392 : Index := Scalar.indexCast arg2
  let c0_288 : Index := 0#32
  let c0_289 : Index := 0#32
  ![0, 3, v392.toNat, 0, 0]
def k0_off32 (i : grid0.Coords) : Fin 5 → Nat :=
  let c0_309 : Index := 0#32
  let c3_310 : Index := 3#32
  let arg2 : BitVec 32 := BitVec.ofNat 32 (i 2).val
  let v427 : Index := Scalar.indexCast arg2
  let c0_311 : Index := 0#32
  let c0_312 : Index := 0#32
  ![0, 3, v427.toNat, 0, 0]
def k0_cond2 (i : grid0.Coords) : BitVec 1 :=
  let arg2 : BitVec 32 := BitVec.ofNat 32 (i 2).val
  let c2_i32_99 : BitVec 32 := 2#32
  let c0_i32_100 : BitVec 32 := 0#32
  let v107 : BitVec 1 := Scalar.cmpi .eq c2_i32_99 c0_i32_100
  let c1_i32_101 : BitVec 32 := 1#32
  let v108 : BitVec 32 := Scalar.select v107 c1_i32_101 c2_i32_99
  let v109 : BitVec 32 := Scalar.remsi arg2 v108
  let c0_i32_103 : BitVec 32 := 0#32
  let v111 : BitVec 1 := Scalar.cmpi .slt v109 c0_i32_103
  let c0_i32_104 : BitVec 32 := 0#32
  let v112 : BitVec 1 := Scalar.cmpi .slt v108 c0_i32_104
  let v113 : BitVec 1 := Scalar.xori v111 v112
  let c0_i32_102 : BitVec 32 := 0#32
  let v110 : BitVec 1 := Scalar.cmpi .ne v109 c0_i32_102
  let v114 : BitVec 1 := Scalar.andi v113 v110
  let v115 : BitVec 32 := Scalar.addi v109 v108
  let v116 : BitVec 32 := Scalar.select v114 v115 v109
  let c1_i32_105 : BitVec 32 := 1#32
  let v117 : BitVec 1 := Scalar.cmpi .eq v116 c1_i32_105
  let v118 : BitVec 32 := Scalar.extui v117
  let c0_i32_106 : BitVec 32 := 0#32
  let v119 : BitVec 1 := Scalar.cmpi .ne v118 c0_i32_106
  v119

def k0_mult21 (i : grid0.Coords) : BitVec 32 :=
  let arg2 : BitVec 32 := BitVec.ofNat 32 (i 2).val
  let c512_i32 : BitVec 32 := 512#32
  let v158 : BitVec 32 := Scalar.muli arg2 c512_i32
  v158
def k0_off33 (i : grid0.Coords) : Fin 4 → Nat :=
  let c0_137 : Index := 0#32
  let c0_138 : Index := 0#32
  let arg2 : BitVec 32 := BitVec.ofNat 32 (i 2).val
  let c512_i32 : BitVec 32 := 512#32
  let v158 : BitVec 32 := Scalar.muli arg2 c512_i32
  let v159 : BitVec 32 := v158
  let v160 : Index := Scalar.indexCast v159
  let c0_139 : Index := 0#32
  ![0, 0, v160.toNat, 0]
def k0_off34 (i : grid0.Coords) : Fin 5 → Nat :=
  let c0_167 : Index := 0#32
  let c0_168 : Index := 0#32
  let arg2 : BitVec 32 := BitVec.ofNat 32 (i 2).val
  let c1_i32_156 : BitVec 32 := 1#32
  let v175 : BitVec 32 := Scalar.subi arg2 c1_i32_156
  let v193 : Index := Scalar.indexCast v175
  let c0_169 : Index := 0#32
  let c0_170 : Index := 0#32
  ![0, 0, v193.toNat, 0, 0]
def k0_mult22 (i : grid0.Coords) : BitVec 32 :=
  let arg2 : BitVec 32 := BitVec.ofNat 32 (i 2).val
  let c512_i32_199 : BitVec 32 := 512#32
  let v232 : BitVec 32 := Scalar.muli arg2 c512_i32_199
  v232
def k0_off35 (i : grid0.Coords) : Fin 4 → Nat :=
  let c0_200 : Index := 0#32
  let c1_201 : Index := 1#32
  let arg2 : BitVec 32 := BitVec.ofNat 32 (i 2).val
  let c512_i32_199 : BitVec 32 := 512#32
  let v232 : BitVec 32 := Scalar.muli arg2 c512_i32_199
  let v233 : BitVec 32 := v232
  let v234 : Index := Scalar.indexCast v233
  let c0_202 : Index := 0#32
  ![0, 1, v234.toNat, 0]
def k0_off36 (i : grid0.Coords) : Fin 5 → Nat :=
  let c0_230 : Index := 0#32
  let c1_231 : Index := 1#32
  let arg2 : BitVec 32 := BitVec.ofNat 32 (i 2).val
  let c1_i32_219 : BitVec 32 := 1#32
  let v249 : BitVec 32 := Scalar.subi arg2 c1_i32_219
  let v267 : Index := Scalar.indexCast v249
  let c0_232 : Index := 0#32
  let c0_233 : Index := 0#32
  ![0, 1, v267.toNat, 0, 0]
def k0_mult23 (i : grid0.Coords) : BitVec 32 :=
  let arg2 : BitVec 32 := BitVec.ofNat 32 (i 2).val
  let c512_i32_262 : BitVec 32 := 512#32
  let v306 : BitVec 32 := Scalar.muli arg2 c512_i32_262
  v306
def k0_off37 (i : grid0.Coords) : Fin 4 → Nat :=
  let c0_263 : Index := 0#32
  let c2_264 : Index := 2#32
  let arg2 : BitVec 32 := BitVec.ofNat 32 (i 2).val
  let c512_i32_262 : BitVec 32 := 512#32
  let v306 : BitVec 32 := Scalar.muli arg2 c512_i32_262
  let v307 : BitVec 32 := v306
  let v308 : Index := Scalar.indexCast v307
  let c0_265 : Index := 0#32
  ![0, 2, v308.toNat, 0]
def k0_off38 (i : grid0.Coords) : Fin 5 → Nat :=
  let c0_293 : Index := 0#32
  let c2_294 : Index := 2#32
  let arg2 : BitVec 32 := BitVec.ofNat 32 (i 2).val
  let c1_i32_282 : BitVec 32 := 1#32
  let v323 : BitVec 32 := Scalar.subi arg2 c1_i32_282
  let v341 : Index := Scalar.indexCast v323
  let c0_295 : Index := 0#32
  let c0_296 : Index := 0#32
  ![0, 2, v341.toNat, 0, 0]
def k0_mult24 (i : grid0.Coords) : BitVec 32 :=
  let arg2 : BitVec 32 := BitVec.ofNat 32 (i 2).val
  let c512_i32_325 : BitVec 32 := 512#32
  let v380 : BitVec 32 := Scalar.muli arg2 c512_i32_325
  v380
def k0_off39 (i : grid0.Coords) : Fin 4 → Nat :=
  let c0_326 : Index := 0#32
  let c3_327 : Index := 3#32
  let arg2 : BitVec 32 := BitVec.ofNat 32 (i 2).val
  let c512_i32_325 : BitVec 32 := 512#32
  let v380 : BitVec 32 := Scalar.muli arg2 c512_i32_325
  let v381 : BitVec 32 := v380
  let v382 : Index := Scalar.indexCast v381
  let c0_328 : Index := 0#32
  ![0, 3, v382.toNat, 0]
def k0_off40 (i : grid0.Coords) : Fin 5 → Nat :=
  let c0_356 : Index := 0#32
  let c3_357 : Index := 3#32
  let arg2 : BitVec 32 := BitVec.ofNat 32 (i 2).val
  let c1_i32_345 : BitVec 32 := 1#32
  let v397 : BitVec 32 := Scalar.subi arg2 c1_i32_345
  let v415 : Index := Scalar.indexCast v397
  let c0_358 : Index := 0#32
  let c0_359 : Index := 0#32
  ![0, 3, v415.toNat, 0, 0]
def k0_off41 (i : grid0.Coords) : Fin 5 → Nat :=
  let c0_400 : Index := 0#32
  let c0_401 : Index := 0#32
  let arg2 : BitVec 32 := BitVec.ofNat 32 (i 2).val
  let v478 : Index := Scalar.indexCast arg2
  let c0_402 : Index := 0#32
  let c0_403 : Index := 0#32
  ![0, 0, v478.toNat, 0, 0]
def k0_off42 (i : grid0.Coords) : Fin 5 → Nat :=
  let c0_422 : Index := 0#32
  let c0_423 : Index := 0#32
  let arg2 : BitVec 32 := BitVec.ofNat 32 (i 2).val
  let v513 : Index := Scalar.indexCast arg2
  let c0_424 : Index := 0#32
  let c0_425 : Index := 0#32
  ![0, 0, v513.toNat, 0, 0]
def k0_off43 (i : grid0.Coords) : Fin 5 → Nat :=
  let c0_445 : Index := 0#32
  let c1_446 : Index := 1#32
  let arg2 : BitVec 32 := BitVec.ofNat 32 (i 2).val
  let v548 : Index := Scalar.indexCast arg2
  let c0_447 : Index := 0#32
  let c0_448 : Index := 0#32
  ![0, 1, v548.toNat, 0, 0]
def k0_off44 (i : grid0.Coords) : Fin 5 → Nat :=
  let c0_468 : Index := 0#32
  let c1_469 : Index := 1#32
  let arg2 : BitVec 32 := BitVec.ofNat 32 (i 2).val
  let v583 : Index := Scalar.indexCast arg2
  let c0_470 : Index := 0#32
  let c0_471 : Index := 0#32
  ![0, 1, v583.toNat, 0, 0]
def k0_off45 (i : grid0.Coords) : Fin 5 → Nat :=
  let c0_491 : Index := 0#32
  let c2_492 : Index := 2#32
  let arg2 : BitVec 32 := BitVec.ofNat 32 (i 2).val
  let v618 : Index := Scalar.indexCast arg2
  let c0_493 : Index := 0#32
  let c0_494 : Index := 0#32
  ![0, 2, v618.toNat, 0, 0]
def k0_off46 (i : grid0.Coords) : Fin 5 → Nat :=
  let c0_514 : Index := 0#32
  let c2_515 : Index := 2#32
  let arg2 : BitVec 32 := BitVec.ofNat 32 (i 2).val
  let v653 : Index := Scalar.indexCast arg2
  let c0_516 : Index := 0#32
  let c0_517 : Index := 0#32
  ![0, 2, v653.toNat, 0, 0]
def k0_off47 (i : grid0.Coords) : Fin 5 → Nat :=
  let c0_537 : Index := 0#32
  let c3_538 : Index := 3#32
  let arg2 : BitVec 32 := BitVec.ofNat 32 (i 2).val
  let v688 : Index := Scalar.indexCast arg2
  let c0_539 : Index := 0#32
  let c0_540 : Index := 0#32
  ![0, 3, v688.toNat, 0, 0]
def k0_off48 (i : grid0.Coords) : Fin 5 → Nat :=
  let c0_560 : Index := 0#32
  let c3_561 : Index := 3#32
  let arg2 : BitVec 32 := BitVec.ofNat 32 (i 2).val
  let v723 : Index := Scalar.indexCast arg2
  let c0_562 : Index := 0#32
  let c0_563 : Index := 0#32
  ![0, 3, v723.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x16x64 : Shape := ⟨4, ![2, 8192, 16, 64]⟩
abbrev S2x8192x16 : Shape := ⟨3, ![2, 8192, 16]⟩
abbrev S_ : Shape := ⟨0, ![]⟩
abbrev S2x16x8192 : Shape := ⟨3, ![2, 16, 8192]⟩
abbrev S8192 : Shape := ⟨1, ![8192]⟩
abbrev S2x16x8192x8192 : Shape := ⟨4, ![2, 16, 8192, 8192]⟩
abbrev S2x16x8192x1 : Shape := ⟨4, ![2, 16, 8192, 1]⟩
abbrev S2x16x1x8192 : Shape := ⟨4, ![2, 16, 1, 8192]⟩
abbrev S8192x1 : Shape := ⟨2, ![8192, 1]⟩
abbrev S1x8192 : Shape := ⟨2, ![1, 8192]⟩
abbrev S8192x8192 : Shape := ⟨2, ![8192, 8192]⟩
abbrev S2x16x64x8192 : Shape := ⟨4, ![2, 16, 64, 8192]⟩
abbrev S2x8192x1024 : Shape := ⟨3, ![2, 8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S2x8192x16, .f32⟩
  | .hbm, ⟨4, _⟩ => ⟨S_, .f32⟩
  | .hbm, ⟨5, _⟩ => ⟨S_, .f32⟩
  | .hbm, ⟨6, _⟩ => ⟨S2x8192x16, .f32⟩
  | .hbm, ⟨7, _⟩ => ⟨S2x16x8192, .f32⟩
  | .hbm, ⟨8, _⟩ => ⟨S8192, .i32⟩
  | .hbm, ⟨9, _⟩ => ⟨S2x16x8192x8192, .f32⟩
  | .hbm, ⟨10, _⟩ => ⟨S_, .f32⟩
  | .hbm, ⟨11, _⟩ => ⟨S2x16x8192x8192, .f32⟩
  | .hbm, ⟨12, _⟩ => ⟨S2x16x8192x8192, .f32⟩
  | .hbm, ⟨13, _⟩ => ⟨S2x16x8192x1, .f32⟩
  | .hbm, ⟨14, _⟩ => ⟨S2x16x1x8192, .f32⟩
  | .hbm, ⟨15, _⟩ => ⟨S2x16x8192x8192, .f32⟩
  | .hbm, ⟨16, _⟩ => ⟨S2x16x8192x8192, .f32⟩
  | .hbm, ⟨17, _⟩ => ⟨S2x16x8192x8192, .f32⟩
  | .hbm, ⟨18, _⟩ => ⟨S2x16x8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S2x16x8192x8192, .i1⟩
  | .hbm, ⟨27, _⟩ => ⟨S2x16x8192x8192, .f32⟩
  | .hbm, ⟨28, _⟩ => ⟨S2x16x8192x8192, .f32⟩
  | .hbm, ⟨29, _⟩ => ⟨S_, .f32⟩
  | .hbm, ⟨30, _⟩ => ⟨S2x16x8192, .f32⟩
  | .hbm, ⟨31, _⟩ => ⟨S_, .f32⟩
  | .hbm, ⟨32, _⟩ => ⟨S2x16x8192, .f32⟩
  | .hbm, ⟨33, _⟩ => ⟨S2x16x8192, .f32⟩
  | .hbm, ⟨34, _⟩ => ⟨S2x16x8192x1, .f32⟩
  | .hbm, ⟨35, _⟩ => ⟨S2x16x8192x8192, .f32⟩
  | .hbm, ⟨36, _⟩ => ⟨S2x16x8192x8192, .f32⟩
  | .hbm, ⟨37, _⟩ => ⟨S2x16x8192x8192, .f32⟩
  | .hbm, ⟨38, _⟩ => ⟨S_, .f32⟩
  | .hbm, ⟨39, _⟩ => ⟨S2x16x8192, .f32⟩
  | .hbm, ⟨40, _⟩ => ⟨S2x16x8192x1, .f32⟩
  | .hbm, ⟨41, _⟩ => ⟨S2x16x8192x8192, .f32⟩
  | .hbm, ⟨42, _⟩ => ⟨S2x16x8192x8192, .f32⟩
  | .hbm, ⟨43, _⟩ => ⟨S2x16x64x8192, .f32⟩
  | .hbm, ⟨44, _⟩ => ⟨S2x8192x16x64, .f32⟩
  | .hbm, ⟨45, _⟩ => ⟨S2x8192x1024, .f32⟩
  | .hbm, ⟨46, _⟩ => ⟨S2x8192x1024, .bf16⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S32x8x1024 : Shape := ⟨3, ![32, 8, 1024]⟩
abbrev S4x32x8x256 : Shape := ⟨4, ![4, 32, 8, 256]⟩
abbrev S4x4x1024 : Shape := ⟨3, ![4, 4, 1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S256x1024 : Shape := ⟨2, ![256, 1024]⟩
abbrev S4x256x256 : Shape := ⟨3, ![4, 256, 256]⟩
abbrev S1x4x1024 : Shape := ⟨3, ![1, 4, 1024]⟩
abbrev S4x1024 : Shape := ⟨2, ![4, 1024]⟩
abbrev S1x256x256 : Shape := ⟨3, ![1, 256, 256]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩
abbrev S256x256 : Shape := ⟨2, ![256, 256]⟩

abbrev nBuf : Space → Nat
  | .hbm => 22
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .bf16⟩
  | .hbm, ⟨2, _⟩ => ⟨S4x32x8x256, .f32⟩
  | .hbm, ⟨3, _⟩ => ⟨S4x4x1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x256x1024, .f32⟩
  | .hbm, ⟨9, _⟩ => ⟨S4x1024x1024, .f32⟩
  | .hbm, ⟨10, _⟩ => ⟨S256x1024, .f32⟩
  | .hbm, ⟨11, _⟩ => ⟨S256x1024, .bf16⟩
  | .hbm, ⟨12, _⟩ => ⟨S4x256x256, .f32⟩
  | .hbm, ⟨13, _⟩ => ⟨S1x4x1024, .f32⟩
  | .hbm, ⟨14, _⟩ => ⟨S4x1024, .f32⟩
  | .hbm, ⟨15, _⟩ => ⟨S2x1024x1024, .bf16⟩
  | .hbm, ⟨16, _⟩ => ⟨S4x1024x2816, .bf16⟩
  | .hbm, ⟨17, _⟩ => ⟨S4x1024x2816, .bf16⟩
  | .hbm, ⟨18, _⟩ => ⟨S4x2816x1024, .bf16⟩
  | .hbm, ⟨19, _⟩ => ⟨S4x256x1024, .bf16⟩
  | .hbm, ⟨20, _⟩ => ⟨S4x1024x1024, .bf16⟩
  | .hbm, ⟨21, _⟩ => ⟨S256x1024, .f32⟩
  | .local _ .vmem, ⟨0, _⟩ => ⟨S256x1024, .f32⟩
  | .local _ .vmem, ⟨1, _⟩ => ⟨S256x1024, .bf16⟩
  | .local _ .vmem, ⟨2, _⟩ => ⟨S1x256x256, .f32⟩
  | .local _ .vmem, ⟨3, _⟩ => ⟨S4x1024, .f32⟩
  | .local _ .vmem, ⟨4, _⟩ => ⟨S1x1024x1024, .bf16⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x256x1024, .bf16⟩
  | .local _ .vmem, ⟨9, _⟩ => ⟨S1x1024x1024, .bf16⟩
  | .local _ .vmem, ⟨10, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference2Ideal.lean ====
abbrev S32x8x1024 : Shape := ⟨3, ![32, 8, 1024]⟩
abbrev S4x32x8x256 : Shape := ⟨4, ![4, 32, 8, 256]⟩
abbrev S4x4x1024 : Shape := ⟨3, ![4, 4, 1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32x8x2816 : Shape := ⟨3, ![32, 8, 2816]⟩
abbrev S1x32x8x256 : Shape := ⟨4, ![1, 32, 8, 256]⟩
abbrev S32x8x256 : Shape := ⟨3, ![32, 8, 256]⟩
abbrev S1x256x1024 : Shape := ⟨3, ![1, 256, 1024]⟩
abbrev S256x1024 : Shape := ⟨2, ![256, 1024]⟩

abbrev nBuf : Space → Nat
  | .hbm => 108
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .bf16⟩
  | .hbm, ⟨2, _⟩ => ⟨S4x32x8x256, .f32⟩
  | .hbm, ⟨3, _⟩ => ⟨S4x4x1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x256x1024, .f32⟩
  | .hbm, ⟨9, _⟩ => ⟨S4x1024x1024, .f32⟩
  | .hbm, ⟨10, _⟩ => ⟨S32x8x1024, .f32⟩
  | .hbm, ⟨11, _⟩ => ⟨S1x1024x1024, .f32⟩
  | .hbm, ⟨12, _⟩ => ⟨S1024x1024, .f32⟩
  | .hbm, ⟨13, _⟩ => ⟨S32x8x1024, .f32⟩
  | .hbm, ⟨14, _⟩ => ⟨S1x1x1024, .f32⟩
  | .hbm, ⟨15, _⟩ => ⟨S1024, .f32⟩
  | .hbm, ⟨16, _⟩ => ⟨S32x8x1024, .f32⟩
  | .hbm, ⟨17, _⟩ => ⟨S_, .f32⟩
  | .hbm, ⟨18, _⟩ => ⟨S32x8, .f32⟩
  | .hbm, ⟨19, _⟩ => ⟨S32x8x1, .f32⟩
  | .hbm, ⟨20, _⟩ => ⟨S_, .f32⟩
  | .hbm, ⟨21, _⟩ => ⟨S32x8x1, .f32⟩
  | .hbm, ⟨22, _⟩ => ⟨S32x8x1, .f32⟩
  | .hbm, ⟨23, _⟩ => ⟨S_, .f32⟩
  | .hbm, ⟨24, _⟩ => ⟨S32x8x1, .f32⟩
  | .hbm, ⟨25, _⟩ => ⟨S32x8x1, .f32⟩
  | .hbm, ⟨26, _⟩ => ⟨S32x8x1, .f32⟩
  | .hbm, ⟨27, _⟩ => ⟨S32x8x1024, .f32⟩
  | .hbm, ⟨28, _⟩ => ⟨S32x8x1024, .f32⟩
  | .hbm, ⟨29, _⟩ => ⟨S1x1x1024, .f32⟩
  | .hbm, ⟨30, _⟩ => ⟨S32x8x1024, .f32⟩
  | .hbm, ⟨31, _⟩ => ⟨S32x8x1024, .f32⟩
  | .hbm, ⟨32, _⟩ => ⟨S32x8x1024, .f32⟩
  | .hbm, ⟨33, _⟩ => ⟨S1x1x1024, .f32⟩
  | .hbm, ⟨34, _⟩ => ⟨S1024, .f32⟩
  | .hbm, ⟨35, _⟩ => ⟨S32x8x1024, .f32⟩
  | .hbm, ⟨36, _⟩ => ⟨S_, .f32⟩
  | .hbm, ⟨37, _⟩ => ⟨S32x8, .f32⟩
  | .hbm, ⟨38, _⟩ => ⟨S32x8x1, .f32⟩
  | .hbm, ⟨39, _⟩ => ⟨S_, .f32⟩
  | .hbm, ⟨40, _⟩ => ⟨S32x8x1, .f32⟩
  | .hbm, ⟨41, _⟩ => ⟨S32x8x1, .f32⟩
  | .hbm, ⟨42, _⟩ => ⟨S_, .f32⟩
  | .hbm, ⟨43, _⟩ => ⟨S32x8x1, .f32⟩
  | .hbm, ⟨44, _⟩ => ⟨S32x8x1, .f32⟩
  | .hbm, ⟨45, _⟩ => ⟨S32x8x1, .f32⟩
  | .hbm, ⟨46, _⟩ => ⟨S32x8x1024, .f32⟩
  | .hbm, ⟨47, _⟩ => ⟨S32x8x1024, .f32⟩
  | .hbm, ⟨48, _⟩ => ⟨S1x1x1024, .f32⟩
  | .hbm, ⟨49, _⟩ => ⟨S32x8x1024, .f32⟩
  | .hbm, ⟨50, _⟩ => ⟨S32x8x1024, .f32⟩
  | .hbm, ⟨51, _⟩ => ⟨S1x1024x2816, .f32⟩
  | .hbm, ⟨52, _⟩ => ⟨S1024x2816, .f32⟩
  | .hbm, ⟨53, _⟩ => ⟨S1x1024x2816, .f32⟩
  | .hbm, ⟨54, _⟩ => ⟨S1024x2816, .f32⟩
  | .hbm, ⟨55, _⟩ => ⟨S1x2816x1024, .f32⟩
  | .hbm, ⟨56, _⟩ => ⟨S2816x1024, .f32⟩
  | .hbm, ⟨57, _⟩ => ⟨S32x8x2816, .f32⟩
  | .hbm, ⟨58, _⟩ => ⟨S32x8x2816, .f32⟩
  | .hbm, ⟨59, _⟩ => ⟨S32x8x2816, .f32⟩
  | .hbm, ⟨60, _⟩ => ⟨S_, .f32⟩
  | .hbm, ⟨61, _⟩ => ⟨S32x8x2816, .f32⟩
  | .hbm, ⟨62, _⟩ => ⟨S32x8x2816, .f32⟩
  | .hbm, ⟨63, _⟩ => ⟨S_, .f32⟩
  | .hbm, ⟨64, _⟩ => ⟨S32x8x2816, .f32⟩
  | .hbm, ⟨65, _⟩ => ⟨S32x8x2816, .f32⟩
  | .hbm, ⟨66, _⟩ => ⟨S32x8x2816, .f32⟩
  | .hbm, ⟨67, _⟩ => ⟨S32x8x2816, .f32⟩
  | .hbm, ⟨68, _⟩ => ⟨S32x8x2816, .f32⟩
  | .hbm, ⟨69, _⟩ => ⟨S32x8x1024, .f32⟩
  | .hbm, ⟨70, _⟩ => ⟨S1x1x1024, .f32⟩
  | .hbm, ⟨71, _⟩ => ⟨S1024, .f32⟩
  | .hbm, ⟨72, _⟩ => ⟨S32x8x1024, .f32⟩
  | .hbm, ⟨73, _⟩ => ⟨S_, .f32⟩
  | .hbm, ⟨74, _⟩ => ⟨S32x8, .f32⟩
  | .hbm, ⟨75, _⟩ => ⟨S32x8x1, .f32⟩
  | .hbm, ⟨76, _⟩ => ⟨S_, .f32⟩
  | .hbm, ⟨77, _⟩ => ⟨S32x8x1, .f32⟩
  | .hbm, ⟨78, _⟩ => ⟨S32x8x1, .f32⟩
  | .hbm, ⟨79, _⟩ => ⟨S_, .f32⟩
  | .hbm, ⟨80, _⟩ => ⟨S32x8x1, .f32⟩
  | .hbm, ⟨81, _⟩ => ⟨S32x8x1, .f32⟩
  | .hbm, ⟨82, _⟩ => ⟨S32x8x1, .f32⟩
  | .hbm, ⟨83, _⟩ => ⟨S32x8x1024, .f32⟩
  | .hbm, ⟨84, _⟩ => ⟨S32x8x1024, .f32⟩
  | .hbm, ⟨85, _⟩ => ⟨S1x1x1024, .f32⟩
  | .hbm, ⟨86, _⟩ => ⟨S32x8x1024, .f32⟩
  | .hbm, ⟨87, _⟩ => ⟨S32x8x1024, .f32⟩
  | .hbm, ⟨88, _⟩ => ⟨S32x8x1024, .f32⟩
  | .hbm, ⟨89, _⟩ => ⟨S1x1024x1024, .f32⟩
  | .hbm, ⟨90, _⟩ => ⟨S1024x1024, .f32⟩
  | .hbm, ⟨91, _⟩ => ⟨S32x8x1024, .f32⟩
  | .hbm, ⟨92, _⟩ => ⟨S32x8x1024, .f32⟩
  | .hbm, ⟨93, _⟩ => ⟨S32x8x1024, .f32⟩
  | .hbm, ⟨94, _⟩ => ⟨S_, .f32⟩
  | .hbm, ⟨95, _⟩ => ⟨S32x8x1024, .f32⟩
  | .hbm, ⟨96, _⟩ => ⟨S32x8x1024, .f32⟩
  | .hbm, ⟨97, _⟩ => ⟨S_, .f32⟩
  | .hbm, ⟨98, _⟩ => ⟨S32x8x1024, .f32⟩
  | .hbm, ⟨99, _⟩ => ⟨S32x8x1024, .f32⟩
  | .hbm, ⟨100, _⟩ => ⟨S1x32x8x256, .f32⟩
  | .hbm, ⟨101, _⟩ => ⟨S32x8x256, .f32⟩
  | .hbm, ⟨102, _⟩ => ⟨S1x256x1024, .f32⟩
  | .hbm, ⟨103, _⟩ => ⟨S256x1024, .f32⟩
  | .hbm, ⟨104, _⟩ => ⟨S32x8x1024, .f32⟩
  | .hbm, ⟨105, _⟩ => ⟨S32x8x1024, .f32⟩
  | .hbm, ⟨106, _⟩ => ⟨S32x8x1024, .f32⟩
  | .hbm, ⟨107, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel3.lean ====
abbrev S2x8192x1024 : Shape := ⟨3, ![2, 8192, 1024]⟩
abbrev S4x2x8192x256 : Shape := ⟨4, ![4, 2, 8192, 256]⟩
abbrev S4x4x1024 : Shape := ⟨3, ![4, 4, 1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S16384x1024 : Shape := ⟨2, ![16384, 1024]⟩
abbrev S4x16384x256 : Shape := ⟨3, ![4, 16384, 256]⟩
abbrev S1x4x1024 : Shape := ⟨3, ![1, 4, 1024]⟩
abbrev S4x1024 : Shape := ⟨2, ![4, 1024]⟩
abbrev S256x1024 : Shape := ⟨2, ![256, 1024]⟩
abbrev S1x256x256 : Shape := ⟨3, ![1, 256, 256]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩
abbrev S256x256 : Shape := ⟨2, ![256, 256]⟩

abbrev nBuf : Space → Nat
  | .hbm => 22
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S4x2x8192x256, .f32⟩
  | .hbm, ⟨3, _⟩ => ⟨S4x4x1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x256x1024, .f32⟩
  | .hbm, ⟨9, _⟩ => ⟨S4x1024x1024, .f32⟩
  | .hbm, ⟨10, _⟩ => ⟨S16384x1024, .f32⟩
  | .hbm, ⟨11, _⟩ => ⟨S16384x1024, .bf16⟩
  | .hbm, ⟨12, _⟩ => ⟨S4x16384x256, .f32⟩
  | .hbm, ⟨13, _⟩ => ⟨S1x4x1024, .f32⟩
  | .hbm, ⟨14, _⟩ => ⟨S4x1024, .f32⟩
  | .hbm, ⟨15, _⟩ => ⟨S2x1024x1024, .bf16⟩
  | .hbm, ⟨16, _⟩ => ⟨S4x1024x2816, .bf16⟩
  | .hbm, ⟨17, _⟩ => ⟨S4x1024x2816, .bf16⟩
  | .hbm, ⟨18, _⟩ => ⟨S4x2816x1024, .bf16⟩
  | .hbm, ⟨19, _⟩ => ⟨S4x256x1024, .bf16⟩
  | .hbm, ⟨20, _⟩ => ⟨S4x1024x1024, .bf16⟩
  | .hbm, ⟨21, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x256x256, .f32⟩
  | .local _ .vmem, ⟨5, _⟩ => ⟨S1x256x256, .f32⟩
  | .local _ .vmem, ⟨6, _⟩ => ⟨S4x1024, .f32⟩
  | .local _ .vmem, ⟨7, _⟩ => ⟨S1x1024x1024, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x256x1024, .bf16⟩
  | .local _ .vmem, ⟨12, _⟩ => ⟨S1x1024x1024, .bf16⟩
  | .local _ .vmem, ⟨13, _⟩ => ⟨S256x1024, .f32⟩
  | .local _ .vmem, ⟨14, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x8192x1024 : Shape := ⟨3, ![2, 8192, 1024]⟩
abbrev S4x2x8192x256 : Shape := ⟨4, ![4, 2, 8192, 256]⟩
abbrev S4x4x1024 : Shape := ⟨3, ![4, 4, 1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S4x2x8192x256, .f32⟩
  | .hbm, ⟨3, _⟩ => ⟨S4x4x1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x256x1024, .f32⟩
  | .hbm, ⟨9, _⟩ => ⟨S4x1024x1024, .f32⟩
  | .hbm, ⟨10, _⟩ => ⟨S2x8192x1024, .f32⟩
  | .hbm, ⟨11, _⟩ => ⟨S1x1024x1024, .f32⟩
  | .hbm, ⟨12, _⟩ => ⟨S1024x1024, .f32⟩
  | .hbm, ⟨13, _⟩ => ⟨S2x8192x1024, .f32⟩
  | .hbm, ⟨14, _⟩ => ⟨S1x1x1024, .f32⟩
  | .hbm, ⟨15, _⟩ => ⟨S1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S1x1024x2816, .f32⟩
  | .hbm, ⟨52, _⟩ => ⟨S1024x2816, .f32⟩
  | .hbm, ⟨53, _⟩ => ⟨S1x1024x2816, .f32⟩
  | .hbm, ⟨54, _⟩ => ⟨S1024x2816, .f32⟩
  | .hbm, ⟨55, _⟩ => ⟨S1x2816x1024, .f32⟩
  | .hbm, ⟨56, _⟩ => ⟨S2816x1024, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S2x8192x1024, .f32⟩
  | .hbm, ⟨70, _⟩ => ⟨S1x1x1024, .f32⟩
  | .hbm, ⟨71, _⟩ => ⟨S1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S1x1024x1024, .f32⟩
  | .hbm, ⟨90, _⟩ => ⟨S1024x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S_, .f32⟩
  | .hbm, ⟨95, _⟩ => ⟨S2x8192x1024, .f32⟩
  | .hbm, ⟨96, _⟩ => ⟨S2x8192x1024, .f32⟩
  | .hbm, ⟨97, _⟩ => ⟨S_, .f32⟩
  | .hbm, ⟨98, _⟩ => ⟨S2x8192x1024, .f32⟩
  | .hbm, ⟨99, _⟩ => ⟨S2x8192x1024, .f32⟩
  | .hbm, ⟨100, _⟩ => ⟨S1x2x8192x256, .f32⟩
  | .hbm, ⟨101, _⟩ => ⟨S2x8192x256, .f32⟩
  | .hbm, ⟨102, _⟩ => ⟨S1x256x1024, .f32⟩
  | .hbm, ⟨103, _⟩ => ⟨S256x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel4.lean ====
abbrev S32x8x1024 : Shape := ⟨3, ![32, 8, 1024]⟩
abbrev S4x4x1024 : Shape := ⟨3, ![4, 4, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S2x1024x1024 : Shape := ⟨3, ![2, 1024, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S256x1024 : Shape := ⟨2, ![256, 1024]⟩
abbrev S1x1024 : Shape := ⟨2, ![1, 1024]⟩
abbrev S1x1x1024 : Shape := ⟨3, ![1, 1, 1024]⟩
abbrev S1x1024x1024 : Shape := ⟨3, ![1, 1024, 1024]⟩
abbrev S256x16 : Shape := ⟨2, ![256, 16]⟩
abbrev S256 : Shape := ⟨1, ![256]⟩
abbrev S256x1 : Shape := ⟨2, ![256, 1]⟩
abbrev S256x128 : Shape := ⟨2, ![256, 128]⟩

abbrev nBuf : Space → Nat
  | .hbm => 32
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S4x4x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x16, .f32⟩
  | .hbm, ⟨6, _⟩ => ⟨S16, .f32⟩
  | .hbm, ⟨7, _⟩ => ⟨S2x1024x1024, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S2x1024x1024, .f32⟩
  | .hbm, ⟨18, _⟩ => ⟨S2x1024x1024, .f32⟩
  | .hbm, ⟨19, _⟩ => ⟨S2x1024x1024, .bf16⟩
  | .hbm, ⟨20, _⟩ => ⟨S256x1024, .f32⟩
  | .hbm, ⟨21, _⟩ => ⟨S1x1024, .f32⟩
  | .hbm, ⟨22, _⟩ => ⟨S1x1x1024, .f32⟩
  | .hbm, ⟨23, _⟩ => ⟨S1x1024, .f32⟩
  | .hbm, ⟨24, _⟩ => ⟨S1024x1024, .bf16⟩
  | .hbm, ⟨25, _⟩ => ⟨S1024x1024, .bf16⟩
  | .hbm, ⟨26, _⟩ => ⟨S1x1024x1024, .bf16⟩
  | .hbm, ⟨27, _⟩ => ⟨S1024x1024, .bf16⟩
  | .hbm, ⟨28, _⟩ => ⟨S256x1024, .f32⟩
  | .hbm, ⟨29, _⟩ => ⟨S256x1024, .f32⟩
  | .hbm, ⟨30, _⟩ => ⟨S256x16, .f32⟩
  | .hbm, ⟨31, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x16, .f32⟩
  | .local _ .vmem, ⟨11, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S32x8x1024 : Shape := ⟨3, ![32, 8, 1024]⟩
abbrev S4x4x1024 : Shape := ⟨3, ![4, 4, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S2x1024x1024 : Shape := ⟨3, ![2, 1024, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x16 : Shape := ⟨3, ![32, 8, 16]⟩
abbrev S1x1x16 : Shape := ⟨3, ![1, 1, 16]⟩
abbrev S1x1024x1024 : Shape := ⟨3, ![1, 1024, 1024]⟩
abbrev S256x1024 : Shape := ⟨2, ![256, 1024]⟩
abbrev S256x16 : Shape := ⟨2, ![256, 16]⟩

abbrev nBuf : Space → Nat
  | .hbm => 74
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S4x4x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x16, .f32⟩
  | .hbm, ⟨6, _⟩ => ⟨S16, .f32⟩
  | .hbm, ⟨7, _⟩ => ⟨S2x1024x1024, .f32⟩
  | .hbm, ⟨8, _⟩ => ⟨S32x8x1024, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x1024, .f32⟩
  | .hbm, ⟨20, _⟩ => ⟨S32x8x1024, .f32⟩
  | .hbm, ⟨21, _⟩ => ⟨S1x1x1024, .f32⟩
  | .hbm, ⟨22, _⟩ => ⟨S32x8x1024, .f32⟩
  | .hbm, ⟨23, _⟩ => ⟨S32x8x1024, .f32⟩
  | .hbm, ⟨24, _⟩ => ⟨S32x8x16, .f32⟩
  | .hbm, ⟨25, _⟩ => ⟨S1x1x16, .f32⟩
  | .hbm, ⟨26, _⟩ => ⟨S32x8x16, .f32⟩
  | .hbm, ⟨27, _⟩ => ⟨S32x8x16, .f32⟩
  | .hbm, ⟨28, _⟩ => ⟨S32x8x16, .f32⟩
  | .hbm, ⟨29, _⟩ => ⟨S_, .f32⟩
  | .hbm, ⟨30, _⟩ => ⟨S32x8x16, .f32⟩
  | .hbm, ⟨31, _⟩ => ⟨S32x8x16, .f32⟩
  | .hbm, ⟨32, _⟩ => ⟨S32x8x16, .f32⟩
  | .hbm, ⟨33, _⟩ => ⟨S32x8x16, .f32⟩
  | .hbm, ⟨34, _⟩ => ⟨S32x8x16, .i1⟩
  | .hbm, ⟨35, _⟩ => ⟨S32x8x16, .f32⟩
  | .hbm, ⟨36, _⟩ => ⟨S32x8x16, .f32⟩
  | .hbm, ⟨37, _⟩ => ⟨S32x8x16, .f32⟩
  | .hbm, ⟨38, _⟩ => ⟨S32x8x16, .f32⟩
  | .hbm, ⟨39, _⟩ => ⟨S32x8x16, .f32⟩
  | .hbm, ⟨40, _⟩ => ⟨S32x8x16, .f32⟩
  | .hbm, ⟨41, _⟩ => ⟨S32x8x16, .f32⟩
  | .hbm, ⟨42, _⟩ => ⟨S32x8x16, .f32⟩
  | .hbm, ⟨43, _⟩ => ⟨S32x8x16, .f32⟩
  | .hbm, ⟨44, _⟩ => ⟨S1x1x1024, .f32⟩
  | .hbm, ⟨45, _⟩ => ⟨S1024, .f32⟩
  | .hbm, ⟨46, _⟩ => ⟨S32x8x1024, .f32⟩
  | .hbm, ⟨47, _⟩ => ⟨S_, .f32⟩
  | .hbm, ⟨48, _⟩ => ⟨S32x8, .f32⟩
  | .hbm, ⟨49, _⟩ => ⟨S32x8x1, .f32⟩
  | .hbm, ⟨50, _⟩ => ⟨S_, .f32⟩
  | .hbm, ⟨51, _⟩ => ⟨S32x8x1, .f32⟩
  | .hbm, ⟨52, _⟩ => ⟨S32x8x1, .f32⟩
  | .hbm, ⟨53, _⟩ => ⟨S_, .f32⟩
  | .hbm, ⟨54, _⟩ => ⟨S32x8x1, .f32⟩
  | .hbm, ⟨55, _⟩ => ⟨S32x8x1, .f32⟩
  | .hbm, ⟨56, _⟩ => ⟨S32x8x1, .f32⟩
  | .hbm, ⟨57, _⟩ => ⟨S32x8x1024, .f32⟩
  | .hbm, ⟨58, _⟩ => ⟨S32x8x1024, .f32⟩
  | .hbm, ⟨59, _⟩ => ⟨S1x1x1024, .f32⟩
  | .hbm, ⟨60, _⟩ => ⟨S32x8x1024, .f32⟩
  | .hbm, ⟨61, _⟩ => ⟨S32x8x1024, .f32⟩
  | .hbm, ⟨62, _⟩ => ⟨S1x1024x1024, .f32⟩
  | .hbm, ⟨63, _⟩ => ⟨S1024x1024, .f32⟩
  | .hbm, ⟨64, _⟩ => ⟨S32x8x1024, .f32⟩
  | .hbm, ⟨65, _⟩ => ⟨S_, .f32⟩
  | .hbm, ⟨66, _⟩ => ⟨S32x8x1024, .f32⟩
  | .hbm, ⟨67, _⟩ => ⟨S32x8x1024, .f32⟩
  | .hbm, ⟨68, _⟩ => ⟨S32x8x1024, .f32⟩
  | .hbm, ⟨69, _⟩ => ⟨S256x1024, .f32⟩
  | .hbm, ⟨70, _⟩ => ⟨S32x8x1024, .f32⟩
  | .hbm, ⟨71, _⟩ => ⟨S256x1024, .f32⟩
  | .hbm, ⟨72, _⟩ => ⟨S256x16, .f32⟩
  | .hbm, ⟨73, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]
-- ==== Kernel5.lean ====
abbrev S32x8x1024 : Shape := ⟨3, ![32, 8, 1024]⟩
abbrev S2x32x2x1024 : Shape := ⟨4, ![2, 32, 2, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x32x2x1024 : Shape := ⟨4, ![1, 32, 2, 1024]⟩
abbrev S32x2x1024 : Shape := ⟨3, ![32, 2, 1024]⟩
abbrev S_ : Shape := ⟨0, ![]⟩
abbrev S32x6x1024 : Shape := ⟨3, ![32, 6, 1024]⟩
abbrev S32x1x1024 : Shape := ⟨3, ![32, 1, 1024]⟩
abbrev S256x1024 : Shape := ⟨2, ![256, 1024]⟩
abbrev S1x4x1024 : Shape := ⟨3, ![1, 4, 1024]⟩
abbrev S4x1024 : Shape := ⟨2, ![4, 1024]⟩
abbrev S1x3x1024 : Shape := ⟨3, ![1, 3, 1024]⟩
abbrev S3x1024 : Shape := ⟨2, ![3, 1024]⟩
abbrev S1x1024x3072 : Shape := ⟨3, ![1, 1024, 3072]⟩
abbrev S1x1024x1024 : Shape := ⟨3, ![1, 1024, 1024]⟩
abbrev S1x1024 : Shape := ⟨2, ![1, 1024]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S1024x1024 : Shape := ⟨2, ![1024, 1024]⟩

abbrev nBuf : Space → Nat
  | .hbm => 25
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S2x32x2x1024, .f32⟩
  | .hbm, ⟨2, _⟩ => ⟨S4x4x1024, .f32⟩
  | .hbm, ⟨3, _⟩ => ⟨S2x1024x3072, .f32⟩
  | .hbm, ⟨4, _⟩ => ⟨S2x3x1024, .f32⟩
  | .hbm, ⟨5, _⟩ => ⟨S2x1024x1024, .f32⟩
  | .hbm, ⟨6, _⟩ => ⟨S1x32x2x1024, .f32⟩
  | .hbm, ⟨7, _⟩ => ⟨S32x2x1024, .f32⟩
  | .hbm, ⟨8, _⟩ => ⟨S_, .f32⟩
  | .hbm, ⟨9, _⟩ => ⟨S32x6x1024, .f32⟩
  | .hbm, ⟨10, _⟩ => ⟨S32x1x1024, .f32⟩
  | .hbm, ⟨11, _⟩ => ⟨S32x1x1024, .f32⟩
  | .hbm, ⟨12, _⟩ => ⟨S32x8x1024, .f32⟩
  | .hbm, ⟨13, _⟩ => ⟨S256x1024, .f32⟩
  | .hbm, ⟨14, _⟩ => ⟨S32x8x1024, .f32⟩
  | .hbm, ⟨15, _⟩ => ⟨S256x1024, .f32⟩
  | .hbm, ⟨16, _⟩ => ⟨S256x1024, .f32⟩
  | .hbm, ⟨17, _⟩ => ⟨S1x4x1024, .f32⟩
  | .hbm, ⟨18, _⟩ => ⟨S4x1024, .f32⟩
  | .hbm, ⟨19, _⟩ => ⟨S2x1024x3072, .bf16⟩
  | .hbm, ⟨20, _⟩ => ⟨S1x3x1024, .f32⟩
  | .hbm, ⟨21, _⟩ => ⟨S3x1024, .f32⟩
  | .hbm, ⟨22, _⟩ => ⟨S2x1024x1024, .bf16⟩
  | .hbm, ⟨23, _⟩ => ⟨S256x1024, .f32⟩
  | .hbm, ⟨24, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S4x1024, .f32⟩
  | .local _ .vmem, ⟨4, _⟩ => ⟨S1x1024x3072, .bf16⟩
  | .local _ .vmem, ⟨5, _⟩ => ⟨S3x1024, .f32⟩
  | .local _ .vmem, ⟨6, _⟩ => ⟨S1x1024x1024, .bf16⟩
  | .local _ .vmem, ⟨7, _⟩ => ⟨S256x1024, .f32⟩
  | .local _ .vmem, ⟨8, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S32x8x1024 : Shape := ⟨3, ![32, 8, 1024]⟩
abbrev S2x32x2x1024 : Shape := ⟨4, ![2, 32, 2, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1x1024 : Shape := ⟨3, ![1, 1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1024x3072 : Shape := ⟨3, ![1, 1024, 3072]⟩
abbrev S1024x3072 : Shape := ⟨2, ![1024, 3072]⟩
abbrev S32x8x3072 : Shape := ⟨3, ![32, 8, 3072]⟩
abbrev S1x32x2x1024 : Shape := ⟨4, ![1, 32, 2, 1024]⟩
abbrev S32x2x1024 : Shape := ⟨3, ![32, 2, 1024]⟩
abbrev S32x10x1024 : Shape := ⟨3, ![32, 10, 1024]⟩
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S2x32x2x1024, .f32⟩
  | .hbm, ⟨2, _⟩ => ⟨S4x4x1024, .f32⟩
  | .hbm, ⟨3, _⟩ => ⟨S2x1024x3072, .f32⟩
  | .hbm, ⟨4, _⟩ => ⟨S2x3x1024, .f32⟩
  | .hbm, ⟨5, _⟩ => ⟨S2x1024x1024, .f32⟩
  | .hbm, ⟨6, _⟩ => ⟨S1x1x1024, .f32⟩
  | .hbm, ⟨7, _⟩ => ⟨S1024, .f32⟩
  | .hbm, ⟨8, _⟩ => ⟨S32x8x1024, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x1024, .f32⟩
  | .hbm, ⟨20, _⟩ => ⟨S32x8x1024, .f32⟩
  | .hbm, ⟨21, _⟩ => ⟨S1x1x1024, .f32⟩
  | .hbm, ⟨22, _⟩ => ⟨S32x8x1024, .f32⟩
  | .hbm, ⟨23, _⟩ => ⟨S32x8x1024, .f32⟩
  | .hbm, ⟨24, _⟩ => ⟨S1x1024x3072, .f32⟩
  | .hbm, ⟨25, _⟩ => ⟨S1024x3072, .f32⟩
  | .hbm, ⟨26, _⟩ => ⟨S32x8x3072, .f32⟩
  | .hbm, ⟨27, _⟩ => ⟨S32x8x1024, .f32⟩
  | .hbm, ⟨28, _⟩ => ⟨S32x8x1024, .f32⟩
  | .hbm, ⟨29, _⟩ => ⟨S32x8x1024, .f32⟩
  | .hbm, ⟨30, _⟩ => ⟨S32x8x1024, .f32⟩
  | .hbm, ⟨31, _⟩ => ⟨S1x32x2x1024, .f32⟩
  | .hbm, ⟨32, _⟩ => ⟨S32x2x1024, .f32⟩
  | .hbm, ⟨33, _⟩ => ⟨S32x10x1024, .f32⟩
  | .hbm, ⟨34, _⟩ => ⟨S1x1x1024, .f32⟩
  | .hbm, ⟨35, _⟩ => ⟨S1024, .f32⟩
  | .hbm, ⟨36, _⟩ => ⟨S32x8x1024, .f32⟩
  | .hbm, ⟨37, _⟩ => ⟨S1x1x1024, .f32⟩
  | .hbm, ⟨38, _⟩ => ⟨S32x8x1024, .f32⟩
  | .hbm, ⟨39, _⟩ => ⟨S32x8x1024, .f32⟩
  | .hbm, ⟨40, _⟩ => ⟨S1x1x1024, .f32⟩
  | .hbm, ⟨41, _⟩ => ⟨S1024, .f32⟩
  | .hbm, ⟨42, _⟩ => ⟨S32x8x1024, .f32⟩
  | .hbm, ⟨43, _⟩ => ⟨S1x1x1024, .f32⟩
  | .hbm, ⟨44, _⟩ => ⟨S32x8x1024, .f32⟩
  | .hbm, ⟨45, _⟩ => ⟨S32x8x1024, .f32⟩
  | .hbm, ⟨46, _⟩ => ⟨S32x8x1024, .f32⟩
  | .hbm, ⟨47, _⟩ => ⟨S1x1x1024, .f32⟩
  | .hbm, ⟨48, _⟩ => ⟨S1024, .f32⟩
  | .hbm, ⟨49, _⟩ => ⟨S32x8x1024, .f32⟩
  | .hbm, ⟨50, _⟩ => ⟨S1x1x1024, .f32⟩
  | .hbm, ⟨51, _⟩ => ⟨S32x8x1024, .f32⟩
  | .hbm, ⟨52, _⟩ => ⟨S32x8x1024, .f32⟩
  | .hbm, ⟨53, _⟩ => ⟨S32x8x1024, .f32⟩
  | .hbm, ⟨54, _⟩ => ⟨S32x8x1024, .f32⟩
  | .hbm, ⟨55, _⟩ => ⟨S1x1024x1024, .f32⟩
  | .hbm, ⟨56, _⟩ => ⟨S1024x1024, .f32⟩
  | .hbm, ⟨57, _⟩ => ⟨S32x8x1024, .f32⟩
  | .hbm, ⟨58, _⟩ => ⟨S1x1x1024, .f32⟩
  | .hbm, ⟨59, _⟩ => ⟨S1024, .f32⟩
  | .hbm, ⟨60, _⟩ => ⟨S32x8x1024, .f32⟩
  | .hbm, ⟨61, _⟩ => ⟨S_, .f32⟩
  | .hbm, ⟨62, _⟩ => ⟨S32x8, .f32⟩
  | .hbm, ⟨63, _⟩ => ⟨S32x8x1, .f32⟩
  | .hbm, ⟨64, _⟩ => ⟨S_, .f32⟩
  | .hbm, ⟨65, _⟩ => ⟨S32x8x1, .f32⟩
  | .hbm, ⟨66, _⟩ => ⟨S32x8x1, .f32⟩
  | .hbm, ⟨67, _⟩ => ⟨S_, .f32⟩
  | .hbm, ⟨68, _⟩ => ⟨S32x8x1, .f32⟩
  | .hbm, ⟨69, _⟩ => ⟨S32x8x1, .f32⟩
  | .hbm, ⟨70, _⟩ => ⟨S32x8x1, .f32⟩
  | .hbm, ⟨71, _⟩ => ⟨S32x8x1024, .f32⟩
  | .hbm, ⟨72, _⟩ => ⟨S32x8x1024, .f32⟩
  | .hbm, ⟨73, _⟩ => ⟨S1x1x1024, .f32⟩
  | .hbm, ⟨74, _⟩ => ⟨S32x8x1024, .f32⟩
  | .hbm, ⟨75, _⟩ => ⟨S32x8x1024, .f32⟩
  | .hbm, ⟨76, _⟩ => ⟨S32x8x1024, .f32⟩
  | .hbm, ⟨77, _⟩ => ⟨S256x1024, .f32⟩
  | .hbm, ⟨78, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_2 : Ref sig .tc := ⟨.hbm, 61, rfl⟩
abbrev main_v52 : Ref sig .tc := ⟨.hbm, 62, rfl⟩
abbrev main_v53 : Ref sig .tc := ⟨.hbm, 63, rfl⟩
abbrev main_cst_3 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]
-- ==== Kernel6.lean ====
abbrev S2x8192x1024 : Shape := ⟨3, ![2, 8192, 1024]⟩
abbrev S4x2x8192x256 : Shape := ⟨4, ![4, 2, 8192, 256]⟩
abbrev S4x4x1024 : Shape := ⟨3, ![4, 4, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S16384x1024 : Shape := ⟨2, ![16384, 1024]⟩
abbrev S4x16384x256 : Shape := ⟨3, ![4, 16384, 256]⟩
abbrev S1x4x1024 : Shape := ⟨3, ![1, 4, 1024]⟩
abbrev S4x1024 : Shape := ⟨2, ![4, 1024]⟩
abbrev S256x1024 : Shape := ⟨2, ![256, 1024]⟩
abbrev S1x256x256 : Shape := ⟨3, ![1, 256, 256]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩
abbrev S1024x1024 : Shape := ⟨2, ![1024, 1024]⟩
abbrev S256x256 : Shape := ⟨2, ![256, 256]⟩

abbrev nBuf : Space → Nat
  | .hbm => 18
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S4x2x8192x256, .f32⟩
  | .hbm, ⟨2, _⟩ => ⟨S4x4x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x256x1024, .f32⟩
  | .hbm, ⟨7, _⟩ => ⟨S4x1024x1024, .f32⟩
  | .hbm, ⟨8, _⟩ => ⟨S16384x1024, .f32⟩
  | .hbm, ⟨9, _⟩ => ⟨S4x16384x256, .f32⟩
  | .hbm, ⟨10, _⟩ => ⟨S1x4x1024, .f32⟩
  | .hbm, ⟨11, _⟩ => ⟨S4x1024, .f32⟩
  | .hbm, ⟨12, _⟩ => ⟨S4x1024x2816, .bf16⟩
  | .hbm, ⟨13, _⟩ => ⟨S4x1024x2816, .bf16⟩
  | .hbm, ⟨14, _⟩ => ⟨S4x2816x1024, .bf16⟩
  | .hbm, ⟨15, _⟩ => ⟨S4x256x1024, .bf16⟩
  | .hbm, ⟨16, _⟩ => ⟨S4x1024x1024, .bf16⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x256x256, .f32⟩
  | .local _ .vmem, ⟨3, _⟩ => ⟨S1x256x256, .f32⟩
  | .local _ .vmem, ⟨4, _⟩ => ⟨S4x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x256x1024, .bf16⟩
  | .local _ .vmem, ⟨9, _⟩ => ⟨S1x1024x1024, .bf16⟩
  | .local _ .vmem, ⟨10, _⟩ => ⟨S256x1024, .f32⟩
  | .local _ .vmem, ⟨11, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2x8192x1024 : Shape := ⟨3, ![2, 8192, 1024]⟩
abbrev S4x2x8192x256 : Shape := ⟨4, ![4, 2, 8192, 256]⟩
abbrev S4x4x1024 : Shape := ⟨3, ![4, 4, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩
abbrev S1x1024x1024 : Shape := ⟨3, ![1, 1024, 1024]⟩
abbrev S1024x1024 : Shape := ⟨2, ![1024, 1024]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x2x8192x256, .f32⟩
  | .hbm, ⟨2, _⟩ => ⟨S4x4x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x256x1024, .f32⟩
  | .hbm, ⟨7, _⟩ => ⟨S4x1024x1024, .f32⟩
  | .hbm, ⟨8, _⟩ => ⟨S1x1x1024, .f32⟩
  | .hbm, ⟨9, _⟩ => ⟨S1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S1x1024x2816, .f32⟩
  | .hbm, ⟨27, _⟩ => ⟨S1024x2816, .f32⟩
  | .hbm, ⟨28, _⟩ => ⟨S1x1024x2816, .f32⟩
  | .hbm, ⟨29, _⟩ => ⟨S1024x2816, .f32⟩
  | .hbm, ⟨30, _⟩ => ⟨S1x2816x1024, .f32⟩
  | .hbm, ⟨31, _⟩ => ⟨S2816x1024, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x1024, .f32⟩
  | .hbm, ⟨45, _⟩ => ⟨S1x1x1024, .f32⟩
  | .hbm, ⟨46, _⟩ => ⟨S1024, .f32⟩
  | .hbm, ⟨47, _⟩ => ⟨S2x8192x1024, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S1x1024x1024, .f32⟩
  | .hbm, ⟨65, _⟩ => ⟨S1024x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192x1024, .f32⟩
  | .hbm, ⟨74, _⟩ => ⟨S2x8192x1024, .f32⟩
  | .hbm, ⟨75, _⟩ => ⟨S1x2x8192x256, .f32⟩
  | .hbm, ⟨76, _⟩ => ⟨S2x8192x256, .f32⟩
  | .hbm, ⟨77, _⟩ => ⟨S1x256x1024, .f32⟩
  | .hbm, ⟨78, _⟩ => ⟨S256x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel7.lean ====
abbrev S2x8192x1024 : Shape := ⟨3, ![2, 8192, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x4x1024 : Shape := ⟨3, ![1, 4, 1024]⟩
abbrev S4x1024 : Shape := ⟨2, ![4, 1024]⟩
abbrev S1x3x1024 : Shape := ⟨3, ![1, 3, 1024]⟩
abbrev S3x1024 : Shape := ⟨2, ![3, 1024]⟩
abbrev S2x2x1024 : Shape := ⟨3, ![2, 2, 1024]⟩
abbrev S1x512x1024 : Shape := ⟨3, ![1, 512, 1024]⟩
abbrev S1x1024x3072 : Shape := ⟨3, ![1, 1024, 3072]⟩
abbrev S1x1024x1024 : Shape := ⟨3, ![1, 1024, 1024]⟩
abbrev S1x2x1024 : Shape := ⟨3, ![1, 2, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x3072 : Shape := ⟨2, ![1024, 3072]⟩
abbrev S512x3072 : Shape := ⟨2, ![512, 3072]⟩
abbrev S1024x1024 : Shape := ⟨2, ![1024, 1024]⟩
abbrev S2x1024 : Shape := ⟨2, ![2, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S4x4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x4x1024, .f32⟩
  | .hbm, ⟨6, _⟩ => ⟨S4x1024, .f32⟩
  | .hbm, ⟨7, _⟩ => ⟨S2x1024x3072, .bf16⟩
  | .hbm, ⟨8, _⟩ => ⟨S1x3x1024, .f32⟩
  | .hbm, ⟨9, _⟩ => ⟨S3x1024, .f32⟩
  | .hbm, ⟨10, _⟩ => ⟨S2x1024x1024, .bf16⟩
  | .hbm, ⟨11, _⟩ => ⟨S2x8192x1024, .f32⟩
  | .hbm, ⟨12, _⟩ => ⟨S2x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S4x1024, .f32⟩
  | .local _ .vmem, ⟨3, _⟩ => ⟨S1x1024x3072, .bf16⟩
  | .local _ .vmem, ⟨4, _⟩ => ⟨S3x1024, .f32⟩
  | .local _ .vmem, ⟨5, _⟩ => ⟨S1x1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x2x1024, .f32⟩
  | .local _ .vmem, ⟨9, _⟩ => ⟨S1x2x1024, .f32⟩
  | .local _ .vmem, ⟨10, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S2x8192x1024 : Shape := ⟨3, ![2, 8192, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S2x2x1024 : Shape := ⟨3, ![2, 2, 1024]⟩
abbrev S2x8194x1024 : Shape := ⟨3, ![2, 8194, 1024]⟩
abbrev S1x1024x1024 : Shape := ⟨3, ![1, 1024, 1024]⟩
abbrev S1024x1024 : Shape := ⟨2, ![1024, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x1024x3072, .f32⟩
  | .hbm, ⟨24, _⟩ => ⟨S1024x3072, .f32⟩
  | .hbm, ⟨25, _⟩ => ⟨S2x8192x3072, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x2x1024, .f32⟩
  | .hbm, ⟨32, _⟩ => ⟨S2x8194x1024, .f32⟩
  | .hbm, ⟨33, _⟩ => ⟨S1x1x1024, .f32⟩
  | .hbm, ⟨34, _⟩ => ⟨S1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S1x1024x1024, .f32⟩
  | .hbm, ⟨55, _⟩ => ⟨S1024x1024, .f32⟩
  | .hbm, ⟨56, _⟩ => ⟨S2x8192x1024, .f32⟩
  | .hbm, ⟨57, _⟩ => ⟨S1x1x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x2x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Proof.KernelIdeal.LoopEnd.lean ====
/-
  The loop over pairs of key blocks, seen from its end. What the loop leaves in the score tile, the maxima and the
  accumulators is a recursion over its trips in which the second score tile does not occur: a trip writes that tile
  whole before reading it. So the loop may be left with the second tile at unknown contents.
-/
module

public import proofs.«01_k».proof.Proof.Gen.KernelIdeal.Frame.Runs
public import Idealize.ShloMosaic.Lib.LoopRemainder
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Nothing a trip writes depends on what it finds in the second score tile. -/
theorem trip_free (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (arg2 : BitVec 32) (c2_i32 : BitVec 32) (v72 : BitVec 32) (v74 : BitVec 32) (v75 : BitVec 1) (X_arg3 : BufTy.Contents (Elt F) arg3.view.ty) (X_arg4 : BufTy.Contents (Elt F) arg4.view.ty) (X_arg5 : BufTy.Contents (Elt F) arg5.view.ty) (k : Fin (k0_t1_loop i).trips) (f7 : BufTy.Contents (Elt F) arg7.view.ty) (f8 f8' : BufTy.Contents (Elt F) arg8.view.ty) (f9 : BufTy.Contents (Elt F) arg9.view.ty) (f10 : BufTy.Contents (Elt F) arg10.view.ty) :
    tripL_k0_t1 (F := F) 𝒱 c bd i arg3 harg3 arg4 harg4 arg5 harg5 arg6 harg6 arg7 harg7 arg8 harg8 arg9 harg9 arg10 harg10 arg2 c2_i32 v72 v74 v75 X_arg3 X_arg4 X_arg5 k f7 f8 f9 f10 = tripL_k0_t1 (F := F) 𝒱 c bd i arg3 harg3 arg4 harg4 arg5 harg5 arg6 harg6 arg7 harg7 arg8 harg8 arg9 harg9 arg10 harg10 arg2 c2_i32 v72 v74 v75 X_arg3 X_arg4 X_arg5 k f7 f8' f9 f10 := by
  unfold tripL_k0_t1 trip_k0_t1
  rfl

/-- The score tile, the maxima and the accumulators before trip `k`. -/
def lpSt (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (arg2 : BitVec 32) (c2_i32 : BitVec 32) (v72 : BitVec 32) (v74 : BitVec 32) (v75 : BitVec 1) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) :
    ℕ → BufTy.Contents (Elt F) arg7.view.ty × BufTy.Contents (Elt F) arg9.view.ty × BufTy.Contents (Elt F) arg10.view.ty
  | 0 => (G_arg7, G_arg9, G_arg10)
  | k + 1 =>
    let p := lpSt 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10 k
    if h : k < (k0_t1_loop i).trips then
      let L := tripL_k0_t1 (F := F) 𝒱 c bd i arg3 harg3 arg4 harg4 arg5 harg5 arg6 harg6 arg7 harg7 arg8 harg8 arg9 harg9 arg10 harg10 arg2 c2_i32 v72 v74 v75 X_arg3 X_arg4 X_arg5 ⟨k, h⟩ p.1 arg8.view.junk p.2.1 p.2.2
      (arg7.view.writes (Elt F) p.1 L.1, arg9.view.writes (Elt F) p.2.1 L.2.2.1, arg10.view.writes (Elt F) p.2.2 L.2.2.2)
    else p

/-- The pieces of the trips before `k` put the recursion's contents into the three buffers. -/
theorem lpSt_eq (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (arg2 : BitVec 32) (c2_i32 : BitVec 32) (v72 : BitVec 32) (v74 : BitVec 32) (v75 : BitVec 1) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (k : ℕ) (hk : k ≤ (k0_t1_loop i).trips) :
    lpSt (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10 k
      = (arg7.view.writes (Elt F) G_arg7 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).1,
         arg9.view.writes (Elt F) G_arg9 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).2.2.1,
         arg10.view.writes (Elt F) G_arg10 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).2.2.2) := by
  induction k with
  | zero => rfl
  | succ k ih =>
    have h := pb_k0_t1_succ (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 ⟨k, hk⟩
    simp only at h
    rw [h, lpSt]
    simp only [show k < (k0_t1_loop i).trips from hk, dif_pos, ih (Nat.le_of_succ_le hk), View.writes_append]
    have e := trip_free (F := F) 𝒱 c bd i arg3 harg3 arg4 harg4 arg5 harg5 arg6 harg6 arg7 harg7 arg8 harg8 arg9 harg9 arg10 harg10 arg2 c2_i32 v72 v74 v75 X_arg3 X_arg4 X_arg5 ⟨k, hk⟩ (arg7.view.writes (Elt F) G_arg7 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).1) arg8.view.junk (arg8.view.writes (Elt F) G_arg8 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).2.1)
      (arg9.view.writes (Elt F) G_arg9 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).2.2.1) (arg10.view.writes (Elt F) G_arg10 (pb_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 k).2.2.2)
    refine Prod.ext ?_ (Prod.ext ?_ ?_)
    · exact congrArg (fun L => arg7.view.writes (Elt F) _ L.1) e
    · exact congrArg (fun L => arg9.view.writes (Elt F) _ L.2.2.1) e
    · exact congrArg (fun L => arg10.view.writes (Elt F) _ L.2.2.2) e

/-- What the whole loop leaves. -/
@[irreducible] def lpEnd (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (arg2 : BitVec 32) (c2_i32 : BitVec 32) (v72 : BitVec 32) (v74 : BitVec 32) (v75 : BitVec 1) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) : BufTy.Contents (Elt F) arg7.view.ty × BufTy.Contents (Elt F) arg9.view.ty × BufTy.Contents (Elt F) arg10.view.ty :=
  lpSt (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10 (k0_t1_loop i).trips

theorem lpEnd_eq (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (arg2 : BitVec 32) (c2_i32 : BitVec 32) (v72 : BitVec 32) (v74 : BitVec 32) (v75 : BitVec 1) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) :
    lpEnd (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10 = lpSt (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10 (k0_t1_loop i).trips := by
  unfold lpEnd; rfl

set_option warn.classDefReducibility false in
/-- The loop left: the three buffers at the recursion's end, the second tile at anything. -/
def loopEnd (𝒱 : Variants) (c : Dev nD) (bd : Option 𝒱.V) (E : Set ℕ) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (arg2 : BitVec 32) (c2_i32 : BitVec 32) (v72 : BitVec 32) (v74 : BitVec 32) (v75 : BitVec 1) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) :
    LoopExit (loopInv_k0_t1 (F := F) 𝒱 c bd E i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10) where
  post _ := iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5)
    ∗ (arg7.view.loc (c : Thread nD τ) ↦[arg7.view.set]{fullShare} (lpEnd (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10).1)
    ∗ (∃ f, (arg8.view.loc (c : Thread nD τ) ↦[arg8.view.set]{fullShare} f))
    ∗ (arg9.view.loc (c : Thread nD τ) ↦[arg9.view.set]{fullShare} (lpEnd (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10).2.1)
    ∗ (arg10.view.loc (c : Thread nD τ) ↦[arg10.view.set]{fullShare} (lpEnd (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg9 G_arg10).2.2))
  exit _ := by
    show inv_k0_t1 (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 (k0_t1_loop i).trips _ ⊢ _
    rw [lpEnd_eq, lpSt_eq (F := F) 𝒱 c bd i arg3 harg3 arg4 harg4 arg5 harg5 arg6 harg6 arg7 harg7 arg8 harg8 arg9 harg9 arg10 harg10 arg2 c2_i32 v72 v74 v75 X_arg3 X_arg4 X_arg5 G_arg7 G_arg8 G_arg9 G_arg10 _ le_rfl]
    iintro ⟨H3, H4, H5, ⟨%f7, H7, %h7⟩, ⟨%f8, H8, %h8⟩, ⟨%f9, H9, %h9⟩, ⟨%f10, H10, %h10⟩⟩
    subst h7 h9 h10
    isplitl [H3]; · iexact H3
    isplitl [H4]; · iexact H4
    isplitl [H5]; · iexact H5
    isplitl [H7]; · iexact H7
    isplitl [H8]; · iexists _; iexact H8
    isplitl [H9]; · iexact H9
    iexact H10

end Cert.KernelIdeal.Gen

end
-- ==== Proof.KernelIdeal.RunA.lean ====
/-
  The body of the kernel run once, at a point whose query block has an even number: what it stores into its output block
  is found by the run, which leaves the loop over pairs of key blocks by `loopEnd`.
-/
module

public import proofs.«01_k».proof.Proof.KernelIdeal.LoopEnd

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option warn.classDefReducibility false in
attribute [local instance] loopEnd in
/-- The pieces the body stores into its output block at an even query block, with the proof that the body, on whole staging
    buffers holding its three inputs, ends with the inputs as they were and the output block written by those pieces. -/
noncomputable def kernelRun0_A (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (hc0 : cond0_0 i) (hc1 : ¬cond0_1 i)
    (x0 : Vec F S1x4x512x128 .bf16) (x1 : Vec F S1x4x8192x128 .bf16) (x2 : Vec F S1x4x16x80x512 .bf16) :
    { L3 : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_flash_prompt i arg3 harg3 arg4 harg4 arg5 harg5 arg6 harg6 arg7 harg7 arg8 harg8 arg9 harg9 arg10 harg10) K } := by
  refine ⟨?_, fun E K => ?run⟩
  case run =>
    simp only [cc0_flash_prompt_eq_skeleton]; unfold cc0_flash_prompt_skel
    simp only [k0_part64_eq_skeleton, k0_part65_eq_skeleton, k0_part66_eq_skeleton, k0_part67_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part68_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    sl_exec (disch := first | sl_exact hc0 | sl_exact hc1)
    sl_step
    iapply Hk
    isplitl [HL0]
    · iexists _; isplitr; · ipureintro; exact harg3.read_unread _
      iexact HL0
    isplitl [HL1]
    · iexists _; isplitr; · ipureintro; exact harg4.read_unread _
      iexact HL1
    isplitl [HL2]
    · iexists _; isplitr; · ipureintro; exact harg5.read_unread _
      iexact HL2
    isplitl [H3]; · iexists _; iexact H3
    isplitl [HL3]
    · iexists _, _; isplitr; swap; · iexact HL3
      ipureintro; rfl
    isplitl [HL4]
    · iexists _, _; isplitr; swap; · iexact HL4
      ipureintro; rfl
    isplitl [HL5]
    · iexists _, _; isplitr; swap; · iexact HL5
      ipureintro; rfl
    iexists _, _; isplitr; swap; · iexact HL6
    ipureintro; rfl

end Cert.KernelIdeal.Gen

end
-- ==== Proof.KernelIdeal.RunB.lean ====
/-
  The body of the kernel run once, at a point whose query block has an odd number: what it stores into its output block
  is found by the run, which leaves the loop over pairs of key blocks by `loopEnd`.
-/
module

public import proofs.«01_k».proof.Proof.KernelIdeal.LoopEnd

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option warn.classDefReducibility false in
attribute [local instance] loopEnd in
/-- The pieces the body stores into its output block at an odd query block, with the proof that the body, on whole staging
    buffers holding its three inputs, ends with the inputs as they were and the output block written by those pieces. -/
noncomputable def kernelRun0_B (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (hc0 : ¬cond0_0 i) (hc1 : cond0_1 i)
    (x0 : Vec F S1x4x512x128 .bf16) (x1 : Vec F S1x4x8192x128 .bf16) (x2 : Vec F S1x4x16x80x512 .bf16) :
    { L3 : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_flash_prompt i arg3 harg3 arg4 harg4 arg5 harg5 arg6 harg6 arg7 harg7 arg8 harg8 arg9 harg9 arg10 harg10) K } := by
  refine ⟨?_, fun E K => ?run⟩
  case run =>
    simp only [cc0_flash_prompt_eq_skeleton]; unfold cc0_flash_prompt_skel
    simp only [k0_part64_eq_skeleton, k0_part65_eq_skeleton, k0_part66_eq_skeleton, k0_part67_eq_skeleton, k0_part68_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    sl_exec (disch := first | sl_exact hc0 | sl_exact hc1)
    sl_step
    iapply Hk
    isplitl [HL0]
    · iexists _; isplitr; · ipureintro; exact harg3.read_unread _
      iexact HL0
    isplitl [HL1]
    · iexists _; isplitr; · ipureintro; exact harg4.read_unread _
      iexact HL1
    isplitl [HL2]
    · iexists _; isplitr; · ipureintro; exact harg5.read_unread _
      iexact HL2
    isplitl [H3]; · iexists _; iexact H3
    isplitl [HL3]
    · iexists _, _; isplitr; swap; · iexact HL3
      ipureintro; rfl
    isplitl [HL4]
    · iexists _, _; isplitr; swap; · iexact HL4
      ipureintro; rfl
    isplitl [HL5]
    · iexists _, _; isplitr; swap; · iexact HL5
      ipureintro; rfl
    iexists _, _; isplitr; swap; · iexact HL6
    ipureintro; rfl

end Cert.KernelIdeal.Gen

end
-- ==== Proof.KernelIdeal.Frame.lean ====
/-
  The frame of the kernel from its two runs: what a point leaves in its output block, the pipeline's proof data, the
  body's triple at every point, and the launch.
-/
module

public import proofs.«01_k».proof.Proof.KernelIdeal.RunA
public import proofs.«01_k».proof.Proof.KernelIdeal.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At an even query block the one store covers the output block. -/
theorem cover0_A_3 (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (hc0 : cond0_0 i) (hc1 : ¬cond0_1 i)
    (x0 : Vec F S1x4x512x128 .bf16) (x1 : Vec F S1x4x8192x128 .bf16) (x2 : Vec F S1x4x16x80x512 .bf16) (y : S1x512x256.Idx) :
    ∃ pc ∈ (kernelRun0_A c i arg3 harg3 arg4 harg4 arg5 harg5 arg6 harg6 arg7 harg7 arg8 harg8 arg9 harg9 arg10 harg10 hc0 hc1 x0 x1 x2).1, y ∈ pc.1.set :=
  View.cover_of_tiledL (kernelRun0_A c i arg3 harg3 arg4 harg4 arg5 harg5 arg6 harg6 arg7 harg7 arg8 harg8 arg9 harg9 arg10 harg10 hc0 hc1 x0 x1 x2).1 S1x512x256.size (by sl_kernel_rfl) y

/-- What an even query block leaves in the output block. -/
def out0_A_3 (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (hc0 : cond0_0 i) (hc1 : ¬cond0_1 i)
    (x0 : Vec F S1x4x512x128 .bf16) (x1 : Vec F S1x4x8192x128 .bf16) (x2 : Vec F S1x4x16x80x512 .bf16) : Vec F S1x512x256 .bf16 :=
  VO0_3.read (Elt F) (VO0_3.writes (Elt F) VO0_3.junk (kernelRun0_A c i arg3 harg3 arg4 harg4 arg5 harg5 arg6 harg6 arg7 harg7 arg8 harg8 arg9 harg9 arg10 harg10 hc0 hc1 x0 x1 x2).1)

/-- At an odd query block the one store covers the output block. -/
theorem cover0_B_3 (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (hc0 : ¬cond0_0 i) (hc1 : cond0_1 i)
    (x0 : Vec F S1x4x512x128 .bf16) (x1 : Vec F S1x4x8192x128 .bf16) (x2 : Vec F S1x4x16x80x512 .bf16) (y : S1x512x256.Idx) :
    ∃ pc ∈ (kernelRun0_B c i arg3 harg3 arg4 harg4 arg5 harg5 arg6 harg6 arg7 harg7 arg8 harg8 arg9 harg9 arg10 harg10 hc0 hc1 x0 x1 x2).1, y ∈ pc.1.set :=
  View.cover_of_tiledL (kernelRun0_B c i arg3 harg3 arg4 harg4 arg5 harg5 arg6 harg6 arg7 harg7 arg8 harg8 arg9 harg9 arg10 harg10 hc0 hc1 x0 x1 x2).1 S1x512x256.size (by sl_kernel_rfl) y

/-- What an odd query block leaves in the output block. -/
def out0_B_3 (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole) (hc0 : ¬cond0_0 i) (hc1 : cond0_1 i)
    (x0 : Vec F S1x4x512x128 .bf16) (x1 : Vec F S1x4x8192x128 .bf16) (x2 : Vec F S1x4x16x80x512 .bf16) : Vec F S1x512x256 .bf16 :=
  VO0_3.read (Elt F) (VO0_3.writes (Elt F) VO0_3.junk (kernelRun0_B c i arg3 harg3 arg4 harg4 arg5 harg5 arg6 harg6 arg7 harg7 arg8 harg8 arg9 harg9 arg10 harg10 hc0 hc1 x0 x1 x2).1)

/-! ## What the outputs hold after each point -/

/-- What the output block holds after the point numbered `n`: the run of the parity of `n`, at the point's input blocks. -/
def outsAt0 (c : Dev nD) : (n : ℕ) → n < cfg0.N → Vec F S1x512x256 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩)
  | n + 1, hn =>
    if h0 : (n + 1) % 2 = 0 then
      if h1 : (n + 1) % 2 = 1 then
        False.elim (by have hN : n + 1 < 128 := lt_of_lt_of_eq hn (show cfg0.N = 128 from N_0); omega)
      else
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : (n + 1) % 2 = 1 then
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)
      else
        False.elim (by have hN : n + 1 < 128 := lt_of_lt_of_eq hn (show cfg0.N = 128 from N_0); omega)

/-- The output block after an even query block. -/
theorem outsAt0_A (c : Dev nD) (t : Fin cfg0.N) (h0 : t.val % 2 = 0) (h1 : ¬t.val % 2 = 1) :
    outsAt0 m c t.val t.isLt = out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) := by
  obtain ⟨n, hn⟩ := t
  cases n with
  | zero => exact rfl
  | succ n => exact (dif_pos h0).trans ((dif_neg h1).trans rfl)

/-- The output block after an odd query block. -/
theorem outsAt0_B (c : Dev nD) (t : Fin cfg0.N) (h0 : ¬t.val % 2 = 0) (h1 : t.val % 2 = 1) :
    outsAt0 m c t.val t.isLt = out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The pipeline's proof data: the arrays as the region finds them, each input buffer at its block, the output at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point, by the run of its parity. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 128 := lt_of_lt_of_eq t.isLt (show cfg0.N = 128 from N_0)
  by_cases h0 : t.val % 2 = 0
  · by_cases h1 : t.val % 2 = 1
    · exfalso; omega
    · rw [outsAt0_A m c t h0 h1]
      unfold out0_A_3
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _ _)
  · by_cases h1 : t.val % 2 = 1
    · rw [outsAt0_B m c t h0 h1]
      unfold out0_B_3
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t)).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _ _ _ _)
    · exfalso; omega

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every run ends at the arrays the proof data names, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays the proof data names. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelIdeal.Value.lean ====
/-
  The output array after the run, block by block: the block of a point is what that point wrote.
-/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What a point writes back is what its run left, read through the block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- At an even query block. -/
theorem flushed3_A (c : Dev nD) (t : Fin cfg0.N) (h0 : t.val % 2 = 0) (h1 : ¬t.val % 2 = 1) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) := by
  simp only [flushed3, outsAt0_A m c t h0 h1]

/-- At an odd query block. -/
theorem flushed3_B (c : Dev nD) (t : Fin cfg0.N) (h0 : ¬t.val % 2 = 0) (h1 : t.val % 2 = 1) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t)) := by
  simp only [flushed3, outsAt0_B m c t h0 h1]

/-- Different points have different blocks. -/
theorem idx_inj3 : ∀ t t' : Fin cfg0.N, win0_3.index t = win0_3.index t' → t = t' :=
  (by decide +kernel : ∀ t t' : Fin grid0.N, win0_3.index t = win0_3.index t' → t = t')

/-- So two blocks share no index. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- The block of a point in the final array is what that point wrote. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- The output array after the run. -/
theorem post3 (r : PUnit × MemSt nD τ sig (Elt F)) (h : Pipeline.FramePost cfgs (dats m) 0 (V m) r) (c : Dev nD) :
    r.2.mem ((c : Thread nD τ).loc main_v35) = (dats m 0 c).arrAt 3 cfg0.N :=
  (h c).1 3

/-- An argument is as it was launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- An argument is as it was launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- An argument is as it was launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- An argument is as it was launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run, with the output array named and the arguments unchanged. -/
theorem run_blocks : θ_run defs (onTc (τ := τ) (main (F := F))) ⟨m, fun _ => 0, ρ⟩ fun r => ∀ c : Dev nD,
      r.2.mem ((c : Thread nD τ).loc main_v35) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c,
      kept_main_arg0 m r h c,
      kept_main_arg1 m r h c,
      kept_main_arg2 m r h c,
      kept_main_arg3 m r h c⟩)
    (run_main m ρ)

end Cert.KernelIdeal.Value

end
-- ==== Proof.SameText.lean ====
/-
  The kernel as printed and its idealisation are one text, so the frame proved of the second, at any scalars, is the
  frame of the first.
-/
module

public import proofs.«01_k».proof.Defs
public import proofs.«01_k».proof.Proof.Gen.Kernel
public import Idealize.ShloMosaic.Lib.Tactic
public import proofs.«01_k».proof.Proof.KernelIdeal.Frame

@[expose] public section

set_option maxHeartbeats 4000000
set_option maxRecDepth 65536

noncomputable section

namespace Cert.Flash

open Idealize.ShloMosaic Idealize.ShloMosaic.TcCoe Idealize.ShloMosaic.Tactic Idealize.SL.Sem

theorem main_eq : Cert.Kernel.main (F := Bits) = Cert.KernelIdeal.main (F := Bits) := rfl

theorem defs_eq : Cert.Kernel.defs (F := Bits) = Cert.KernelIdeal.defs (F := Bits) := by sl_kernel_rfl

theorem frame_printed : Cert.quiescent_Kernel (hKernel := Cert.Kernel.Gen.facts) :=
  fun m g _ => by
    rw [defs_eq, main_eq]
    exact Cert.KernelIdeal.Gen.frame (F := Bits) m g

end Cert.Flash

end
-- ==== Proof.Online.lean ====
/-
  The arithmetic of the online softmax over the extended reals: a running maximum and running sums, rescaled at each block
  of keys, end at the softmax-weighted sums, whatever the running maximum was.
-/
module

public import Idealize.ShloMosaic.PureOps.Ideal
public import Mathlib.Tactic.FieldSimp
public import Mathlib.Tactic.Ring
public import Mathlib.Tactic.Linarith

@[expose] public section

noncomputable section

namespace Cert.Flash

open Idealize.ShloMosaic

/-- A real factor that is not negative distributes over a finite sum of extended reals. -/
theorem coe_mul_sum {ι : Type} (s : Finset ι) (f : ι → EReal) (c : ℝ) (hc : 0 ≤ c) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The real powers of two, the shape the machine's base-two exponential has on a real. -/
theorem rpow2_pos (x : ℝ) : 0 < Real.rpow 2 x := Real.rpow_pos_of_pos (by norm_num) x

theorem rpow2_add (x y : ℝ) : Real.rpow 2 (x + y) = Real.rpow 2 x * Real.rpow 2 y :=
  Real.rpow_add (by norm_num) x y

/-- What a query column's running maximum `m` and running sums `acc` say after its first `n` keys: nothing yet, or sums
    of `2 ^ (score - m)` times the key's row entry, `m` some real. -/
def Inv {ρ : Type} (S : ℕ → ℝ) (g : ρ → ℕ → EReal) (n : ℕ) (m : EReal) (acc : ρ → EReal) : Prop :=
  (n = 0 ∧ m = ⊥ ∧ ∀ r, acc r = 0) ∨
    ∃ μ : ℝ, m = μ ∧ ∀ r, acc r = ∑ j ∈ Finset.range n, g r j * ((Real.rpow 2 (S j - μ) : ℝ) : EReal)

variable {ρ : Type} {S : ℕ → ℝ} {g : ρ → ℕ → EReal} {n : ℕ} {m : EReal} {acc : ρ → EReal}

theorem Inv.zero : Inv S g 0 ⊥ (fun _ => 0) := .inl ⟨rfl, rfl, fun _ => rfl⟩

/-- One block of `K` keys more. -/
theorem Inv.step (h : Inv S g n m acc) (K : ℕ) (μ' : ℝ) (acc' : ρ → EReal)
    (hacc : ∀ r, acc' r = Ideal.exp2 (m - μ') * acc r
      + ∑ j ∈ Finset.range K, g r (n + j) * ((Real.rpow 2 (S (n + j) - μ') : ℝ) : EReal)) :
    Inv S g (n + K) μ' acc' := by
  refine .inr ⟨μ', rfl, fun r => ?_⟩
  rw [hacc, Finset.sum_range_add]
  congr 1
  rcases h with ⟨rfl, rfl, h0⟩ | ⟨μ, rfl, h⟩
  · simp [h0]
  · rw [h, ← EReal.coe_sub, Ideal.exp2_coe, coe_mul_sum _ _ _ (rpow2_pos _).le]
    refine Finset.sum_congr rfl fun j _ => ?_
    rw [mul_left_comm, ← EReal.coe_mul]
    congr 2
    rw [← rpow2_add]
    congr 1; ring

theorem Inv.real_or (h : Inv S g n m acc) : m = ⊥ ∨ ∃ μ : ℝ, m = μ := by
  rcases h with ⟨_, h, _⟩ | ⟨μ, h, _⟩
  · exact .inl h
  · exact .inr ⟨μ, h⟩

/-- The quotient by the sum of the weights. -/
theorem Inv.out (h : Inv S g n m acc) (hn : 0 < n) (r o : ρ) (ho : ∀ j, g o j = 1) :
    acc r * Ideal.div 1 (acc o)
      = ∑ j ∈ Finset.range n, g r j * ((Real.rpow 2 (S j) / ∑ j ∈ Finset.range n, Real.rpow 2 (S j) : ℝ) : EReal) := by
  rcases h with ⟨rfl, _⟩ | ⟨μ, rfl, h⟩
  · exact absurd hn (lt_irrefl _)
  · have hpos : ∀ x : ℝ, 0 < Real.rpow 2 x := fun x => Real.rpow_pos_of_pos (by norm_num) x
    have hne : (Finset.range n).Nonempty := ⟨0, Finset.mem_range.mpr hn⟩
    have hl : acc o = ((∑ j ∈ Finset.range n, Real.rpow 2 (S j - μ) : ℝ) : EReal) := by
      rw [h, ← coe_sum]; exact Finset.sum_congr rfl fun j _ => by rw [ho, one_mul]
    have hlp : 0 < ∑ j ∈ Finset.range n, Real.rpow 2 (S j - μ) := Finset.sum_pos (fun j _ => hpos _) hne
    have hd : Ideal.div 1 (acc o) = (((∑ j ∈ Finset.range n, Real.rpow 2 (S j - μ))⁻¹ : ℝ) : EReal) := by
      rw [hl]
      unfold Ideal.div
      rw [if_neg (by exact_mod_cast hlp.ne'), one_mul, EReal.coe_inv]
    rw [hd, h, mul_comm, coe_mul_sum _ _ _ (inv_nonneg.mpr hlp.le)]
    refine Finset.sum_congr rfl fun j _ => ?_
    rw [mul_left_comm, ← EReal.coe_mul]
    congr 2
    have e : ∀ x : ℝ, Real.rpow 2 (x - μ) = Real.rpow 2 x * Real.rpow 2 (-μ) := fun x => by
      rw [sub_eq_add_neg, rpow2_add]
    simp only [e]
    rw [← Finset.sum_mul]
    have := hpos (-μ)
    have h2 : 0 < ∑ j ∈ Finset.range n, Real.rpow 2 (S j) := Finset.sum_pos (fun j _ => hpos _) hne
    field_simp

/-- The largest of finitely many reals, and a number that is real or minus infinity. -/
theorem max_real {ι : Type} (s : Finset ι) (hs : s.Nonempty) (f : ι → EReal) (x : EReal)
    (hx : x ≠ ⊤) (hf : ∀ j ∈ s, f j ≠ ⊤) (hreal : ∃ j ∈ s, f j ≠ ⊥) : ∃ μ : ℝ, max x (s.sup f) = μ := by
  obtain ⟨j, hj, hb⟩ := hreal
  have h1 : max x (s.sup f) ≠ ⊤ := by
    refine ((max_lt (lt_top_iff_ne_top.mpr hx) ?_)).ne
    exact (Finset.sup_lt_iff (by simp)).mpr fun i hi => lt_top_iff_ne_top.mpr (hf i hi)
  have h2 : max x (s.sup f) ≠ ⊥ := by
    have : f j ≤ max x (s.sup f) := le_trans (Finset.le_sup hj) (le_max_right _ _)
    exact (lt_of_lt_of_le (bot_lt_iff_ne_bot.mpr hb) this).ne'
  exact ⟨_, (EReal.coe_toReal h1 h2).symm⟩

end Cert.Flash

end
-- ==== Proof.Tile.lean ====
/- What the kernel's tile operations give, element by element, over the extended reals: a tile of scores, the running
   maximum of a column, and the running weighted sum of a column. -/
module

public import proofs.«01_k».proof.Proof.Gen.KernelIdeal.Skeleton
public import Idealize.ShloMosaic.Lib.Pointwise
public import Idealize.ShloMosaic.Lib.WordCmp

@[expose] public section

noncomputable section

namespace Cert.Flash

open Idealize.ShloMosaic Cert.KernelIdeal Cert.KernelIdeal.Gen
open scoped BigOperators

/-- The running maximum of a column after the scores `s`. -/
def mx {n : ℕ} (s : Fin n → EReal) (m : EReal) : EReal := max m (Finset.univ.sup s)

/-- The running weighted sum of a column after the scores `s` and the values `v`, from the maximum `m` and the sum `a`. -/
def ac {n : ℕ} (s : Fin n → EReal) (m a : EReal) (v : Fin n → EReal) : EReal :=
  Ideal.exp2 (m - mx s m) * a + ∑ j, v j * Ideal.exp2 (s j - mx s m)

theorem fold_max_bot {n : ℕ} (s : Fin n → EReal) : (Finset.univ : Finset (Fin n)).fold max ⊥ s = Finset.univ.sup s := rfl

/-- The pattern the kernel starts its maxima with is the least extended real. -/
theorem ofBits_ninf : Ideal.ofBits .f32 0xFF800000#32 = (⊥ : EReal) := by simp [Ideal.ofBits, Ideal.ieee]

theorem fold_ninf {n : ℕ} (s : Fin n → EReal) :
    (Finset.univ : Finset (Fin n)).fold max (Ideal.ofBits .f32 0xFF800000#32) s = Finset.univ.sup s := by
  rw [ofBits_ninf]; rfl

theorem scoreP_apply (kb : FVec Ideal S1x1x512x128 .bf16) (qb : FVec Ideal S1x1x256x128 .bf16) (j : Fin 512) (c : Fin 256) :
    k0_pay50 (F := Ideal) kb qb (ix3 0 j c) = ∑ d : Fin 128, kb (ix4 0 0 j d) * qb (ix4 0 0 c d) := by
  pointwise [k0_pay50, k0_pay49]

theorem maxP_apply (s : FVec Ideal S1x512x256 .f32) (m : FVec Ideal S1x1x256 .f32) (c : Fin 256) :
    k0_pay10 (F := Ideal) (k0_pay25 s m) (ix3 0 0 c) = mx (fun j => s (ix3 0 j c)) (m (ix3 0 0 c)) := by
  pointwise [k0_pay10, k0_pay25, k0_pay23, k0_pay24]
  rw [fold_ninf]; rfl

theorem accP_apply (s : FVec Ideal S1x512x256 .f32) (m : FVec Ideal S1x1x256 .f32) (a : FVec Ideal S1x80x256 .f32)
    (v : FVec Ideal S1x1x1x80x512 .bf16) (r : Fin 80) (c : Fin 256) :
    k0_pay26 (F := Ideal) s m a v (ix3 0 r c)
      = ac (fun j => s (ix3 0 j c)) (m (ix3 0 0 c)) (a (ix3 0 r c)) (fun j => v (ix5 0 0 0 r j)) := by
  pointwise [k0_pay26, k0_pay25, k0_pay23, k0_pay24]
  simp only [fold_ninf]; rfl

/-! The same on the diagonal block, where a key above the query counts nothing. -/

/-- A comparison of two small words is the comparison of the numbers. -/
theorem select_sle {α : Type} (a b o : ℕ) (ha : a < 1024) (hb : b + o < 1024) (x y : α) :
    Scalar.select (IntOp.cmpi .sle (BitVec.ofNat 32 a) (IntOp.addi (BitVec.ofNat 32 b) (BitVec.ofNat 32 o))) x y
      = if a ≤ o + b then x else y := by
  have e : IntOp.addi (BitVec.ofNat 32 b) (BitVec.ofNat 32 o) = BitVec.ofNat 32 (o + b) := by
    simp [IntOp.addi, ← BitVec.ofNat_add, Nat.add_comm]
  rw [e, WordCmp.cmpi_sle_of_lt (by simp; omega) (by simp; omega)]
  simp only [BitVec.toNat_ofNat, Nat.mod_eq_of_lt (show a < 2 ^ 32 by omega), Nat.mod_eq_of_lt (show o + b < 2 ^ 32 by omega)]
  by_cases h : a ≤ o + b <;> simp [Scalar.select, h]

theorem select_sleA {α : Type} (a b : Fin 256) (x y : α) :
    Scalar.select (IntOp.cmpi .sle (BitVec.ofNat 32 a.val) (IntOp.addi (BitVec.ofNat 32 b.val) 0#32)) x y
      = if a.val ≤ b.val then x else y := by
  simpa using select_sle a.val b.val 0 (by omega) (by omega) x y

theorem select_sleB {α : Type} (a : Fin 512) (b : Fin 256) (x y : α) :
    Scalar.select (IntOp.cmpi .sle (BitVec.ofNat 32 a.val) (IntOp.addi (BitVec.ofNat 32 b.val) 256#32)) x y
      = if a.val ≤ 256 + b.val then x else y := select_sle _ _ 256 (by omega) (by omega) x y

theorem maxA_apply (s : FVec Ideal S1x256x256 .f32) (m : FVec Ideal S1x1x256 .f32) (c : Fin 256) :
    k0_pay248 (F := Ideal) s m (ix3 0 0 c)
      = mx (fun j : Fin 256 => if j.val ≤ c.val then s (ix3 0 j c) else ⊥) (m (ix3 0 0 c)) := by
  pointwise [k0_pay248, k0_pay246, k0_pay245, k0_pay244]
  rw [fold_ninf, ofBits_ninf]
  simp only [select_sleA]; rfl

theorem accA_apply (s : FVec Ideal S1x256x256 .f32) (m : FVec Ideal S1x1x256 .f32) (a : FVec Ideal S1x80x256 .f32)
    (v : FVec Ideal S1x1x1x80x256 .bf16) (r : Fin 80) (c : Fin 256) :
    k0_pay247 (F := Ideal) s m a v (ix3 0 r c)
      = ac (fun j : Fin 256 => if j.val ≤ c.val then s (ix3 0 j c) else ⊥) (m (ix3 0 0 c)) (a (ix3 0 r c))
          (fun j => v (ix5 0 0 0 r j)) := by
  pointwise [k0_pay247, k0_pay246, k0_pay245, k0_pay244]
  simp only [fold_ninf, ofBits_ninf]
  simp only [select_sleA]; rfl

theorem maxB_apply (s : FVec Ideal S1x512x256 .f32) (m : FVec Ideal S1x1x256 .f32) (c : Fin 256) :
    k0_pay253 (F := Ideal) s m (ix3 0 0 c)
      = mx (fun j : Fin 512 => if j.val ≤ 256 + c.val then s (ix3 0 j c) else ⊥) (m (ix3 0 0 c)) := by
  pointwise [k0_pay253, k0_pay251, k0_pay250, k0_pay249]
  rw [fold_ninf, ofBits_ninf]
  simp only [select_sleB]; rfl

theorem accB_apply (s : FVec Ideal S1x512x256 .f32) (m : FVec Ideal S1x1x256 .f32) (a : FVec Ideal S1x80x256 .f32)
    (v : FVec Ideal S1x1x1x80x512 .bf16) (r : Fin 80) (c : Fin 256) :
    k0_pay252 (F := Ideal) s m a v (ix3 0 r c)
      = ac (fun j : Fin 512 => if j.val ≤ 256 + c.val then s (ix3 0 j c) else ⊥) (m (ix3 0 0 c)) (a (ix3 0 r c))
          (fun j => v (ix5 0 0 0 r j)) := by
  pointwise [k0_pay252, k0_pay251, k0_pay250, k0_pay249]
  simp only [fold_ninf, ofBits_ninf]
  simp only [select_sleB]; rfl

/-! The values the scratch starts with, and the division at the end. -/

theorem m0_apply (i : S4x1x512.Idx) : k0_pay400 (F := Ideal) i = (⊥ : EReal) := by
  pointwise [k0_pay400]
  exact ofBits_ninf

theorem a0_apply (i : S4x80x512.Idx) : k0_pay401 (F := Ideal) i = (0 : EReal) := by
  pointwise [k0_pay401]

theorem quot_apply (a : FVec Ideal S1x64x512 .f32) (l : FVec Ideal S1x1x512 .f32) (r : Fin 64) (c : Fin 512) :
    k0_pay420 (F := Ideal) a l (ix2 r c) = a (ix3 0 r c) * Ideal.div 1 (l (ix3 0 0 c)) := by
  pointwise [k0_pay420]

/-- Row `c` of the output: the four heads' quotients side by side. -/
theorem out_apply (o0 o1 o2 : FVec Ideal S64x512 .f32) (a : FVec Ideal S1x64x512 .f32) (l : FVec Ideal S1x1x512 .f32)
    (c : Fin 512) (n : Fin 256) :
    k0_pay1 (F := Ideal) o0 o1 o2 a l (ix3 0 c n)
      = if n.val < 64 then o0 (ix2 ⟨n.val % 64, Nat.mod_lt _ (by decide)⟩ c) else
        if n.val < 128 then o1 (ix2 ⟨n.val % 64, Nat.mod_lt _ (by decide)⟩ c) else
        if n.val < 192 then o2 (ix2 ⟨n.val % 64, Nat.mod_lt _ (by decide)⟩ c) else
          a (ix3 0 ⟨n.val % 64, Nat.mod_lt _ (by decide)⟩ c) * Ideal.div 1 (l (ix3 0 0 c)) := by
  pointwise [k0_pay1]
  have h := n.isLt
  by_cases h0 : n.val < 64
  · simp only [dif_pos h0, if_pos h0]
    exact congrArg (fun x => o0 (ix2 x c)) (Fin.ext (show n.val = n.val % 64 by omega))
  by_cases h1 : n.val < 128
  · simp only [dif_neg h0, if_neg h0, dif_pos (show n.val - 64 < 64 by omega), if_pos h1]
    exact congrArg (fun x => o1 (ix2 x c)) (Fin.ext (show n.val - 64 = n.val % 64 by omega))
  by_cases h2 : n.val < 192
  · simp only [dif_neg h0, if_neg h0, dif_neg (show ¬n.val - 64 < 64 by omega), if_neg h1,
      dif_pos (show n.val - 64 - 64 < 64 by omega), if_pos h2]
    exact congrArg (fun x => o2 (ix2 x c)) (Fin.ext (show n.val - 64 - 64 = n.val % 64 by omega))
  · simp only [dif_neg h0, if_neg h0, dif_neg (show ¬n.val - 64 < 64 by omega), if_neg h1,
      dif_neg (show ¬n.val - 64 - 64 < 64 by omega), if_neg h2]
    exact congrArg (fun x => a (ix3 0 x c) * Ideal.div 1 (l (ix3 0 0 c)))
      (Fin.ext (show n.val - 64 - 64 - 64 = n.val % 64 by omega))

end Cert.Flash

end
-- ==== Proof.Tiles.lean ====
/-
  The three scratch buffers seen as four heads by two halves of the query tile: the rectangle of a head and a half, the
  list of writes that fills all eight, and what a load of one of the eight then reads.
-/
module

public import proofs.«01_k».proof.Proof.Gen.KernelIdeal.Skeleton
public import proofs.«01_k».proof.Proof.Gen.KernelIdeal
public import Idealize.ShloMosaic.Lib.Writes
public import Idealize.ShloMosaic.Lib.Exec
public import Idealize.ShloMosaic.Lib.Pointwise

@[expose] public section

noncomputable section

namespace Cert.Flash

open Idealize.ShloMosaic Cert.KernelIdeal Cert.KernelIdeal.Gen

section Generic

variable {sig' : RefSig} {κ : Kind} {sp : Space} {s : Shape} {e : EltTy} {Val : EltTy → Type}
  (v : View sig' κ sp s e) (f : v.ty.Contents Val)

/-- A load reads nothing of a write beside it. -/
theorem readAt_skip (r : Rect s) (w : r.shape.Idx → Val e) (L : List (View.Piece Val s e)) (B : LoadRect s)
    (h : LoadRect.disj r B = true) :
    v.readAt Val B (v.writes Val f (⟨r, w⟩ :: L)) = v.readAt Val B (v.writes Val f L) :=
  funext fun x => View.read_writes_cons_miss v f ⟨r, w⟩ L (B.idx x) (LoadRect.idx_not_mem_of_disj h x)

/-- A load of what was just written. -/
theorem readAt_hit (r : Rect s) (w : r.shape.Idx → Val e) (L : List (View.Piece Val s e)) :
    v.readAt Val r.toLoadRect (v.writes Val f (⟨r, w⟩ :: L)) = w :=
  funext fun x => View.read_writes_cons_emb v f r w L x

end Generic

/-- The rectangle of head `hd` and half `h` in a score tile. -/
def R7 (hd : Fin 4) (h : Fin 2) : Rect S4x512x512 :=
  Rect.unit (s := S4x512x512) ![hd.val, 0, 256 * h.val] S1x512x256.size (by revert hd h; decide)

/-- All eight rectangles written, the last first. -/
def W7 (w : Fin 4 → Fin 2 → FVec Ideal S1x512x256 .f32) (L : List (View.Piece (Elt Ideal) S4x512x512 .f32)) :
    List (View.Piece (Elt Ideal) S4x512x512 .f32) :=
  ⟨R7 3 1, w 3 1⟩ ::
  ⟨R7 3 0, w 3 0⟩ ::
  ⟨R7 2 1, w 2 1⟩ ::
  ⟨R7 2 0, w 2 0⟩ ::
  ⟨R7 1 1, w 1 1⟩ ::
  ⟨R7 1 0, w 1 0⟩ ::
  ⟨R7 0 1, w 0 1⟩ ::
  ⟨R7 0 0, w 0 0⟩ :: L

theorem read7 {sig' : RefSig} {κ : Kind} {sp : Space} (v : View sig' κ sp S4x512x512 .f32) (f : v.ty.Contents (Elt Ideal))
    (w : Fin 4 → Fin 2 → FVec Ideal S1x512x256 .f32) (L : List (View.Piece (Elt Ideal) S4x512x512 .f32)) (hd : Fin 4) (h : Fin 2) :
    v.readAt (Elt Ideal) (R7 hd h).toLoadRect (v.writes (Elt Ideal) f (W7 w L)) = w hd h := by
  fin_cases hd <;> fin_cases h
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _)))))))
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _))))))
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _)))))
  · exact (readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _))))
  · exact (readAt_skip _ _ _ _ _ _ (by decide)).trans ((readAt_skip _ _ _ _ _ _ (by decide)).trans ((readAt_skip _ _ _ _ _ _ (by decide)).trans (readAt_hit _ _ _ _ _)))
  · exact (readAt_skip _ _ _ _ _ _ (by decide)).trans ((readAt_skip _ _ _ _ _ _ (by decide)).trans (readAt_hit _ _ _ _ _))
  · exact (readAt_skip _ _ _ _ _ _ (by decide)).trans (readAt_hit _ _ _ _ _)
  · exact readAt_hit _ _ _ _ _

/-- The rectangle of head `hd` and half `h` in the maxima. -/
def R9 (hd : Fin 4) (h : Fin 2) : Rect S4x1x512 :=
  Rect.unit (s := S4x1x512) ![hd.val, 0, 256 * h.val] S1x1x256.size (by revert hd h; decide)

/-- All eight rectangles written, the last first. -/
def W9 (w : Fin 4 → Fin 2 → FVec Ideal S1x1x256 .f32) (L : List (View.Piece (Elt Ideal) S4x1x512 .f32)) :
    List (View.Piece (Elt Ideal) S4x1x512 .f32) :=
  ⟨R9 3 1, w 3 1⟩ ::
  ⟨R9 3 0, w 3 0⟩ ::
  ⟨R9 2 1, w 2 1⟩ ::
  ⟨R9 2 0, w 2 0⟩ ::
  ⟨R9 1 1, w 1 1⟩ ::
  ⟨R9 1 0, w 1 0⟩ ::
  ⟨R9 0 1, w 0 1⟩ ::
  ⟨R9 0 0, w 0 0⟩ :: L

theorem read9 {sig' : RefSig} {κ : Kind} {sp : Space} (v : View sig' κ sp S4x1x512 .f32) (f : v.ty.Contents (Elt Ideal))
    (w : Fin 4 → Fin 2 → FVec Ideal S1x1x256 .f32) (L : List (View.Piece (Elt Ideal) S4x1x512 .f32)) (hd : Fin 4) (h : Fin 2) :
    v.readAt (Elt Ideal) (R9 hd h).toLoadRect (v.writes (Elt Ideal) f (W9 w L)) = w hd h := by
  fin_cases hd <;> fin_cases h
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _)))))))
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _))))))
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _)))))
  · exact (readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _))))
  · exact (readAt_skip _ _ _ _ _ _ (by decide)).trans ((readAt_skip _ _ _ _ _ _ (by decide)).trans ((readAt_skip _ _ _ _ _ _ (by decide)).trans (readAt_hit _ _ _ _ _)))
  · exact (readAt_skip _ _ _ _ _ _ (by decide)).trans ((readAt_skip _ _ _ _ _ _ (by decide)).trans (readAt_hit _ _ _ _ _))
  · exact (readAt_skip _ _ _ _ _ _ (by decide)).trans (readAt_hit _ _ _ _ _)
  · exact readAt_hit _ _ _ _ _

/-- The rectangle of head `hd` and half `h` in the accumulators. -/
def R10 (hd : Fin 4) (h : Fin 2) : Rect S4x80x512 :=
  Rect.unit (s := S4x80x512) ![hd.val, 0, 256 * h.val] S1x80x256.size (by revert hd h; decide)

/-- All eight rectangles written, the last first. -/
def W10 (w : Fin 4 → Fin 2 → FVec Ideal S1x80x256 .f32) (L : List (View.Piece (Elt Ideal) S4x80x512 .f32)) :
    List (View.Piece (Elt Ideal) S4x80x512 .f32) :=
  ⟨R10 3 1, w 3 1⟩ ::
  ⟨R10 3 0, w 3 0⟩ ::
  ⟨R10 2 1, w 2 1⟩ ::
  ⟨R10 2 0, w 2 0⟩ ::
  ⟨R10 1 1, w 1 1⟩ ::
  ⟨R10 1 0, w 1 0⟩ ::
  ⟨R10 0 1, w 0 1⟩ ::
  ⟨R10 0 0, w 0 0⟩ :: L

theorem read10 {sig' : RefSig} {κ : Kind} {sp : Space} (v : View sig' κ sp S4x80x512 .f32) (f : v.ty.Contents (Elt Ideal))
    (w : Fin 4 → Fin 2 → FVec Ideal S1x80x256 .f32) (L : List (View.Piece (Elt Ideal) S4x80x512 .f32)) (hd : Fin 4) (h : Fin 2) :
    v.readAt (Elt Ideal) (R10 hd h).toLoadRect (v.writes (Elt Ideal) f (W10 w L)) = w hd h := by
  fin_cases hd <;> fin_cases h
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _)))))))
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _))))))
  · exact (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _)))))
  · exact (readAt_skip _ _ _ _ _ _ (by decide)).trans ((readAt_skip _ _ _ _ _ _ (by decide)).trans ((readAt_skip _ _ _ _ _ _ (by decide)).trans ((readAt_skip _ _ _ _ _ _ (by decide)).trans (readAt_hit _ _ _ _ _))))
  · exact (readAt_skip _ _ _ _ _ _ (by decide)).trans ((readAt_skip _ _ _ _ _ _ (by decide)).trans ((readAt_skip _ _ _ _ _ _ (by decide)).trans (readAt_hit _ _ _ _ _)))
  · exact (readAt_skip _ _ _ _ _ _ (by decide)).trans ((readAt_skip _ _ _ _ _ _ (by decide)).trans (readAt_hit _ _ _ _ _))
  · exact (readAt_skip _ _ _ _ _ _ (by decide)).trans (readAt_hit _ _ _ _ _)
  · exact readAt_hit _ _ _ _ _

end Cert.Flash
end
-- ==== Proof.Offsets.lean ====
/-
  Where the loads of a trip of the kernel's loop lie.
-/
module

public import proofs.«01_k».proof.Proof.Gen.KernelIdeal

@[expose] public section

set_option maxRecDepth 16384
set_option maxHeartbeats 4000000

noncomputable section

namespace Cert.Flash

open Idealize.ShloMosaic Idealize.ShloMosaic.TcCoe Cert.KernelIdeal Cert.KernelIdeal.Gen

/-- A trip's number is small, -/
theorem trip_lt (i : grid0.Coords) (k : Fin (k0_t1_loop i).trips) : k.val < 7 := lt_of_lt_of_le k.isLt (k0_t1_abs i).2.1

/-- and there is a trip for each pair of key blocks below the diagonal. -/
theorem trips_eq (i : grid0.Coords) : (k0_t1_loop i).trips = (i 2).val / 2 := by
  revert i; decide +kernel

/-! Where the loads of a trip lie. -/

theorem off1_1 : ∀ (i : grid0.Coords) (k : Fin (k0_t1_loop i).trips), k0_off1 i k 1#32 = ![0, 0, 512 * (2 * k.val + 1), 0] := by
  decide +kernel
theorem off1_2 : ∀ (i : grid0.Coords) (k : Fin (k0_t1_loop i).trips), k0_off1 i k 2#32 = ![0, 0, 512 * (2 * k.val + 2), 0] := by
  decide +kernel
theorem off3_1 : ∀ (i : grid0.Coords) (k : Fin (k0_t1_loop i).trips), k0_off3 i k 1#32 = ![0, 1, 512 * (2 * k.val + 1), 0] := by
  decide +kernel
theorem off3_2 : ∀ (i : grid0.Coords) (k : Fin (k0_t1_loop i).trips), k0_off3 i k 2#32 = ![0, 1, 512 * (2 * k.val + 2), 0] := by
  decide +kernel
theorem off5_1 : ∀ (i : grid0.Coords) (k : Fin (k0_t1_loop i).trips), k0_off5 i k 1#32 = ![0, 2, 512 * (2 * k.val + 1), 0] := by
  decide +kernel
theorem off5_2 : ∀ (i : grid0.Coords) (k : Fin (k0_t1_loop i).trips), k0_off5 i k 2#32 = ![0, 2, 512 * (2 * k.val + 2), 0] := by
  decide +kernel
theorem off7_1 : ∀ (i : grid0.Coords) (k : Fin (k0_t1_loop i).trips), k0_off7 i k 1#32 = ![0, 3, 512 * (2 * k.val + 1), 0] := by
  decide +kernel
theorem off7_2 : ∀ (i : grid0.Coords) (k : Fin (k0_t1_loop i).trips), k0_off7 i k 2#32 = ![0, 3, 512 * (2 * k.val + 2), 0] := by
  decide +kernel
theorem off2_eq : ∀ (i : grid0.Coords) (k : Fin (k0_t1_loop i).trips), k0_off2 i k = ![0, 0, 2 * k.val, 0, 0] := by
  decide +kernel
theorem off4_eq : ∀ (i : grid0.Coords) (k : Fin (k0_t1_loop i).trips), k0_off4 i k = ![0, 1, 2 * k.val, 0, 0] := by
  decide +kernel
theorem off6_eq : ∀ (i : grid0.Coords) (k : Fin (k0_t1_loop i).trips), k0_off6 i k = ![0, 2, 2 * k.val, 0, 0] := by
  decide +kernel
theorem off8_eq : ∀ (i : grid0.Coords) (k : Fin (k0_t1_loop i).trips), k0_off8 i k = ![0, 3, 2 * k.val, 0, 0] := by
  decide +kernel
theorem off9_eq : ∀ (i : grid0.Coords) (k : Fin (k0_t1_loop i).trips), k0_off9 i k = ![0, 0, 2 * k.val + 1, 0, 0] := by
  decide +kernel
theorem off10_eq : ∀ (i : grid0.Coords) (k : Fin (k0_t1_loop i).trips), k0_off10 i k = ![0, 1, 2 * k.val + 1, 0, 0] := by
  decide +kernel
theorem off11_eq : ∀ (i : grid0.Coords) (k : Fin (k0_t1_loop i).trips), k0_off11 i k = ![0, 2, 2 * k.val + 1, 0, 0] := by
  decide +kernel
theorem off12_eq : ∀ (i : grid0.Coords) (k : Fin (k0_t1_loop i).trips), k0_off12 i k = ![0, 3, 2 * k.val + 1, 0, 0] := by
  decide +kernel

end Cert.Flash

end
-- ==== Proof.Trip.lean ====
/-
  What one trip of the kernel's loop writes, as tiles: for each head and half of the query tile, the score tile of the
  next even key block, and the maximum and the accumulator after the two key blocks of the trip.
-/
module

public import proofs.«01_k».proof.Proof.Tiles
public import proofs.«01_k».proof.Proof.Offsets
public import proofs.«01_k».proof.Proof.KernelIdeal.LoopEnd

@[expose] public section

set_option maxRecDepth 16384
set_option maxHeartbeats 4000000

noncomputable section

namespace Cert.Flash

open Idealize.ShloMosaic Idealize.ShloMosaic.TcCoe Cert.KernelIdeal Cert.KernelIdeal.Gen

/-- The score tile of a head and a half from a block of keys, the maximum and the accumulator after a block. -/
def sT (kb : FVec Ideal S1x1x512x128 .bf16) (qb : FVec Ideal S1x1x256x128 .bf16) : FVec Ideal S1x512x256 .f32 := k0_pay50 kb qb
def mT (s : FVec Ideal S1x512x256 .f32) (m : FVec Ideal S1x1x256 .f32) : FVec Ideal S1x1x256 .f32 := k0_pay10 (k0_pay25 s m)
def aT (s : FVec Ideal S1x512x256 .f32) (m : FVec Ideal S1x1x256 .f32) (a : FVec Ideal S1x80x256 .f32)
    (v : FVec Ideal S1x1x1x80x512 .bf16) : FVec Ideal S1x80x256 .f32 := k0_pay26 s m a v

section

variable (arg3 : Memref sig .tc .vmem S1x4x512x128 .bf16) (arg4 : Memref sig .tc .vmem S1x4x8192x128 .bf16)
  (arg5 : Memref sig .tc .vmem S1x4x16x80x512 .bf16)
  (X3 : BufTy.Contents (Elt Ideal) arg3.view.ty) (X4 : BufTy.Contents (Elt Ideal) arg4.view.ty)
  (X5 : BufTy.Contents (Elt Ideal) arg5.view.ty)

/-- The queries of a head and a half, -/
def qT (hd : Fin 4) (h : Fin 2) : FVec Ideal S1x1x256x128 .bf16 :=
  arg3.view.readAt (Elt Ideal) (Rect.unit (s := S1x4x512x128) ![0, hd.val, 256 * h.val, 0] S1x1x256x128.size (by revert hd h; decide)).toLoadRect X3

/-- the keys of a head in a block, -/
def kT (b : Fin 16) (hd : Fin 4) : FVec Ideal S1x1x512x128 .bf16 :=
  arg4.view.readAt (Elt Ideal) (Rect.unit (s := S1x4x8192x128) ![0, hd.val, 512 * b.val, 0] S1x1x512x128.size (by revert hd b; decide)).toLoadRect X4

/-- and its values, transposed. -/
def vT (b : Fin 16) (hd : Fin 4) : FVec Ideal S1x1x1x80x512 .bf16 :=
  arg5.view.readAt (Elt Ideal) (Rect.unit (s := S1x4x16x80x512) ![0, hd.val, b.val, 0, 0] S1x1x1x80x512.size (by revert hd b; decide)).toLoadRect X5

theorem kT_of {off : Fin 4 → ℕ} (inb : ∀ a, off a + S1x1x512x128.size a ≤ S1x4x8192x128.size a) (b : Fin 16) (hd : Fin 4)
    (h : off = ![0, hd.val, 512 * b.val, 0]) :
    arg4.view.readAt (Elt Ideal) (Rect.unit (s := S1x4x8192x128) off S1x1x512x128.size inb).toLoadRect X4 = kT arg4 X4 b hd := by
  subst h; rfl

theorem vT_of {off : Fin 5 → ℕ} (inb : ∀ a, off a + S1x1x1x80x512.size a ≤ S1x4x16x80x512.size a) (b : Fin 16) (hd : Fin 4)
    (h : off = ![0, hd.val, b.val, 0, 0]) :
    arg5.view.readAt (Elt Ideal) (Rect.unit (s := S1x4x16x80x512) off S1x1x1x80x512.size inb).toLoadRect X5 = vT arg5 X5 b hd := by
  subst h; rfl

/-- The scores of a block. -/
def scT (b : Fin 16) (hd : Fin 4) (h : Fin 2) : FVec Ideal S1x512x256 .f32 := sT (kT arg4 X4 b hd) (qT arg3 X3 hd h)

end

section

variable (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole)
  (arg2 : BitVec 32) (c2_i32 : BitVec 32) (v72 : BitVec 32) (v74 : BitVec 32) (v75 : BitVec 1)
  (X3 : BufTy.Contents (Elt Ideal) arg3.view.ty) (X4 : BufTy.Contents (Elt Ideal) arg4.view.ty)
  (X5 : BufTy.Contents (Elt Ideal) arg5.view.ty) (k : Fin (k0_t1_loop i).trips)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

/-- The three key blocks a trip touches. -/
def blk0 (k : Fin (k0_t1_loop i).trips) : Fin 16 := ⟨2 * k.val, by have := trip_lt i k; omega⟩
def blk1 (k : Fin (k0_t1_loop i).trips) : Fin 16 := ⟨2 * k.val + 1, by have := trip_lt i k; omega⟩
def blk2 (k : Fin (k0_t1_loop i).trips) : Fin 16 := ⟨2 * k.val + 2, by have := trip_lt i k; omega⟩

/-- What a head and a half hold before the trip, -/
def l7 (hd : Fin 4) (h : Fin 2) : FVec Ideal S1x512x256 .f32 := arg7.view.readAt (Elt Ideal) (R7 hd h).toLoadRect f7
def l9 (hd : Fin 4) (h : Fin 2) : FVec Ideal S1x1x256 .f32 := arg9.view.readAt (Elt Ideal) (R9 hd h).toLoadRect f9
def l10 (hd : Fin 4) (h : Fin 2) : FVec Ideal S1x80x256 .f32 := arg10.view.readAt (Elt Ideal) (R10 hd h).toLoadRect f10

/-- after the even block, -/
def m1 (hd : Fin 4) (h : Fin 2) : FVec Ideal S1x1x256 .f32 := mT (l7 arg7 f7 hd h) (l9 arg9 f9 hd h)
def a1 (hd : Fin 4) (h : Fin 2) : FVec Ideal S1x80x256 .f32 :=
  aT (l7 arg7 f7 hd h) (l9 arg9 f9 hd h) (l10 arg10 f10 hd h) (vT arg5 X5 (blk0 i k) hd)

/-- and after the odd block. -/
def m2 (hd : Fin 4) (h : Fin 2) : FVec Ideal S1x1x256 .f32 :=
  mT (scT arg3 arg4 X3 X4 (blk1 i k) hd h) (m1 arg7 arg9 f7 f9 hd h)
def a2 (hd : Fin 4) (h : Fin 2) : FVec Ideal S1x80x256 .f32 :=
  aT (scT arg3 arg4 X3 X4 (blk1 i k) hd h) (m1 arg7 arg9 f7 f9 hd h) (a1 i arg5 arg7 arg9 arg10 X5 k f7 f9 f10 hd h)
    (vT arg5 X5 (blk1 i k) hd)

theorem k0_1 : (arg4.view.readAt (Elt Ideal) (Rect.unit (s := S1x4x8192x128) (k0_off1 i k 1#32) S1x1x512x128.size (k0_off1_inb i k 0)).toLoadRect X4) = kT arg4 X4 (blk1 i k) 0 := kT_of _ _ _ _ _ (off1_1 i k)
theorem k0_2 : (arg4.view.readAt (Elt Ideal) (Rect.unit (s := S1x4x8192x128) (k0_off1 i k 2#32) S1x1x512x128.size (k0_off1_inb i k 1)).toLoadRect X4) = kT arg4 X4 (blk2 i k) 0 := kT_of _ _ _ _ _ (off1_2 i k)
theorem k1_1 : (arg4.view.readAt (Elt Ideal) (Rect.unit (s := S1x4x8192x128) (k0_off3 i k 1#32) S1x1x512x128.size (k0_off3_inb i k 0)).toLoadRect X4) = kT arg4 X4 (blk1 i k) 1 := kT_of _ _ _ _ _ (off3_1 i k)
theorem k1_2 : (arg4.view.readAt (Elt Ideal) (Rect.unit (s := S1x4x8192x128) (k0_off3 i k 2#32) S1x1x512x128.size (k0_off3_inb i k 1)).toLoadRect X4) = kT arg4 X4 (blk2 i k) 1 := kT_of _ _ _ _ _ (off3_2 i k)
theorem k2_1 : (arg4.view.readAt (Elt Ideal) (Rect.unit (s := S1x4x8192x128) (k0_off5 i k 1#32) S1x1x512x128.size (k0_off5_inb i k 0)).toLoadRect X4) = kT arg4 X4 (blk1 i k) 2 := kT_of _ _ _ _ _ (off5_1 i k)
theorem k2_2 : (arg4.view.readAt (Elt Ideal) (Rect.unit (s := S1x4x8192x128) (k0_off5 i k 2#32) S1x1x512x128.size (k0_off5_inb i k 1)).toLoadRect X4) = kT arg4 X4 (blk2 i k) 2 := kT_of _ _ _ _ _ (off5_2 i k)
theorem k3_1 : (arg4.view.readAt (Elt Ideal) (Rect.unit (s := S1x4x8192x128) (k0_off7 i k 1#32) S1x1x512x128.size (k0_off7_inb i k 0)).toLoadRect X4) = kT arg4 X4 (blk1 i k) 3 := kT_of _ _ _ _ _ (off7_1 i k)
theorem k3_2 : (arg4.view.readAt (Elt Ideal) (Rect.unit (s := S1x4x8192x128) (k0_off7 i k 2#32) S1x1x512x128.size (k0_off7_inb i k 1)).toLoadRect X4) = kT arg4 X4 (blk2 i k) 3 := kT_of _ _ _ _ _ (off7_2 i k)
theorem v0_0 : (arg5.view.readAt (Elt Ideal) (Rect.unit (s := S1x4x16x80x512) (k0_off2 i k) S1x1x1x80x512.size (k0_off2_inb i k)).toLoadRect X5) = vT arg5 X5 (blk0 i k) 0 := vT_of _ _ _ _ _ (off2_eq i k)
theorem v0_1 : (arg5.view.readAt (Elt Ideal) (Rect.unit (s := S1x4x16x80x512) (k0_off9 i k) S1x1x1x80x512.size (k0_off9_inb i k)).toLoadRect X5) = vT arg5 X5 (blk1 i k) 0 := vT_of _ _ _ _ _ (off9_eq i k)
theorem v1_0 : (arg5.view.readAt (Elt Ideal) (Rect.unit (s := S1x4x16x80x512) (k0_off4 i k) S1x1x1x80x512.size (k0_off4_inb i k)).toLoadRect X5) = vT arg5 X5 (blk0 i k) 1 := vT_of _ _ _ _ _ (off4_eq i k)
theorem v1_1 : (arg5.view.readAt (Elt Ideal) (Rect.unit (s := S1x4x16x80x512) (k0_off10 i k) S1x1x1x80x512.size (k0_off10_inb i k)).toLoadRect X5) = vT arg5 X5 (blk1 i k) 1 := vT_of _ _ _ _ _ (off10_eq i k)
theorem v2_0 : (arg5.view.readAt (Elt Ideal) (Rect.unit (s := S1x4x16x80x512) (k0_off6 i k) S1x1x1x80x512.size (k0_off6_inb i k)).toLoadRect X5) = vT arg5 X5 (blk0 i k) 2 := vT_of _ _ _ _ _ (off6_eq i k)
theorem v2_1 : (arg5.view.readAt (Elt Ideal) (Rect.unit (s := S1x4x16x80x512) (k0_off11 i k) S1x1x1x80x512.size (k0_off11_inb i k)).toLoadRect X5) = vT arg5 X5 (blk1 i k) 2 := vT_of _ _ _ _ _ (off11_eq i k)
theorem v3_0 : (arg5.view.readAt (Elt Ideal) (Rect.unit (s := S1x4x16x80x512) (k0_off8 i k) S1x1x1x80x512.size (k0_off8_inb i k)).toLoadRect X5) = vT arg5 X5 (blk0 i k) 3 := vT_of _ _ _ _ _ (off8_eq i k)
theorem v3_1 : (arg5.view.readAt (Elt Ideal) (Rect.unit (s := S1x4x16x80x512) (k0_off12 i k) S1x1x1x80x512.size (k0_off12_inb i k)).toLoadRect X5) = vT arg5 X5 (blk1 i k) 3 := vT_of _ _ _ _ _ (off12_eq i k)

/-! The lists of the first half. -/

theorem first8 : trip_k0_t1.sl.HW_arg8_8 (F := Ideal) i arg3 arg4 X3 X4 k = W7 (scT arg3 arg4 X3 X4 (blk1 i k)) [] := by
  refine Eq.trans (b := ⟨R7 3 1, sT (arg4.view.readAt (Elt Ideal) (Rect.unit (s := S1x4x8192x128) (k0_off7 i k 1#32) S1x1x512x128.size (k0_off7_inb i k 0)).toLoadRect X4) (qT arg3 X3 3 1)⟩ ::
      ⟨R7 3 0, sT (arg4.view.readAt (Elt Ideal) (Rect.unit (s := S1x4x8192x128) (k0_off7 i k 1#32) S1x1x512x128.size (k0_off7_inb i k 0)).toLoadRect X4) (qT arg3 X3 3 0)⟩ ::
      ⟨R7 2 1, sT (arg4.view.readAt (Elt Ideal) (Rect.unit (s := S1x4x8192x128) (k0_off5 i k 1#32) S1x1x512x128.size (k0_off5_inb i k 0)).toLoadRect X4) (qT arg3 X3 2 1)⟩ ::
      ⟨R7 2 0, sT (arg4.view.readAt (Elt Ideal) (Rect.unit (s := S1x4x8192x128) (k0_off5 i k 1#32) S1x1x512x128.size (k0_off5_inb i k 0)).toLoadRect X4) (qT arg3 X3 2 0)⟩ ::
      ⟨R7 1 1, sT (arg4.view.readAt (Elt Ideal) (Rect.unit (s := S1x4x8192x128) (k0_off3 i k 1#32) S1x1x512x128.size (k0_off3_inb i k 0)).toLoadRect X4) (qT arg3 X3 1 1)⟩ ::
      ⟨R7 1 0, sT (arg4.view.readAt (Elt Ideal) (Rect.unit (s := S1x4x8192x128) (k0_off3 i k 1#32) S1x1x512x128.size (k0_off3_inb i k 0)).toLoadRect X4) (qT arg3 X3 1 0)⟩ ::
      ⟨R7 0 1, sT (arg4.view.readAt (Elt Ideal) (Rect.unit (s := S1x4x8192x128) (k0_off1 i k 1#32) S1x1x512x128.size (k0_off1_inb i k 0)).toLoadRect X4) (qT arg3 X3 0 1)⟩ ::
      ⟨R7 0 0, sT (arg4.view.readAt (Elt Ideal) (Rect.unit (s := S1x4x8192x128) (k0_off1 i k 1#32) S1x1x512x128.size (k0_off1_inb i k 0)).toLoadRect X4) (qT arg3 X3 0 0)⟩ :: []) rfl ?_
  rw [k0_1, k1_1, k2_1, k3_1]
  rfl

theorem first9 : trip_k0_t1.sl.HW_arg9_8 (F := Ideal) arg7 arg9 f7 f9 = W9 (m1 arg7 arg9 f7 f9) [] := rfl

theorem first10 : trip_k0_t1.sl.HW_arg10_8 (F := Ideal) i arg5 arg7 arg9 arg10 X5 k f7 f9 f10 = W10 (a1 i arg5 arg7 arg9 arg10 X5 k f7 f9 f10) [] := by
  refine Eq.trans (b := ⟨R10 3 1, aT (l7 arg7 f7 3 1) (l9 arg9 f9 3 1) (l10 arg10 f10 3 1) (arg5.view.readAt (Elt Ideal) (Rect.unit (s := S1x4x16x80x512) (k0_off8 i k) S1x1x1x80x512.size (k0_off8_inb i k)).toLoadRect X5)⟩ ::
      ⟨R10 3 0, aT (l7 arg7 f7 3 0) (l9 arg9 f9 3 0) (l10 arg10 f10 3 0) (arg5.view.readAt (Elt Ideal) (Rect.unit (s := S1x4x16x80x512) (k0_off8 i k) S1x1x1x80x512.size (k0_off8_inb i k)).toLoadRect X5)⟩ ::
      ⟨R10 2 1, aT (l7 arg7 f7 2 1) (l9 arg9 f9 2 1) (l10 arg10 f10 2 1) (arg5.view.readAt (Elt Ideal) (Rect.unit (s := S1x4x16x80x512) (k0_off6 i k) S1x1x1x80x512.size (k0_off6_inb i k)).toLoadRect X5)⟩ ::
      ⟨R10 2 0, aT (l7 arg7 f7 2 0) (l9 arg9 f9 2 0) (l10 arg10 f10 2 0) (arg5.view.readAt (Elt Ideal) (Rect.unit (s := S1x4x16x80x512) (k0_off6 i k) S1x1x1x80x512.size (k0_off6_inb i k)).toLoadRect X5)⟩ ::
      ⟨R10 1 1, aT (l7 arg7 f7 1 1) (l9 arg9 f9 1 1) (l10 arg10 f10 1 1) (arg5.view.readAt (Elt Ideal) (Rect.unit (s := S1x4x16x80x512) (k0_off4 i k) S1x1x1x80x512.size (k0_off4_inb i k)).toLoadRect X5)⟩ ::
      ⟨R10 1 0, aT (l7 arg7 f7 1 0) (l9 arg9 f9 1 0) (l10 arg10 f10 1 0) (arg5.view.readAt (Elt Ideal) (Rect.unit (s := S1x4x16x80x512) (k0_off4 i k) S1x1x1x80x512.size (k0_off4_inb i k)).toLoadRect X5)⟩ ::
      ⟨R10 0 1, aT (l7 arg7 f7 0 1) (l9 arg9 f9 0 1) (l10 arg10 f10 0 1) (arg5.view.readAt (Elt Ideal) (Rect.unit (s := S1x4x16x80x512) (k0_off2 i k) S1x1x1x80x512.size (k0_off2_inb i k)).toLoadRect X5)⟩ ::
      ⟨R10 0 0, aT (l7 arg7 f7 0 0) (l9 arg9 f9 0 0) (l10 arg10 f10 0 0) (arg5.view.readAt (Elt Ideal) (Rect.unit (s := S1x4x16x80x512) (k0_off2 i k) S1x1x1x80x512.size (k0_off2_inb i k)).toLoadRect X5)⟩ :: []) rfl ?_
  rw [v0_0, v1_0, v2_0, v3_0]
  rfl

/-! The loads of the second half. -/

theorem v474_eq : (trip_k0_t1.sl.v474 (F := Ideal) i arg3 arg4 arg8 X3 X4 k) = scT arg3 arg4 X3 X4 (blk1 i k) 0 0 :=
  (congrArg (fun L => arg8.view.readAt (Elt Ideal) (R7 0 0).toLoadRect (arg8.view.writes (Elt Ideal) arg8.view.junk L)) (first8 i arg3 arg4 X3 X4 k)).trans (read7 _ _ _ _ 0 0)
theorem v476_eq : (trip_k0_t1.sl.v476 (F := Ideal) arg7 arg9 f7 f9) = m1 arg7 arg9 f7 f9 0 0 :=
  (congrArg (fun L => arg9.view.readAt (Elt Ideal) (R9 0 0).toLoadRect (arg9.view.writes (Elt Ideal) arg9.view.junk L)) (first9 arg7 arg9 f7 f9)).trans (read9 _ _ _ _ 0 0)
theorem v487_eq : (trip_k0_t1.sl.v487 (F := Ideal) i arg5 arg7 arg9 arg10 X5 k f7 f9 f10) = a1 i arg5 arg7 arg9 arg10 X5 k f7 f9 f10 0 0 :=
  (congrArg (fun L => arg10.view.readAt (Elt Ideal) (R10 0 0).toLoadRect (arg10.view.writes (Elt Ideal) arg10.view.junk L)) (first10 i arg5 arg7 arg9 arg10 X5 k f7 f9 f10)).trans (read10 _ _ _ _ 0 0)
theorem v502_eq : (trip_k0_t1.sl.v502 (F := Ideal) i arg3 arg4 arg8 X3 X4 k) = scT arg3 arg4 X3 X4 (blk1 i k) 0 1 :=
  (congrArg (fun L => arg8.view.readAt (Elt Ideal) (R7 0 1).toLoadRect (arg8.view.writes (Elt Ideal) arg8.view.junk L)) (first8 i arg3 arg4 X3 X4 k)).trans (read7 _ _ _ _ 0 1)
theorem v504_eq : (trip_k0_t1.sl.v504 (F := Ideal) i arg3 arg4 arg7 arg8 arg9 X3 X4 k f7 f9) = m1 arg7 arg9 f7 f9 0 1 :=
  (readAt_skip _ _ _ _ _ _ (by decide)).trans ((congrArg (fun L => arg9.view.readAt (Elt Ideal) (R9 0 1).toLoadRect (arg9.view.writes (Elt Ideal) arg9.view.junk L)) (first9 arg7 arg9 f7 f9)).trans (read9 _ _ _ _ 0 1))
theorem v515_eq : (trip_k0_t1.sl.v515 (F := Ideal) i arg3 arg4 arg5 arg7 arg8 arg9 arg10 X3 X4 X5 k f7 f9 f10) = a1 i arg5 arg7 arg9 arg10 X5 k f7 f9 f10 0 1 :=
  (readAt_skip _ _ _ _ _ _ (by decide)).trans ((congrArg (fun L => arg10.view.readAt (Elt Ideal) (R10 0 1).toLoadRect (arg10.view.writes (Elt Ideal) arg10.view.junk L)) (first10 i arg5 arg7 arg9 arg10 X5 k f7 f9 f10)).trans (read10 _ _ _ _ 0 1))
theorem v549_eq : (trip_k0_t1.sl.v549 (F := Ideal) i arg3 arg4 arg8 X3 X4 k) = scT arg3 arg4 X3 X4 (blk1 i k) 1 0 :=
  (congrArg (fun L => arg8.view.readAt (Elt Ideal) (R7 1 0).toLoadRect (arg8.view.writes (Elt Ideal) arg8.view.junk L)) (first8 i arg3 arg4 X3 X4 k)).trans (read7 _ _ _ _ 1 0)
theorem v551_eq : (trip_k0_t1.sl.v551 (F := Ideal) i arg3 arg4 arg7 arg8 arg9 X3 X4 k f7 f9) = m1 arg7 arg9 f7 f9 1 0 :=
  (readAt_skip _ _ _ _ _ _ (by decide)).trans ((readAt_skip _ _ _ _ _ _ (by decide)).trans ((congrArg (fun L => arg9.view.readAt (Elt Ideal) (R9 1 0).toLoadRect (arg9.view.writes (Elt Ideal) arg9.view.junk L)) (first9 arg7 arg9 f7 f9)).trans (read9 _ _ _ _ 1 0)))
theorem v562_eq : (trip_k0_t1.sl.v562 (F := Ideal) i arg3 arg4 arg5 arg7 arg8 arg9 arg10 X3 X4 X5 k f7 f9 f10) = a1 i arg5 arg7 arg9 arg10 X5 k f7 f9 f10 1 0 :=
  (readAt_skip _ _ _ _ _ _ (by decide)).trans ((readAt_skip _ _ _ _ _ _ (by decide)).trans ((congrArg (fun L => arg10.view.readAt (Elt Ideal) (R10 1 0).toLoadRect (arg10.view.writes (Elt Ideal) arg10.view.junk L)) (first10 i arg5 arg7 arg9 arg10 X5 k f7 f9 f10)).trans (read10 _ _ _ _ 1 0)))
theorem v577_eq : (trip_k0_t1.sl.v577 (F := Ideal) i arg3 arg4 arg8 X3 X4 k) = scT arg3 arg4 X3 X4 (blk1 i k) 1 1 :=
  (congrArg (fun L => arg8.view.readAt (Elt Ideal) (R7 1 1).toLoadRect (arg8.view.writes (Elt Ideal) arg8.view.junk L)) (first8 i arg3 arg4 X3 X4 k)).trans (read7 _ _ _ _ 1 1)
theorem v579_eq : (trip_k0_t1.sl.v579 (F := Ideal) i arg3 arg4 arg7 arg8 arg9 X3 X4 k f7 f9) = m1 arg7 arg9 f7 f9 1 1 :=
  (readAt_skip _ _ _ _ _ _ (by decide)).trans ((readAt_skip _ _ _ _ _ _ (by decide)).trans ((readAt_skip _ _ _ _ _ _ (by decide)).trans ((congrArg (fun L => arg9.view.readAt (Elt Ideal) (R9 1 1).toLoadRect (arg9.view.writes (Elt Ideal) arg9.view.junk L)) (first9 arg7 arg9 f7 f9)).trans (read9 _ _ _ _ 1 1))))
theorem v590_eq : (trip_k0_t1.sl.v590 (F := Ideal) i arg3 arg4 arg5 arg7 arg8 arg9 arg10 X3 X4 X5 k f7 f9 f10) = a1 i arg5 arg7 arg9 arg10 X5 k f7 f9 f10 1 1 :=
  (readAt_skip _ _ _ _ _ _ (by decide)).trans ((readAt_skip _ _ _ _ _ _ (by decide)).trans ((readAt_skip _ _ _ _ _ _ (by decide)).trans ((congrArg (fun L => arg10.view.readAt (Elt Ideal) (R10 1 1).toLoadRect (arg10.view.writes (Elt Ideal) arg10.view.junk L)) (first10 i arg5 arg7 arg9 arg10 X5 k f7 f9 f10)).trans (read10 _ _ _ _ 1 1))))
theorem v624_eq : (trip_k0_t1.sl.v624 (F := Ideal) i arg3 arg4 arg8 X3 X4 k) = scT arg3 arg4 X3 X4 (blk1 i k) 2 0 :=
  (congrArg (fun L => arg8.view.readAt (Elt Ideal) (R7 2 0).toLoadRect (arg8.view.writes (Elt Ideal) arg8.view.junk L)) (first8 i arg3 arg4 X3 X4 k)).trans (read7 _ _ _ _ 2 0)
theorem v626_eq : (trip_k0_t1.sl.v626 (F := Ideal) i arg3 arg4 arg7 arg8 arg9 X3 X4 k f7 f9) = m1 arg7 arg9 f7 f9 2 0 :=
  (readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 2 0).toLoadRect (arg9.view.writes (Elt Ideal) arg9.view.junk L)) (first9 arg7 arg9 f7 f9)).trans (read9 _ _ _ _ 2 0)))))
theorem v637_eq : (trip_k0_t1.sl.v637 (F := Ideal) i arg3 arg4 arg5 arg7 arg8 arg9 arg10 X3 X4 X5 k f7 f9 f10) = a1 i arg5 arg7 arg9 arg10 X5 k f7 f9 f10 2 0 :=
  (readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 2 0).toLoadRect (arg10.view.writes (Elt Ideal) arg10.view.junk L)) (first10 i arg5 arg7 arg9 arg10 X5 k f7 f9 f10)).trans (read10 _ _ _ _ 2 0)))))
theorem v652_eq : (trip_k0_t1.sl.v652 (F := Ideal) i arg3 arg4 arg8 X3 X4 k) = scT arg3 arg4 X3 X4 (blk1 i k) 2 1 :=
  (congrArg (fun L => arg8.view.readAt (Elt Ideal) (R7 2 1).toLoadRect (arg8.view.writes (Elt Ideal) arg8.view.junk L)) (first8 i arg3 arg4 X3 X4 k)).trans (read7 _ _ _ _ 2 1)
theorem v654_eq : (trip_k0_t1.sl.v654 (F := Ideal) i arg3 arg4 arg7 arg8 arg9 X3 X4 k f7 f9) = m1 arg7 arg9 f7 f9 2 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 2 1).toLoadRect (arg9.view.writes (Elt Ideal) arg9.view.junk L)) (first9 arg7 arg9 f7 f9)).trans (read9 _ _ _ _ 2 1))))))
theorem v665_eq : (trip_k0_t1.sl.v665 (F := Ideal) i arg3 arg4 arg5 arg7 arg8 arg9 arg10 X3 X4 X5 k f7 f9 f10) = a1 i arg5 arg7 arg9 arg10 X5 k f7 f9 f10 2 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 2 1).toLoadRect (arg10.view.writes (Elt Ideal) arg10.view.junk L)) (first10 i arg5 arg7 arg9 arg10 X5 k f7 f9 f10)).trans (read10 _ _ _ _ 2 1))))))
theorem v699_eq : (trip_k0_t1.sl.v699 (F := Ideal) i arg3 arg4 arg8 X3 X4 k) = scT arg3 arg4 X3 X4 (blk1 i k) 3 0 :=
  (congrArg (fun L => arg8.view.readAt (Elt Ideal) (R7 3 0).toLoadRect (arg8.view.writes (Elt Ideal) arg8.view.junk L)) (first8 i arg3 arg4 X3 X4 k)).trans (read7 _ _ _ _ 3 0)
theorem v701_eq : (trip_k0_t1.sl.v701 (F := Ideal) i arg3 arg4 arg7 arg8 arg9 X3 X4 k f7 f9) = m1 arg7 arg9 f7 f9 3 0 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 3 0).toLoadRect (arg9.view.writes (Elt Ideal) arg9.view.junk L)) (first9 arg7 arg9 f7 f9)).trans (read9 _ _ _ _ 3 0)))))))
theorem v712_eq : (trip_k0_t1.sl.v712 (F := Ideal) i arg3 arg4 arg5 arg7 arg8 arg9 arg10 X3 X4 X5 k f7 f9 f10) = a1 i arg5 arg7 arg9 arg10 X5 k f7 f9 f10 3 0 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 3 0).toLoadRect (arg10.view.writes (Elt Ideal) arg10.view.junk L)) (first10 i arg5 arg7 arg9 arg10 X5 k f7 f9 f10)).trans (read10 _ _ _ _ 3 0)))))))
theorem v727_eq : (trip_k0_t1.sl.v727 (F := Ideal) i arg3 arg4 arg8 X3 X4 k) = scT arg3 arg4 X3 X4 (blk1 i k) 3 1 :=
  (congrArg (fun L => arg8.view.readAt (Elt Ideal) (R7 3 1).toLoadRect (arg8.view.writes (Elt Ideal) arg8.view.junk L)) (first8 i arg3 arg4 X3 X4 k)).trans (read7 _ _ _ _ 3 1)
theorem v729_eq : (trip_k0_t1.sl.v729 (F := Ideal) i arg3 arg4 arg7 arg8 arg9 X3 X4 k f7 f9) = m1 arg7 arg9 f7 f9 3 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 3 1).toLoadRect (arg9.view.writes (Elt Ideal) arg9.view.junk L)) (first9 arg7 arg9 f7 f9)).trans (read9 _ _ _ _ 3 1))))))))
theorem v740_eq : (trip_k0_t1.sl.v740 (F := Ideal) i arg3 arg4 arg5 arg7 arg8 arg9 arg10 X3 X4 X5 k f7 f9 f10) = a1 i arg5 arg7 arg9 arg10 X5 k f7 f9 f10 3 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 3 1).toLoadRect (arg10.view.writes (Elt Ideal) arg10.view.junk L)) (first10 i arg5 arg7 arg9 arg10 X5 k f7 f9 f10)).trans (read10 _ _ _ _ 3 1))))))))

end

end Cert.Flash

end
-- ==== Proof.OffsetsE.lean ====
/-
  Where the loads after the kernel's loop lie.
-/
module

public import proofs.«01_k».proof.Proof.Gen.KernelIdeal

@[expose] public section

set_option maxRecDepth 16384
set_option maxHeartbeats 4000000

noncomputable section

namespace Cert.Flash

open Idealize.ShloMosaic Idealize.ShloMosaic.TcCoe Cert.KernelIdeal Cert.KernelIdeal.Gen

/-! The values of the diagonal block, when it is even, -/

theorem off25_eq : ∀ i : grid0.Coords, k0_off25 i = ![0, 0, (i 2).val, 0, 0] := by
  decide +kernel
theorem off26_eq : ∀ i : grid0.Coords, k0_off26 i = ![0, 0, (i 2).val, 0, 0] := by
  decide +kernel
theorem off27_eq : ∀ i : grid0.Coords, k0_off27 i = ![0, 1, (i 2).val, 0, 0] := by
  decide +kernel
theorem off28_eq : ∀ i : grid0.Coords, k0_off28 i = ![0, 1, (i 2).val, 0, 0] := by
  decide +kernel
theorem off29_eq : ∀ i : grid0.Coords, k0_off29 i = ![0, 2, (i 2).val, 0, 0] := by
  decide +kernel
theorem off30_eq : ∀ i : grid0.Coords, k0_off30 i = ![0, 2, (i 2).val, 0, 0] := by
  decide +kernel
theorem off31_eq : ∀ i : grid0.Coords, k0_off31 i = ![0, 3, (i 2).val, 0, 0] := by
  decide +kernel
theorem off32_eq : ∀ i : grid0.Coords, k0_off32 i = ![0, 3, (i 2).val, 0, 0] := by
  decide +kernel

/-! and when it is odd: its keys, the values of the block before it, and its values. -/

theorem off33_eq : ∀ i : grid0.Coords, k0_off33 i = ![0, 0, 512 * (i 2).val, 0] := by
  decide +kernel
theorem off35_eq : ∀ i : grid0.Coords, k0_off35 i = ![0, 1, 512 * (i 2).val, 0] := by
  decide +kernel
theorem off37_eq : ∀ i : grid0.Coords, k0_off37 i = ![0, 2, 512 * (i 2).val, 0] := by
  decide +kernel
theorem off39_eq : ∀ i : grid0.Coords, k0_off39 i = ![0, 3, 512 * (i 2).val, 0] := by
  decide +kernel
theorem off34_eq : ∀ i : grid0.Coords, (i 2).val % 2 = 1 → k0_off34 i = ![0, 0, (i 2).val - 1, 0, 0] := by
  decide +kernel
theorem off36_eq : ∀ i : grid0.Coords, (i 2).val % 2 = 1 → k0_off36 i = ![0, 1, (i 2).val - 1, 0, 0] := by
  decide +kernel
theorem off38_eq : ∀ i : grid0.Coords, (i 2).val % 2 = 1 → k0_off38 i = ![0, 2, (i 2).val - 1, 0, 0] := by
  decide +kernel
theorem off40_eq : ∀ i : grid0.Coords, (i 2).val % 2 = 1 → k0_off40 i = ![0, 3, (i 2).val - 1, 0, 0] := by
  decide +kernel
theorem off41_eq : ∀ i : grid0.Coords, k0_off41 i = ![0, 0, (i 2).val, 0, 0] := by
  decide +kernel
theorem off42_eq : ∀ i : grid0.Coords, k0_off42 i = ![0, 0, (i 2).val, 0, 0] := by
  decide +kernel
theorem off43_eq : ∀ i : grid0.Coords, k0_off43 i = ![0, 1, (i 2).val, 0, 0] := by
  decide +kernel
theorem off44_eq : ∀ i : grid0.Coords, k0_off44 i = ![0, 1, (i 2).val, 0, 0] := by
  decide +kernel
theorem off45_eq : ∀ i : grid0.Coords, k0_off45 i = ![0, 2, (i 2).val, 0, 0] := by
  decide +kernel
theorem off46_eq : ∀ i : grid0.Coords, k0_off46 i = ![0, 2, (i 2).val, 0, 0] := by
  decide +kernel
theorem off47_eq : ∀ i : grid0.Coords, k0_off47 i = ![0, 3, (i 2).val, 0, 0] := by
  decide +kernel
theorem off48_eq : ∀ i : grid0.Coords, k0_off48 i = ![0, 3, (i 2).val, 0, 0] := by
  decide +kernel

end Cert.Flash

end
-- ==== Proof.EpiA.lean ====
/-
  What the kernel's points hold after their loop, as tiles: the update by the diagonal block, half by half, masked. And where
  an even point starts and ends.
-/
module

public import proofs.«01_k».proof.Proof.Trip
public import proofs.«01_k».proof.Proof.OffsetsE
public import proofs.«01_k».proof.Proof.KernelIdeal.RunA

@[expose] public section

set_option maxRecDepth 16384
set_option maxHeartbeats 400000

noncomputable section

namespace Cert.Flash

open Idealize.ShloMosaic Idealize.ShloMosaic.TcCoe Cert.KernelIdeal Cert.KernelIdeal.Gen

/-- A diagonal update of the first half of the query tile, which sees the first half of the block, and of the second half. -/
def amA (s : FVec Ideal S1x256x256 .f32) (m : FVec Ideal S1x1x256 .f32) (a : FVec Ideal S1x80x256 .f32)
    (v : FVec Ideal S1x1x1x80x256 .bf16) : FVec Ideal S1x80x256 .f32 := k0_pay247 s m a v
def amB (s : FVec Ideal S1x512x256 .f32) (m : FVec Ideal S1x1x256 .f32) (a : FVec Ideal S1x80x256 .f32)
    (v : FVec Ideal S1x1x1x80x512 .bf16) : FVec Ideal S1x80x256 .f32 := k0_pay252 s m a v

/-- The first half's scores of a head with the first half of the block. -/
def lH (arg7 : Memref sig .tc .vmem S4x512x512 .f32) (f7 : BufTy.Contents (Elt Ideal) arg7.view.ty) (hd : Fin 4) : FVec Ideal S1x256x256 .f32 :=
  arg7.view.readAt (Elt Ideal) (Rect.unit (s := S4x512x512) ![hd.val, 0, 0] S1x256x256.size (by revert hd; decide)).toLoadRect f7

section

variable (arg5 : Memref sig .tc .vmem S1x4x16x80x512 .bf16) (X5 : BufTy.Contents (Elt Ideal) arg5.view.ty)

/-- The first half of a block's values, transposed. -/
def vH (b : Fin 16) (hd : Fin 4) : FVec Ideal S1x1x1x80x256 .bf16 :=
  arg5.view.readAt (Elt Ideal) (Rect.unit (s := S1x4x16x80x512) ![0, hd.val, b.val, 0, 0] S1x1x1x80x256.size (by revert hd b; decide)).toLoadRect X5

theorem vH_of {off : Fin 5 → ℕ} (inb : ∀ a, off a + S1x1x1x80x256.size a ≤ S1x4x16x80x512.size a) (b : Fin 16) (hd : Fin 4)
    (h : off = ![0, hd.val, b.val, 0, 0]) :
    arg5.view.readAt (Elt Ideal) (Rect.unit (s := S1x4x16x80x512) off S1x1x1x80x256.size inb).toLoadRect X5 = vH arg5 X5 b hd := by
  subst h; rfl

end

/-- The block on the diagonal, and the one before it. -/
def blkD (i : grid0.Coords) : Fin 16 := i 2
def blkE (i : grid0.Coords) : Fin 16 := ⟨(i 2).val - 1, by have : (i 2).val < 16 := (i 2).isLt; omega⟩

/-- The accumulators after the diagonal block, from the scores, the maxima and the accumulators before it. -/
def aD (sH : Fin 4 → FVec Ideal S1x256x256 .f32) (s : Fin 4 → FVec Ideal S1x512x256 .f32)
    (m : Fin 4 → Fin 2 → FVec Ideal S1x1x256 .f32) (a : Fin 4 → Fin 2 → FVec Ideal S1x80x256 .f32)
    (w : Fin 4 → FVec Ideal S1x1x1x80x256 .bf16) (v : Fin 4 → FVec Ideal S1x1x1x80x512 .bf16) (hd : Fin 4) (h : Fin 2) :
    FVec Ideal S1x80x256 .f32 :=
  if h = 0 then amA (sH hd) (m hd 0) (a hd 0) (w hd) else amB (s hd) (m hd 1) (a hd 1) (v hd)

section

variable (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole)
  (hc0 : cond0_0 i) (x0 : Vec Ideal S1x4x512x128 .bf16) (x1 : Vec Ideal S1x4x8192x128 .bf16) (x2 : Vec Ideal S1x4x16x80x512 .bf16)

/-- What the loop leaves. -/
def endA : BufTy.Contents (Elt Ideal) arg7.view.ty × BufTy.Contents (Elt Ideal) arg9.view.ty × BufTy.Contents (Elt Ideal) arg10.view.ty :=
  lpEnd (F := Ideal) Variants.none c none i arg3 harg3 arg4 harg4 arg5 harg5 arg6 harg6 arg7 harg7 arg8 harg8 arg9 harg9 arg10 harg10 (BitVec.ofNat 32 (i 2).val) 2#32 (kernelRun0_A.sl.v72 i) (kernelRun0_A.sl.v74 i) (kernelRun0_A.sl.v75 i)
    (harg3.unread x0) (harg4.unread x1) (harg5.unread x2)
    (arg7.view.writes (Elt Ideal) arg7.view.junk (kernelRun0_A.sl.HS0_8 (F := Ideal) c arg3 harg3 arg4 harg4 x0 x1))
    (arg9.view.writes (Elt Ideal) arg9.view.junk (kernelRun0_A.sl.HS2_1 (F := Ideal)))
    (arg10.view.writes (Elt Ideal) arg10.view.junk (kernelRun0_A.sl.HS3_1 (F := Ideal)))

theorem startA7 : kernelRun0_A.sl.HS0_8 (F := Ideal) c arg3 harg3 arg4 harg4 x0 x1
    = W7 (scT arg3 arg4 (harg3.unread x0) (harg4.unread x1) 0) [] := by
  refine Eq.trans (b := ⟨R7 3 1, sT (arg4.view.readAt (Elt Ideal) (Rect.unit (s := S1x4x8192x128) ![0, 3, 0, 0] S1x1x512x128.size (by decide)).toLoadRect (harg4.unread x1)) (qT arg3 (harg3.unread x0) 3 1)⟩ ::
      ⟨R7 3 0, sT (arg4.view.readAt (Elt Ideal) (Rect.unit (s := S1x4x8192x128) ![0, 3, 0, 0] S1x1x512x128.size (by decide)).toLoadRect (harg4.unread x1)) (qT arg3 (harg3.unread x0) 3 0)⟩ ::
      ⟨R7 2 1, sT (arg4.view.readAt (Elt Ideal) (Rect.unit (s := S1x4x8192x128) ![0, 2, 0, 0] S1x1x512x128.size (by decide)).toLoadRect (harg4.unread x1)) (qT arg3 (harg3.unread x0) 2 1)⟩ ::
      ⟨R7 2 0, sT (arg4.view.readAt (Elt Ideal) (Rect.unit (s := S1x4x8192x128) ![0, 2, 0, 0] S1x1x512x128.size (by decide)).toLoadRect (harg4.unread x1)) (qT arg3 (harg3.unread x0) 2 0)⟩ ::
      ⟨R7 1 1, sT (arg4.view.readAt (Elt Ideal) (Rect.unit (s := S1x4x8192x128) ![0, 1, 0, 0] S1x1x512x128.size (by decide)).toLoadRect (harg4.unread x1)) (qT arg3 (harg3.unread x0) 1 1)⟩ ::
      ⟨R7 1 0, sT (arg4.view.readAt (Elt Ideal) (Rect.unit (s := S1x4x8192x128) ![0, 1, 0, 0] S1x1x512x128.size (by decide)).toLoadRect (harg4.unread x1)) (qT arg3 (harg3.unread x0) 1 0)⟩ ::
      ⟨R7 0 1, sT (arg4.view.readAt (Elt Ideal) (Rect.unit (s := S1x4x8192x128) ![0, 0, 0, 0] S1x1x512x128.size (by decide)).toLoadRect (harg4.unread x1)) (qT arg3 (harg3.unread x0) 0 1)⟩ ::
      ⟨R7 0 0, sT (arg4.view.readAt (Elt Ideal) (Rect.unit (s := S1x4x8192x128) ![0, 0, 0, 0] S1x1x512x128.size (by decide)).toLoadRect (harg4.unread x1)) (qT arg3 (harg3.unread x0) 0 0)⟩ :: []) rfl ?_
  rfl

theorem vA00 : (arg5.view.readAt (Elt Ideal) (Rect.unit (s := S1x4x16x80x512) (k0_off25 i) S1x1x1x80x256.size (k0_off25_inb i hc0)).toLoadRect (harg5.unread x2)) = vH arg5 (harg5.unread x2) (blkD i) 0 := vH_of _ _ _ _ _ (off25_eq i)
theorem vA01 : (arg5.view.readAt (Elt Ideal) (Rect.unit (s := S1x4x16x80x512) (k0_off26 i) S1x1x1x80x512.size (k0_off26_inb i hc0)).toLoadRect (harg5.unread x2)) = vT arg5 (harg5.unread x2) (blkD i) 0 := vT_of _ _ _ _ _ (off26_eq i)
theorem vA10 : (arg5.view.readAt (Elt Ideal) (Rect.unit (s := S1x4x16x80x512) (k0_off27 i) S1x1x1x80x256.size (k0_off27_inb i hc0)).toLoadRect (harg5.unread x2)) = vH arg5 (harg5.unread x2) (blkD i) 1 := vH_of _ _ _ _ _ (off27_eq i)
theorem vA11 : (arg5.view.readAt (Elt Ideal) (Rect.unit (s := S1x4x16x80x512) (k0_off28 i) S1x1x1x80x512.size (k0_off28_inb i hc0)).toLoadRect (harg5.unread x2)) = vT arg5 (harg5.unread x2) (blkD i) 1 := vT_of _ _ _ _ _ (off28_eq i)
theorem vA20 : (arg5.view.readAt (Elt Ideal) (Rect.unit (s := S1x4x16x80x512) (k0_off29 i) S1x1x1x80x256.size (k0_off29_inb i hc0)).toLoadRect (harg5.unread x2)) = vH arg5 (harg5.unread x2) (blkD i) 2 := vH_of _ _ _ _ _ (off29_eq i)
theorem vA21 : (arg5.view.readAt (Elt Ideal) (Rect.unit (s := S1x4x16x80x512) (k0_off30 i) S1x1x1x80x512.size (k0_off30_inb i hc0)).toLoadRect (harg5.unread x2)) = vT arg5 (harg5.unread x2) (blkD i) 2 := vT_of _ _ _ _ _ (off30_eq i)
theorem vA30 : (arg5.view.readAt (Elt Ideal) (Rect.unit (s := S1x4x16x80x512) (k0_off31 i) S1x1x1x80x256.size (k0_off31_inb i hc0)).toLoadRect (harg5.unread x2)) = vH arg5 (harg5.unread x2) (blkD i) 3 := vH_of _ _ _ _ _ (off31_eq i)
theorem vA31 : (arg5.view.readAt (Elt Ideal) (Rect.unit (s := S1x4x16x80x512) (k0_off32 i) S1x1x1x80x512.size (k0_off32_inb i hc0)).toLoadRect (harg5.unread x2)) = vT arg5 (harg5.unread x2) (blkD i) 3 := vT_of _ _ _ _ _ (off32_eq i)

/-- The accumulators at the end. -/
theorem lastA : kernelRun0_A.sl.HL6_8 (F := Ideal) c i arg3 harg3 arg4 harg4 arg5 harg5 arg6 harg6 arg7 harg7 arg8 harg8 arg9 harg9 arg10 harg10 hc0 x0 x1 x2
    = W10 (aD (lH arg7 (endA c i arg3 harg3 arg4 harg4 arg5 harg5 arg6 harg6 arg7 harg7 arg8 harg8 arg9 harg9 arg10 harg10 x0 x1 x2).1) (fun hd => l7 arg7 (endA c i arg3 harg3 arg4 harg4 arg5 harg5 arg6 harg6 arg7 harg7 arg8 harg8 arg9 harg9 arg10 harg10 x0 x1 x2).1 hd 1) (l9 arg9 (endA c i arg3 harg3 arg4 harg4 arg5 harg5 arg6 harg6 arg7 harg7 arg8 harg8 arg9 harg9 arg10 harg10 x0 x1 x2).2.1) (l10 arg10 (endA c i arg3 harg3 arg4 harg4 arg5 harg5 arg6 harg6 arg7 harg7 arg8 harg8 arg9 harg9 arg10 harg10 x0 x1 x2).2.2) (vH arg5 (harg5.unread x2) (blkD i)) (vT arg5 (harg5.unread x2) (blkD i))) [] := by
  refine Eq.trans (b := ⟨R10 3 1, amB (l7 arg7 (endA c i arg3 harg3 arg4 harg4 arg5 harg5 arg6 harg6 arg7 harg7 arg8 harg8 arg9 harg9 arg10 harg10 x0 x1 x2).1 3 1) (l9 arg9 (endA c i arg3 harg3 arg4 harg4 arg5 harg5 arg6 harg6 arg7 harg7 arg8 harg8 arg9 harg9 arg10 harg10 x0 x1 x2).2.1 3 1) (l10 arg10 (endA c i arg3 harg3 arg4 harg4 arg5 harg5 arg6 harg6 arg7 harg7 arg8 harg8 arg9 harg9 arg10 harg10 x0 x1 x2).2.2 3 1) (arg5.view.readAt (Elt Ideal) (Rect.unit (s := S1x4x16x80x512) (k0_off32 i) S1x1x1x80x512.size (k0_off32_inb i hc0)).toLoadRect (harg5.unread x2))⟩ ::
      ⟨R10 3 0, amA (lH arg7 (endA c i arg3 harg3 arg4 harg4 arg5 harg5 arg6 harg6 arg7 harg7 arg8 harg8 arg9 harg9 arg10 harg10 x0 x1 x2).1 3) (l9 arg9 (endA c i arg3 harg3 arg4 harg4 arg5 harg5 arg6 harg6 arg7 harg7 arg8 harg8 arg9 harg9 arg10 harg10 x0 x1 x2).2.1 3 0) (l10 arg10 (endA c i arg3 harg3 arg4 harg4 arg5 harg5 arg6 harg6 arg7 harg7 arg8 harg8 arg9 harg9 arg10 harg10 x0 x1 x2).2.2 3 0) (arg5.view.readAt (Elt Ideal) (Rect.unit (s := S1x4x16x80x512) (k0_off31 i) S1x1x1x80x256.size (k0_off31_inb i hc0)).toLoadRect (harg5.unread x2))⟩ ::
      ⟨R10 2 1, amB (l7 arg7 (endA c i arg3 harg3 arg4 harg4 arg5 harg5 arg6 harg6 arg7 harg7 arg8 harg8 arg9 harg9 arg10 harg10 x0 x1 x2).1 2 1) (l9 arg9 (endA c i arg3 harg3 arg4 harg4 arg5 harg5 arg6 harg6 arg7 harg7 arg8 harg8 arg9 harg9 arg10 harg10 x0 x1 x2).2.1 2 1) (l10 arg10 (endA c i arg3 harg3 arg4 harg4 arg5 harg5 arg6 harg6 arg7 harg7 arg8 harg8 arg9 harg9 arg10 harg10 x0 x1 x2).2.2 2 1) (arg5.view.readAt (Elt Ideal) (Rect.unit (s := S1x4x16x80x512) (k0_off30 i) S1x1x1x80x512.size (k0_off30_inb i hc0)).toLoadRect (harg5.unread x2))⟩ ::
      ⟨R10 2 0, amA (lH arg7 (endA c i arg3 harg3 arg4 harg4 arg5 harg5 arg6 harg6 arg7 harg7 arg8 harg8 arg9 harg9 arg10 harg10 x0 x1 x2).1 2) (l9 arg9 (endA c i arg3 harg3 arg4 harg4 arg5 harg5 arg6 harg6 arg7 harg7 arg8 harg8 arg9 harg9 arg10 harg10 x0 x1 x2).2.1 2 0) (l10 arg10 (endA c i arg3 harg3 arg4 harg4 arg5 harg5 arg6 harg6 arg7 harg7 arg8 harg8 arg9 harg9 arg10 harg10 x0 x1 x2).2.2 2 0) (arg5.view.readAt (Elt Ideal) (Rect.unit (s := S1x4x16x80x512) (k0_off29 i) S1x1x1x80x256.size (k0_off29_inb i hc0)).toLoadRect (harg5.unread x2))⟩ ::
      ⟨R10 1 1, amB (l7 arg7 (endA c i arg3 harg3 arg4 harg4 arg5 harg5 arg6 harg6 arg7 harg7 arg8 harg8 arg9 harg9 arg10 harg10 x0 x1 x2).1 1 1) (l9 arg9 (endA c i arg3 harg3 arg4 harg4 arg5 harg5 arg6 harg6 arg7 harg7 arg8 harg8 arg9 harg9 arg10 harg10 x0 x1 x2).2.1 1 1) (l10 arg10 (endA c i arg3 harg3 arg4 harg4 arg5 harg5 arg6 harg6 arg7 harg7 arg8 harg8 arg9 harg9 arg10 harg10 x0 x1 x2).2.2 1 1) (arg5.view.readAt (Elt Ideal) (Rect.unit (s := S1x4x16x80x512) (k0_off28 i) S1x1x1x80x512.size (k0_off28_inb i hc0)).toLoadRect (harg5.unread x2))⟩ ::
      ⟨R10 1 0, amA (lH arg7 (endA c i arg3 harg3 arg4 harg4 arg5 harg5 arg6 harg6 arg7 harg7 arg8 harg8 arg9 harg9 arg10 harg10 x0 x1 x2).1 1) (l9 arg9 (endA c i arg3 harg3 arg4 harg4 arg5 harg5 arg6 harg6 arg7 harg7 arg8 harg8 arg9 harg9 arg10 harg10 x0 x1 x2).2.1 1 0) (l10 arg10 (endA c i arg3 harg3 arg4 harg4 arg5 harg5 arg6 harg6 arg7 harg7 arg8 harg8 arg9 harg9 arg10 harg10 x0 x1 x2).2.2 1 0) (arg5.view.readAt (Elt Ideal) (Rect.unit (s := S1x4x16x80x512) (k0_off27 i) S1x1x1x80x256.size (k0_off27_inb i hc0)).toLoadRect (harg5.unread x2))⟩ ::
      ⟨R10 0 1, amB (l7 arg7 (endA c i arg3 harg3 arg4 harg4 arg5 harg5 arg6 harg6 arg7 harg7 arg8 harg8 arg9 harg9 arg10 harg10 x0 x1 x2).1 0 1) (l9 arg9 (endA c i arg3 harg3 arg4 harg4 arg5 harg5 arg6 harg6 arg7 harg7 arg8 harg8 arg9 harg9 arg10 harg10 x0 x1 x2).2.1 0 1) (l10 arg10 (endA c i arg3 harg3 arg4 harg4 arg5 harg5 arg6 harg6 arg7 harg7 arg8 harg8 arg9 harg9 arg10 harg10 x0 x1 x2).2.2 0 1) (arg5.view.readAt (Elt Ideal) (Rect.unit (s := S1x4x16x80x512) (k0_off26 i) S1x1x1x80x512.size (k0_off26_inb i hc0)).toLoadRect (harg5.unread x2))⟩ ::
      ⟨R10 0 0, amA (lH arg7 (endA c i arg3 harg3 arg4 harg4 arg5 harg5 arg6 harg6 arg7 harg7 arg8 harg8 arg9 harg9 arg10 harg10 x0 x1 x2).1 0) (l9 arg9 (endA c i arg3 harg3 arg4 harg4 arg5 harg5 arg6 harg6 arg7 harg7 arg8 harg8 arg9 harg9 arg10 harg10 x0 x1 x2).2.1 0 0) (l10 arg10 (endA c i arg3 harg3 arg4 harg4 arg5 harg5 arg6 harg6 arg7 harg7 arg8 harg8 arg9 harg9 arg10 harg10 x0 x1 x2).2.2 0 0) (arg5.view.readAt (Elt Ideal) (Rect.unit (s := S1x4x16x80x512) (k0_off25 i) S1x1x1x80x256.size (k0_off25_inb i hc0)).toLoadRect (harg5.unread x2))⟩ :: []) rfl ?_
  rw [vA00 (hc0 := hc0), vA01 (hc0 := hc0), vA10 (hc0 := hc0), vA11 (hc0 := hc0), vA20 (hc0 := hc0), vA21 (hc0 := hc0), vA30 (hc0 := hc0), vA31 (hc0 := hc0)]
  rfl

end

end Cert.Flash

end
-- ==== Proof.Block.lean ====
/-
  A block of keys absorbed into a query column, of which only the first `K` count; and what the loads of a tile read at
  an index.
-/
module

public import proofs.«01_k».proof.Proof.Online
public import proofs.«01_k».proof.Proof.Tile
public import proofs.«01_k».proof.Proof.EpiA

@[expose] public section

noncomputable section

namespace Cert.Flash

open Idealize.ShloMosaic Idealize.ShloMosaic.TcCoe Cert.KernelIdeal Cert.KernelIdeal.Gen

variable {ρ : Type} {S : ℕ → ℝ} {g : ρ → ℕ → EReal} {n : ℕ} {m : EReal} {acc : ρ → EReal}

theorem exp2_bot (μ : ℝ) : Ideal.exp2 ((⊥ : EReal) - μ) = 0 := by
  rw [EReal.bot_sub]; rfl

theorem Inv.block {N K : ℕ} (h : Inv S g n m acc) (hK : K ≤ N) (hK0 : 0 < K) (s : Fin N → EReal) (v : ρ → Fin N → EReal)
    (hs : ∀ j, s j = if j.val < K then ((S (n + j.val) : ℝ) : EReal) else ⊥)
    (hv : ∀ r j, j.val < K → v r j = g r (n + j.val)) :
    Inv S g (n + K) (mx s m) (fun r => ac s m (acc r) (v r)) := by
  obtain ⟨μ, hμ⟩ := max_real Finset.univ ⟨⟨0, by omega⟩, Finset.mem_univ _⟩ s m
    (by rcases h.real_or with h | ⟨x, h⟩ <;> rw [h] <;> simp)
    (fun j _ => by rw [hs]; split <;> simp)
    ⟨⟨0, by omega⟩, Finset.mem_univ _, by rw [hs, if_pos hK0]; simp⟩
  have hm : mx s m = μ := hμ
  rw [hm]
  refine h.step K μ _ fun r => ?_
  show ac s m (acc r) (v r) = _
  unfold ac
  rw [hm]
  congr 1
  have e : ∀ j : Fin N, v r j * Ideal.exp2 (s j - μ)
      = (fun x : ℕ => if x < K then g r (n + x) * ((Real.rpow 2 (S (n + x) - μ) : ℝ) : EReal) else 0) j.val := fun j => by
    simp only
    rw [hs]
    split
    · next hj => rw [hv r j hj, ← EReal.coe_sub, Ideal.exp2_coe]
    · rw [exp2_bot, mul_zero]
  rw [Finset.sum_congr rfl fun j _ => e j, Fin.sum_univ_eq_sum_range (fun x : ℕ => if x < K then g r (n + x) * ((Real.rpow 2 (S (n + x) - μ) : ℝ) : EReal) else 0) N]
  rw [← Finset.sum_subset (Finset.range_subset_range.mpr hK) fun x _ hx => if_neg (by simpa using hx)]
  exact Finset.sum_congr rfl fun x hx => if_pos (by simpa using hx)

/-- A load of a unit rectangle reads the shifted index. -/
theorem readAt_at {sig' : RefSig} {κ : Kind} {sp : Space} {s : Shape} {e : EltTy} {Val : EltTy → Type} (v : View sig' κ sp s e)
    (f : v.ty.Contents Val) {off size : Fin s.rank → ℕ} {inb : ∀ a, off a + size a ≤ s.size a}
    (x : (Rect.unit off size inb).shape.Idx) (y : s.Idx) (h : ∀ a, (y a).val = off a + (x a).val) :
    v.readAt Val (Rect.unit off size inb).toLoadRect f x = v.read Val f y := by
  rw [View.readAt_apply]
  congr 1
  funext a
  apply Fin.ext
  rw [LoadRect.idx_apply, h a]
  simp [Rect.unit]

section

variable (arg3 : Memref sig .tc .vmem S1x4x512x128 .bf16) (arg4 : Memref sig .tc .vmem S1x4x8192x128 .bf16)
  (arg5 : Memref sig .tc .vmem S1x4x16x80x512 .bf16)
  (X3 : BufTy.Contents (Elt Ideal) arg3.view.ty) (X4 : BufTy.Contents (Elt Ideal) arg4.view.ty)
  (X5 : BufTy.Contents (Elt Ideal) arg5.view.ty)

theorem qT_apply (hd : Fin 4) (h : Fin 2) (c : Fin 256) (d : Fin 128) :
    qT arg3 X3 hd h (ix4 0 0 c d) = arg3.view.read (Elt Ideal) X3 (ix4 0 hd ⟨256 * h.val + c.val, by omega⟩ d) := by
  refine readAt_at _ _ _ _ fun a => ?_
  match a with
  | ⟨0, _⟩ => rfl
  | ⟨1, _⟩ => rfl
  | ⟨2, _⟩ => rfl
  | ⟨3, _⟩ => exact (Nat.zero_add _).symm

theorem kT_apply (b : Fin 16) (hd : Fin 4) (j : Fin 512) (d : Fin 128) :
    kT arg4 X4 b hd (ix4 0 0 j d) = arg4.view.read (Elt Ideal) X4 (ix4 0 hd ⟨512 * b.val + j.val, by omega⟩ d) := by
  refine readAt_at _ _ _ _ fun a => ?_
  match a with
  | ⟨0, _⟩ => rfl
  | ⟨1, _⟩ => rfl
  | ⟨2, _⟩ => rfl
  | ⟨3, _⟩ => exact (Nat.zero_add _).symm

theorem vT_apply (b : Fin 16) (hd : Fin 4) (r : Fin 80) (j : Fin 512) :
    vT arg5 X5 b hd (ix5 0 0 0 r j) = arg5.view.read (Elt Ideal) X5 (ix5 0 hd b r j) := by
  refine readAt_at _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem vH_apply (b : Fin 16) (hd : Fin 4) (r : Fin 80) (j : Fin 256) :
    vH arg5 X5 b hd (ix5 0 0 0 r j) = arg5.view.read (Elt Ideal) X5 (ix5 0 hd b r ⟨j.val, by omega⟩) := by
  refine readAt_at _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem scT_apply (b : Fin 16) (hd : Fin 4) (h : Fin 2) (j : Fin 512) (c : Fin 256) :
    scT arg3 arg4 X3 X4 b hd h (ix3 0 j c)
      = ∑ d : Fin 128, arg4.view.read (Elt Ideal) X4 (ix4 0 hd ⟨512 * b.val + j.val, by omega⟩ d)
          * arg3.view.read (Elt Ideal) X3 (ix4 0 hd ⟨256 * h.val + c.val, by omega⟩ d) := by
  unfold scT sT
  rw [scoreP_apply]
  exact Finset.sum_congr rfl fun d _ => by rw [kT_apply, qT_apply]

end

/-- The first half's scores are the score tile's. -/
theorem lH_apply (arg7 : Memref sig .tc .vmem S4x512x512 .f32) (f7 : BufTy.Contents (Elt Ideal) arg7.view.ty) (hd : Fin 4)
    (j : Fin 256) (c : Fin 256) : lH arg7 f7 hd (ix3 0 j c) = l7 arg7 f7 hd 0 (ix3 0 ⟨j.val, by omega⟩ c) := by
  have e1 : lH arg7 f7 hd (ix3 0 j c) = arg7.view.read (Elt Ideal) f7 (ix3 hd ⟨j.val, by omega⟩ ⟨c.val, by omega⟩) := by
    refine readAt_at _ _ _ _ fun a => ?_
    match a with
    | ⟨0, _⟩ => rfl
    | ⟨1, _⟩ => exact (Nat.zero_add _).symm
    | ⟨2, _⟩ => exact (Nat.zero_add _).symm
  have e2 : l7 arg7 f7 hd 0 (ix3 0 ⟨j.val, by omega⟩ c) = arg7.view.read (Elt Ideal) f7 (ix3 hd ⟨j.val, by omega⟩ ⟨c.val, by omega⟩) := by
    refine readAt_at _ _ _ _ fun a => ?_
    match a with
    | ⟨0, _⟩ => rfl
    | ⟨1, _⟩ => exact (Nat.zero_add _).symm
    | ⟨2, _⟩ => exact (Nat.zero_add _).symm
  rw [e1, e2]

/-- The output's rows of the accumulators: row `r` of head `hd` at column `256 * h + c`. -/
theorem acc_at {sig' : RefSig} {κ : Kind} {sp : Space} (v : View sig' κ sp S4x80x512 .f32) (f : v.ty.Contents (Elt Ideal))
    (w : Fin 4 → Fin 2 → FVec Ideal S1x80x256 .f32) (L : List (View.Piece (Elt Ideal) S4x80x512 .f32)) (hd : Fin 4) (h : Fin 2)
    (r : Fin 80) (c : Fin 256) :
    v.read (Elt Ideal) (v.writes (Elt Ideal) f (W10 w L)) (ix3 hd r ⟨256 * h.val + c.val, by omega⟩) = w hd h (ix3 0 r c) := by
  rw [← read10 v f w L hd h]
  symm
  refine readAt_at _ _ _ _ fun a => ?_
  match a with
  | ⟨0, _⟩ => rfl
  | ⟨1, _⟩ => exact (Nat.zero_add _).symm
  | ⟨2, _⟩ => rfl

/-- The two loads the output is made of. -/
theorem out64 {sig' : RefSig} {κ : Kind} {sp : Space} (v : View sig' κ sp S4x80x512 .f32) (f : v.ty.Contents (Elt Ideal)) (hd : Fin 4)
    (inb : ∀ a, (![hd.val, 0, 0] : Fin 3 → ℕ) a + S1x64x512.size a ≤ S4x80x512.size a) (r : Fin 64) (c : Fin 512) :
    v.readAt (Elt Ideal) (Rect.unit (s := S4x80x512) ![hd.val, 0, 0] S1x64x512.size inb).toLoadRect f (ix3 0 r c)
      = v.read (Elt Ideal) f (ix3 hd ⟨r.val, by omega⟩ c) := by
  refine readAt_at _ _ _ _ fun a => ?_
  match a with
  | ⟨0, _⟩ => rfl
  | ⟨1, _⟩ => exact (Nat.zero_add _).symm
  | ⟨2, _⟩ => exact (Nat.zero_add _).symm

theorem out1 {sig' : RefSig} {κ : Kind} {sp : Space} (v : View sig' κ sp S4x80x512 .f32) (f : v.ty.Contents (Elt Ideal)) (hd : Fin 4)
    (inb : ∀ a, (![hd.val, 64, 0] : Fin 3 → ℕ) a + S1x1x512.size a ≤ S4x80x512.size a) (c : Fin 512) :
    v.readAt (Elt Ideal) (Rect.unit (s := S4x80x512) ![hd.val, 64, 0] S1x1x512.size inb).toLoadRect f (ix3 0 0 c)
      = v.read (Elt Ideal) f (ix3 hd 64 c) := by
  refine readAt_at _ _ _ _ fun a => ?_
  match a with
  | ⟨0, _⟩ => rfl
  | ⟨1, _⟩ => rfl
  | ⟨2, _⟩ => exact (Nat.zero_add _).symm

end Cert.Flash

end
-- ==== Proof.Trip2.lean ====
/-
  What one trip of the kernel's loop writes, the whole lists.
-/
module

public import proofs.«01_k».proof.Proof.Trip

@[expose] public section

set_option maxRecDepth 16384
set_option maxHeartbeats 400000

noncomputable section

namespace Cert.Flash

open Idealize.ShloMosaic Idealize.ShloMosaic.TcCoe Cert.KernelIdeal Cert.KernelIdeal.Gen

section

variable (𝒱 : Variants) (c : Dev nD) (bd : Option 𝒱.V) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole)
  (arg2 : BitVec 32) (c2_i32 : BitVec 32) (v72 : BitVec 32) (v74 : BitVec 32) (v75 : BitVec 1)
  (X3 : BufTy.Contents (Elt Ideal) arg3.view.ty) (X4 : BufTy.Contents (Elt Ideal) arg4.view.ty)
  (X5 : BufTy.Contents (Elt Ideal) arg5.view.ty) (k : Fin (k0_t1_loop i).trips)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

/-! The whole lists. -/

theorem trip7 : (tripL_k0_t1 (F := Ideal) 𝒱 c bd i arg3 harg3 arg4 harg4 arg5 harg5 arg6 harg6 arg7 harg7 arg8 harg8 arg9 harg9 arg10 harg10 arg2 c2_i32 v72 v74 v75 X3 X4 X5 k f7 f8 f9 f10).1 = W7 (scT arg3 arg4 X3 X4 (blk2 i k)) [] := by
  unfold tripL_k0_t1 trip_k0_t1
  dsimp only
  refine Eq.trans (b := ⟨R7 3 1, sT (arg4.view.readAt (Elt Ideal) (Rect.unit (s := S1x4x8192x128) (k0_off7 i k 2#32) S1x1x512x128.size (k0_off7_inb i k 1)).toLoadRect X4) (qT arg3 X3 3 1)⟩ ::
      ⟨R7 3 0, sT (arg4.view.readAt (Elt Ideal) (Rect.unit (s := S1x4x8192x128) (k0_off7 i k 2#32) S1x1x512x128.size (k0_off7_inb i k 1)).toLoadRect X4) (qT arg3 X3 3 0)⟩ ::
      ⟨R7 2 1, sT (arg4.view.readAt (Elt Ideal) (Rect.unit (s := S1x4x8192x128) (k0_off5 i k 2#32) S1x1x512x128.size (k0_off5_inb i k 1)).toLoadRect X4) (qT arg3 X3 2 1)⟩ ::
      ⟨R7 2 0, sT (arg4.view.readAt (Elt Ideal) (Rect.unit (s := S1x4x8192x128) (k0_off5 i k 2#32) S1x1x512x128.size (k0_off5_inb i k 1)).toLoadRect X4) (qT arg3 X3 2 0)⟩ ::
      ⟨R7 1 1, sT (arg4.view.readAt (Elt Ideal) (Rect.unit (s := S1x4x8192x128) (k0_off3 i k 2#32) S1x1x512x128.size (k0_off3_inb i k 1)).toLoadRect X4) (qT arg3 X3 1 1)⟩ ::
      ⟨R7 1 0, sT (arg4.view.readAt (Elt Ideal) (Rect.unit (s := S1x4x8192x128) (k0_off3 i k 2#32) S1x1x512x128.size (k0_off3_inb i k 1)).toLoadRect X4) (qT arg3 X3 1 0)⟩ ::
      ⟨R7 0 1, sT (arg4.view.readAt (Elt Ideal) (Rect.unit (s := S1x4x8192x128) (k0_off1 i k 2#32) S1x1x512x128.size (k0_off1_inb i k 1)).toLoadRect X4) (qT arg3 X3 0 1)⟩ ::
      ⟨R7 0 0, sT (arg4.view.readAt (Elt Ideal) (Rect.unit (s := S1x4x8192x128) (k0_off1 i k 2#32) S1x1x512x128.size (k0_off1_inb i k 1)).toLoadRect X4) (qT arg3 X3 0 0)⟩ :: []) rfl ?_
  rw [k0_2, k1_2, k2_2, k3_2]
  rfl

theorem trip9 : (tripL_k0_t1 (F := Ideal) 𝒱 c bd i arg3 harg3 arg4 harg4 arg5 harg5 arg6 harg6 arg7 harg7 arg8 harg8 arg9 harg9 arg10 harg10 arg2 c2_i32 v72 v74 v75 X3 X4 X5 k f7 f8 f9 f10).2.2.1 = W9 (m2 i arg3 arg4 arg7 arg9 X3 X4 k f7 f9) (W9 (m1 arg7 arg9 f7 f9) []) := by
  unfold tripL_k0_t1 trip_k0_t1
  dsimp only
  refine Eq.trans (b := ⟨R9 3 1, mT (trip_k0_t1.sl.v727 (F := Ideal) i arg3 arg4 arg8 X3 X4 k) (trip_k0_t1.sl.v729 (F := Ideal) i arg3 arg4 arg7 arg8 arg9 X3 X4 k f7 f9)⟩ ::
      ⟨R9 3 0, mT (trip_k0_t1.sl.v699 (F := Ideal) i arg3 arg4 arg8 X3 X4 k) (trip_k0_t1.sl.v701 (F := Ideal) i arg3 arg4 arg7 arg8 arg9 X3 X4 k f7 f9)⟩ ::
      ⟨R9 2 1, mT (trip_k0_t1.sl.v652 (F := Ideal) i arg3 arg4 arg8 X3 X4 k) (trip_k0_t1.sl.v654 (F := Ideal) i arg3 arg4 arg7 arg8 arg9 X3 X4 k f7 f9)⟩ ::
      ⟨R9 2 0, mT (trip_k0_t1.sl.v624 (F := Ideal) i arg3 arg4 arg8 X3 X4 k) (trip_k0_t1.sl.v626 (F := Ideal) i arg3 arg4 arg7 arg8 arg9 X3 X4 k f7 f9)⟩ ::
      ⟨R9 1 1, mT (trip_k0_t1.sl.v577 (F := Ideal) i arg3 arg4 arg8 X3 X4 k) (trip_k0_t1.sl.v579 (F := Ideal) i arg3 arg4 arg7 arg8 arg9 X3 X4 k f7 f9)⟩ ::
      ⟨R9 1 0, mT (trip_k0_t1.sl.v549 (F := Ideal) i arg3 arg4 arg8 X3 X4 k) (trip_k0_t1.sl.v551 (F := Ideal) i arg3 arg4 arg7 arg8 arg9 X3 X4 k f7 f9)⟩ ::
      ⟨R9 0 1, mT (trip_k0_t1.sl.v502 (F := Ideal) i arg3 arg4 arg8 X3 X4 k) (trip_k0_t1.sl.v504 (F := Ideal) i arg3 arg4 arg7 arg8 arg9 X3 X4 k f7 f9)⟩ ::
      ⟨R9 0 0, mT (trip_k0_t1.sl.v474 (F := Ideal) i arg3 arg4 arg8 X3 X4 k) (trip_k0_t1.sl.v476 (F := Ideal) arg7 arg9 f7 f9)⟩ :: trip_k0_t1.sl.HW_arg9_8 (F := Ideal) arg7 arg9 f7 f9) rfl ?_
  rw [v474_eq, v502_eq, v549_eq, v577_eq, v624_eq, v652_eq, v699_eq, v727_eq, v476_eq, v504_eq, v551_eq, v579_eq, v626_eq, v654_eq, v701_eq, v729_eq, first9]
  rfl

theorem trip10 : (tripL_k0_t1 (F := Ideal) 𝒱 c bd i arg3 harg3 arg4 harg4 arg5 harg5 arg6 harg6 arg7 harg7 arg8 harg8 arg9 harg9 arg10 harg10 arg2 c2_i32 v72 v74 v75 X3 X4 X5 k f7 f8 f9 f10).2.2.2
    = W10 (a2 i arg3 arg4 arg5 arg7 arg9 arg10 X3 X4 X5 k f7 f9 f10) (W10 (a1 i arg5 arg7 arg9 arg10 X5 k f7 f9 f10) []) := by
  unfold tripL_k0_t1 trip_k0_t1
  dsimp only
  refine Eq.trans (b := ⟨R10 3 1, aT (trip_k0_t1.sl.v727 (F := Ideal) i arg3 arg4 arg8 X3 X4 k) (trip_k0_t1.sl.v729 (F := Ideal) i arg3 arg4 arg7 arg8 arg9 X3 X4 k f7 f9) (trip_k0_t1.sl.v740 (F := Ideal) i arg3 arg4 arg5 arg7 arg8 arg9 arg10 X3 X4 X5 k f7 f9 f10) (arg5.view.readAt (Elt Ideal) (Rect.unit (s := S1x4x16x80x512) (k0_off12 i k) S1x1x1x80x512.size (k0_off12_inb i k)).toLoadRect X5)⟩ ::
      ⟨R10 3 0, aT (trip_k0_t1.sl.v699 (F := Ideal) i arg3 arg4 arg8 X3 X4 k) (trip_k0_t1.sl.v701 (F := Ideal) i arg3 arg4 arg7 arg8 arg9 X3 X4 k f7 f9) (trip_k0_t1.sl.v712 (F := Ideal) i arg3 arg4 arg5 arg7 arg8 arg9 arg10 X3 X4 X5 k f7 f9 f10) (arg5.view.readAt (Elt Ideal) (Rect.unit (s := S1x4x16x80x512) (k0_off12 i k) S1x1x1x80x512.size (k0_off12_inb i k)).toLoadRect X5)⟩ ::
      ⟨R10 2 1, aT (trip_k0_t1.sl.v652 (F := Ideal) i arg3 arg4 arg8 X3 X4 k) (trip_k0_t1.sl.v654 (F := Ideal) i arg3 arg4 arg7 arg8 arg9 X3 X4 k f7 f9) (trip_k0_t1.sl.v665 (F := Ideal) i arg3 arg4 arg5 arg7 arg8 arg9 arg10 X3 X4 X5 k f7 f9 f10) (arg5.view.readAt (Elt Ideal) (Rect.unit (s := S1x4x16x80x512) (k0_off11 i k) S1x1x1x80x512.size (k0_off11_inb i k)).toLoadRect X5)⟩ ::
      ⟨R10 2 0, aT (trip_k0_t1.sl.v624 (F := Ideal) i arg3 arg4 arg8 X3 X4 k) (trip_k0_t1.sl.v626 (F := Ideal) i arg3 arg4 arg7 arg8 arg9 X3 X4 k f7 f9) (trip_k0_t1.sl.v637 (F := Ideal) i arg3 arg4 arg5 arg7 arg8 arg9 arg10 X3 X4 X5 k f7 f9 f10) (arg5.view.readAt (Elt Ideal) (Rect.unit (s := S1x4x16x80x512) (k0_off11 i k) S1x1x1x80x512.size (k0_off11_inb i k)).toLoadRect X5)⟩ ::
      ⟨R10 1 1, aT (trip_k0_t1.sl.v577 (F := Ideal) i arg3 arg4 arg8 X3 X4 k) (trip_k0_t1.sl.v579 (F := Ideal) i arg3 arg4 arg7 arg8 arg9 X3 X4 k f7 f9) (trip_k0_t1.sl.v590 (F := Ideal) i arg3 arg4 arg5 arg7 arg8 arg9 arg10 X3 X4 X5 k f7 f9 f10) (arg5.view.readAt (Elt Ideal) (Rect.unit (s := S1x4x16x80x512) (k0_off10 i k) S1x1x1x80x512.size (k0_off10_inb i k)).toLoadRect X5)⟩ ::
      ⟨R10 1 0, aT (trip_k0_t1.sl.v549 (F := Ideal) i arg3 arg4 arg8 X3 X4 k) (trip_k0_t1.sl.v551 (F := Ideal) i arg3 arg4 arg7 arg8 arg9 X3 X4 k f7 f9) (trip_k0_t1.sl.v562 (F := Ideal) i arg3 arg4 arg5 arg7 arg8 arg9 arg10 X3 X4 X5 k f7 f9 f10) (arg5.view.readAt (Elt Ideal) (Rect.unit (s := S1x4x16x80x512) (k0_off10 i k) S1x1x1x80x512.size (k0_off10_inb i k)).toLoadRect X5)⟩ ::
      ⟨R10 0 1, aT (trip_k0_t1.sl.v502 (F := Ideal) i arg3 arg4 arg8 X3 X4 k) (trip_k0_t1.sl.v504 (F := Ideal) i arg3 arg4 arg7 arg8 arg9 X3 X4 k f7 f9) (trip_k0_t1.sl.v515 (F := Ideal) i arg3 arg4 arg5 arg7 arg8 arg9 arg10 X3 X4 X5 k f7 f9 f10) (arg5.view.readAt (Elt Ideal) (Rect.unit (s := S1x4x16x80x512) (k0_off9 i k) S1x1x1x80x512.size (k0_off9_inb i k)).toLoadRect X5)⟩ ::
      ⟨R10 0 0, aT (trip_k0_t1.sl.v474 (F := Ideal) i arg3 arg4 arg8 X3 X4 k) (trip_k0_t1.sl.v476 (F := Ideal) arg7 arg9 f7 f9) (trip_k0_t1.sl.v487 (F := Ideal) i arg5 arg7 arg9 arg10 X5 k f7 f9 f10) (arg5.view.readAt (Elt Ideal) (Rect.unit (s := S1x4x16x80x512) (k0_off9 i k) S1x1x1x80x512.size (k0_off9_inb i k)).toLoadRect X5)⟩ :: trip_k0_t1.sl.HW_arg10_8 (F := Ideal) i arg5 arg7 arg9 arg10 X5 k f7 f9 f10) rfl ?_
  rw [v474_eq, v502_eq, v549_eq, v577_eq, v624_eq, v652_eq, v699_eq, v727_eq, v476_eq, v504_eq, v551_eq, v579_eq, v626_eq, v654_eq, v701_eq, v729_eq, v487_eq, v515_eq, v562_eq, v590_eq, v637_eq, v665_eq, v712_eq, v740_eq, v0_1, v1_1, v2_1, v3_1, first10]
  rfl

end

end Cert.Flash

end
-- ==== Proof.EpiB.lean ====
/-
  Where an odd point starts and ends.
-/
module

public import proofs.«01_k».proof.Proof.EpiA
public import proofs.«01_k».proof.Proof.KernelIdeal.RunB

@[expose] public section

set_option maxRecDepth 16384
set_option maxHeartbeats 400000

noncomputable section

namespace Cert.Flash

open Idealize.ShloMosaic Idealize.ShloMosaic.TcCoe Cert.KernelIdeal Cert.KernelIdeal.Gen

/-- The accumulators after the whole block before the diagonal. -/
def aM (arg5 : Memref sig .tc .vmem S1x4x16x80x512 .bf16) (arg7 : Memref sig .tc .vmem S4x512x512 .f32)
    (arg9 : Memref sig .tc .vmem S4x1x512 .f32) (arg10 : Memref sig .tc .vmem S4x80x512 .f32)
    (X5 : BufTy.Contents (Elt Ideal) arg5.view.ty) (b : Fin 16) (f7 : BufTy.Contents (Elt Ideal) arg7.view.ty)
    (f9 : BufTy.Contents (Elt Ideal) arg9.view.ty) (f10 : BufTy.Contents (Elt Ideal) arg10.view.ty) (hd : Fin 4) (h : Fin 2) :
    FVec Ideal S1x80x256 .f32 :=
  aT (l7 arg7 f7 hd h) (l9 arg9 f9 hd h) (l10 arg10 f10 hd h) (vT arg5 X5 b hd)

section

variable (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole)
  (hc1 : cond0_1 i) (x0 : Vec Ideal S1x4x512x128 .bf16) (x1 : Vec Ideal S1x4x8192x128 .bf16) (x2 : Vec Ideal S1x4x16x80x512 .bf16)

/-- What the loop leaves. -/
def endB : BufTy.Contents (Elt Ideal) arg7.view.ty × BufTy.Contents (Elt Ideal) arg9.view.ty × BufTy.Contents (Elt Ideal) arg10.view.ty :=
  lpEnd (F := Ideal) Variants.none c none i arg3 harg3 arg4 harg4 arg5 harg5 arg6 harg6 arg7 harg7 arg8 harg8 arg9 harg9 arg10 harg10 (BitVec.ofNat 32 (i 2).val) 2#32 (kernelRun0_B.sl.v72 i) (kernelRun0_B.sl.v74 i) (kernelRun0_B.sl.v75 i)
    (harg3.unread x0) (harg4.unread x1) (harg5.unread x2)
    (arg7.view.writes (Elt Ideal) arg7.view.junk (kernelRun0_B.sl.HS0_8 (F := Ideal) c arg3 harg3 arg4 harg4 x0 x1))
    (arg9.view.writes (Elt Ideal) arg9.view.junk (kernelRun0_B.sl.HS2_1 (F := Ideal)))
    (arg10.view.writes (Elt Ideal) arg10.view.junk (kernelRun0_B.sl.HS3_1 (F := Ideal)))

theorem startB7 : kernelRun0_B.sl.HS0_8 (F := Ideal) c arg3 harg3 arg4 harg4 x0 x1
    = W7 (scT arg3 arg4 (harg3.unread x0) (harg4.unread x1) 0) [] := by
  refine Eq.trans (b := ⟨R7 3 1, sT (arg4.view.readAt (Elt Ideal) (Rect.unit (s := S1x4x8192x128) ![0, 3, 0, 0] S1x1x512x128.size (by decide)).toLoadRect (harg4.unread x1)) (qT arg3 (harg3.unread x0) 3 1)⟩ ::
      ⟨R7 3 0, sT (arg4.view.readAt (Elt Ideal) (Rect.unit (s := S1x4x8192x128) ![0, 3, 0, 0] S1x1x512x128.size (by decide)).toLoadRect (harg4.unread x1)) (qT arg3 (harg3.unread x0) 3 0)⟩ ::
      ⟨R7 2 1, sT (arg4.view.readAt (Elt Ideal) (Rect.unit (s := S1x4x8192x128) ![0, 2, 0, 0] S1x1x512x128.size (by decide)).toLoadRect (harg4.unread x1)) (qT arg3 (harg3.unread x0) 2 1)⟩ ::
      ⟨R7 2 0, sT (arg4.view.readAt (Elt Ideal) (Rect.unit (s := S1x4x8192x128) ![0, 2, 0, 0] S1x1x512x128.size (by decide)).toLoadRect (harg4.unread x1)) (qT arg3 (harg3.unread x0) 2 0)⟩ ::
      ⟨R7 1 1, sT (arg4.view.readAt (Elt Ideal) (Rect.unit (s := S1x4x8192x128) ![0, 1, 0, 0] S1x1x512x128.size (by decide)).toLoadRect (harg4.unread x1)) (qT arg3 (harg3.unread x0) 1 1)⟩ ::
      ⟨R7 1 0, sT (arg4.view.readAt (Elt Ideal) (Rect.unit (s := S1x4x8192x128) ![0, 1, 0, 0] S1x1x512x128.size (by decide)).toLoadRect (harg4.unread x1)) (qT arg3 (harg3.unread x0) 1 0)⟩ ::
      ⟨R7 0 1, sT (arg4.view.readAt (Elt Ideal) (Rect.unit (s := S1x4x8192x128) ![0, 0, 0, 0] S1x1x512x128.size (by decide)).toLoadRect (harg4.unread x1)) (qT arg3 (harg3.unread x0) 0 1)⟩ ::
      ⟨R7 0 0, sT (arg4.view.readAt (Elt Ideal) (Rect.unit (s := S1x4x8192x128) ![0, 0, 0, 0] S1x1x512x128.size (by decide)).toLoadRect (harg4.unread x1)) (qT arg3 (harg3.unread x0) 0 0)⟩ :: []) rfl ?_
  rfl

theorem kB0 : (arg4.view.readAt (Elt Ideal) (Rect.unit (s := S1x4x8192x128) (k0_off33 i) S1x1x512x128.size (k0_off33_inb i hc1)).toLoadRect (harg4.unread x1)) = kT arg4 (harg4.unread x1) (blkD i) 0 := kT_of _ _ _ _ _ (off33_eq i)
theorem kB1 : (arg4.view.readAt (Elt Ideal) (Rect.unit (s := S1x4x8192x128) (k0_off35 i) S1x1x512x128.size (k0_off35_inb i hc1)).toLoadRect (harg4.unread x1)) = kT arg4 (harg4.unread x1) (blkD i) 1 := kT_of _ _ _ _ _ (off35_eq i)
theorem kB2 : (arg4.view.readAt (Elt Ideal) (Rect.unit (s := S1x4x8192x128) (k0_off37 i) S1x1x512x128.size (k0_off37_inb i hc1)).toLoadRect (harg4.unread x1)) = kT arg4 (harg4.unread x1) (blkD i) 2 := kT_of _ _ _ _ _ (off37_eq i)
theorem kB3 : (arg4.view.readAt (Elt Ideal) (Rect.unit (s := S1x4x8192x128) (k0_off39 i) S1x1x512x128.size (k0_off39_inb i hc1)).toLoadRect (harg4.unread x1)) = kT arg4 (harg4.unread x1) (blkD i) 3 := kT_of _ _ _ _ _ (off39_eq i)
theorem vM0 (ho : (i 2).val % 2 = 1) : (arg5.view.readAt (Elt Ideal) (Rect.unit (s := S1x4x16x80x512) (k0_off34 i) S1x1x1x80x512.size (k0_off34_inb i hc1)).toLoadRect (harg5.unread x2)) = vT arg5 (harg5.unread x2) (blkE i) 0 := vT_of _ _ _ _ _ (off34_eq i ho)
theorem vM1 (ho : (i 2).val % 2 = 1) : (arg5.view.readAt (Elt Ideal) (Rect.unit (s := S1x4x16x80x512) (k0_off36 i) S1x1x1x80x512.size (k0_off36_inb i hc1)).toLoadRect (harg5.unread x2)) = vT arg5 (harg5.unread x2) (blkE i) 1 := vT_of _ _ _ _ _ (off36_eq i ho)
theorem vM2 (ho : (i 2).val % 2 = 1) : (arg5.view.readAt (Elt Ideal) (Rect.unit (s := S1x4x16x80x512) (k0_off38 i) S1x1x1x80x512.size (k0_off38_inb i hc1)).toLoadRect (harg5.unread x2)) = vT arg5 (harg5.unread x2) (blkE i) 2 := vT_of _ _ _ _ _ (off38_eq i ho)
theorem vM3 (ho : (i 2).val % 2 = 1) : (arg5.view.readAt (Elt Ideal) (Rect.unit (s := S1x4x16x80x512) (k0_off40 i) S1x1x1x80x512.size (k0_off40_inb i hc1)).toLoadRect (harg5.unread x2)) = vT arg5 (harg5.unread x2) (blkE i) 3 := vT_of _ _ _ _ _ (off40_eq i ho)
theorem vB00 : (arg5.view.readAt (Elt Ideal) (Rect.unit (s := S1x4x16x80x512) (k0_off41 i) S1x1x1x80x256.size (k0_off41_inb i hc1)).toLoadRect (harg5.unread x2)) = vH arg5 (harg5.unread x2) (blkD i) 0 := vH_of _ _ _ _ _ (off41_eq i)
theorem vB01 : (arg5.view.readAt (Elt Ideal) (Rect.unit (s := S1x4x16x80x512) (k0_off42 i) S1x1x1x80x512.size (k0_off42_inb i hc1)).toLoadRect (harg5.unread x2)) = vT arg5 (harg5.unread x2) (blkD i) 0 := vT_of _ _ _ _ _ (off42_eq i)
theorem vB10 : (arg5.view.readAt (Elt Ideal) (Rect.unit (s := S1x4x16x80x512) (k0_off43 i) S1x1x1x80x256.size (k0_off43_inb i hc1)).toLoadRect (harg5.unread x2)) = vH arg5 (harg5.unread x2) (blkD i) 1 := vH_of _ _ _ _ _ (off43_eq i)
theorem vB11 : (arg5.view.readAt (Elt Ideal) (Rect.unit (s := S1x4x16x80x512) (k0_off44 i) S1x1x1x80x512.size (k0_off44_inb i hc1)).toLoadRect (harg5.unread x2)) = vT arg5 (harg5.unread x2) (blkD i) 1 := vT_of _ _ _ _ _ (off44_eq i)
theorem vB20 : (arg5.view.readAt (Elt Ideal) (Rect.unit (s := S1x4x16x80x512) (k0_off45 i) S1x1x1x80x256.size (k0_off45_inb i hc1)).toLoadRect (harg5.unread x2)) = vH arg5 (harg5.unread x2) (blkD i) 2 := vH_of _ _ _ _ _ (off45_eq i)
theorem vB21 : (arg5.view.readAt (Elt Ideal) (Rect.unit (s := S1x4x16x80x512) (k0_off46 i) S1x1x1x80x512.size (k0_off46_inb i hc1)).toLoadRect (harg5.unread x2)) = vT arg5 (harg5.unread x2) (blkD i) 2 := vT_of _ _ _ _ _ (off46_eq i)
theorem vB30 : (arg5.view.readAt (Elt Ideal) (Rect.unit (s := S1x4x16x80x512) (k0_off47 i) S1x1x1x80x256.size (k0_off47_inb i hc1)).toLoadRect (harg5.unread x2)) = vH arg5 (harg5.unread x2) (blkD i) 3 := vH_of _ _ _ _ _ (off47_eq i)
theorem vB31 : (arg5.view.readAt (Elt Ideal) (Rect.unit (s := S1x4x16x80x512) (k0_off48 i) S1x1x1x80x512.size (k0_off48_inb i hc1)).toLoadRect (harg5.unread x2)) = vT arg5 (harg5.unread x2) (blkD i) 3 := vT_of _ _ _ _ _ (off48_eq i)

theorem mid4 : kernelRun0_B.sl.HL4_8 (F := Ideal) i arg3 harg3 arg4 harg4 hc1 x0 x1 = W7 (scT arg3 arg4 (harg3.unread x0) (harg4.unread x1) (blkD i)) [] := by
  refine Eq.trans (b := ⟨R7 3 1, sT (arg4.view.readAt (Elt Ideal) (Rect.unit (s := S1x4x8192x128) (k0_off39 i) S1x1x512x128.size (k0_off39_inb i hc1)).toLoadRect (harg4.unread x1)) (qT arg3 (harg3.unread x0) 3 1)⟩ ::
      ⟨R7 3 0, sT (arg4.view.readAt (Elt Ideal) (Rect.unit (s := S1x4x8192x128) (k0_off39 i) S1x1x512x128.size (k0_off39_inb i hc1)).toLoadRect (harg4.unread x1)) (qT arg3 (harg3.unread x0) 3 0)⟩ ::
      ⟨R7 2 1, sT (arg4.view.readAt (Elt Ideal) (Rect.unit (s := S1x4x8192x128) (k0_off37 i) S1x1x512x128.size (k0_off37_inb i hc1)).toLoadRect (harg4.unread x1)) (qT arg3 (harg3.unread x0) 2 1)⟩ ::
      ⟨R7 2 0, sT (arg4.view.readAt (Elt Ideal) (Rect.unit (s := S1x4x8192x128) (k0_off37 i) S1x1x512x128.size (k0_off37_inb i hc1)).toLoadRect (harg4.unread x1)) (qT arg3 (harg3.unread x0) 2 0)⟩ ::
      ⟨R7 1 1, sT (arg4.view.readAt (Elt Ideal) (Rect.unit (s := S1x4x8192x128) (k0_off35 i) S1x1x512x128.size (k0_off35_inb i hc1)).toLoadRect (harg4.unread x1)) (qT arg3 (harg3.unread x0) 1 1)⟩ ::
      ⟨R7 1 0, sT (arg4.view.readAt (Elt Ideal) (Rect.unit (s := S1x4x8192x128) (k0_off35 i) S1x1x512x128.size (k0_off35_inb i hc1)).toLoadRect (harg4.unread x1)) (qT arg3 (harg3.unread x0) 1 0)⟩ ::
      ⟨R7 0 1, sT (arg4.view.readAt (Elt Ideal) (Rect.unit (s := S1x4x8192x128) (k0_off33 i) S1x1x512x128.size (k0_off33_inb i hc1)).toLoadRect (harg4.unread x1)) (qT arg3 (harg3.unread x0) 0 1)⟩ ::
      ⟨R7 0 0, sT (arg4.view.readAt (Elt Ideal) (Rect.unit (s := S1x4x8192x128) (k0_off33 i) S1x1x512x128.size (k0_off33_inb i hc1)).toLoadRect (harg4.unread x1)) (qT arg3 (harg3.unread x0) 0 0)⟩ :: []) rfl ?_
  rw [kB0 (hc1 := hc1), kB1 (hc1 := hc1), kB2 (hc1 := hc1), kB3 (hc1 := hc1)]
  rfl

theorem mid5 : kernelRun0_B.sl.HL5_8 (F := Ideal) c i arg3 harg3 arg4 harg4 arg5 harg5 arg6 harg6 arg7 harg7 arg8 harg8 arg9 harg9 arg10 harg10 x0 x1 x2 = W9 (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) [] := rfl

theorem mid6 (ho : (i 2).val % 2 = 1) : kernelRun0_B.sl.HL6_8 (F := Ideal) c i arg3 harg3 arg4 harg4 arg5 harg5 arg6 harg6 arg7 harg7 arg8 harg8 arg9 harg9 arg10 harg10 hc1 x0 x1 x2 = W10 (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) [] := by
  refine Eq.trans (b := ⟨R10 3 1, aT (l7 arg7 (endB c i arg3 harg3 arg4 harg4 arg5 harg5 arg6 harg6 arg7 harg7 arg8 harg8 arg9 harg9 arg10 harg10 x0 x1 x2).1 3 1) (l9 arg9 (endB c i arg3 harg3 arg4 harg4 arg5 harg5 arg6 harg6 arg7 harg7 arg8 harg8 arg9 harg9 arg10 harg10 x0 x1 x2).2.1 3 1) (l10 arg10 (endB c i arg3 harg3 arg4 harg4 arg5 harg5 arg6 harg6 arg7 harg7 arg8 harg8 arg9 harg9 arg10 harg10 x0 x1 x2).2.2 3 1) (arg5.view.readAt (Elt Ideal) (Rect.unit (s := S1x4x16x80x512) (k0_off40 i) S1x1x1x80x512.size (k0_off40_inb i hc1)).toLoadRect (harg5.unread x2))⟩ ::
      ⟨R10 3 0, aT (l7 arg7 (endB c i arg3 harg3 arg4 harg4 arg5 harg5 arg6 harg6 arg7 harg7 arg8 harg8 arg9 harg9 arg10 harg10 x0 x1 x2).1 3 0) (l9 arg9 (endB c i arg3 harg3 arg4 harg4 arg5 harg5 arg6 harg6 arg7 harg7 arg8 harg8 arg9 harg9 arg10 harg10 x0 x1 x2).2.1 3 0) (l10 arg10 (endB c i arg3 harg3 arg4 harg4 arg5 harg5 arg6 harg6 arg7 harg7 arg8 harg8 arg9 harg9 arg10 harg10 x0 x1 x2).2.2 3 0) (arg5.view.readAt (Elt Ideal) (Rect.unit (s := S1x4x16x80x512) (k0_off40 i) S1x1x1x80x512.size (k0_off40_inb i hc1)).toLoadRect (harg5.unread x2))⟩ ::
      ⟨R10 2 1, aT (l7 arg7 (endB c i arg3 harg3 arg4 harg4 arg5 harg5 arg6 harg6 arg7 harg7 arg8 harg8 arg9 harg9 arg10 harg10 x0 x1 x2).1 2 1) (l9 arg9 (endB c i arg3 harg3 arg4 harg4 arg5 harg5 arg6 harg6 arg7 harg7 arg8 harg8 arg9 harg9 arg10 harg10 x0 x1 x2).2.1 2 1) (l10 arg10 (endB c i arg3 harg3 arg4 harg4 arg5 harg5 arg6 harg6 arg7 harg7 arg8 harg8 arg9 harg9 arg10 harg10 x0 x1 x2).2.2 2 1) (arg5.view.readAt (Elt Ideal) (Rect.unit (s := S1x4x16x80x512) (k0_off38 i) S1x1x1x80x512.size (k0_off38_inb i hc1)).toLoadRect (harg5.unread x2))⟩ ::
      ⟨R10 2 0, aT (l7 arg7 (endB c i arg3 harg3 arg4 harg4 arg5 harg5 arg6 harg6 arg7 harg7 arg8 harg8 arg9 harg9 arg10 harg10 x0 x1 x2).1 2 0) (l9 arg9 (endB c i arg3 harg3 arg4 harg4 arg5 harg5 arg6 harg6 arg7 harg7 arg8 harg8 arg9 harg9 arg10 harg10 x0 x1 x2).2.1 2 0) (l10 arg10 (endB c i arg3 harg3 arg4 harg4 arg5 harg5 arg6 harg6 arg7 harg7 arg8 harg8 arg9 harg9 arg10 harg10 x0 x1 x2).2.2 2 0) (arg5.view.readAt (Elt Ideal) (Rect.unit (s := S1x4x16x80x512) (k0_off38 i) S1x1x1x80x512.size (k0_off38_inb i hc1)).toLoadRect (harg5.unread x2))⟩ ::
      ⟨R10 1 1, aT (l7 arg7 (endB c i arg3 harg3 arg4 harg4 arg5 harg5 arg6 harg6 arg7 harg7 arg8 harg8 arg9 harg9 arg10 harg10 x0 x1 x2).1 1 1) (l9 arg9 (endB c i arg3 harg3 arg4 harg4 arg5 harg5 arg6 harg6 arg7 harg7 arg8 harg8 arg9 harg9 arg10 harg10 x0 x1 x2).2.1 1 1) (l10 arg10 (endB c i arg3 harg3 arg4 harg4 arg5 harg5 arg6 harg6 arg7 harg7 arg8 harg8 arg9 harg9 arg10 harg10 x0 x1 x2).2.2 1 1) (arg5.view.readAt (Elt Ideal) (Rect.unit (s := S1x4x16x80x512) (k0_off36 i) S1x1x1x80x512.size (k0_off36_inb i hc1)).toLoadRect (harg5.unread x2))⟩ ::
      ⟨R10 1 0, aT (l7 arg7 (endB c i arg3 harg3 arg4 harg4 arg5 harg5 arg6 harg6 arg7 harg7 arg8 harg8 arg9 harg9 arg10 harg10 x0 x1 x2).1 1 0) (l9 arg9 (endB c i arg3 harg3 arg4 harg4 arg5 harg5 arg6 harg6 arg7 harg7 arg8 harg8 arg9 harg9 arg10 harg10 x0 x1 x2).2.1 1 0) (l10 arg10 (endB c i arg3 harg3 arg4 harg4 arg5 harg5 arg6 harg6 arg7 harg7 arg8 harg8 arg9 harg9 arg10 harg10 x0 x1 x2).2.2 1 0) (arg5.view.readAt (Elt Ideal) (Rect.unit (s := S1x4x16x80x512) (k0_off36 i) S1x1x1x80x512.size (k0_off36_inb i hc1)).toLoadRect (harg5.unread x2))⟩ ::
      ⟨R10 0 1, aT (l7 arg7 (endB c i arg3 harg3 arg4 harg4 arg5 harg5 arg6 harg6 arg7 harg7 arg8 harg8 arg9 harg9 arg10 harg10 x0 x1 x2).1 0 1) (l9 arg9 (endB c i arg3 harg3 arg4 harg4 arg5 harg5 arg6 harg6 arg7 harg7 arg8 harg8 arg9 harg9 arg10 harg10 x0 x1 x2).2.1 0 1) (l10 arg10 (endB c i arg3 harg3 arg4 harg4 arg5 harg5 arg6 harg6 arg7 harg7 arg8 harg8 arg9 harg9 arg10 harg10 x0 x1 x2).2.2 0 1) (arg5.view.readAt (Elt Ideal) (Rect.unit (s := S1x4x16x80x512) (k0_off34 i) S1x1x1x80x512.size (k0_off34_inb i hc1)).toLoadRect (harg5.unread x2))⟩ ::
      ⟨R10 0 0, aT (l7 arg7 (endB c i arg3 harg3 arg4 harg4 arg5 harg5 arg6 harg6 arg7 harg7 arg8 harg8 arg9 harg9 arg10 harg10 x0 x1 x2).1 0 0) (l9 arg9 (endB c i arg3 harg3 arg4 harg4 arg5 harg5 arg6 harg6 arg7 harg7 arg8 harg8 arg9 harg9 arg10 harg10 x0 x1 x2).2.1 0 0) (l10 arg10 (endB c i arg3 harg3 arg4 harg4 arg5 harg5 arg6 harg6 arg7 harg7 arg8 harg8 arg9 harg9 arg10 harg10 x0 x1 x2).2.2 0 0) (arg5.view.readAt (Elt Ideal) (Rect.unit (s := S1x4x16x80x512) (k0_off34 i) S1x1x1x80x512.size (k0_off34_inb i hc1)).toLoadRect (harg5.unread x2))⟩ :: []) rfl ?_
  rw [vM0 (hc1 := hc1) (ho := ho), vM1 (hc1 := hc1) (ho := ho), vM2 (hc1 := hc1) (ho := ho), vM3 (hc1 := hc1) (ho := ho)]
  rfl

theorem v454_eqB : (kernelRun0_B.sl.v454 (F := Ideal) i arg3 harg3 arg4 harg4 arg8 hc1 x0 x1) = lH arg8 (arg8.view.writes (Elt Ideal) arg8.view.junk (W7 (scT arg3 arg4 (harg3.unread x0) (harg4.unread x1) (blkD i)) [])) 0 :=
  congrArg (fun L => lH arg8 (arg8.view.writes (Elt Ideal) arg8.view.junk L) 0) (mid4 i arg3 harg3 arg4 harg4 hc1 x0 x1)
theorem v463_eqB : (kernelRun0_B.sl.v463 (F := Ideal) c i arg3 harg3 arg4 harg4 arg5 harg5 arg6 harg6 arg7 harg7 arg8 harg8 arg9 harg9 arg10 harg10 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 0 0 :=
  (congrArg (fun L => arg9.view.readAt (Elt Ideal) (R9 0 0).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 0 0)
theorem v474_eqB (ho : (i 2).val % 2 = 1) : (kernelRun0_B.sl.v474 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 0 0 :=
  (congrArg (fun L => arg10.view.readAt (Elt Ideal) (R10 0 0).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 0 0)
theorem v489_eqB : (kernelRun0_B.sl.v489 (F := Ideal) i arg3 harg3 arg4 harg4 arg8 hc1 x0 x1) = (scT arg3 arg4 (harg3.unread x0) (harg4.unread x1) (blkD i)) 0 1 :=
  (congrArg (fun L => arg8.view.readAt (Elt Ideal) (R7 0 1).toLoadRect (arg8.view.writes (Elt Ideal) arg8.view.junk L)) (mid4 i arg3 harg3 arg4 harg4 hc1 x0 x1)).trans (read7 _ _ _ _ 0 1)
theorem v498_eqB : (kernelRun0_B.sl.v498 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 0 1 :=
  (readAt_skip _ _ _ _ _ _ (by decide)).trans ((congrArg (fun L => arg9.view.readAt (Elt Ideal) (R9 0 1).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 0 1))
theorem v509_eqB (ho : (i 2).val % 2 = 1) : (kernelRun0_B.sl.v509 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 0 1 :=
  (readAt_skip _ _ _ _ _ _ (by decide)).trans ((congrArg (fun L => arg10.view.readAt (Elt Ideal) (R10 0 1).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 0 1))
theorem v524_eqB : (kernelRun0_B.sl.v524 (F := Ideal) i arg3 harg3 arg4 harg4 arg8 hc1 x0 x1) = lH arg8 (arg8.view.writes (Elt Ideal) arg8.view.junk (W7 (scT arg3 arg4 (harg3.unread x0) (harg4.unread x1) (blkD i)) [])) 1 :=
  congrArg (fun L => lH arg8 (arg8.view.writes (Elt Ideal) arg8.view.junk L) 1) (mid4 i arg3 harg3 arg4 harg4 hc1 x0 x1)
theorem v533_eqB : (kernelRun0_B.sl.v533 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 1 0 :=
  (readAt_skip _ _ _ _ _ _ (by decide)).trans ((readAt_skip _ _ _ _ _ _ (by decide)).trans ((congrArg (fun L => arg9.view.readAt (Elt Ideal) (R9 1 0).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 1 0)))
theorem v544_eqB (ho : (i 2).val % 2 = 1) : (kernelRun0_B.sl.v544 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 1 0 :=
  (readAt_skip _ _ _ _ _ _ (by decide)).trans ((readAt_skip _ _ _ _ _ _ (by decide)).trans ((congrArg (fun L => arg10.view.readAt (Elt Ideal) (R10 1 0).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 1 0)))
theorem v559_eqB : (kernelRun0_B.sl.v559 (F := Ideal) i arg3 harg3 arg4 harg4 arg8 hc1 x0 x1) = (scT arg3 arg4 (harg3.unread x0) (harg4.unread x1) (blkD i)) 1 1 :=
  (congrArg (fun L => arg8.view.readAt (Elt Ideal) (R7 1 1).toLoadRect (arg8.view.writes (Elt Ideal) arg8.view.junk L)) (mid4 i arg3 harg3 arg4 harg4 hc1 x0 x1)).trans (read7 _ _ _ _ 1 1)
theorem v568_eqB : (kernelRun0_B.sl.v568 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 1 1 :=
  (readAt_skip _ _ _ _ _ _ (by decide)).trans ((readAt_skip _ _ _ _ _ _ (by decide)).trans ((readAt_skip _ _ _ _ _ _ (by decide)).trans ((congrArg (fun L => arg9.view.readAt (Elt Ideal) (R9 1 1).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 1 1))))
theorem v579_eqB (ho : (i 2).val % 2 = 1) : (kernelRun0_B.sl.v579 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 1 1 :=
  (readAt_skip _ _ _ _ _ _ (by decide)).trans ((readAt_skip _ _ _ _ _ _ (by decide)).trans ((readAt_skip _ _ _ _ _ _ (by decide)).trans ((congrArg (fun L => arg10.view.readAt (Elt Ideal) (R10 1 1).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 1 1))))
theorem v594_eqB : (kernelRun0_B.sl.v594 (F := Ideal) i arg3 harg3 arg4 harg4 arg8 hc1 x0 x1) = lH arg8 (arg8.view.writes (Elt Ideal) arg8.view.junk (W7 (scT arg3 arg4 (harg3.unread x0) (harg4.unread x1) (blkD i)) [])) 2 :=
  congrArg (fun L => lH arg8 (arg8.view.writes (Elt Ideal) arg8.view.junk L) 2) (mid4 i arg3 harg3 arg4 harg4 hc1 x0 x1)
theorem v603_eqB : (kernelRun0_B.sl.v603 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 2 0 :=
  (readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 2 0).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 2 0)))))
theorem v614_eqB (ho : (i 2).val % 2 = 1) : (kernelRun0_B.sl.v614 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 2 0 :=
  (readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 2 0).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 2 0)))))
theorem v629_eqB : (kernelRun0_B.sl.v629 (F := Ideal) i arg3 harg3 arg4 harg4 arg8 hc1 x0 x1) = (scT arg3 arg4 (harg3.unread x0) (harg4.unread x1) (blkD i)) 2 1 :=
  (congrArg (fun L => arg8.view.readAt (Elt Ideal) (R7 2 1).toLoadRect (arg8.view.writes (Elt Ideal) arg8.view.junk L)) (mid4 i arg3 harg3 arg4 harg4 hc1 x0 x1)).trans (read7 _ _ _ _ 2 1)
theorem v638_eqB : (kernelRun0_B.sl.v638 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 2 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 2 1).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 2 1))))))
theorem v649_eqB (ho : (i 2).val % 2 = 1) : (kernelRun0_B.sl.v649 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 2 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 2 1).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 2 1))))))
theorem v664_eqB : (kernelRun0_B.sl.v664 (F := Ideal) i arg3 harg3 arg4 harg4 arg8 hc1 x0 x1) = lH arg8 (arg8.view.writes (Elt Ideal) arg8.view.junk (W7 (scT arg3 arg4 (harg3.unread x0) (harg4.unread x1) (blkD i)) [])) 3 :=
  congrArg (fun L => lH arg8 (arg8.view.writes (Elt Ideal) arg8.view.junk L) 3) (mid4 i arg3 harg3 arg4 harg4 hc1 x0 x1)
theorem v673_eqB : (kernelRun0_B.sl.v673 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 3 0 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 3 0).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 3 0)))))))
theorem v684_eqB (ho : (i 2).val % 2 = 1) : (kernelRun0_B.sl.v684 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 3 0 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 3 0).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 3 0)))))))
theorem v699_eqB : (kernelRun0_B.sl.v699 (F := Ideal) i arg3 harg3 arg4 harg4 arg8 hc1 x0 x1) = (scT arg3 arg4 (harg3.unread x0) (harg4.unread x1) (blkD i)) 3 1 :=
  (congrArg (fun L => arg8.view.readAt (Elt Ideal) (R7 3 1).toLoadRect (arg8.view.writes (Elt Ideal) arg8.view.junk L)) (mid4 i arg3 harg3 arg4 harg4 hc1 x0 x1)).trans (read7 _ _ _ _ 3 1)
theorem v708_eqB : (kernelRun0_B.sl.v708 (F := Ideal) c i arg3 harg3 arg4 harg4 arg5 harg5 arg6 harg6 arg7 harg7 arg8 harg8 arg9 harg9 arg10 harg10 hc1 x0 x1 x2) = (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) 3 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg9.view.readAt (Elt Ideal) (R9 3 1).toLoadRect (arg9.view.writes (Elt Ideal) arg9.view.junk L)) (mid5 c i arg3 harg3 arg4 harg4 arg5 harg5 arg6 harg6 arg7 harg7 arg8 harg8 arg9 harg9 arg10 harg10 x0 x1 x2)).trans (read9 _ _ _ _ 3 1))))))))
theorem v719_eqB (ho : (i 2).val % 2 = 1) : (kernelRun0_B.sl.v719 (F := Ideal) c i arg3 harg3 arg4 harg4 arg5 harg5 arg6 harg6 arg7 harg7 arg8 harg8 arg9 harg9 arg10 harg10 hc1 x0 x1 x2) = (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) 3 1 :=
  (readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((readAt_skip _ _ _ _ _ _ (by decide)).trans ((congrArg (fun L => arg10.view.readAt (Elt Ideal) (R10 3 1).toLoadRect (arg10.view.writes (Elt Ideal) arg10.view.junk L)) (mid6 c i arg3 harg3 arg4 harg4 arg5 harg5 arg6 harg6 arg7 harg7 arg8 harg8 arg9 harg9 arg10 harg10 hc1 x0 x1 x2 ho)).trans (read10 _ _ _ _ 3 1))))))))

/-- The accumulators at the end. -/
theorem lastB (ho : (i 2).val % 2 = 1) : kernelRun0_B.sl.HL6_16 (F := Ideal) c i arg3 harg3 arg4 harg4 arg5 harg5 arg6 harg6 arg7 harg7 arg8 harg8 arg9 harg9 arg10 harg10 hc1 x0 x1 x2
    = W10 (aD (lH arg8 (arg8.view.writes (Elt Ideal) arg8.view.junk (W7 (scT arg3 arg4 (harg3.unread x0) (harg4.unread x1) (blkD i)) []))) (fun hd => (scT arg3 arg4 (harg3.unread x0) (harg4.unread x1) (blkD i)) hd 1) (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1) (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) (vH arg5 (harg5.unread x2) (blkD i)) (vT arg5 (harg5.unread x2) (blkD i)))
      (W10 (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2) []) := by
  refine Eq.trans (b := ⟨R10 3 1, amB (kernelRun0_B.sl.v699 (F := Ideal) i arg3 harg3 arg4 harg4 arg8 hc1 x0 x1) (kernelRun0_B.sl.v708 (F := Ideal) c i arg3 harg3 arg4 harg4 arg5 harg5 arg6 harg6 arg7 harg7 arg8 harg8 arg9 harg9 arg10 harg10 hc1 x0 x1 x2) (kernelRun0_B.sl.v719 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off48 i) S1x1x1x80x512.size (k0_off48_inb i hc1)).toLoadRect (harg5.unread x2))⟩ ::
      ⟨R10 3 0, amA (kernelRun0_B.sl.v664 (F := Ideal) i arg3 harg3 arg4 harg4 arg8 hc1 x0 x1) (kernelRun0_B.sl.v673 (F := Ideal) c i arg3 harg3 arg4 harg4 arg5 harg5 arg6 harg6 arg7 harg7 arg8 harg8 arg9 harg9 arg10 harg10 hc1 x0 x1 x2) (kernelRun0_B.sl.v684 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off47 i) S1x1x1x80x256.size (k0_off47_inb i hc1)).toLoadRect (harg5.unread x2))⟩ ::
      ⟨R10 2 1, amB (kernelRun0_B.sl.v629 (F := Ideal) i arg3 harg3 arg4 harg4 arg8 hc1 x0 x1) (kernelRun0_B.sl.v638 (F := Ideal) c i arg3 harg3 arg4 harg4 arg5 harg5 arg6 harg6 arg7 harg7 arg8 harg8 arg9 harg9 arg10 harg10 hc1 x0 x1 x2) (kernelRun0_B.sl.v649 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off46 i) S1x1x1x80x512.size (k0_off46_inb i hc1)).toLoadRect (harg5.unread x2))⟩ ::
      ⟨R10 2 0, amA (kernelRun0_B.sl.v594 (F := Ideal) i arg3 harg3 arg4 harg4 arg8 hc1 x0 x1) (kernelRun0_B.sl.v603 (F := Ideal) c i arg3 harg3 arg4 harg4 arg5 harg5 arg6 harg6 arg7 harg7 arg8 harg8 arg9 harg9 arg10 harg10 hc1 x0 x1 x2) (kernelRun0_B.sl.v614 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off45 i) S1x1x1x80x256.size (k0_off45_inb i hc1)).toLoadRect (harg5.unread x2))⟩ ::
      ⟨R10 1 1, amB (kernelRun0_B.sl.v559 (F := Ideal) i arg3 harg3 arg4 harg4 arg8 hc1 x0 x1) (kernelRun0_B.sl.v568 (F := Ideal) c i arg3 harg3 arg4 harg4 arg5 harg5 arg6 harg6 arg7 harg7 arg8 harg8 arg9 harg9 arg10 harg10 hc1 x0 x1 x2) (kernelRun0_B.sl.v579 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off44 i) S1x1x1x80x512.size (k0_off44_inb i hc1)).toLoadRect (harg5.unread x2))⟩ ::
      ⟨R10 1 0, amA (kernelRun0_B.sl.v524 (F := Ideal) i arg3 harg3 arg4 harg4 arg8 hc1 x0 x1) (kernelRun0_B.sl.v533 (F := Ideal) c i arg3 harg3 arg4 harg4 arg5 harg5 arg6 harg6 arg7 harg7 arg8 harg8 arg9 harg9 arg10 harg10 hc1 x0 x1 x2) (kernelRun0_B.sl.v544 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off43 i) S1x1x1x80x256.size (k0_off43_inb i hc1)).toLoadRect (harg5.unread x2))⟩ ::
      ⟨R10 0 1, amB (kernelRun0_B.sl.v489 (F := Ideal) i arg3 harg3 arg4 harg4 arg8 hc1 x0 x1) (kernelRun0_B.sl.v498 (F := Ideal) c i arg3 harg3 arg4 harg4 arg5 harg5 arg6 harg6 arg7 harg7 arg8 harg8 arg9 harg9 arg10 harg10 hc1 x0 x1 x2) (kernelRun0_B.sl.v509 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off42 i) S1x1x1x80x512.size (k0_off42_inb i hc1)).toLoadRect (harg5.unread x2))⟩ ::
      ⟨R10 0 0, amA (kernelRun0_B.sl.v454 (F := Ideal) i arg3 harg3 arg4 harg4 arg8 hc1 x0 x1) (kernelRun0_B.sl.v463 (F := Ideal) c i arg3 harg3 arg4 harg4 arg5 harg5 arg6 harg6 arg7 harg7 arg8 harg8 arg9 harg9 arg10 harg10 x0 x1 x2) (kernelRun0_B.sl.v474 (F := Ideal) c i arg3 harg3 arg4 harg4 arg5 harg5 arg6 harg6 arg7 harg7 arg8 harg8 arg9 harg9 arg10 harg10 hc1 x0 x1 x2) (arg5.view.readAt (Elt Ideal) (Rect.unit (s := S1x4x16x80x512) (k0_off41 i) S1x1x1x80x256.size (k0_off41_inb i hc1)).toLoadRect (harg5.unread x2))⟩ :: kernelRun0_B.sl.HL6_8 (F := Ideal) c i arg3 harg3 arg4 harg4 arg5 harg5 arg6 harg6 arg7 harg7 arg8 harg8 arg9 harg9 arg10 harg10 hc1 x0 x1 x2) rfl ?_
  rw [v454_eqB (hc1 := hc1), v489_eqB (hc1 := hc1), v524_eqB (hc1 := hc1), v559_eqB (hc1 := hc1), v594_eqB (hc1 := hc1), v629_eqB (hc1 := hc1), v664_eqB (hc1 := hc1), v699_eqB (hc1 := hc1), v463_eqB, v498_eqB (hc1 := hc1), v533_eqB (hc1 := hc1), v568_eqB (hc1 := hc1), v603_eqB (hc1 := hc1), v638_eqB (hc1 := hc1), v673_eqB (hc1 := hc1), v708_eqB (hc1 := hc1),
    v474_eqB c i arg3 harg3 arg4 harg4 arg5 harg5 arg6 harg6 arg7 harg7 arg8 harg8 arg9 harg9 arg10 harg10 hc1 x0 x1 x2 ho, v509_eqB c i arg3 harg3 arg4 harg4 arg5 harg5 arg6 harg6 arg7 harg7 arg8 harg8 arg9 harg9 arg10 harg10 hc1 x0 x1 x2 ho, v544_eqB c i arg3 harg3 arg4 harg4 arg5 harg5 arg6 harg6 arg7 harg7 arg8 harg8 arg9 harg9 arg10 harg10 hc1 x0 x1 x2 ho, v579_eqB c i arg3 harg3 arg4 harg4 arg5 harg5 arg6 harg6 arg7 harg7 arg8 harg8 arg9 harg9 arg10 harg10 hc1 x0 x1 x2 ho, v614_eqB c i arg3 harg3 arg4 harg4 arg5 harg5 arg6 harg6 arg7 harg7 arg8 harg8 arg9 harg9 arg10 harg10 hc1 x0 x1 x2 ho, v649_eqB c i arg3 harg3 arg4 harg4 arg5 harg5 arg6 harg6 arg7 harg7 arg8 harg8 arg9 harg9 arg10 harg10 hc1 x0 x1 x2 ho, v684_eqB c i arg3 harg3 arg4 harg4 arg5 harg5 arg6 harg6 arg7 harg7 arg8 harg8 arg9 harg9 arg10 harg10 hc1 x0 x1 x2 ho, v719_eqB c i arg3 harg3 arg4 harg4 arg5 harg5 arg6 harg6 arg7 harg7 arg8 harg8 arg9 harg9 arg10 harg10 hc1 x0 x1 x2 ho,
    vB00 (hc1 := hc1), vB01 (hc1 := hc1), vB10 (hc1 := hc1), vB11 (hc1 := hc1), vB20 (hc1 := hc1), vB21 (hc1 := hc1), vB30 (hc1 := hc1), vB31 (hc1 := hc1), mid6 c i arg3 harg3 arg4 harg4 arg5 harg5 arg6 harg6 arg7 harg7 arg8 harg8 arg9 harg9 arg10 harg10 hc1 x0 x1 x2 ho]
  rfl

end

end Cert.Flash

end
-- ==== Proof.Column.lean ====
/-
  One column of a point: what its head and half hold before each trip of the loop, and after the diagonal block.
-/
module

public import proofs.«01_k».proof.Proof.Block
public import proofs.«01_k».proof.Proof.Trip2
public import proofs.«01_k».proof.Proof.EpiB

@[expose] public section

set_option maxHeartbeats 400000

noncomputable section

namespace Cert.Flash

open Idealize.ShloMosaic Idealize.ShloMosaic.TcCoe Cert.KernelIdeal Cert.KernelIdeal.Gen

section

variable {S : ℕ → ℝ} {g : Fin 80 → ℕ → EReal} {n : ℕ} {c : Fin 256}
  {m : FVec Ideal S1x1x256 .f32} {a : FVec Ideal S1x80x256 .f32}

/-- A whole block absorbed. -/
theorem Inv.tile (h : Inv S g n (m (ix3 0 0 c)) (fun r => a (ix3 0 r c))) (s : FVec Ideal S1x512x256 .f32)
    (v : FVec Ideal S1x1x1x80x512 .bf16) (hs : ∀ j : Fin 512, s (ix3 0 j c) = ((S (n + j.val) : ℝ) : EReal))
    (hv : ∀ (r : Fin 80) (j : Fin 512), v (ix5 0 0 0 r j) = g r (n + j.val)) :
    Inv S g (n + 512) (mT s m (ix3 0 0 c)) (fun r => aT s m a v (ix3 0 r c)) := by
  have := h.block (N := 512) (K := 512) le_rfl (by decide) (fun j => s (ix3 0 j c)) (fun r j => v (ix5 0 0 0 r j))
    (fun j => by rw [if_pos j.isLt]; exact hs j) (fun r j _ => hv r j)
  unfold mT aT
  simp only [accP_apply]
  rw [maxP_apply]
  exact this

/-- The diagonal block's first half, for a column of the first half, -/
theorem Inv.tileA (h : Inv S g n (m (ix3 0 0 c)) (fun r => a (ix3 0 r c))) (s : FVec Ideal S1x256x256 .f32)
    (v : FVec Ideal S1x1x1x80x256 .bf16) (hs : ∀ j : Fin 256, s (ix3 0 j c) = ((S (n + j.val) : ℝ) : EReal))
    (hv : ∀ (r : Fin 80) (j : Fin 256), v (ix5 0 0 0 r j) = g r (n + j.val)) :
    ∃ μ, Inv S g (n + (c.val + 1)) μ (fun r => amA s m a v (ix3 0 r c)) := by
  have := h.block (N := 256) (K := c.val + 1) c.isLt (by omega) (fun j => if j.val ≤ c.val then s (ix3 0 j c) else ⊥)
    (fun r j => v (ix5 0 0 0 r j))
    (fun j => by
      by_cases hj : j.val ≤ c.val
      · rw [if_pos hj, if_pos (by omega)]; exact hs j
      · rw [if_neg hj, if_neg (by omega)]) (fun r j _ => hv r j)
  unfold amA
  simp only [accA_apply]
  exact ⟨_, this⟩

/-- and the whole of it, for a column of the second half. -/
theorem Inv.tileB (h : Inv S g n (m (ix3 0 0 c)) (fun r => a (ix3 0 r c))) (s : FVec Ideal S1x512x256 .f32)
    (v : FVec Ideal S1x1x1x80x512 .bf16) (hs : ∀ j : Fin 512, s (ix3 0 j c) = ((S (n + j.val) : ℝ) : EReal))
    (hv : ∀ (r : Fin 80) (j : Fin 512), v (ix5 0 0 0 r j) = g r (n + j.val)) :
    ∃ μ, Inv S g (n + (256 + c.val + 1)) μ (fun r => amB s m a v (ix3 0 r c)) := by
  have := h.block (N := 512) (K := 256 + c.val + 1) (by omega) (by omega) (fun j => if j.val ≤ 256 + c.val then s (ix3 0 j c) else ⊥)
    (fun r j => v (ix5 0 0 0 r j))
    (fun j => by
      by_cases hj : j.val ≤ 256 + c.val
      · rw [if_pos hj, if_pos (by omega)]; exact hs j
      · rw [if_neg hj, if_neg (by omega)]) (fun r j _ => hv r j)
  unfold amB
  simp only [accB_apply]
  exact ⟨_, this⟩

end

/-- Either, by the half the column is in. -/
theorem diag {S : ℕ → ℝ} {g : Fin 80 → ℕ → EReal} {n : ℕ} (hd : Fin 4) (h : Fin 2) (c : Fin 256)
    (sH : Fin 4 → FVec Ideal S1x256x256 .f32) (s : Fin 4 → FVec Ideal S1x512x256 .f32)
    (m : Fin 4 → Fin 2 → FVec Ideal S1x1x256 .f32) (a : Fin 4 → Fin 2 → FVec Ideal S1x80x256 .f32)
    (w : Fin 4 → FVec Ideal S1x1x1x80x256 .bf16) (v : Fin 4 → FVec Ideal S1x1x1x80x512 .bf16)
    (hi : Inv S g n (m hd h (ix3 0 0 c)) (fun r => a hd h (ix3 0 r c)))
    (hsH : h = 0 → ∀ j : Fin 256, sH hd (ix3 0 j c) = ((S (n + j.val) : ℝ) : EReal))
    (hs : h = 1 → ∀ j : Fin 512, s hd (ix3 0 j c) = ((S (n + j.val) : ℝ) : EReal))
    (hw : ∀ (r : Fin 80) (j : Fin 256), w hd (ix5 0 0 0 r j) = g r (n + j.val))
    (hv : ∀ (r : Fin 80) (j : Fin 512), v hd (ix5 0 0 0 r j) = g r (n + j.val)) :
    ∃ μ, Inv S g (n + (256 * h.val + c.val + 1)) μ (fun r => aD sH s m a w v hd h (ix3 0 r c)) := by
  match h with
  | 0 =>
    have := Inv.tileA hi (sH hd) (w hd) (hsH rfl) hw
    simpa [aD] using this
  | 1 =>
    have := Inv.tileB hi (s hd) (v hd) (hs rfl) hv
    simpa [aD] using this

/-- What a buffer written whole reads. -/
theorem read_whole {sig' : RefSig} {κ : Kind} {sp : Space} {s : Shape} {e : EltTy} {Val : EltTy → Type} (v : View sig' κ sp s e)
    (f : v.ty.Contents Val) {off : Fin s.rank → ℕ} {inb : ∀ a, off a + s.size a ≤ s.size a} (w : s.Idx → Val e) (y : s.Idx) :
    v.read Val (v.writes Val f [⟨Rect.unit off s.size inb, w⟩]) y = w y := by
  have e : (Rect.unit off s.size inb).emb y = y := by
    funext a
    apply Fin.ext
    have := inb a
    show off a + 1 * (y a).val = (y a).val
    omega
  have := View.read_writes_cons_emb v f (Rect.unit off s.size inb) w [] y
  rwa [e] at this

theorem writes_eq {arg7 : Memref sig .tc .vmem S4x512x512 .f32} {arg9 : Memref sig .tc .vmem S4x1x512 .f32}
    {arg10 : Memref sig .tc .vmem S4x80x512 .f32}
    {p : BufTy.Contents (Elt Ideal) arg7.view.ty × BufTy.Contents (Elt Ideal) arg9.view.ty × BufTy.Contents (Elt Ideal) arg10.view.ty}
    {L7 L7' : List (View.Piece (Elt Ideal) S4x512x512 .f32)} {L9 L9' : List (View.Piece (Elt Ideal) S4x1x512 .f32)}
    {L10 L10' : List (View.Piece (Elt Ideal) S4x80x512 .f32)} (h7 : L7 = L7') (h9 : L9 = L9') (h10 : L10 = L10') :
    (arg7.view.writes (Elt Ideal) p.1 L7, arg9.view.writes (Elt Ideal) p.2.1 L9, arg10.view.writes (Elt Ideal) p.2.2 L10)
      = (arg7.view.writes (Elt Ideal) p.1 L7', arg9.view.writes (Elt Ideal) p.2.1 L9', arg10.view.writes (Elt Ideal) p.2.2 L10') := by
  subst h7 h9 h10; rfl

theorem init9 (arg9 : Memref sig .tc .vmem S4x1x512 .f32) (hd : Fin 4) (h : Fin 2) (cc : Fin 256) :
    l9 arg9 (arg9.view.writes (Elt Ideal) arg9.view.junk [⟨Rect.unit (s := S4x1x512) ![0, 0, 0] S4x1x512.size inb_S4x1x512_S4x1x512_0_0_0, k0_pay400 (F := Ideal)⟩]) hd h (ix3 0 0 cc) = ⊥ := by
  show arg9.view.read (Elt Ideal) _ ((R9 hd h).toLoadRect.idx (ix3 0 0 cc)) = ⊥
  rw [read_whole]
  exact m0_apply _

theorem init10 (arg10 : Memref sig .tc .vmem S4x80x512 .f32) (hd : Fin 4) (h : Fin 2) (r : Fin 80) (cc : Fin 256) :
    l10 arg10 (arg10.view.writes (Elt Ideal) arg10.view.junk [⟨Rect.unit (s := S4x80x512) ![0, 0, 0] S4x80x512.size inb_S4x80x512_S4x80x512_0_0_0, k0_pay401 (F := Ideal)⟩]) hd h (ix3 0 r cc) = 0 := by
  show arg10.view.read (Elt Ideal) _ ((R10 hd h).toLoadRect.idx (ix3 0 r cc)) = 0
  rw [read_whole]
  exact a0_apply _

section

variable (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole)
  (arg2 : BitVec 32) (c2_i32 : BitVec 32) (v72 : BitVec 32) (v74 : BitVec 32) (v75 : BitVec 1)
  (X3 : BufTy.Contents (Elt Ideal) arg3.view.ty) (X4 : BufTy.Contents (Elt Ideal) arg4.view.ty)
  (X5 : BufTy.Contents (Elt Ideal) arg5.view.ty) (G7 : BufTy.Contents (Elt Ideal) arg7.view.ty)
  (G9 : BufTy.Contents (Elt Ideal) arg9.view.ty) (G10 : BufTy.Contents (Elt Ideal) arg10.view.ty)

theorem succ_eq (n : ℕ) (hlt : n < (k0_t1_loop i).trips)
    (p : BufTy.Contents (Elt Ideal) arg7.view.ty × BufTy.Contents (Elt Ideal) arg9.view.ty × BufTy.Contents (Elt Ideal) arg10.view.ty)
    (hp : lpSt (F := Ideal) Variants.none c none i arg3 harg3 arg4 harg4 arg5 harg5 arg6 harg6 arg7 harg7 arg8 harg8 arg9 harg9 arg10 harg10 arg2 c2_i32 v72 v74 v75 X3 X4 X5 G7 G9 G10 n = p) :
    lpSt (F := Ideal) Variants.none c none i arg3 harg3 arg4 harg4 arg5 harg5 arg6 harg6 arg7 harg7 arg8 harg8 arg9 harg9 arg10 harg10 arg2 c2_i32 v72 v74 v75 X3 X4 X5 G7 G9 G10 (n + 1)
      = (arg7.view.writes (Elt Ideal) p.1 (tripL_k0_t1 (F := Ideal) Variants.none c none i arg3 harg3 arg4 harg4 arg5 harg5 arg6 harg6 arg7 harg7 arg8 harg8 arg9 harg9 arg10 harg10 arg2 c2_i32 v72 v74 v75 X3 X4 X5 ⟨n, hlt⟩ p.1 arg8.view.junk p.2.1 p.2.2).1,
         arg9.view.writes (Elt Ideal) p.2.1 (tripL_k0_t1 (F := Ideal) Variants.none c none i arg3 harg3 arg4 harg4 arg5 harg5 arg6 harg6 arg7 harg7 arg8 harg8 arg9 harg9 arg10 harg10 arg2 c2_i32 v72 v74 v75 X3 X4 X5 ⟨n, hlt⟩ p.1 arg8.view.junk p.2.1 p.2.2).2.2.1,
         arg10.view.writes (Elt Ideal) p.2.2 (tripL_k0_t1 (F := Ideal) Variants.none c none i arg3 harg3 arg4 harg4 arg5 harg5 arg6 harg6 arg7 harg7 arg8 harg8 arg9 harg9 arg10 harg10 arg2 c2_i32 v72 v74 v75 X3 X4 X5 ⟨n, hlt⟩ p.1 arg8.view.junk p.2.1 p.2.2).2.2.2) := by
  subst hp
  exact dif_pos hlt

/-- The state before trip `n`, from scratch buffers that hold block 0's scores, minus infinity and 0. -/
theorem loop_state (S : ℕ → ℝ) (g : Fin 80 → ℕ → EReal) (hd : Fin 4) (h : Fin 2) (cc : Fin 256)
    (hS : ∀ (b : Fin 16) (j : Fin 512), scT arg3 arg4 X3 X4 b hd h (ix3 0 j cc) = ((S (512 * b.val + j.val) : ℝ) : EReal))
    (hV : ∀ (b : Fin 16) (r : Fin 80) (j : Fin 512), vT arg5 X5 b hd (ix5 0 0 0 r j) = g r (512 * b.val + j.val))
    (h7 : l7 arg7 G7 hd h = scT arg3 arg4 X3 X4 0 hd h) (h9 : l9 arg9 G9 hd h (ix3 0 0 cc) = ⊥)
    (h10 : ∀ r : Fin 80, l10 arg10 G10 hd h (ix3 0 r cc) = 0)
    (n : ℕ) (hn : n ≤ (k0_t1_loop i).trips) (h16 : 2 * n < 16) :
    (l7 arg7 (lpSt (F := Ideal) Variants.none c none i arg3 harg3 arg4 harg4 arg5 harg5 arg6 harg6 arg7 harg7 arg8 harg8 arg9 harg9 arg10 harg10 arg2 c2_i32 v72 v74 v75 X3 X4 X5 G7 G9 G10 n).1 hd h
      = scT arg3 arg4 X3 X4 ⟨2 * n, h16⟩ hd h) ∧
    Inv S g (512 * (2 * n))
      (l9 arg9 (lpSt (F := Ideal) Variants.none c none i arg3 harg3 arg4 harg4 arg5 harg5 arg6 harg6 arg7 harg7 arg8 harg8 arg9 harg9 arg10 harg10 arg2 c2_i32 v72 v74 v75 X3 X4 X5 G7 G9 G10 n).2.1 hd h (ix3 0 0 cc))
      (fun r => l10 arg10 (lpSt (F := Ideal) Variants.none c none i arg3 harg3 arg4 harg4 arg5 harg5 arg6 harg6 arg7 harg7 arg8 harg8 arg9 harg9 arg10 harg10 arg2 c2_i32 v72 v74 v75 X3 X4 X5 G7 G9 G10 n).2.2 hd h (ix3 0 r cc)) := by
  induction n with
  | zero =>
    rw [lpSt]
    exact ⟨h7, .inl ⟨rfl, h9, h10⟩⟩
  | succ n ih =>
    have hlt : n < (k0_t1_loop i).trips := hn
    obtain ⟨i1, i2⟩ := ih hlt.le (by omega)
    generalize hp : lpSt (F := Ideal) Variants.none c none i arg3 harg3 arg4 harg4 arg5 harg5 arg6 harg6 arg7 harg7 arg8 harg8 arg9 harg9 arg10 harg10 arg2 c2_i32 v72 v74 v75 X3 X4 X5 G7 G9 G10 n = p at i1 i2
    have e := (succ_eq c i arg3 harg3 arg4 harg4 arg5 harg5 arg6 harg6 arg7 harg7 arg8 harg8 arg9 harg9 arg10 harg10 arg2 c2_i32 v72 v74 v75 X3 X4 X5 G7 G9 G10 n hlt p hp).trans
      (writes_eq (trip7 Variants.none c none i arg3 harg3 arg4 harg4 arg5 harg5 arg6 harg6 arg7 harg7 arg8 harg8 arg9 harg9 arg10 harg10 arg2 c2_i32 v72 v74 v75 X3 X4 X5 ⟨n, hlt⟩ p.1 arg8.view.junk p.2.1 p.2.2) (trip9 Variants.none c none i arg3 harg3 arg4 harg4 arg5 harg5 arg6 harg6 arg7 harg7 arg8 harg8 arg9 harg9 arg10 harg10 arg2 c2_i32 v72 v74 v75 X3 X4 X5 ⟨n, hlt⟩ p.1 arg8.view.junk p.2.1 p.2.2) (trip10 Variants.none c none i arg3 harg3 arg4 harg4 arg5 harg5 arg6 harg6 arg7 harg7 arg8 harg8 arg9 harg9 arg10 harg10 arg2 c2_i32 v72 v74 v75 X3 X4 X5 ⟨n, hlt⟩ p.1 arg8.view.junk p.2.1 p.2.2))
    rw [e]
    refine ⟨read7 _ _ _ _ hd h, ?_⟩
    have e9 := read9 arg9.view p.2.1 (m2 i arg3 arg4 arg7 arg9 X3 X4 ⟨n, hlt⟩ p.1 p.2.1) (W9 (m1 arg7 arg9 p.1 p.2.1) []) hd h
    have e10 := read10 arg10.view p.2.2 (a2 i arg3 arg4 arg5 arg7 arg9 arg10 X3 X4 X5 ⟨n, hlt⟩ p.1 p.2.1 p.2.2) (W10 (a1 i arg5 arg7 arg9 arg10 X5 ⟨n, hlt⟩ p.1 p.2.1 p.2.2) []) hd h
    unfold l9 l10
    rw [e9, e10]
    have s1 := i2.tile (l7 arg7 p.1 hd h) (vT arg5 X5 (blk0 i ⟨n, hlt⟩) hd)
      (fun j => by rw [i1]; exact hS _ j) (fun r j => hV _ r j)
    have s2 := s1.tile (scT arg3 arg4 X3 X4 (blk1 i ⟨n, hlt⟩) hd h) (vT arg5 X5 (blk1 i ⟨n, hlt⟩) hd)
      (fun j => hS _ j) (fun r j => hV _ r j)
    have en : 512 * (2 * (n + 1)) = 512 * (2 * n) + 512 + 512 := by ring
    rw [en]
    exact s2

end

end Cert.Flash

end
-- ==== Proof.Point.lean ====
/-
  What a point of the kernel writes, at an index: the weighted sum of the values of the keys up to the query.
-/
module

public import proofs.«01_k».proof.Proof.Column
public import proofs.«01_k».proof.Proof.KernelIdeal.Frame

@[expose] public section

set_option maxHeartbeats 400000

noncomputable section

namespace Cert.Flash

open Idealize.ShloMosaic Idealize.ShloMosaic.TcCoe Cert.KernelIdeal Cert.KernelIdeal.Gen

theorem inb64 (hd : Fin 4) : ∀ a, (![hd.val, 0, 0] : Fin 3 → ℕ) a + S1x64x512.size a ≤ S4x80x512.size a := by revert hd; decide
theorem inb1 (hd : Fin 4) : ∀ a, (![hd.val, 64, 0] : Fin 3 → ℕ) a + S1x1x512.size a ≤ S4x80x512.size a := by revert hd; decide

section

variable (arg10 : Memref sig .tc .vmem S4x80x512 .f32) (f : BufTy.Contents (Elt Ideal) arg10.view.ty)

/-- A head's sums, and its sum of weights. -/
def oT (hd : Fin 4) : FVec Ideal S1x64x512 .f32 :=
  arg10.view.readAt (Elt Ideal) (Rect.unit (s := S4x80x512) ![hd.val, 0, 0] S1x64x512.size (inb64 hd)).toLoadRect f
def dT (hd : Fin 4) : FVec Ideal S1x1x512 .f32 :=
  arg10.view.readAt (Elt Ideal) (Rect.unit (s := S4x80x512) ![hd.val, 64, 0] S1x1x512.size (inb1 hd)).toLoadRect f

/-- The output block. -/
def outT : FVec Ideal S1x512x256 .bf16 :=
  k0_pay1 (F := Ideal) (k0_pay420 (oT arg10 f 0) (dT arg10 f 0)) (k0_pay420 (oT arg10 f 1) (dT arg10 f 1))
    (k0_pay420 (oT arg10 f 2) (dT arg10 f 2)) (oT arg10 f 3) (dT arg10 f 3)

theorem outT_apply (hd : Fin 4) (d : Fin 64) (c : Fin 512) (n : Fin 256) (hn : n.val = 64 * hd.val + d.val) :
    outT arg10 f (ix3 0 c n)
      = arg10.view.read (Elt Ideal) f (ix3 hd ⟨d.val, by omega⟩ c) * Ideal.div 1 (arg10.view.read (Elt Ideal) f (ix3 hd 64 c)) := by
  have hd' : (⟨n.val % 64, Nat.mod_lt _ (by decide)⟩ : Fin 64) = d := Fin.ext (show n.val % 64 = d.val by omega)
  rw [← out64 arg10.view f hd (inb64 hd) d c, ← out1 arg10.view f hd (inb1 hd) c]
  unfold outT
  rw [out_apply, hd', quot_apply, quot_apply, quot_apply]
  match hd with
  | 0 =>
    rw [if_pos (show n.val < 64 by have : n.val = 64 * 0 + d.val := hn; omega)]; rfl
  | 1 =>
    have : n.val = 64 * 1 + d.val := hn
    rw [if_neg (show ¬n.val < 64 by omega), if_pos (show n.val < 128 by omega)]; rfl
  | 2 =>
    have : n.val = 64 * 2 + d.val := hn
    rw [if_neg (show ¬n.val < 64 by omega), if_neg (show ¬n.val < 128 by omega), if_pos (show n.val < 192 by omega)]; rfl
  | 3 =>
    have : n.val = 64 * 3 + d.val := hn
    rw [if_neg (show ¬n.val < 64 by omega), if_neg (show ¬n.val < 128 by omega), if_neg (show ¬n.val < 192 by omega)]; rfl

end

/-- The softmax-weighted sum of the first `n` values. -/
def soft (S : ℕ → ℝ) (g : ℕ → EReal) (n : ℕ) : EReal :=
  ∑ j ∈ Finset.range n, g j * ((Real.rpow 2 (S j) / ∑ j ∈ Finset.range n, Real.rpow 2 (S j) : ℝ) : EReal)

section

variable (c : Dev nD) (i : grid0.Coords) (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x1x512 .f32) (harg9 : arg9.IsWhole) (arg10 : Memref sig .tc .vmem S4x80x512 .f32) (harg10 : arg10.IsWhole)
  (x0 : Vec Ideal S1x4x512x128 .bf16) (x1 : Vec Ideal S1x4x8192x128 .bf16) (x2 : Vec Ideal S1x4x16x80x512 .bf16)
  (S : ℕ → ℝ) (g : Fin 80 → ℕ → EReal) (hd : Fin 4) (h : Fin 2) (cc : Fin 256) (d : Fin 64)
  (hS : ∀ (b : Fin 16) (j : Fin 512), scT arg3 arg4 (harg3.unread x0) (harg4.unread x1) b hd h (ix3 0 j cc) = ((S (512 * b.val + j.val) : ℝ) : EReal))
  (hV : ∀ (b : Fin 16) (r : Fin 80) (j : Fin 512), vT arg5 (harg5.unread x2) b hd (ix5 0 0 0 r j) = g r (512 * b.val + j.val))

include hS hV in
/-- What the loop leaves, for a column. -/
theorem endA_state (b : Fin 16) (hb : b.val = 2 * ((i 2).val / 2)) :
    (l7 arg7 (endA c i arg3 harg3 arg4 harg4 arg5 harg5 arg6 harg6 arg7 harg7 arg8 harg8 arg9 harg9 arg10 harg10 x0 x1 x2).1 hd h = scT arg3 arg4 (harg3.unread x0) (harg4.unread x1) b hd h) ∧
    Inv S g (512 * b.val) (l9 arg9 (endA c i arg3 harg3 arg4 harg4 arg5 harg5 arg6 harg6 arg7 harg7 arg8 harg8 arg9 harg9 arg10 harg10 x0 x1 x2).2.1 hd h (ix3 0 0 cc))
      (fun r => l10 arg10 (endA c i arg3 harg3 arg4 harg4 arg5 harg5 arg6 harg6 arg7 harg7 arg8 harg8 arg9 harg9 arg10 harg10 x0 x1 x2).2.2 hd h (ix3 0 r cc)) := by
  have ht := trips_eq i
  have e : endA c i arg3 harg3 arg4 harg4 arg5 harg5 arg6 harg6 arg7 harg7 arg8 harg8 arg9 harg9 arg10 harg10 x0 x1 x2 = _ := lpEnd_eq (F := Ideal) Variants.none c none i arg3 harg3 arg4 harg4 arg5 harg5 arg6 harg6 arg7 harg7 arg8 harg8 arg9 harg9 arg10 harg10 (BitVec.ofNat 32 (i 2).val) 2#32 (kernelRun0_A.sl.v72 i) (kernelRun0_A.sl.v74 i) (kernelRun0_A.sl.v75 i)
    (harg3.unread x0) (harg4.unread x1) (harg5.unread x2)
    (arg7.view.writes (Elt Ideal) arg7.view.junk (kernelRun0_A.sl.HS0_8 (F := Ideal) c arg3 harg3 arg4 harg4 x0 x1))
    (arg9.view.writes (Elt Ideal) arg9.view.junk (kernelRun0_A.sl.HS2_1 (F := Ideal)))
    (arg10.view.writes (Elt Ideal) arg10.view.junk (kernelRun0_A.sl.HS3_1 (F := Ideal)))
  rw [e]
  have hb' : (⟨2 * (k0_t1_loop i).trips, by have := b.isLt; omega⟩ : Fin 16) = b := Fin.ext (show 2 * (k0_t1_loop i).trips = b.val by omega)
  have r := loop_state c i arg3 harg3 arg4 harg4 arg5 harg5 arg6 harg6 arg7 harg7 arg8 harg8 arg9 harg9 arg10 harg10 (BitVec.ofNat 32 (i 2).val) 2#32 (kernelRun0_A.sl.v72 i) (kernelRun0_A.sl.v74 i) (kernelRun0_A.sl.v75 i)
    (harg3.unread x0) (harg4.unread x1) (harg5.unread x2)
    (arg7.view.writes (Elt Ideal) arg7.view.junk (kernelRun0_A.sl.HS0_8 (F := Ideal) c arg3 harg3 arg4 harg4 x0 x1))
    (arg9.view.writes (Elt Ideal) arg9.view.junk (kernelRun0_A.sl.HS2_1 (F := Ideal)))
    (arg10.view.writes (Elt Ideal) arg10.view.junk (kernelRun0_A.sl.HS3_1 (F := Ideal)))
    S g hd h cc hS hV (by rw [startA7]; exact read7 _ _ _ _ hd h) (init9 arg9 hd h cc) (fun r => init10 arg10 hd h r cc)
    (k0_t1_loop i).trips le_rfl (by have := b.isLt; omega)
  rw [hb', show 2 * (k0_t1_loop i).trips = b.val from congrArg Fin.val hb'] at r
  exact r

include hS hV in
/-- What the loop leaves, for a column. -/
theorem endB_state (b : Fin 16) (hb : b.val = 2 * ((i 2).val / 2)) :
    (l7 arg7 (endB c i arg3 harg3 arg4 harg4 arg5 harg5 arg6 harg6 arg7 harg7 arg8 harg8 arg9 harg9 arg10 harg10 x0 x1 x2).1 hd h = scT arg3 arg4 (harg3.unread x0) (harg4.unread x1) b hd h) ∧
    Inv S g (512 * b.val) (l9 arg9 (endB c i arg3 harg3 arg4 harg4 arg5 harg5 arg6 harg6 arg7 harg7 arg8 harg8 arg9 harg9 arg10 harg10 x0 x1 x2).2.1 hd h (ix3 0 0 cc))
      (fun r => l10 arg10 (endB c i arg3 harg3 arg4 harg4 arg5 harg5 arg6 harg6 arg7 harg7 arg8 harg8 arg9 harg9 arg10 harg10 x0 x1 x2).2.2 hd h (ix3 0 r cc)) := by
  have ht := trips_eq i
  have e : endB c i arg3 harg3 arg4 harg4 arg5 harg5 arg6 harg6 arg7 harg7 arg8 harg8 arg9 harg9 arg10 harg10 x0 x1 x2 = _ := lpEnd_eq (F := Ideal) Variants.none c none i arg3 harg3 arg4 harg4 arg5 harg5 arg6 harg6 arg7 harg7 arg8 harg8 arg9 harg9 arg10 harg10 (BitVec.ofNat 32 (i 2).val) 2#32 (kernelRun0_B.sl.v72 i) (kernelRun0_B.sl.v74 i) (kernelRun0_B.sl.v75 i)
    (harg3.unread x0) (harg4.unread x1) (harg5.unread x2)
    (arg7.view.writes (Elt Ideal) arg7.view.junk (kernelRun0_B.sl.HS0_8 (F := Ideal) c arg3 harg3 arg4 harg4 x0 x1))
    (arg9.view.writes (Elt Ideal) arg9.view.junk (kernelRun0_B.sl.HS2_1 (F := Ideal)))
    (arg10.view.writes (Elt Ideal) arg10.view.junk (kernelRun0_B.sl.HS3_1 (F := Ideal)))
  rw [e]
  have hb' : (⟨2 * (k0_t1_loop i).trips, by have := b.isLt; omega⟩ : Fin 16) = b := Fin.ext (show 2 * (k0_t1_loop i).trips = b.val by omega)
  have r := loop_state c i arg3 harg3 arg4 harg4 arg5 harg5 arg6 harg6 arg7 harg7 arg8 harg8 arg9 harg9 arg10 harg10 (BitVec.ofNat 32 (i 2).val) 2#32 (kernelRun0_B.sl.v72 i) (kernelRun0_B.sl.v74 i) (kernelRun0_B.sl.v75 i)
    (harg3.unread x0) (harg4.unread x1) (harg5.unread x2)
    (arg7.view.writes (Elt Ideal) arg7.view.junk (kernelRun0_B.sl.HS0_8 (F := Ideal) c arg3 harg3 arg4 harg4 x0 x1))
    (arg9.view.writes (Elt Ideal) arg9.view.junk (kernelRun0_B.sl.HS2_1 (F := Ideal)))
    (arg10.view.writes (Elt Ideal) arg10.view.junk (kernelRun0_B.sl.HS3_1 (F := Ideal)))
    S g hd h cc hS hV (by rw [startB7]; exact read7 _ _ _ _ hd h) (init9 arg9 hd h cc) (fun r => init10 arg10 hd h r cc)
    (k0_t1_loop i).trips le_rfl (by have := b.isLt; omega)
  rw [hb', show 2 * (k0_t1_loop i).trips = b.val from congrArg Fin.val hb'] at r
  exact r

/-- The output block an even point leaves. -/
theorem blockA (hc0 : cond0_0 i) (hc1 : ¬cond0_1 i) : out0_A_3 (F := Ideal) c i arg3 harg3 arg4 harg4 arg5 harg5 arg6 harg6 arg7 harg7 arg8 harg8 arg9 harg9 arg10 harg10 hc0 hc1 x0 x1 x2
    = outT arg10 (arg10.view.writes (Elt Ideal) arg10.view.junk (kernelRun0_A.sl.HL6_8 (F := Ideal) c i arg3 harg3 arg4 harg4 arg5 harg5 arg6 harg6 arg7 harg7 arg8 harg8 arg9 harg9 arg10 harg10 hc0 x0 x1 x2)) := by
  funext y
  exact read_whole (Val := Elt Ideal) VO0_3 VO0_3.junk (inb := inb_S1x512x256_S1x512x256_0_0_0) _ y

/-- The output block an odd point leaves. -/
theorem blockB (hc0 : ¬cond0_0 i) (hc1 : cond0_1 i) : out0_B_3 (F := Ideal) c i arg3 harg3 arg4 harg4 arg5 harg5 arg6 harg6 arg7 harg7 arg8 harg8 arg9 harg9 arg10 harg10 hc0 hc1 x0 x1 x2
    = outT arg10 (arg10.view.writes (Elt Ideal) arg10.view.junk (kernelRun0_B.sl.HL6_16 (F := Ideal) c i arg3 harg3 arg4 harg4 arg5 harg5 arg6 harg6 arg7 harg7 arg8 harg8 arg9 harg9 arg10 harg10 hc1 x0 x1 x2)) := by
  funext y
  exact read_whole (Val := Elt Ideal) VO0_3 VO0_3.junk (inb := inb_S1x512x256_S1x512x256_0_0_0) _ y

include hS hV in
theorem outA_apply (hc0 : cond0_0 i) (hc1 : ¬cond0_1 i) (he : (i 2).val % 2 = 0) (h1 : ∀ j, g 64 j = 1) (n : Fin 256) (hn : n.val = 64 * hd.val + d.val) :
    out0_A_3 (F := Ideal) c i arg3 harg3 arg4 harg4 arg5 harg5 arg6 harg6 arg7 harg7 arg8 harg8 arg9 harg9 arg10 harg10 hc0 hc1 x0 x1 x2 (ix3 0 ⟨256 * h.val + cc.val, by omega⟩ n)
      = soft S (g ⟨d.val, by omega⟩) (512 * (i 2).val + (256 * h.val + cc.val + 1)) := by
  obtain ⟨e7, hi⟩ := endA_state c i arg3 harg3 arg4 harg4 arg5 harg5 arg6 harg6 arg7 harg7 arg8 harg8 arg9 harg9 arg10 harg10 x0 x1 x2 S g hd h cc hS hV (blkD i) (show (i 2).val = _ by omega)
  obtain ⟨μ, hI⟩ := diag hd h cc (lH arg7 (endA c i arg3 harg3 arg4 harg4 arg5 harg5 arg6 harg6 arg7 harg7 arg8 harg8 arg9 harg9 arg10 harg10 x0 x1 x2).1) (fun hd => l7 arg7 (endA c i arg3 harg3 arg4 harg4 arg5 harg5 arg6 harg6 arg7 harg7 arg8 harg8 arg9 harg9 arg10 harg10 x0 x1 x2).1 hd 1) (l9 arg9 (endA c i arg3 harg3 arg4 harg4 arg5 harg5 arg6 harg6 arg7 harg7 arg8 harg8 arg9 harg9 arg10 harg10 x0 x1 x2).2.1) (l10 arg10 (endA c i arg3 harg3 arg4 harg4 arg5 harg5 arg6 harg6 arg7 harg7 arg8 harg8 arg9 harg9 arg10 harg10 x0 x1 x2).2.2)
    (vH arg5 (harg5.unread x2) (blkD i)) (vT arg5 (harg5.unread x2) (blkD i)) hi
    (fun h0 j => by subst h0; rw [lH_apply, e7]; exact hS _ _)
    (fun h0 j => by subst h0; show l7 arg7 (endA c i arg3 harg3 arg4 harg4 arg5 harg5 arg6 harg6 arg7 harg7 arg8 harg8 arg9 harg9 arg10 harg10 x0 x1 x2).1 hd 1 (ix3 0 j cc) = _; rw [e7]; exact hS _ _)
    (fun r j => by rw [vH_apply]; have := hV (blkD i) r ⟨j.val, by omega⟩; rw [vT_apply] at this; exact this)
    (fun r j => hV _ r j)
  rw [blockA, lastA]
  rw [outT_apply arg10 _ hd d _ n hn, acc_at, acc_at]
  have h0 : 0 < 512 * (i 2).val + (256 * h.val + cc.val + 1) := by omega
  have := hI.out h0 (⟨d.val, by omega⟩ : Fin 80) 64 h1
  exact this

include hS hV in
theorem outB_apply (hc0 : ¬cond0_0 i) (hc1 : cond0_1 i) (ho : (i 2).val % 2 = 1) (h1 : ∀ j, g 64 j = 1) (n : Fin 256) (hn : n.val = 64 * hd.val + d.val) :
    out0_B_3 (F := Ideal) c i arg3 harg3 arg4 harg4 arg5 harg5 arg6 harg6 arg7 harg7 arg8 harg8 arg9 harg9 arg10 harg10 hc0 hc1 x0 x1 x2 (ix3 0 ⟨256 * h.val + cc.val, by omega⟩ n)
      = soft S (g ⟨d.val, by omega⟩) (512 * (i 2).val + (256 * h.val + cc.val + 1)) := by
  obtain ⟨e7, hi⟩ := endB_state c i arg3 harg3 arg4 harg4 arg5 harg5 arg6 harg6 arg7 harg7 arg8 harg8 arg9 harg9 arg10 harg10 x0 x1 x2 S g hd h cc hS hV (blkE i) (show (i 2).val - 1 = _ by omega)
  have hi2 := hi.tile (l7 arg7 (endB c i arg3 harg3 arg4 harg4 arg5 harg5 arg6 harg6 arg7 harg7 arg8 harg8 arg9 harg9 arg10 harg10 x0 x1 x2).1 hd h) (vT arg5 (harg5.unread x2) (blkE i) hd) (fun j => by rw [e7]; exact hS _ j) (fun r j => hV _ r j)
  have en : 512 * (blkE i).val + 512 = 512 * (i 2).val := by show 512 * ((i 2).val - 1) + 512 = _; omega
  rw [en] at hi2
  obtain ⟨μ, hI⟩ := diag hd h cc (lH arg8 (arg8.view.writes (Elt Ideal) arg8.view.junk (W7 (scT arg3 arg4 (harg3.unread x0) (harg4.unread x1) (blkD i)) [])))
    (fun hd => scT arg3 arg4 (harg3.unread x0) (harg4.unread x1) (blkD i) hd 1) (m1 arg7 arg9 (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1)
    (aM arg5 arg7 arg9 arg10 (harg5.unread x2) (blkE i) (endB c i arg3 harg3 arg4 harg4 arg5 harg5 arg6 harg6 arg7 harg7 arg8 harg8 arg9 harg9 arg10 harg10 x0 x1 x2).1 (endB c i arg3 harg3 arg4 harg4 arg5 harg5 arg6 harg6 arg7 harg7 arg8 harg8 arg9 harg9 arg10 harg10 x0 x1 x2).2.1 (endB c i arg3 harg3 arg4 harg4 arg5 harg5 arg6 harg6 arg7 harg7 arg8 harg8 arg9 harg9 arg10 harg10 x0 x1 x2).2.2)
    (vH arg5 (harg5.unread x2) (blkD i)) (vT arg5 (harg5.unread x2) (blkD i)) hi2
    (fun h0 j => by
      subst h0
      rw [lH_apply, show l7 arg8 (arg8.view.writes (Elt Ideal) arg8.view.junk (W7 (scT arg3 arg4 (harg3.unread x0) (harg4.unread x1) (blkD i)) [])) hd 0
        = scT arg3 arg4 (harg3.unread x0) (harg4.unread x1) (blkD i) hd 0 from read7 _ _ _ _ hd 0]
      exact hS _ _)
    (fun h0 j => by subst h0; exact hS _ _)
    (fun r j => by rw [vH_apply]; have := hV (blkD i) r ⟨j.val, by omega⟩; rw [vT_apply] at this; exact this)
    (fun r j => hV _ r j)
  rw [blockB, lastB (ho := ho)]
  rw [outT_apply arg10 _ hd d _ n hn, acc_at, acc_at]
  have h0 : 0 < 512 * (i 2).val + (256 * h.val + cc.val + 1) := by omega
  have := hI.out h0 (⟨d.val, by omega⟩ : Fin 80) 64 h1
  exact this

end

end Cert.Flash

end
-- ==== Proof.Host.lean ====
module

public import proofs.«01_k».proof.Proof.Point
public import proofs.«01_k».proof.Proof.KernelIdeal.Value
public import Idealize.ShloMosaic.Lib.StableHlo.ReadAt

@[expose] public section

noncomputable section

namespace Cert.Flash

open Idealize.ShloMosaic Idealize.ShloMosaic.TcCoe Cert.KernelIdeal Cert.KernelIdeal.Gen

theorem ofBits_eighth : Ideal.ofBits .f32 0x3E000000#32 = ((1 / 8 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

/-- One over the logarithm of two. -/
def L2E : ℝ := 1 / Real.log 2

theorem div_log_two : Ideal.div 1 (Ideal.log (Ideal.ofBits .f32 0x40000000#32)) = ((L2E : ℝ) : EReal) := by
  have h : (0 : ℝ) < Real.log 2 := Real.log_pos (by norm_num)
  rw [ofBits_two, show Ideal.log ((2 : ℝ) : EReal) = ((Real.log 2 : ℝ) : EReal) from if_neg (by norm_num)]
  unfold Ideal.div L2E
  rw [if_neg (by exact_mod_cast h.ne'), one_mul, one_div, EReal.coe_inv]

/-- The running sum of the logarithms of the forget gates. -/
def cum (X : FVec Ideal S2x8192x16 .f32) : FVec Ideal S2x8192x16 .f32 :=
  Host.reduceWindowAdd ![1, 8192, 1] ![1, 1, 1] ![0, 8191, 0] ![0, 0, 0] X
    (broadcastInDim S_ ![] Facts₀.bcast_S_S_ (constant (F := Ideal) S_ FTy.f32 0#32))
    Facts₀.reduceWindows_S2x8192x16_S2x8192x16_w1s1p0_0_w8192s1p8191_0_w1s1p0_0 Facts₀.h_S_

theorem fold_real {α : Type} (l : List α) (g : α → EReal) (hg : ∀ a, ∃ r : ℝ, g a = r) (v : EReal) (hv : ∃ r : ℝ, v = r) :
    ∃ r : ℝ, l.foldl (fun r n => r + g n) v = r := by
  induction l generalizing v with
  | nil => exact hv
  | cons a l ih =>
    obtain ⟨r, hr⟩ := hv
    obtain ⟨s, hs⟩ := hg a
    exact ih _ ⟨r + s, by show v + g a = _; rw [hr, hs, EReal.coe_add]⟩

/-- A sum of reals is real. -/
theorem windows_real {s t u : Shape} (window strides lo hi : Fin s.rank → ℕ) (x : FVec Ideal s .f32) (init : FVec Ideal u .f32)
    (h : s.ReduceWindows window strides lo hi t) (hu : 0 < u.numel) (hx : ∀ i, ∃ r : ℝ, x i = r) (hi' : ∀ i, ∃ r : ℝ, init i = r)
    (j : t.Idx) : ∃ r : ℝ, Host.reduceWindowAdd window strides lo hi x init h hu j = r := by
  refine fold_real _ (fun n => _) (fun n => ?_) _ (hi' _)
  dsimp only
  split
  · exact hx _
  · exact hi' _

theorem cum_real (X : FVec Ideal S2x8192x16 .f32) (hX : ∀ i, ∃ r : ℝ, X i = r) (j : S2x8192x16.Idx) : ∃ r : ℝ, cum X j = r :=
  windows_real _ _ _ _ _ _ _ _ hX (fun _ => ⟨0, by show Ideal.ofBits .f32 0x00000000#32 = _; rw [Ideal.ofBits_zero_f32]; rfl⟩) j

variable (m : (ℓ : Loc nD τ sig) → Buf (Elt Ideal) ℓ) (c : Dev nD)

/-- The arguments. -/
abbrev argQ : FVec Ideal S2x8192x16x64 .f32 := m (c, Proc.tc.devRef main_arg0)
abbrev argK : FVec Ideal S2x8192x16x64 .f32 := m (c, Proc.tc.devRef main_arg1)
abbrev argV : FVec Ideal S2x8192x16x64 .f32 := m (c, Proc.tc.devRef main_arg2)
abbrev argF : FVec Ideal S2x8192x16 .f32 := m (c, Proc.tc.devRef main_arg3)

theorem qa_lo (b : Fin 2) (h : Fin 16) (i : Fin 8192) (d : Fin 128) (hd : d.val < 64) :
    (V m c main_v33 : FVec Ideal S2x16x8192x128 .bf16) (ix4 b h i d)
      = argQ m c (ix4 b i h ⟨d.val, hd⟩) * ((1 / 8 : ℝ) : EReal) * ((L2E : ℝ) : EReal) := by
  rw [← ofBits_eighth, ← div_log_two]
  unfold V
  after_reads_at
  rw [dif_pos hd]
  after_reads_at

theorem qa_hi (b : Fin 2) (h : Fin 16) (i : Fin 8192) (d : Fin 128) (hd : ¬d.val < 64) :
    (V m c main_v33 : FVec Ideal S2x16x8192x128 .bf16) (ix4 b h i d) = if d.val < 67 then (1 : EReal) else (0 : EReal) := by
  by_cases h1 : d.val < 67
  · rw [if_pos h1]
    unfold V
    after_reads_at
    rw [dif_neg hd, dif_pos (show d.val - 64 < 3 by omega)]
    after_reads_at
  · rw [if_neg h1]
    unfold V
    after_reads_at
    rw [dif_neg hd, dif_neg (show ¬d.val - 64 < 3 by omega)]
    after_reads_at

theorem ka_lo (b : Fin 2) (h : Fin 16) (i : Fin 8192) (d : Fin 128) (hd : d.val < 64) :
    (V m c main_v34 : FVec Ideal S2x16x8192x128 .bf16) (ix4 b h i d) = argK m c (ix4 b i h ⟨d.val, hd⟩) := by
  unfold V
  after_reads_at
  rw [dif_pos hd]
  after_reads_at

theorem ka_hi (b : Fin 2) (h : Fin 16) (i : Fin 8192) (d : Fin 128) (hd : ¬d.val < 64) (f : ℝ) (hf : cum (argF m c) (ix3 b i h) = f) :
    (V m c main_v34 : FVec Ideal S2x16x8192x128 .bf16) (ix4 b h i d) = if d.val = 64 then ((f * -L2E : ℝ) : EReal) else (0 : EReal) := by
  have hn : cum (argF m c) (ix3 b i h) * -Ideal.div 1 (Ideal.log (Ideal.ofBits FTy.f32 0x40000000#32)) = ((f * -L2E : ℝ) : EReal) := by
    rw [div_log_two, hf, EReal.coe_mul, EReal.coe_neg]
  have h0 : ((f * -L2E : ℝ) : EReal) - ((f * -L2E : ℝ) : EReal) = 0 := by rw [← EReal.coe_sub, sub_self]; rfl
  by_cases h1 : d.val = 64
  · rw [if_pos h1]
    unfold V
    after_reads_at
    rw [dif_neg hd, dif_pos (show d.val - 64 < 1 by omega)]
    after_reads_at
    exact hn
  · rw [if_neg h1]
    by_cases h2 : d.val - 64 - 1 < 1
    · unfold V
      after_reads_at
      rw [dif_neg hd, dif_neg (show ¬d.val - 64 < 1 by omega), dif_pos h2]
      after_reads_at
      show cum (argF m c) (ix3 b i h) * -Ideal.div 1 (Ideal.log (Ideal.ofBits FTy.f32 0x40000000#32)) - cum (argF m c) (ix3 b i h) * -Ideal.div 1 (Ideal.log (Ideal.ofBits FTy.f32 0x40000000#32)) = _
      rw [hn, h0]
    · by_cases h3 : d.val - 64 - 1 - 1 < 1
      · unfold V
        after_reads_at
        rw [dif_neg hd, dif_neg (show ¬d.val - 64 < 1 by omega), dif_neg h2, dif_pos h3]
        after_reads_at
        show cum (argF m c) (ix3 b i h) * -Ideal.div 1 (Ideal.log (Ideal.ofBits FTy.f32 0x40000000#32)) - cum (argF m c) (ix3 b i h) * -Ideal.div 1 (Ideal.log (Ideal.ofBits FTy.f32 0x40000000#32)) - (cum (argF m c) (ix3 b i h) * -Ideal.div 1 (Ideal.log (Ideal.ofBits FTy.f32 0x40000000#32)) - cum (argF m c) (ix3 b i h) * -Ideal.div 1 (Ideal.log (Ideal.ofBits FTy.f32 0x40000000#32))) = _
        rw [hn, h0, sub_zero]
      · unfold V
        after_reads_at
        rw [dif_neg hd, dif_neg (show ¬d.val - 64 < 1 by omega), dif_neg h2, dif_neg h3]
        after_reads_at

/-- The row that the values of a head make, with the ones and zeros below. -/
def valRow (X : FVec Ideal S2x8192x16x64 .f32) (b : Fin 2) (h : Fin 16) (r : Fin 80) (j : ℕ) : EReal :=
  if hr : r.val < 64 then (if hj : j < 8192 then X (ix4 b ⟨j, hj⟩ h ⟨r.val, hr⟩) else 0) else if r.val = 64 then 1 else 0

theorem vt_at (b : Fin 2) (h : Fin 16) (n : Fin 16) (r : Fin 80) (j : Fin 512) :
    (V m c main_v32 : FVec Ideal S2x16x16x80x512 .bf16) (ix5 b h n r j) = valRow (argV m c) b h r (512 * n.val + j.val) := by
  by_cases hr : r.val < 64
  · have e : valRow (argV m c) b h r (512 * n.val + j.val) = argV m c (ix4 b ⟨n.val * 512 + j.val, by omega⟩ h ⟨r.val, hr⟩) := by
      unfold valRow
      rw [dif_pos hr, dif_pos (show 512 * n.val + j.val < 8192 by omega)]
      exact congrArg (argV m c) (congrArg (fun i => ix4 b i h _) (Fin.ext (by show 512 * n.val + j.val = n.val * 512 + j.val; omega)))
    rw [e]
    unfold V
    after_reads_at
    rw [dif_pos hr]
    after_reads_at
  · have e : valRow (argV m c) b h r (512 * n.val + j.val) = if r.val = 64 then 1 else 0 := dif_neg hr
    rw [e]
    by_cases h1 : r.val = 64
    · rw [if_pos h1]
      unfold V
      after_reads_at
      rw [dif_neg hr, dif_pos (show r.val - 64 < 1 by omega)]
      after_reads_at
    · rw [if_neg h1]
      unfold V
      after_reads_at
      rw [dif_neg hr, dif_neg (show ¬r.val - 64 < 1 by omega)]
      after_reads_at

end Cert.Flash

end
-- ==== Proof.Real.lean ====
module

public import proofs.«01_k».proof.Pre_finite_qkf
public import proofs.«01_k».proof.Proof.Host

@[expose] public section

noncomputable section

namespace Cert.Flash

open Idealize.ShloMosaic

/-- A number whose magnitude is below infinity is a real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = r := by
  have ht : Ideal.ofBits .f32 0x7F800000#32 = (⊤ : EReal) := by simp [Ideal.ofBits, Ideal.ieee]
  have hlt : max x (-x) < (⊤ : EReal) := by
    rw [ht] at h
    by_contra hn
    have h' : (BitVec.ofBool (decide (max x (-x) < (⊤ : EReal)))) = 1#1 := h
    rw [decide_eq_false hn] at h'
    exact absurd h' (by decide)
  induction x with
  | bot => exact absurd hlt (by simp)
  | top => exact absurd hlt (by simp)
  | coe r => exact ⟨r, rfl⟩

variable [Cert.Pre_finite_qkf.Facts] (q k v : FVec Ideal Cert.Pre_finite_qkf.S2x8192x16x64 .f32) (f : FVec Ideal Cert.Pre_finite_qkf.S2x8192x16 .f32)

theorem q_real (h : (Cert.Pre_finite_qkf.fn (F := Ideal) q k v f).1 = fun _ => 1#1) (i : Cert.Pre_finite_qkf.S2x8192x16x64.Idx) : ∃ r : ℝ, q i = r :=
  real_of_lt (q i) (congrFun h i)

theorem k_real (h : (Cert.Pre_finite_qkf.fn (F := Ideal) q k v f).2.1 = fun _ => 1#1) (i : Cert.Pre_finite_qkf.S2x8192x16x64.Idx) : ∃ r : ℝ, k i = r :=
  real_of_lt (k i) (congrFun h i)

theorem f_real (h : (Cert.Pre_finite_qkf.fn (F := Ideal) q k v f).2.2 = fun _ => 1#1) (i : Cert.Pre_finite_qkf.S2x8192x16.Idx) : ∃ r : ℝ, f i = r :=
  real_of_lt (f i) (congrFun h i)

end Cert.Flash

end
-- ==== Proof.Blk.lean ====
module

public import proofs.«01_k».proof.Proof.Point
public import proofs.«01_k».proof.Proof.KernelIdeal.Value
public import Idealize.ShloMosaic.Lib.Pipeline.ValueKit

@[expose] public section

noncomputable section

namespace Cert.Flash

open Idealize.ShloMosaic Idealize.ShloMosaic.TcCoe Cert.KernelIdeal Cert.KernelIdeal.Gen

variable (m : (ℓ : Loc nD τ sig) → Buf (Elt Ideal) ℓ) (c : Dev nD)

theorem index0 (t : Fin cfg0.N) : win0_0.index t = ![(grid0.coords t 0).val, (grid0.coords t 1).val, (grid0.coords t 2).val, 0] :=
  (by decide +kernel : ∀ t : Fin grid0.N, win0_0.index t = ![(grid0.coords t 0).val, (grid0.coords t 1).val, (grid0.coords t 2).val, 0]) t
theorem index1 (t : Fin cfg0.N) : win0_1.index t = ![(grid0.coords t 0).val, (grid0.coords t 1).val, 0, 0] :=
  (by decide +kernel : ∀ t : Fin grid0.N, win0_1.index t = ![(grid0.coords t 0).val, (grid0.coords t 1).val, 0, 0]) t
theorem index2 (t : Fin cfg0.N) : win0_2.index t = ![(grid0.coords t 0).val, (grid0.coords t 1).val, 0, 0, 0] :=
  (by decide +kernel : ∀ t : Fin grid0.N, win0_2.index t = ![(grid0.coords t 0).val, (grid0.coords t 1).val, 0, 0, 0]) t
theorem index3 (t : Fin cfg0.N) : win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val]) t

/-- The batch row, the group of heads, and the block of queries of a point. -/
def gB (t : Fin cfg0.N) : Fin 2 := grid0.coords t 0
def gH (t : Fin cfg0.N) : Fin 4 := grid0.coords t 1
def gQ (t : Fin cfg0.N) : Fin 16 := grid0.coords t 2

theorem gQ_mod (t : Fin cfg0.N) : (gQ t).val = t.val % 16 :=
  (by decide +kernel : ∀ t : Fin grid0.N, (grid0.coords t 2).val = t.val % 16) t

/-- The point of a batch row, a group of heads and a block of queries. -/
theorem exists_point (b : Fin 2) (g : Fin 4) (q : Fin 16) : ∃ t : Fin cfg0.N, gB t = b ∧ gH t = g ∧ gQ t = q :=
  have ⟨t, h0, h1, h2⟩ := (by decide +kernel : ∀ (b : Fin 2) (g : Fin 4) (q : Fin 16), ∃ t : Fin grid0.N, (grid0.coords t 0).val = b.val ∧ (grid0.coords t 1).val = g.val ∧ (grid0.coords t 2).val = q.val) b g q
  ⟨t, Fin.ext h0, Fin.ext h1, Fin.ext h2⟩

theorem iblk0_at (t : Fin cfg0.N) (hd : Fin 4) (x : Fin 512) (d : Fin 128) :
    (iblk m c 0 t : Vec Ideal S1x4x512x128 .bf16) (ix4 0 hd x d)
      = (V m c main_v33 : FVec Ideal S2x16x8192x128 .bf16) (ix4 (gB t) ⟨4 * (gH t).val + hd.val, by omega⟩ ⟨512 * (gQ t).val + x.val, by omega⟩ d) := by
  show V m c main_v33 (((cfg0.win 0).blk t).view.emb (ix4 0 hd x d)) = _
  refine congrArg (V m c main_v33) (funext fun a => Fin.ext ?_)
  blk_simp [index0]
  match a with
  | ⟨0, _⟩ => show (grid0.coords t 0).val * 1 + 0 = (grid0.coords t 0).val; omega
  | ⟨1, _⟩ => show (grid0.coords t 1).val * 4 + hd.val = 4 * (grid0.coords t 1).val + hd.val; omega
  | ⟨2, _⟩ => show (grid0.coords t 2).val * 512 + x.val = 512 * (grid0.coords t 2).val + x.val; omega
  | ⟨3, _⟩ => show 0 * 128 + d.val = d.val; omega

theorem iblk1_at (t : Fin cfg0.N) (hd : Fin 4) (x : Fin 8192) (d : Fin 128) :
    (iblk m c 1 t : Vec Ideal S1x4x8192x128 .bf16) (ix4 0 hd x d)
      = (V m c main_v34 : FVec Ideal S2x16x8192x128 .bf16) (ix4 (gB t) ⟨4 * (gH t).val + hd.val, by omega⟩ x d) := by
  show V m c main_v34 (((cfg0.win 1).blk t).view.emb (ix4 0 hd x d)) = _
  refine congrArg (V m c main_v34) (funext fun a => Fin.ext ?_)
  blk_simp [index1]
  match a with
  | ⟨0, _⟩ => show (grid0.coords t 0).val * 1 + 0 = (grid0.coords t 0).val; omega
  | ⟨1, _⟩ => show (grid0.coords t 1).val * 4 + hd.val = 4 * (grid0.coords t 1).val + hd.val; omega
  | ⟨2, _⟩ => show 0 * 8192 + x.val = x.val; omega
  | ⟨3, _⟩ => show 0 * 128 + d.val = d.val; omega

theorem iblk2_at (t : Fin cfg0.N) (hd : Fin 4) (n : Fin 16) (r : Fin 80) (j : Fin 512) :
    (iblk m c 2 t : Vec Ideal S1x4x16x80x512 .bf16) (ix5 0 hd n r j)
      = (V m c main_v32 : FVec Ideal S2x16x16x80x512 .bf16) (ix5 (gB t) ⟨4 * (gH t).val + hd.val, by omega⟩ n r j) := by
  show V m c main_v32 (((cfg0.win 2).blk t).view.emb (ix5 0 hd n r j)) = _
  refine congrArg (V m c main_v32) (funext fun a => Fin.ext ?_)
  blk_simp [index2]
  match a with
  | ⟨0, _⟩ => show (grid0.coords t 0).val * 1 + 0 = (grid0.coords t 0).val; omega
  | ⟨1, _⟩ => show (grid0.coords t 1).val * 4 + hd.val = 4 * (grid0.coords t 1).val + hd.val; omega
  | ⟨2, _⟩ => show 0 * 16 + n.val = n.val; omega
  | ⟨3, _⟩ => show 0 * 80 + r.val = r.val; omega
  | ⟨4, _⟩ => show 0 * 512 + j.val = j.val; omega

/-- The output array at an index of a point's block is what the point wrote. -/
theorem out_at (t : Fin cfg0.N) (x : Fin 512) (n : Fin 256) :
    (((dats (F := Ideal) m 0 c).arrAt 3 cfg0.N) : FVec Ideal S2x8192x1024 .bf16) (ix3 (gB t) ⟨512 * (gQ t).val + x.val, by omega⟩ ⟨256 * (gH t).val + n.val, by omega⟩)
      = ((dats (F := Ideal) m 0 c).flushed 3 t : Vec Ideal S1x512x256 .bf16) (ix3 0 x n) := by
  rw [← Cert.KernelIdeal.Value.blocks3 m c t (flush0_3 t)]
  show _ = ((dats (F := Ideal) m 0 c).arrAt 3 cfg0.N) (((cfg0.win 3).blk t).view.emb (ix3 0 x n))
  refine congrArg ((dats (F := Ideal) m 0 c).arrAt 3 cfg0.N) (funext fun a => Fin.ext ?_)
  blk_simp [index3]
  match a with
  | ⟨0, _⟩ => show (grid0.coords t 0).val = (grid0.coords t 0).val * 1 + 0; omega
  | ⟨1, _⟩ => show 512 * (grid0.coords t 2).val + x.val = (grid0.coords t 2).val * 512 + x.val; omega
  | ⟨2, _⟩ => show 256 * (grid0.coords t 1).val + n.val = (grid0.coords t 1).val * 256 + n.val; omega

end Cert.Flash

end
-- ==== Proof.Kern.lean ====
module

public import proofs.«01_k».proof.Proof.Host
public import proofs.«01_k».proof.Proof.Blk
public import Idealize.ShloMosaic.Lib.Pipeline.ValueKit

@[expose] public section

noncomputable section

namespace Cert.Flash

open Idealize.ShloMosaic Idealize.ShloMosaic.TcCoe Cert.KernelIdeal Cert.KernelIdeal.Gen

/-- The base-two score of a key for a query, less what is the same for every key. -/
def score (q k : S2x8192x16x64.Idx → ℝ) (f : S2x8192x16.Idx → ℝ) (b : Fin 2) (h : Fin 16) (i : Fin 8192) (j : ℕ) : ℝ :=
  if hj : j < 8192 then ((∑ d : Fin 64, q (ix4 b i h d) * k (ix4 b ⟨j, hj⟩ h d)) * (1 / 8) - f (ix3 b ⟨j, hj⟩ h)) * L2E else 0

variable (m : (ℓ : Loc nD τ sig) → Buf (Elt Ideal) ℓ) (c : Dev nD)
  (q k : S2x8192x16x64.Idx → ℝ) (f : S2x8192x16.Idx → ℝ)
  (hq : ∀ x, argQ m c x = ((q x : ℝ) : EReal)) (hk : ∀ x, argK m c x = ((k x : ℝ) : EReal)) (hf : ∀ x, cum (argF m c) x = ((f x : ℝ) : EReal))

/-- The packed queries and keys. -/
abbrev qaA : FVec Ideal S2x16x8192x128 .bf16 := V m c main_v33
abbrev kaA : FVec Ideal S2x16x8192x128 .bf16 := V m c main_v34

include hq hk hf in
theorem packed_dot (b : Fin 2) (h : Fin 16) (i j : Fin 8192) :
    ∑ d : Fin 128, kaA m c (ix4 b h j d) * qaA m c (ix4 b h i d)
      = ((score q k f b h i j.val : ℝ) : EReal) := by
  have e := Fin.sum_univ_add (a := 64) (b := 64) fun d : Fin 128 => (kaA m c (ix4 b h j d) * qaA m c (ix4 b h i d) : EReal)
  refine e.trans ?_
  have lo : ∀ d : Fin 64, (kaA m c (ix4 b h j (Fin.castAdd 64 d)) * qaA m c (ix4 b h i (Fin.castAdd 64 d)) : EReal)
      = ((k (ix4 b j h d) * (q (ix4 b i h d) * (1 / 8) * L2E) : ℝ) : EReal) := by
    intro d
    refine (congrArg₂ (fun x y : EReal => x * y) (ka_lo m c b h j (Fin.castAdd 64 d) d.isLt) (qa_lo m c b h i (Fin.castAdd 64 d) d.isLt)).trans ?_
    rw [hq, hk]
    rw [EReal.coe_mul, EReal.coe_mul, EReal.coe_mul]
    rfl
  have hi : ∀ d : Fin 64, (kaA m c (ix4 b h j (Fin.natAdd 64 d)) * qaA m c (ix4 b h i (Fin.natAdd 64 d)) : EReal)
      = if d = 0 then ((f (ix3 b j h) * -L2E : ℝ) : EReal) else 0 := by
    intro d
    have hd : ¬(Fin.natAdd 64 d : Fin 128).val < 64 := by show ¬(64 + d.val < 64); omega
    refine (congrArg₂ (fun x y : EReal => x * y) (ka_hi m c b h j (Fin.natAdd 64 d) hd (f (ix3 b j h)) (hf _)) (qa_hi m c b h i (Fin.natAdd 64 d) hd)).trans ?_
    show (if 64 + d.val = 64 then _ else _) * (if 64 + d.val < 67 then _ else _) = _
    by_cases h0 : d = 0
    · subst h0
      rw [if_pos rfl]
      exact (congrArg₂ (fun x y : EReal => x * y) (if_pos rfl) (if_pos (by decide))).trans (mul_one _)
    · have : d.val ≠ 0 := fun h => h0 (Fin.ext h)
      rw [if_neg (by omega), if_neg h0, zero_mul]
  rw [Finset.sum_congr rfl fun d _ => lo d, Finset.sum_congr rfl fun d _ => hi d, Finset.sum_ite_eq' Finset.univ (0 : Fin 64), if_pos (Finset.mem_univ _),
    coe_sum, ← EReal.coe_add]
  congr 1
  unfold score
  rw [dif_pos j.isLt, sub_mul, Finset.sum_mul, Finset.sum_mul, mul_neg, ← sub_eq_add_neg]
  congr 1
  exact Finset.sum_congr rfl fun d _ => by ring

section
variable (t : Fin cfg0.N) (hd : Fin 4) (h : Fin 2) (cc : Fin 256)
  (arg3 : Memref sig .tc .vmem S1x4x512x128 .bf16) (harg3 : arg3.IsWhole) (arg4 : Memref sig .tc .vmem S1x4x8192x128 .bf16) (harg4 : arg4.IsWhole) (arg5 : Memref sig .tc .vmem S1x4x16x80x512 .bf16) (harg5 : arg5.IsWhole)

include hq hk hf in
theorem tile_score (b : Fin 16) (j : Fin 512) :
    scT arg3 arg4 (harg3.unread (iblk m c 0 t : Vec Ideal S1x4x512x128 .bf16)) (harg4.unread (iblk m c 1 t : Vec Ideal S1x4x8192x128 .bf16)) b hd h (ix3 0 j cc)
      = ((score q k f (gB t) ⟨4 * (gH t).val + hd.val, by omega⟩ ⟨512 * (gQ t).val + (256 * h.val + cc.val), by omega⟩ (512 * b.val + j.val) : ℝ) : EReal) := by
  rw [scT_apply, Memref.IsWhole.read_unread, Memref.IsWhole.read_unread]
  refine (Finset.sum_congr rfl fun d _ => ?_).trans (packed_dot m c q k f hq hk hf (gB t) ⟨4 * (gH t).val + hd.val, by omega⟩ ⟨512 * (gQ t).val + (256 * h.val + cc.val), by omega⟩ ⟨512 * b.val + j.val, by omega⟩)
  exact congrArg₂ (fun x y : EReal => x * y) (iblk1_at m c t hd _ d) (iblk0_at m c t hd _ d)

theorem tile_val (b : Fin 16) (r : Fin 80) (j : Fin 512) :
    vT arg5 (harg5.unread (iblk m c 2 t : Vec Ideal S1x4x16x80x512 .bf16)) b hd (ix5 0 0 0 r j)
      = valRow (argV m c) (gB t) ⟨4 * (gH t).val + hd.val, by omega⟩ r (512 * b.val + j.val) := by
  rw [vT_apply, Memref.IsWhole.read_unread, iblk2_at, vt_at]

end

theorem val_one (b : Fin 2) (h : Fin 16) (j : ℕ) : valRow (argV m c) b h 64 j = 1 := rfl

include hq hk hf in
/-- The kernel's output array at an index. -/
theorem kernel_out (b : Fin 2) (i : Fin 8192) (n : Fin 1024) :
    (((dats (F := Ideal) m 0 c).arrAt 3 cfg0.N) : FVec Ideal S2x8192x1024 .bf16) (ix3 b i n)
      = soft (score q k f b ⟨n.val / 64, by omega⟩ i) (valRow (argV m c) b ⟨n.val / 64, by omega⟩ ⟨n.val % 64, by omega⟩) (i.val + 1) := by
  obtain ⟨t, hb, hg, hqb⟩ := exists_point b ⟨n.val / 256, by omega⟩ ⟨i.val / 512, by omega⟩
  have hg' : (gH t).val = n.val / 256 := congrArg Fin.val hg
  have hq' : (gQ t).val = i.val / 512 := congrArg Fin.val hqb
  have hi : i.val = 512 * (gQ t).val + (256 * (i.val % 512 / 256) + i.val % 256) := by omega
  have hn : n.val = 256 * (gH t).val + n.val % 256 := by omega
  have e := out_at m c t ⟨i.val % 512, by omega⟩ ⟨n.val % 256, by omega⟩
  have ei : (⟨512 * (gQ t).val + i.val % 512, by omega⟩ : Fin 8192) = i := Fin.ext (show 512 * (gQ t).val + i.val % 512 = i.val by omega)
  have en : (⟨256 * (gH t).val + n.val % 256, by omega⟩ : Fin 1024) = n := Fin.ext (show 256 * (gH t).val + n.val % 256 = n.val by omega)
  have eh : (⟨4 * (gH t).val + n.val % 256 / 64, by omega⟩ : Fin 16) = ⟨n.val / 64, by omega⟩ := Fin.ext (show 4 * (gH t).val + n.val % 256 / 64 = n.val / 64 by omega)
  have ei2 : (⟨512 * (gQ t).val + (256 * (i.val % 512 / 256) + i.val % 256), by omega⟩ : Fin 8192) = i := Fin.ext hi.symm
  have ex : (⟨i.val % 512, by omega⟩ : Fin 512) = ⟨256 * (i.val % 512 / 256) + i.val % 256, by omega⟩ := Fin.ext (show i.val % 512 = 256 * (i.val % 512 / 256) + i.val % 256 by omega)
  rw [hb, ei, en] at e
  rw [e, ex]
  have hm := gQ_mod t
  have key : ∀ X : Vec Ideal S1x512x256 .bf16, X (ix3 0 ⟨256 * (i.val % 512 / 256) + i.val % 256, by omega⟩ ⟨n.val % 256, by omega⟩)
      = soft (score q k f (gB t) ⟨4 * (gH t).val + n.val % 256 / 64, by omega⟩ ⟨512 * (gQ t).val + (256 * (i.val % 512 / 256) + i.val % 256), by omega⟩)
          (valRow (argV m c) (gB t) ⟨4 * (gH t).val + n.val % 256 / 64, by omega⟩ ⟨n.val % 64, by omega⟩) (512 * (gQ t).val + (256 * (i.val % 512 / 256) + i.val % 256 + 1))
      → X (ix3 0 ⟨256 * (i.val % 512 / 256) + i.val % 256, by omega⟩ ⟨n.val % 256, by omega⟩)
      = soft (score q k f b ⟨n.val / 64, by omega⟩ i) (valRow (argV m c) b ⟨n.val / 64, by omega⟩ ⟨n.val % 64, by omega⟩) (i.val + 1) := by
    intro X hX
    rw [hX, eh, ei2, hb, show 512 * (gQ t).val + (256 * (i.val % 512 / 256) + i.val % 256 + 1) = i.val + 1 by omega]
  by_cases hp : t.val % 2 = 0
  · have h1 : ¬t.val % 2 = 1 := by omega
    rw [Cert.KernelIdeal.Value.flushed3_A m c t hp h1]
    refine key _ (outA_apply c (grid0.coords t) _ _ _ _ _ _ _ _ _ _ _ _ _ _ _ _ _ _ _
      (score q k f (gB t) ⟨4 * (gH t).val + n.val % 256 / 64, by omega⟩ ⟨512 * (gQ t).val + (256 * (i.val % 512 / 256) + i.val % 256), by omega⟩)
      (valRow (argV m c) (gB t) ⟨4 * (gH t).val + n.val % 256 / 64, by omega⟩)
      ⟨n.val % 256 / 64, by omega⟩ ⟨i.val % 512 / 256, by omega⟩ ⟨i.val % 256, by omega⟩ ⟨n.val % 64, by omega⟩
      (tile_score m c q k f hq hk hf t _ _ _ _ _ _ _) (tile_val m c t _ _ _) _ _ (show (gQ t).val % 2 = 0 by omega) (val_one m c _ _) ⟨n.val % 256, by omega⟩ (show n.val % 256 = 64 * (n.val % 256 / 64) + n.val % 64 by omega))
  · have h1 : t.val % 2 = 1 := by omega
    rw [Cert.KernelIdeal.Value.flushed3_B m c t hp h1]
    refine key _ (outB_apply c (grid0.coords t) _ _ _ _ _ _ _ _ _ _ _ _ _ _ _ _ _ _ _
      (score q k f (gB t) ⟨4 * (gH t).val + n.val % 256 / 64, by omega⟩ ⟨512 * (gQ t).val + (256 * (i.val % 512 / 256) + i.val % 256), by omega⟩)
      (valRow (argV m c) (gB t) ⟨4 * (gH t).val + n.val % 256 / 64, by omega⟩)
      ⟨n.val % 256 / 64, by omega⟩ ⟨i.val % 512 / 256, by omega⟩ ⟨i.val % 256, by omega⟩ ⟨n.val % 64, by omega⟩
      (tile_score m c q k f hq hk hf t _ _ _ _ _ _ _) (tile_val m c t _ _ _) _ _ (show (gQ t).val % 2 = 1 by omega) (val_one m c _ _) ⟨n.val % 256, by omega⟩ (show n.val % 256 = 64 * (n.val % 256 / 64) + n.val % 64 by omega))

end Cert.Flash

end
-- ==== Proof.Soft.lean ====
module

public import proofs.«01_k».proof.Proof.Point

@[expose] public section

noncomputable section

namespace Cert.Flash

open Idealize.ShloMosaic

theorem div_real (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

/-- A masked softmax written with the exponential and the row's largest logit is the sum with weights that are powers of
    two, when the logits are the scores times the logarithm of two, plus a constant. -/
theorem ref_soft {N : ℕ} (l : Fin N → EReal) (A S : ℕ → ℝ) (C : ℝ) (i : Fin N) (v : ℕ → EReal)
    (hl : ∀ j : Fin N, l j = if j.val ≤ i.val then ((A j.val : ℝ) : EReal) else ⊥)
    (hA : ∀ j, j ≤ i.val → A j = S j * Real.log 2 + C) :
    ∑ x : Fin N, v x.val * Ideal.div (Ideal.exp (l x - Finset.univ.sup l)) (∑ y : Fin N, Ideal.exp (l y - Finset.univ.sup l))
      = soft S v (i.val + 1) := by
  obtain ⟨M, hM⟩ : ∃ μ : ℝ, max ⊥ (Finset.univ.sup l) = μ := by
    refine max_real Finset.univ ⟨i, Finset.mem_univ _⟩ l ⊥ bot_ne_top (fun j _ => ?_) ⟨i, Finset.mem_univ _, ?_⟩
    · rw [hl]; split
      · exact EReal.coe_ne_top _
      · exact bot_ne_top
    · rw [hl, if_pos le_rfl]; exact EReal.coe_ne_bot _
  rw [max_eq_right bot_le] at hM
  rw [hM]
  let E : ℕ → ℝ := fun j => if j ≤ i.val then Real.exp (A j - M) else 0
  have hE : ∀ x : Fin N, Ideal.exp (l x - M) = ((E x.val : ℝ) : EReal) := by
    intro x
    rw [hl]
    show _ = ((if x.val ≤ i.val then Real.exp (A x.val - M) else 0 : ℝ) : EReal)
    split
    · rw [← EReal.coe_sub]; rfl
    · rw [EReal.bot_sub]; rfl
  have hsub : Finset.range (i.val + 1) ⊆ Finset.range N := Finset.range_subset_range.mpr i.isLt
  have hz : ∀ j, j ∉ Finset.range (i.val + 1) → E j = 0 := fun j hj => if_neg (fun h => hj (Finset.mem_range.mpr (by omega)))
  have hEv : ∀ j, j ∈ Finset.range (i.val + 1) → E j = Real.rpow 2 (S j) * Real.exp (C - M) := by
    intro j hj
    have hj' : j ≤ i.val := by have := Finset.mem_range.mp hj; omega
    show (if j ≤ i.val then Real.exp (A j - M) else 0) = _
    rw [if_pos hj', hA j hj', show Real.rpow 2 (S j) = Real.exp (Real.log 2 * S j) from Real.rpow_def_of_pos (by norm_num) _, ← Real.exp_add]
    congr 1; ring
  have hD : ∑ y : Fin N, E y.val = (∑ j ∈ Finset.range (i.val + 1), Real.rpow 2 (S j)) * Real.exp (C - M) := by
    rw [Fin.sum_univ_eq_sum_range, ← Finset.sum_subset hsub (fun j _ hj => hz j hj), Finset.sum_congr rfl hEv, Finset.sum_mul]
  have hP : 0 < ∑ j ∈ Finset.range (i.val + 1), Real.rpow 2 (S j) :=
    Finset.sum_pos (fun j _ => rpow2_pos _) ⟨0, Finset.mem_range.mpr (by omega)⟩
  have hD0 : 0 < ∑ y : Fin N, E y.val := by rw [hD]; exact mul_pos hP (Real.exp_pos _)
  have h1 : ∑ y : Fin N, Ideal.exp (l y - M) = ((∑ y : Fin N, E y.val : ℝ) : EReal) := by
    rw [← coe_sum]; exact Finset.sum_congr rfl fun x _ => hE x
  rw [h1, Finset.sum_congr rfl fun x _ => by rw [hE x, div_real _ _ hD0]]
  rw [Fin.sum_univ_eq_sum_range (fun j => v j * ((E j / ∑ y : Fin N, E y.val : ℝ) : EReal)) N,
    ← Finset.sum_subset hsub (fun j _ hj => by rw [hz j hj, zero_div, EReal.coe_zero, mul_zero])]
  unfold soft
  refine Finset.sum_congr rfl fun j hj => ?_
  rw [hEv j hj, hD, mul_div_mul_right _ _ (Real.exp_pos _).ne']

end Cert.Flash

end
-- ==== Proof.RefDefs.lean ====
module

public import proofs.«01_k».proof.Proof.Gen.ReferenceIdeal.Run
public import proofs.«01_k».proof.Proof.Host

@[expose] public section

noncomputable section

namespace Cert.Flash.Ref

open Idealize.ShloMosaic Idealize.ShloMosaic.TcCoe Cert.ReferenceIdeal Cert.ReferenceIdeal.Gen Facts

/-- The reference's masked logits. -/
def lgR (q k : FVec Ideal S2x8192x16x64 .f32) (f : FVec Ideal S2x8192x16 .f32) : FVec Ideal S2x16x8192x8192 .f32 :=
  select (broadcastInDim S2x16x8192x8192 ![2, 3] bcast_S8192x8192_S2x16x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (addf (mulf (Host.dotGeneral dot_S2x8192x16x64_S2x8192x16x64_S2x16x8192x8192_3_3_1_1_02_02 none q k) (broadcastInDim S2x16x8192x8192 ![] bcast_S_S2x16x8192x8192 (constant S_ .f32 0x3E000000#32))) (subf (broadcastInDim S2x16x8192x8192 ![0, 1, 2, 3] bcast_S2x16x8192x1_S2x16x8192x8192_0_1_2_3 (broadcastInDim S2x16x8192x1 ![0, 1, 2] bcast_S2x16x8192_S2x16x8192x1_0_1_2 (transpose S2x16x8192 [0, 2, 1] f transposes_S2x8192x16_S2x16x8192_0_2_1))) (broadcastInDim S2x16x8192x8192 ![0, 1, 2, 3] bcast_S2x16x1x8192_S2x16x8192x8192_0_1_2_3 (broadcastInDim S2x16x1x8192 ![0, 1, 3] bcast_S2x16x8192_S2x16x1x8192_0_1_3 (transpose S2x16x8192 [0, 2, 1] f transposes_S2x8192x16_S2x16x8192_0_2_1))))) (broadcastInDim S2x16x8192x8192 ![] bcast_S_S2x16x8192x8192 (id (constant S_ .f32 0xFF800000#32)))

/-- The largest of each row. -/
def rmR (x : FVec Ideal S2x16x8192x8192 .f32) : FVec Ideal S2x16x8192 .f32 :=
  Host.reduce FloatOps.maximumf x (constant S_ .f32 0xFF800000#32) reducesTo_S2x16x8192x8192_S2x16x8192_d3 h_S_

/-- The exponentials of the logits less their row's number. -/
def exM (x : FVec Ideal S2x16x8192x8192 .f32) (M : FVec Ideal S2x16x8192 .f32) : FVec Ideal S2x16x8192x8192 .f32 :=
  Host.exp (subf x (broadcastInDim S2x16x8192x8192 ![0, 1, 2, 3] bcast_S2x16x8192x1_S2x16x8192x8192_0_1_2_3 (broadcastInDim S2x16x8192x1 ![0, 1, 2] bcast_S2x16x8192_S2x16x8192x1_0_1_2 (maximumf (broadcastInDim S2x16x8192 ![] bcast_S_S2x16x8192 (constant S_ .f32 0xFF800000#32)) M))))

/-- The exponentials of the logits less their row's largest. -/
def exR (x : FVec Ideal S2x16x8192x8192 .f32) : FVec Ideal S2x16x8192x8192 .f32 := exM x (rmR x)

/-- The output from the exponentials and the values. -/
def ouR (e : FVec Ideal S2x16x8192x8192 .f32) (v : FVec Ideal S2x8192x16x64 .f32) : FVec Ideal S2x8192x1024 .bf16 :=
  truncf .bf16 (shapeCast S2x8192x1024 (transpose S2x8192x16x64 [0, 3, 1, 2] (Host.dotGeneral dot_S2x8192x16x64_S2x16x8192x8192_S2x16x64x8192_1_3_3_2_02_01 none v (Host.divf e (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd e (constant S_ .f32 0x00000000#32) reducesTo_S2x16x8192x8192_S2x16x8192_d3 h_S_))))) transposes_S2x16x64x8192_S2x8192x16x64_0_3_1_2) shapeCasts_S2x8192x16x64_S2x8192x1024) bitsLt_bf16_f32

variable (m : (ℓ : Loc nD τ sig) → Buf (Elt Ideal) ℓ) (c : Dev nD)

theorem res_eq : Cert.ReferenceIdeal.Value.res_main_v32 (F := Ideal) m c
    = ouR (exR (lgR (m ((c.tc : Thread nD τ).loc main_arg0)) (m ((c.tc : Thread nD τ).loc main_arg1)) (Cert.Flash.cum (m ((c.tc : Thread nD τ).loc main_arg3)))))
        (m ((c.tc : Thread nD τ).loc main_arg2)) := by
  unfold Cert.ReferenceIdeal.Value.res_main_v32
  rfl

end Cert.Flash.Ref

end
-- ==== Proof.RefLogits.lean ====
module

public import proofs.«01_k».proof.Proof.Gen.ReferenceIdeal.Run
public import proofs.«01_k».proof.Proof.RefDefs

@[expose] public section

noncomputable section

namespace Cert.Flash.Ref

open Idealize.ShloMosaic Idealize.ShloMosaic.TcCoe Cert.ReferenceIdeal Cert.ReferenceIdeal.Gen Facts

theorem lgR_apply (q k : FVec Ideal S2x8192x16x64 .f32) (f : FVec Ideal S2x8192x16 .f32) (b : Fin 2) (h : Fin 16) (i j : Fin 8192) :
    lgR q k f (ix4 b h i j) = if j.val ≤ i.val then
      (∑ x, q (ix4 b i h x) * k (ix4 b j h x)) * ((1 / 8 : ℝ) : EReal) + (f (ix3 b i h) - f (ix3 b j h)) else (⊥ : EReal) := by
  rw [← Cert.Flash.ofBits_eighth]
  pointwise [lgR]
  rw [show id (constant (F := Ideal) S_ FTy.f32 0xFF800000#32) ix0 = (⊥ : EReal) from Cert.Flash.ofBits_ninf,
    WordCmp.cmpi_sge_of_lt (by simp; omega) (by simp; omega)]
  simp only [BitVec.toNat_ofNat, Nat.mod_eq_of_lt (show i.val < 2 ^ 32 by omega), Nat.mod_eq_of_lt (show j.val < 2 ^ 32 by omega)]
  by_cases h : j.val ≤ i.val <;> simp [Scalar.select, h]

end Cert.Flash.Ref

end
-- ==== Proof.RefMax.lean ====
module

public import proofs.«01_k».proof.Proof.Gen.ReferenceIdeal.Run
public import proofs.«01_k».proof.Proof.RefDefs

@[expose] public section

noncomputable section

namespace Cert.Flash.Ref

open Idealize.ShloMosaic Idealize.ShloMosaic.TcCoe Cert.ReferenceIdeal Cert.ReferenceIdeal.Gen Facts

theorem drops : S2x16x8192x8192.Reduces [3] S2x16x8192 := by decide

theorem lift_eq (h : S2x16x8192x8192.Reduces [3] S2x16x8192) (b : Fin 2) (g : Fin 16) (i k : Fin 8192) :
    h.lift (ix3 b g i) k = ix4 b g i k := by
  funext a
  match a with
  | ⟨0, _⟩ => rfl
  | ⟨1, _⟩ => rfl
  | ⟨2, _⟩ => rfl
  | ⟨3, _⟩ => rfl

theorem rmR_apply (x : FVec Ideal S2x16x8192x8192 .f32) (b : Fin 2) (h : Fin 16) (i : Fin 8192) :
    rmR x (ix3 b h i) = Finset.univ.sup fun j : Fin 8192 => (x (ix4 b h i j) : EReal) := by
  unfold rmR
  rw [Host.reduce_eq_fold_single FloatOps.maximumf x (constant S_ .f32 0xFF800000#32) reducesTo_S2x16x8192x8192_S2x16x8192_d3 drops h_S_]
  have e : (x ∘ drops.lift (ix3 b h i)) = fun j : Fin 8192 => x (ix4 b h i j) := funext fun k => congrArg x (lift_eq drops b h i k)
  rw [e]
  exact Cert.Flash.fold_ninf (n := 8192) fun j => x (ix4 b h i j)

end Cert.Flash.Ref

end
-- ==== Proof.RefExp.lean ====
module

public import proofs.«01_k».proof.Proof.Gen.ReferenceIdeal.Run
public import proofs.«01_k».proof.Proof.RefMax

@[expose] public section

noncomputable section

namespace Cert.Flash.Ref

open Idealize.ShloMosaic Idealize.ShloMosaic.TcCoe Cert.ReferenceIdeal Cert.ReferenceIdeal.Gen Facts

theorem exM_apply (x : FVec Ideal S2x16x8192x8192 .f32) (M : FVec Ideal S2x16x8192 .f32) (b : Fin 2) (h : Fin 16) (i j : Fin 8192) :
    exM x M (ix4 b h i j) = Ideal.exp (x (ix4 b h i j) - M (ix3 b h i)) := by
  pointwise [exM]
  rw [Cert.Flash.ofBits_ninf, max_eq_right bot_le]

theorem exR_apply (x : FVec Ideal S2x16x8192x8192 .f32) (b : Fin 2) (h : Fin 16) (i j : Fin 8192) :
    exR x (ix4 b h i j) = Ideal.exp (x (ix4 b h i j) - Finset.univ.sup fun j : Fin 8192 => (x (ix4 b h i j) : EReal)) :=
  (exM_apply x (rmR x) b h i j).trans (congrArg (fun M : EReal => Ideal.exp (x (ix4 b h i j) - M)) (rmR_apply x b h i))

end Cert.Flash.Ref

end
-- ==== Proof.RefOut.lean ====
module

public import proofs.«01_k».proof.Proof.Gen.ReferenceIdeal.Run
public import proofs.«01_k».proof.Proof.RefDefs

@[expose] public section

noncomputable section

namespace Cert.Flash.Ref

open Idealize.ShloMosaic Idealize.ShloMosaic.TcCoe Cert.ReferenceIdeal Cert.ReferenceIdeal.Gen Facts

theorem ouR_apply (e : FVec Ideal S2x16x8192x8192 .f32) (v : FVec Ideal S2x8192x16x64 .f32) (b : Fin 2) (i : Fin 8192) (n : Fin 1024) :
    ouR e v (ix3 b i n) = ∑ x : Fin 8192, v (ix4 b x ⟨n.val / 64, by omega⟩ ⟨n.val % 64, by omega⟩)
      * Ideal.div (e (ix4 b ⟨n.val / 64, by omega⟩ i x)) (∑ y : Fin 8192, e (ix4 b ⟨n.val / 64, by omega⟩ i y)) := by
  pointwise [ouR]

end Cert.Flash.Ref

end
-- ==== Proof.Same.lean ====
module

public import proofs.«01_k».proof.Proof.Kern
public import proofs.«01_k».proof.Proof.Soft
public import proofs.«01_k».proof.Proof.RefLogits
public import proofs.«01_k».proof.Proof.RefExp
public import proofs.«01_k».proof.Proof.RefOut

@[expose] public section

noncomputable section

namespace Cert.Flash

open Idealize.ShloMosaic Idealize.ShloMosaic.TcCoe

theorem L2E_log : L2E * Real.log 2 = 1 := by
  have : Real.log 2 ≠ 0 := (Real.log_pos one_lt_two).ne'
  unfold L2E
  rw [one_div, inv_mul_cancel₀ this]

/-- The reference's logit of a key that the query may see, as a real. -/
def logit (q k : Cert.KernelIdeal.S2x8192x16x64.Idx → ℝ) (f : Cert.KernelIdeal.S2x8192x16.Idx → ℝ) (b : Fin 2) (h : Fin 16) (i : Fin 8192) (j : ℕ) : ℝ :=
  if hj : j < 8192 then (∑ d : Fin 64, q (ix4 b i h d) * k (ix4 b ⟨j, hj⟩ h d)) * (1 / 8) + (f (ix3 b i h) - f (ix3 b ⟨j, hj⟩ h)) else 0

theorem logit_score (q k : Cert.KernelIdeal.S2x8192x16x64.Idx → ℝ) (f : Cert.KernelIdeal.S2x8192x16.Idx → ℝ) (b : Fin 2) (h : Fin 16) (i : Fin 8192) (j : ℕ) (hj : j < 8192) :
    logit q k f b h i j = score q k f b h i j * Real.log 2 + f (ix3 b i h) := by
  unfold logit score
  rw [dif_pos hj, dif_pos hj, mul_assoc, L2E_log]
  ring

variable (q k : Cert.KernelIdeal.S2x8192x16x64.Idx → ℝ) (f : Cert.KernelIdeal.S2x8192x16.Idx → ℝ)
  (Q K W : FVec Ideal Cert.KernelIdeal.S2x8192x16x64 .f32) (P : FVec Ideal Cert.KernelIdeal.S2x8192x16 .f32)
  (hq : ∀ x, Q x = ((q x : ℝ) : EReal)) (hk : ∀ x, K x = ((k x : ℝ) : EReal)) (hf : ∀ x, P x = ((f x : ℝ) : EReal))

include hq hk hf in
theorem logits_at (b : Fin 2) (h : Fin 16) (i j : Fin 8192) :
    (Ref.lgR Q K P (ix4 b h i j) : EReal) = if j.val ≤ i.val then ((logit q k f b h i j.val : ℝ) : EReal) else ⊥ := by
  rw [Ref.lgR_apply]
  split
  · have e : (∑ x : Fin 64, (Q (ix4 b i h x) * K (ix4 b j h x) : EReal)) = ((∑ x : Fin 64, q (ix4 b i h x) * k (ix4 b j h x) : ℝ) : EReal) := by
      rw [← coe_sum]
      exact Finset.sum_congr rfl fun x _ => by rw [hq, hk, ← EReal.coe_mul]
    rw [e, hf, hf, ← EReal.coe_sub, ← EReal.coe_mul, ← EReal.coe_add]
    unfold logit
    rw [dif_pos j.isLt]
  · rfl

include hq hk hf in
/-- The reference's output at an index. -/
theorem ref_out (b : Fin 2) (i : Fin 8192) (n : Fin 1024) :
    (Ref.ouR (Ref.exR (Ref.lgR Q K P)) W (ix3 b i n) : EReal)
      = soft (score q k f b ⟨n.val / 64, by omega⟩ i) (valRow W b ⟨n.val / 64, by omega⟩ ⟨n.val % 64, by omega⟩) (i.val + 1) := by
  have e := ref_soft (N := 8192) (fun j => (Ref.lgR Q K P (ix4 b ⟨n.val / 64, by omega⟩ i j) : EReal)) (logit q k f b ⟨n.val / 64, by omega⟩ i)
    (score q k f b ⟨n.val / 64, by omega⟩ i) (f (ix3 b i ⟨n.val / 64, by omega⟩)) i (valRow W b ⟨n.val / 64, by omega⟩ ⟨n.val % 64, by omega⟩)
    (fun j => logits_at q k f Q K P hq hk hf b _ i j) (fun j hj => logit_score q k f b _ i j (by omega))
  refine Eq.trans ?_ e
  rw [Ref.ouR_apply]
  refine Finset.sum_congr rfl fun x _ => ?_
  refine congrArg₂ (fun x y : EReal => x * y) ?_ (congrArg₂ Ideal.div (Ref.exR_apply _ _ _ _ _) (Finset.sum_congr rfl fun y _ => Ref.exR_apply _ _ _ _ _))
  unfold valRow
  rw [dif_pos (show n.val % 64 < 64 by omega), dif_pos x.isLt]

end Cert.Flash

end
-- ==== Proof.FfnRow.lean ====
/- One row of the end of a layer: the output projection, the feed-forward part and the per-layer embedding, over the
   extended reals; and what the kernel's payloads are at an element, in these words. -/
module

public import proofs.«01_k».proof.Proof.Gen.Kernel2Ideal.Skeleton
public import Idealize.ShloMosaic.Lib.Pointwise

@[expose] public section

noncomputable section

namespace Cert.Ffn

open Idealize.ShloMosaic
open scoped BigOperators

/-- A row times a matrix. -/
def lin {a b : ℕ} (x : Fin a → EReal) (w : Fin a → Fin b → EReal) (n : Fin b) : EReal := ∑ k, x k * w k n

/-- A row over the root of its mean square, times the gains. -/
def rms {a : ℕ} (x g : Fin a → EReal) (n : Fin a) : EReal :=
  x n * Ideal.rsqrt (Ideal.div (∑ k, x k * x k) (Ideal.ofBits .f32 0x44800000#32) + Ideal.ofBits .f32 0x358637BD#32) * g n

/-- A row after the attention's output is projected, normed and added. -/
def mid {a b : ℕ} (h : Fin b → EReal) (o : Fin a → EReal) (wo : Fin a → Fin b → EReal) (g : Fin b → EReal) (n : Fin b) : EReal :=
  h n + rms (lin o wo) g n

/-- The gated hidden row. -/
def act {a b : ℕ} (x : Fin a → EReal) (wg wu : Fin a → Fin b → EReal) (n : Fin b) : EReal :=
  lin x wg n * Ideal.logistic (lin x wg n) * lin x wu n

/-- A row after the feed-forward part is normed and added. -/
def ffn {a b : ℕ} (x z : Fin a → EReal) (wg wu : Fin a → Fin b → EReal) (wd : Fin b → Fin a → EReal) (g : Fin a → EReal) (n : Fin a) : EReal :=
  x n + rms (lin (act z wg wu) wd) g n

/-- A row after the gated embedding is added. -/
def ple {a b : ℕ} (x : Fin a → EReal) (wpg : Fin a → Fin a → EReal) (p : Fin b → EReal) (wple : Fin b → Fin a → EReal) (n : Fin a) : EReal :=
  x n + Ideal.logistic (lin x wpg n) * lin p wple n

/-- The whole row. -/
def row {a f e : ℕ} (h o : Fin a → EReal) (p : Fin e → EReal) (wo : Fin a → Fin a → EReal) (g1 g2 g3 : Fin a → EReal)
    (wg wu : Fin a → Fin f → EReal) (wd : Fin f → Fin a → EReal) (wple : Fin e → Fin a → EReal) (wpg : Fin a → Fin a → EReal) : Fin a → EReal :=
  ple (ffn (mid h o wo g1) (rms (mid h o wo g1) g2) wg wu wd g3) wpg p wple

theorem row_congr {a f e : ℕ} {h o h' o' : Fin a → EReal} {p p' : Fin e → EReal} {wo wo' : Fin a → Fin a → EReal} {g1 g2 g3 g1' g2' g3' : Fin a → EReal}
    {wg wu wg' wu' : Fin a → Fin f → EReal} {wd wd' : Fin f → Fin a → EReal} {wple wple' : Fin e → Fin a → EReal} {wpg wpg' : Fin a → Fin a → EReal}
    (hh : ∀ n, h n = h' n) (ho : ∀ n, o n = o' n) (hp : ∀ n, p n = p' n) (hwo : ∀ k n, wo k n = wo' k n) (h1 : ∀ n, g1 n = g1' n) (h2 : ∀ n, g2 n = g2' n)
    (h3 : ∀ n, g3 n = g3' n) (hwg : ∀ k n, wg k n = wg' k n) (hwu : ∀ k n, wu k n = wu' k n) (hwd : ∀ k n, wd k n = wd' k n)
    (hwple : ∀ k n, wple k n = wple' k n) (hwpg : ∀ k n, wpg k n = wpg' k n) (n : Fin a) :
    row h o p wo g1 g2 g3 wg wu wd wple wpg n = row h' o' p' wo' g1' g2' g3' wg' wu' wd' wple' wpg' n := by
  obtain rfl : h = h' := funext hh
  obtain rfl : o = o' := funext ho
  obtain rfl : p = p' := funext hp
  obtain rfl : wo = wo' := funext fun k => funext (hwo k)
  obtain rfl : g1 = g1' := funext h1
  obtain rfl : g2 = g2' := funext h2
  obtain rfl : g3 = g3' := funext h3
  obtain rfl : wg = wg' := funext fun k => funext (hwg k)
  obtain rfl : wu = wu' := funext fun k => funext (hwu k)
  obtain rfl : wd = wd' := funext fun k => funext (hwd k)
  obtain rfl : wple = wple' := funext fun k => funext (hwple k)
  obtain rfl : wpg = wpg' := funext fun k => funext (hwpg k)
  rfl

open Cert.Kernel2Ideal Cert.Kernel2Ideal.Gen

theorem mid_apply (h : FVec Ideal S256x1024 .f32) (o : FVec Ideal S256x1024 .bf16) (wo : FVec Ideal S1x1024x1024 .bf16) (g : FVec Ideal S1x1024 .f32)
    (r : Fin 256) (n : Fin 1024) :
    k0_pay2 (F := Ideal) h o wo g (ix2 r n)
      = mid (fun n => h (ix2 r n)) (fun k => o (ix2 r k)) (fun k n => wo (ix3 0 k n)) (fun n => g (ix2 0 n)) n := by
  pointwise [k0_pay2]
  rfl

theorem norm_apply (h : FVec Ideal S256x1024 .f32) (o : FVec Ideal S256x1024 .bf16) (wo : FVec Ideal S1x1024x1024 .bf16) (g g2 : FVec Ideal S1x1024 .f32)
    (r : Fin 256) (n : Fin 1024) :
    k0_pay3 (F := Ideal) h o wo g g2 (ix2 r n)
      = rms (fun n => k0_pay2 (F := Ideal) h o wo g (ix2 r n)) (fun n => g2 (ix2 0 n)) n := by
  pointwise [k0_pay3]
  rfl

theorem ffn_apply (x : FVec Ideal S256x1024 .f32) (z : FVec Ideal S256x1024 .bf16) (wg wu : FVec Ideal S1x1024x2816 .bf16) (wd : FVec Ideal S1x2816x1024 .bf16)
    (g : FVec Ideal S1x1024 .f32) (r : Fin 256) (n : Fin 1024) :
    k0_pay4 (F := Ideal) x z wg wu wd g (ix2 r n)
      = ffn (fun n => x (ix2 r n)) (fun n => z (ix2 r n)) (fun k n => wg (ix3 0 k n)) (fun k n => wu (ix3 0 k n)) (fun k n => wd (ix3 0 k n))
          (fun n => g (ix2 0 n)) n := by
  pointwise [k0_pay4]
  rfl

theorem gate_apply (x : FVec Ideal S256x1024 .f32) (z : FVec Ideal S256x1024 .bf16) (wg wu : FVec Ideal S1x1024x2816 .bf16) (wd : FVec Ideal S1x2816x1024 .bf16)
    (g : FVec Ideal S1x1024 .f32) (wpg : FVec Ideal S1x1024x1024 .bf16) (r : Fin 256) (n : Fin 1024) :
    k0_pay5 (F := Ideal) x z wg wu wd g wpg (ix2 r n)
      = Ideal.logistic (lin (fun n => k0_pay4 (F := Ideal) x z wg wu wd g (ix2 r n)) (fun k n => wpg (ix3 0 k n)) n) := by
  pointwise [k0_pay5]
  rfl

theorem end_apply (x s : FVec Ideal S256x1024 .f32) (p : FVec Ideal S1x256x256 .f32) (w : FVec Ideal S1x256x1024 .bf16) (r : Fin 256) (n : Fin 1024) :
    k0_pay1 (F := Ideal) x s (k0_pay6 p) w (ix2 r n)
      = x (ix2 r n) + s (ix2 r n) * lin (fun k => p (ix3 0 r k)) (fun k n => w (ix3 0 k n)) n := by
  pointwise [k0_pay1, k0_pay6]
  rfl

end Cert.Ffn

end
-- ==== Proof.FfnKern.lean ====
/- The kernel's end of a layer: its windows' blocks read at an element, and its result's row in the words of one row. -/
module

public import proofs.«01_k».proof.Proof.FfnRow
public import proofs.«01_k».proof.Proof.Gen.Kernel2Ideal.Value
public import Idealize.ShloMosaic.Lib.Pipeline.ValueKit
public import Idealize.ShloMosaic.Lib.StableHlo.ReadAt

@[expose] public section

noncomputable section

namespace Cert.Ffn

open Idealize.ShloMosaic Idealize.ShloMosaic.TcCoe Cert.Kernel2Ideal Cert.Kernel2Ideal.Gen

variable (m : (ℓ : Loc nD τ sig) → Buf (Elt Ideal) ℓ) (c : Dev nD)

theorem index0 (t : Fin cfg0.N) : win0_0.index t = ![0, 0] := (by decide +kernel : ∀ t : Fin grid0.N, win0_0.index t = ![0, 0]) t
theorem index1 (t : Fin cfg0.N) : win0_1.index t = ![0, 0] := (by decide +kernel : ∀ t : Fin grid0.N, win0_1.index t = ![0, 0]) t
theorem index2 (t : Fin cfg0.N) : win0_2.index t = ![3, 0, 0] := (by decide +kernel : ∀ t : Fin grid0.N, win0_2.index t = ![3, 0, 0]) t
theorem index3 (t : Fin cfg0.N) : win0_3.index t = ![0, 0] := (by decide +kernel : ∀ t : Fin grid0.N, win0_3.index t = ![0, 0]) t
theorem index4 (t : Fin cfg0.N) : win0_4.index t = ![1, 0, 0] := (by decide +kernel : ∀ t : Fin grid0.N, win0_4.index t = ![1, 0, 0]) t
theorem index5 (t : Fin cfg0.N) : win0_5.index t = ![3, 0, 0] := (by decide +kernel : ∀ t : Fin grid0.N, win0_5.index t = ![3, 0, 0]) t
theorem index6 (t : Fin cfg0.N) : win0_6.index t = ![3, 0, 0] := (by decide +kernel : ∀ t : Fin grid0.N, win0_6.index t = ![3, 0, 0]) t
theorem index7 (t : Fin cfg0.N) : win0_7.index t = ![3, 0, 0] := (by decide +kernel : ∀ t : Fin grid0.N, win0_7.index t = ![3, 0, 0]) t
theorem index8 (t : Fin cfg0.N) : win0_8.index t = ![3, 0, 0] := (by decide +kernel : ∀ t : Fin grid0.N, win0_8.index t = ![3, 0, 0]) t
theorem index9 (t : Fin cfg0.N) : win0_9.index t = ![3, 0, 0] := (by decide +kernel : ∀ t : Fin grid0.N, win0_9.index t = ![3, 0, 0]) t
theorem index10 (t : Fin cfg0.N) : win0_10.index t = ![0, 0] := (by decide +kernel : ∀ t : Fin grid0.N, win0_10.index t = ![0, 0]) t

theorem iblk0_at (t : Fin cfg0.N) (a : Fin 256) (b : Fin 1024) :
    (iblk m c 0 t : Vec Ideal S256x1024 .f32) (ix2 a b) = (V m c main_v0 : FVec Ideal S256x1024 .f32) (ix2 a b) := by
  show V m c main_v0 (((cfg0.win 0).blk t).view.emb (ix2 a b)) = _
  refine congrArg (V m c main_v0) (funext fun x => Fin.ext ?_)
  blk_simp [index0]
  match x with
  | ⟨0, _⟩ => show 0 * 256 + a.val = a.val; omega
  | ⟨1, _⟩ => show 0 * 1024 + b.val = b.val; omega

theorem iblk1_at (t : Fin cfg0.N) (a : Fin 256) (b : Fin 1024) :
    (iblk m c 1 t : Vec Ideal S256x1024 .bf16) (ix2 a b) = (V m c main_v1 : FVec Ideal S256x1024 .bf16) (ix2 a b) := by
  show V m c main_v1 (((cfg0.win 1).blk t).view.emb (ix2 a b)) = _
  refine congrArg (V m c main_v1) (funext fun x => Fin.ext ?_)
  blk_simp [index1]
  match x with
  | ⟨0, _⟩ => show 0 * 256 + a.val = a.val; omega
  | ⟨1, _⟩ => show 0 * 1024 + b.val = b.val; omega

theorem iblk2_at (t : Fin cfg0.N) (a : Fin 256) (b : Fin 256) :
    (iblk m c 2 t : Vec Ideal S1x256x256 .f32) (ix3 0 a b) = (V m c main_v2 : FVec Ideal S4x256x256 .f32) (ix3 3 a b) := by
  show V m c main_v2 (((cfg0.win 2).blk t).view.emb (ix3 0 a b)) = _
  refine congrArg (V m c main_v2) (funext fun x => Fin.ext ?_)
  blk_simp [index2]
  match x with
  | ⟨0, _⟩ => rfl
  | ⟨1, _⟩ => show 0 * 256 + a.val = a.val; omega
  | ⟨2, _⟩ => show 0 * 256 + b.val = b.val; omega

theorem iblk3_at (t : Fin cfg0.N) (a : Fin 4) (b : Fin 1024) :
    (iblk m c 3 t : Vec Ideal S4x1024 .f32) (ix2 a b) = (V m c main_v4 : FVec Ideal S4x1024 .f32) (ix2 a b) := by
  show V m c main_v4 (((cfg0.win 3).blk t).view.emb (ix2 a b)) = _
  refine congrArg (V m c main_v4) (funext fun x => Fin.ext ?_)
  blk_simp [index3]
  match x with
  | ⟨0, _⟩ => show 0 * 4 + a.val = a.val; omega
  | ⟨1, _⟩ => show 0 * 1024 + b.val = b.val; omega

theorem iblk4_at (t : Fin cfg0.N) (a : Fin 1024) (b : Fin 1024) :
    (iblk m c 4 t : Vec Ideal S1x1024x1024 .bf16) (ix3 0 a b) = (V m c main_v5 : FVec Ideal S2x1024x1024 .bf16) (ix3 1 a b) := by
  show V m c main_v5 (((cfg0.win 4).blk t).view.emb (ix3 0 a b)) = _
  refine congrArg (V m c main_v5) (funext fun x => Fin.ext ?_)
  blk_simp [index4]
  match x with
  | ⟨0, _⟩ => rfl
  | ⟨1, _⟩ => show 0 * 1024 + a.val = a.val; omega
  | ⟨2, _⟩ => show 0 * 1024 + b.val = b.val; omega

theorem iblk5_at (t : Fin cfg0.N) (a : Fin 1024) (b : Fin 2816) :
    (iblk m c 5 t : Vec Ideal S1x1024x2816 .bf16) (ix3 0 a b) = (V m c main_v6 : FVec Ideal S4x1024x2816 .bf16) (ix3 3 a b) := by
  show V m c main_v6 (((cfg0.win 5).blk t).view.emb (ix3 0 a b)) = _
  refine congrArg (V m c main_v6) (funext fun x => Fin.ext ?_)
  blk_simp [index5]
  match x with
  | ⟨0, _⟩ => rfl
  | ⟨1, _⟩ => show 0 * 1024 + a.val = a.val; omega
  | ⟨2, _⟩ => show 0 * 2816 + b.val = b.val; omega

theorem iblk6_at (t : Fin cfg0.N) (a : Fin 1024) (b : Fin 2816) :
    (iblk m c 6 t : Vec Ideal S1x1024x2816 .bf16) (ix3 0 a b) = (V m c main_v7 : FVec Ideal S4x1024x2816 .bf16) (ix3 3 a b) := by
  show V m c main_v7 (((cfg0.win 6).blk t).view.emb (ix3 0 a b)) = _
  refine congrArg (V m c main_v7) (funext fun x => Fin.ext ?_)
  blk_simp [index6]
  match x with
  | ⟨0, _⟩ => rfl
  | ⟨1, _⟩ => show 0 * 1024 + a.val = a.val; omega
  | ⟨2, _⟩ => show 0 * 2816 + b.val = b.val; omega

theorem iblk7_at (t : Fin cfg0.N) (a : Fin 2816) (b : Fin 1024) :
    (iblk m c 7 t : Vec Ideal S1x2816x1024 .bf16) (ix3 0 a b) = (V m c main_v8 : FVec Ideal S4x2816x1024 .bf16) (ix3 3 a b) := by
  show V m c main_v8 (((cfg0.win 7).blk t).view.emb (ix3 0 a b)) = _
  refine congrArg (V m c main_v8) (funext fun x => Fin.ext ?_)
  blk_simp [index7]
  match x with
  | ⟨0, _⟩ => rfl
  | ⟨1, _⟩ => show 0 * 2816 + a.val = a.val; omega
  | ⟨2, _⟩ => show 0 * 1024 + b.val = b.val; omega

theorem iblk8_at (t : Fin cfg0.N) (a : Fin 256) (b : Fin 1024) :
    (iblk m c 8 t : Vec Ideal S1x256x1024 .bf16) (ix3 0 a b) = (V m c main_v9 : FVec Ideal S4x256x1024 .bf16) (ix3 3 a b) := by
  show V m c main_v9 (((cfg0.win 8).blk t).view.emb (ix3 0 a b)) = _
  refine congrArg (V m c main_v9) (funext fun x => Fin.ext ?_)
  blk_simp [index8]
  match x with
  | ⟨0, _⟩ => rfl
  | ⟨1, _⟩ => show 0 * 256 + a.val = a.val; omega
  | ⟨2, _⟩ => show 0 * 1024 + b.val = b.val; omega

theorem iblk9_at (t : Fin cfg0.N) (a : Fin 1024) (b : Fin 1024) :
    (iblk m c 9 t : Vec Ideal S1x1024x1024 .bf16) (ix3 0 a b) = (V m c main_v10 : FVec Ideal S4x1024x1024 .bf16) (ix3 3 a b) := by
  show V m c main_v10 (((cfg0.win 9).blk t).view.emb (ix3 0 a b)) = _
  refine congrArg (V m c main_v10) (funext fun x => Fin.ext ?_)
  blk_simp [index9]
  match x with
  | ⟨0, _⟩ => rfl
  | ⟨1, _⟩ => show 0 * 1024 + a.val = a.val; omega
  | ⟨2, _⟩ => show 0 * 1024 + b.val = b.val; omega

abbrev arg0 : FVec Ideal S32x8x1024 .f32 := m (c, Proc.tc.devRef main_arg0)
abbrev arg1 : FVec Ideal S32x8x1024 .bf16 := m (c, Proc.tc.devRef main_arg1)
abbrev arg2 : FVec Ideal S4x32x8x256 .f32 := m (c, Proc.tc.devRef main_arg2)
abbrev arg3 : FVec Ideal S4x4x1024 .f32 := m (c, Proc.tc.devRef main_arg3)
abbrev arg4 : FVec Ideal S2x1024x1024 .f32 := m (c, Proc.tc.devRef main_arg4)
abbrev arg5 : FVec Ideal S4x1024x2816 .f32 := m (c, Proc.tc.devRef main_arg5)
abbrev arg6 : FVec Ideal S4x1024x2816 .f32 := m (c, Proc.tc.devRef main_arg6)
abbrev arg7 : FVec Ideal S4x2816x1024 .f32 := m (c, Proc.tc.devRef main_arg7)
abbrev arg8 : FVec Ideal S4x256x1024 .f32 := m (c, Proc.tc.devRef main_arg8)
abbrev arg9 : FVec Ideal S4x1024x1024 .f32 := m (c, Proc.tc.devRef main_arg9)

theorem V0_at (r : Fin 256) (n : Fin 1024) : (V m c main_v0 : FVec Ideal S256x1024 .f32) (ix2 r n) = arg0 m c (ix3 ⟨r.val / 8, by omega⟩ ⟨r.val % 8, by omega⟩ n) := by
  unfold V
  after_reads_at

theorem V1_at (r : Fin 256) (n : Fin 1024) : (V m c main_v1 : FVec Ideal S256x1024 .bf16) (ix2 r n) = arg1 m c (ix3 ⟨r.val / 8, by omega⟩ ⟨r.val % 8, by omega⟩ n) := by
  unfold V
  after_reads_at

theorem V2_at (r : Fin 256) (n : Fin 256) : (V m c main_v2 : FVec Ideal S4x256x256 .f32) (ix3 3 r n) = arg2 m c (ix4 3 ⟨r.val / 8, by omega⟩ ⟨r.val % 8, by omega⟩ n) := by
  unfold V
  after_reads_at

theorem V3_at (r : Fin 4) (n : Fin 1024) : (V m c main_v4 : FVec Ideal S4x1024 .f32) (ix2 r n) = arg3 m c (ix3 3 r n) := by
  unfold V
  after_reads_at

theorem V4_at (r : Fin 1024) (n : Fin 1024) : (V m c main_v5 : FVec Ideal S2x1024x1024 .bf16) (ix3 1 r n) = arg4 m c (ix3 1 r n) := by
  unfold V
  after_reads_at

theorem V5_at (r : Fin 1024) (n : Fin 2816) : (V m c main_v6 : FVec Ideal S4x1024x2816 .bf16) (ix3 3 r n) = arg5 m c (ix3 3 r n) := by
  unfold V
  after_reads_at

theorem V6_at (r : Fin 1024) (n : Fin 2816) : (V m c main_v7 : FVec Ideal S4x1024x2816 .bf16) (ix3 3 r n) = arg6 m c (ix3 3 r n) := by
  unfold V
  after_reads_at

theorem V7_at (r : Fin 2816) (n : Fin 1024) : (V m c main_v8 : FVec Ideal S4x2816x1024 .bf16) (ix3 3 r n) = arg7 m c (ix3 3 r n) := by
  unfold V
  after_reads_at

theorem V8_at (r : Fin 256) (n : Fin 1024) : (V m c main_v9 : FVec Ideal S4x256x1024 .bf16) (ix3 3 r n) = arg8 m c (ix3 3 r n) := by
  unfold V
  after_reads_at

theorem V9_at (r : Fin 1024) (n : Fin 1024) : (V m c main_v10 : FVec Ideal S4x1024x1024 .bf16) (ix3 3 r n) = arg9 m c (ix3 3 r n) := by
  unfold V
  after_reads_at

/-- The body's result at an element, from its windows' blocks. -/
theorem body_apply (x0 : Vec Ideal S256x1024 .f32) (x1 : Vec Ideal S256x1024 .bf16) (x2 : Vec Ideal S1x256x256 .f32) (x3 : Vec Ideal S4x1024 .f32)
    (x4 : Vec Ideal S1x1024x1024 .bf16) (x5 x6 : Vec Ideal S1x1024x2816 .bf16) (x7 : Vec Ideal S1x2816x1024 .bf16) (x8 : Vec Ideal S1x256x1024 .bf16)
    (x9 : Vec Ideal S1x1024x1024 .bf16) (r : Fin 256) (n : Fin 1024) :
    out0_10 (F := Ideal) x0 x1 x2 x3 x4 x5 x6 x7 x8 x9 (ix2 r n)
      = row (fun n => x0 (ix2 r n)) (fun n => x1 (ix2 r n)) (fun n => x2 (ix3 0 r n)) (fun k n => x4 (ix3 0 k n)) (fun n => x3 (ix2 1 n))
          (fun n => x3 (ix2 2 n)) (fun n => x3 (ix2 3 n)) (fun k n => x5 (ix3 0 k n)) (fun k n => x6 (ix3 0 k n)) (fun k n => x7 (ix3 0 k n))
          (fun k n => x8 (ix3 0 k n)) (fun k n => x9 (ix3 0 k n)) n := by
  have e1 : ∀ n : Fin 1024, (View.ld x3 r0_2 : FVec Ideal S1x1024 .f32) (ix2 0 n) = x3 (ix2 1 n) := fun n => congrArg x3 (by funext a; apply Fin.ext; fin_cases a <;> simp [ix2])
  have e2 : ∀ n : Fin 1024, (View.ld x3 r0_3 : FVec Ideal S1x1024 .f32) (ix2 0 n) = x3 (ix2 2 n) := fun n => congrArg x3 (by funext a; apply Fin.ext; fin_cases a <;> simp [ix2])
  have e3 : ∀ n : Fin 1024, (View.ld x3 r0_6 : FVec Ideal S1x1024 .f32) (ix2 0 n) = x3 (ix2 3 n) := fun n => congrArg x3 (by funext a; apply Fin.ext; fin_cases a <;> simp [ix2])
  have l0 : (View.ld x0 r0_0 : Vec Ideal S256x1024 .f32) = x0 := View.ld_unit_lit _ x0 (by decide)
  have l1 : (View.ld x1 r0_0 : Vec Ideal S256x1024 .bf16) = x1 := View.ld_unit_lit _ x1 (by decide)
  have l2 : (View.ld x2 r0_7 : Vec Ideal S1x256x256 .f32) = x2 := View.ld_unit_lit _ x2 (by decide)
  have l4 : (View.ld x4 r0_1 : Vec Ideal S1x1024x1024 .bf16) = x4 := View.ld_unit_lit _ x4 (by decide)
  have l5 : (View.ld x5 r0_4 : Vec Ideal S1x1024x2816 .bf16) = x5 := View.ld_unit_lit _ x5 (by decide)
  have l6 : (View.ld x6 r0_4 : Vec Ideal S1x1024x2816 .bf16) = x6 := View.ld_unit_lit _ x6 (by decide)
  have l7 : (View.ld x7 r0_5 : Vec Ideal S1x2816x1024 .bf16) = x7 := View.ld_unit_lit _ x7 (by decide)
  have l8 : (View.ld x8 r0_8 : Vec Ideal S1x256x1024 .bf16) = x8 := View.ld_unit_lit _ x8 (by decide)
  have l9 : (View.ld x9 r0_1 : Vec Ideal S1x1024x1024 .bf16) = x9 := View.ld_unit_lit _ x9 (by decide)
  unfold out0_10 k0_pay7 k0_pay8
  rw [View.canon_cons_unit_lit _ _ _ (by decide), end_apply, gate_apply]
  simp only [ffn_apply, norm_apply, mid_apply, e1, e2, e3]
  rw [l0, l1, l2, l4, l5, l6, l7, l8, l9]
  rfl

/-- The kernel's result at an element. -/
theorem kernel_out (r : Fin 256) (n : Fin 1024) :
    (((dats (F := Ideal) m 0 c).arrAt 10 cfg0.N) : FVec Ideal S256x1024 .f32) (ix2 r n)
      = row (fun n => arg0 m c (ix3 ⟨r.val / 8, by omega⟩ ⟨r.val % 8, by omega⟩ n)) (fun n => arg1 m c (ix3 ⟨r.val / 8, by omega⟩ ⟨r.val % 8, by omega⟩ n))
          (fun n => arg2 m c (ix4 3 ⟨r.val / 8, by omega⟩ ⟨r.val % 8, by omega⟩ n)) (fun k n => arg4 m c (ix3 1 k n)) (fun n => arg3 m c (ix3 3 1 n))
          (fun n => arg3 m c (ix3 3 2 n)) (fun n => arg3 m c (ix3 3 3 n)) (fun k n => arg5 m c (ix3 3 k n)) (fun k n => arg6 m c (ix3 3 k n))
          (fun k n => arg7 m c (ix3 3 k n)) (fun k n => arg8 m c (ix3 3 k n)) (fun k n => arg9 m c (ix3 3 k n)) n := by
  have t : Fin cfg0.N := ⟨0, by decide⟩
  have e : (((dats (F := Ideal) m 0 c).arrAt 10 cfg0.N) : FVec Ideal S256x1024 .f32) (ix2 r n)
      = ((dats (F := Ideal) m 0 c).flushed 10 t : Vec Ideal S256x1024 .f32) (ix2 r n) := by
    rw [← Cert.Kernel2Ideal.Value.blocks10 m c t (flush0_10 t)]
    show _ = ((dats (F := Ideal) m 0 c).arrAt 10 cfg0.N) (((cfg0.win 10).blk t).view.emb (ix2 r n))
    refine congrArg ((dats (F := Ideal) m 0 c).arrAt 10 cfg0.N) (funext fun x => Fin.ext ?_)
    blk_simp [index10]
    match x with
    | ⟨0, _⟩ => show r.val = 0 * 256 + r.val; omega
    | ⟨1, _⟩ => show n.val = 0 * 1024 + n.val; omega
  rw [e, Cert.Kernel2Ideal.Value.flushed10]
  refine (body_apply _ _ _ _ _ _ _ _ _ _ r n).trans ?_
  exact row_congr (fun n => (iblk0_at m c t r n).trans (V0_at m c r n)) (fun n => (iblk1_at m c t r n).trans (V1_at m c r n))
    (fun n => (iblk2_at m c t r n).trans (V2_at m c r n)) (fun k n => (iblk4_at m c t k n).trans (V4_at m c k n))
    (fun n => (iblk3_at m c t 1 n).trans (V3_at m c 1 n)) (fun n => (iblk3_at m c t 2 n).trans (V3_at m c 2 n)) (fun n => (iblk3_at m c t 3 n).trans (V3_at m c 3 n))
    (fun k n => (iblk5_at m c t k n).trans (V5_at m c k n)) (fun k n => (iblk6_at m c t k n).trans (V6_at m c k n)) (fun k n => (iblk7_at m c t k n).trans (V7_at m c k n))
    (fun k n => (iblk8_at m c t k n).trans (V8_at m c k n)) (fun k n => (iblk9_at m c t k n).trans (V9_at m c k n)) n

end Cert.Ffn

end
-- ==== Proof.FfnRef.lean ====
/- The reference's end of a layer, cut into its steps, and each step at an element in the words of one row. -/
module

public import proofs.«01_k».proof.Proof.Gen.Reference2Ideal.Run
public import proofs.«01_k».proof.Proof.FfnRow

@[expose] public section

noncomputable section

namespace Cert.Ffn.Ref

open Idealize.ShloMosaic Idealize.ShloMosaic.TcCoe Cert.Reference2Ideal Cert.Reference2Ideal.Gen Facts

/-- The attention's output, projected. -/
def oproj (o : FVec Ideal S32x8x1024 .bf16) (w : FVec Ideal S2x1024x1024 .f32) : FVec Ideal S32x8x1024 .f32 :=
  Host.dotGeneral dot_S32x8x1024_S1024x1024_S32x8x1024_2_0_01_1_n_n none (extf .f32 o bitsLt_bf16_f32) (shapeCast _ (extractStridedSlice S1x1024x1024 ![1, 0, 0] w slices_S2x1024x1024_S1x1024x1024_1_0_0) shapeCasts_S1x1024x1024_S1024x1024)

/-- Rows over the root of their mean square, times the gains. -/
def nrm (x : FVec Ideal S32x8x1024 .f32) (g : FVec Ideal S1x1x1024 .f32) : FVec Ideal S32x8x1024 .f32 :=
  mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ g shapeCasts_S1x1x1024_S1024)))

/-- Rows times the matrix of the last layer. -/
def up (z : FVec Ideal S32x8x1024 .f32) (w : FVec Ideal S4x1024x2816 .f32) : FVec Ideal S32x8x2816 .f32 :=
  Host.dotGeneral dot_S32x8x1024_S1024x2816_S32x8x2816_2_0_01_1_n_n none z (shapeCast _ (extractStridedSlice S1x1024x2816 ![3, 0, 0] w slices_S4x1024x2816_S1x1024x2816_3_0_0) shapeCasts_S1x1024x2816_S1024x2816)

/-- The gated hidden rows, times the matrix of the last layer. -/
def down (a b : FVec Ideal S32x8x2816 .f32) (w : FVec Ideal S4x2816x1024 .f32) : FVec Ideal S32x8x1024 .f32 :=
  Host.dotGeneral dot_S32x8x2816_S2816x1024_S32x8x1024_2_0_01_1_n_n none (mulf (mulf a (Host.divf (broadcastInDim S32x8x2816 ![] bcast_S_S32x8x2816 (constant S_ .f32 0x3F800000#32)) (addf (broadcastInDim S32x8x2816 ![] bcast_S_S32x8x2816 (constant S_ .f32 0x3F800000#32)) (Host.exp (Host.negf a))))) b) (shapeCast _ (extractStridedSlice S1x2816x1024 ![3, 0, 0] w slices_S4x2816x1024_S1x2816x1024_3_0_0) shapeCasts_S1x2816x1024_S2816x1024)

/-- The embedding, gated and added. -/
def emb (x : FVec Ideal S32x8x1024 .f32) (p : FVec Ideal S4x32x8x256 .f32) (wple : FVec Ideal S4x256x1024 .f32) (wpg : FVec Ideal S4x1024x1024 .f32) : FVec Ideal S256x1024 .f32 :=
  shapeCast _ (addf x (mulf (Host.divf (broadcastInDim S32x8x1024 ![] bcast_S_S32x8x1024 (constant S_ .f32 0x3F800000#32)) (addf (broadcastInDim S32x8x1024 ![] bcast_S_S32x8x1024 (constant S_ .f32 0x3F800000#32)) (Host.exp (Host.negf (Host.dotGeneral dot_S32x8x1024_S1024x1024_S32x8x1024_2_0_01_1_n_n none x (shapeCast _ (extractStridedSlice S1x1024x1024 ![3, 0, 0] wpg slices_S4x1024x1024_S1x1024x1024_3_0_0) shapeCasts_S1x1024x1024_S1024x1024)))))) (Host.dotGeneral dot_S32x8x256_S256x1024_S32x8x1024_2_0_01_1_n_n none (shapeCast _ (extractStridedSlice S1x32x8x256 ![3, 0, 0, 0] p slices_S4x32x8x256_S1x32x8x256_3_0_0_0) shapeCasts_S1x32x8x256_S32x8x256) (shapeCast _ (extractStridedSlice S1x256x1024 ![3, 0, 0] wple slices_S4x256x1024_S1x256x1024_3_0_0) shapeCasts_S1x256x1024_S256x1024)))) shapeCasts_S32x8x1024_S256x1024

/-- The three gains of the last layer. -/
def gain1 (g : FVec Ideal S4x4x1024 .f32) : FVec Ideal S1x1x1024 .f32 := extractStridedSlice S1x1x1024 ![3, 1, 0] g slices_S4x4x1024_S1x1x1024_3_1_0
def gain2 (g : FVec Ideal S4x4x1024 .f32) : FVec Ideal S1x1x1024 .f32 := extractStridedSlice S1x1x1024 ![3, 2, 0] g slices_S4x4x1024_S1x1x1024_3_2_0
def gain3 (g : FVec Ideal S4x4x1024 .f32) : FVec Ideal S1x1x1024 .f32 := extractStridedSlice S1x1x1024 ![3, 3, 0] g slices_S4x4x1024_S1x1x1024_3_3_0

/-- The rows after the projection, and after the feed-forward part. -/
def midR (h : FVec Ideal S32x8x1024 .f32) (o : FVec Ideal S32x8x1024 .bf16) (g : FVec Ideal S4x4x1024 .f32) (wo : FVec Ideal S2x1024x1024 .f32) : FVec Ideal S32x8x1024 .f32 :=
  addf h (nrm (oproj o wo) (gain1 g))
def ffnR (x : FVec Ideal S32x8x1024 .f32) (g : FVec Ideal S4x4x1024 .f32) (wg wu : FVec Ideal S4x1024x2816 .f32) (wd : FVec Ideal S4x2816x1024 .f32) : FVec Ideal S32x8x1024 .f32 :=
  addf x (nrm (down (up (nrm x (gain2 g)) wg) (up (nrm x (gain2 g)) wu) wd) (gain3 g))

theorem oproj_apply (o : FVec Ideal S32x8x1024 .bf16) (w : FVec Ideal S2x1024x1024 .f32) (b : Fin 32) (t : Fin 8) (n : Fin 1024) :
    oproj o w (ix3 b t n) = lin (fun k => o (ix3 b t k)) (fun k n => w (ix3 1 k n)) n := by
  pointwise [oproj]
  rfl

theorem nrm_apply (x : FVec Ideal S32x8x1024 .f32) (g : FVec Ideal S1x1x1024 .f32) (b : Fin 32) (t : Fin 8) (n : Fin 1024) :
    nrm x g (ix3 b t n) = rms (fun n => x (ix3 b t n)) (fun n => g (ix3 0 0 n)) n := by
  pointwise [nrm]
  rfl

theorem up_apply (z : FVec Ideal S32x8x1024 .f32) (w : FVec Ideal S4x1024x2816 .f32) (b : Fin 32) (t : Fin 8) (n : Fin 2816) :
    up z w (ix3 b t n) = lin (fun k => z (ix3 b t k)) (fun k n => w (ix3 3 k n)) n := by
  pointwise [up]
  rfl

theorem down_apply (a d : FVec Ideal S32x8x2816 .f32) (w : FVec Ideal S4x2816x1024 .f32) (b : Fin 32) (t : Fin 8) (n : Fin 1024) :
    down a d w (ix3 b t n) = lin (fun k => a (ix3 b t k) * Ideal.logistic (a (ix3 b t k)) * d (ix3 b t k)) (fun k n => w (ix3 3 k n)) n := by
  pointwise [down]
  rfl

theorem emb_apply (x : FVec Ideal S32x8x1024 .f32) (p : FVec Ideal S4x32x8x256 .f32) (wple : FVec Ideal S4x256x1024 .f32) (wpg : FVec Ideal S4x1024x1024 .f32)
    (r : Fin 256) (n : Fin 1024) :
    emb x p wple wpg (ix2 r n) = ple (fun n => x (ix3 ⟨r.val / 8, by omega⟩ ⟨r.val % 8, by omega⟩ n)) (fun k n => wpg (ix3 3 k n))
      (fun k => p (ix4 3 ⟨r.val / 8, by omega⟩ ⟨r.val % 8, by omega⟩ k)) (fun k n => wple (ix3 3 k n)) n := by
  pointwise [emb]
  rfl

theorem gain1_apply (g : FVec Ideal S4x4x1024 .f32) (n : Fin 1024) : gain1 g (ix3 0 0 n) = g (ix3 3 1 n) := by
  pointwise [gain1]
theorem gain2_apply (g : FVec Ideal S4x4x1024 .f32) (n : Fin 1024) : gain2 g (ix3 0 0 n) = g (ix3 3 2 n) := by
  pointwise [gain2]
theorem gain3_apply (g : FVec Ideal S4x4x1024 .f32) (n : Fin 1024) : gain3 g (ix3 0 0 n) = g (ix3 3 3 n) := by
  pointwise [gain3]

theorem midR_apply (h : FVec Ideal S32x8x1024 .f32) (o : FVec Ideal S32x8x1024 .bf16) (g : FVec Ideal S4x4x1024 .f32) (wo : FVec Ideal S2x1024x1024 .f32)
    (b : Fin 32) (t : Fin 8) (n : Fin 1024) :
    midR h o g wo (ix3 b t n) = mid (fun n => h (ix3 b t n)) (fun k => o (ix3 b t k)) (fun k n => wo (ix3 1 k n)) (fun n => g (ix3 3 1 n)) n := by
  show (h (ix3 b t n) : EReal) + nrm (oproj o wo) (gain1 g) (ix3 b t n) = _
  rw [nrm_apply]
  simp only [oproj_apply, gain1_apply]
  rfl

theorem ffnR_apply (x : FVec Ideal S32x8x1024 .f32) (g : FVec Ideal S4x4x1024 .f32) (wg wu : FVec Ideal S4x1024x2816 .f32) (wd : FVec Ideal S4x2816x1024 .f32)
    (b : Fin 32) (t : Fin 8) (n : Fin 1024) :
    ffnR x g wg wu wd (ix3 b t n) = ffn (fun n => x (ix3 b t n)) (rms (fun n => x (ix3 b t n)) (fun n => g (ix3 3 2 n)))
      (fun k n => wg (ix3 3 k n)) (fun k n => wu (ix3 3 k n)) (fun k n => wd (ix3 3 k n)) (fun n => g (ix3 3 3 n)) n := by
  show (x (ix3 b t n) : EReal) + nrm (down (up (nrm x (gain2 g)) wg) (up (nrm x (gain2 g)) wu) wd) (gain3 g) (ix3 b t n) = _
  rw [nrm_apply]
  simp only [down_apply, up_apply, nrm_apply, gain2_apply, gain3_apply]
  rfl

/-- The reference's result at an element. -/
theorem out_apply (h : FVec Ideal S32x8x1024 .f32) (o : FVec Ideal S32x8x1024 .bf16) (p : FVec Ideal S4x32x8x256 .f32) (g : FVec Ideal S4x4x1024 .f32)
    (wo : FVec Ideal S2x1024x1024 .f32) (wg wu : FVec Ideal S4x1024x2816 .f32) (wd : FVec Ideal S4x2816x1024 .f32) (wple : FVec Ideal S4x256x1024 .f32)
    (wpg : FVec Ideal S4x1024x1024 .f32) (r : Fin 256) (n : Fin 1024) :
    emb (ffnR (midR h o g wo) g wg wu wd) p wple wpg (ix2 r n)
      = row (fun n => h (ix3 ⟨r.val / 8, by omega⟩ ⟨r.val % 8, by omega⟩ n)) (fun n => o (ix3 ⟨r.val / 8, by omega⟩ ⟨r.val % 8, by omega⟩ n))
          (fun n => p (ix4 3 ⟨r.val / 8, by omega⟩ ⟨r.val % 8, by omega⟩ n)) (fun k n => wo (ix3 1 k n)) (fun n => g (ix3 3 1 n)) (fun n => g (ix3 3 2 n))
          (fun n => g (ix3 3 3 n)) (fun k n => wg (ix3 3 k n)) (fun k n => wu (ix3 3 k n)) (fun k n => wd (ix3 3 k n)) (fun k n => wple (ix3 3 k n))
          (fun k n => wpg (ix3 3 k n)) n := by
  rw [emb_apply]
  simp only [ffnR_apply, midR_apply]
  rfl

variable (m : (ℓ : Loc nD τ sig) → Buf (Elt Ideal) ℓ)

/-- The reference's result, in these steps. -/
def result (c : Dev nD) : FVec Ideal S256x1024 .f32 :=
  emb (ffnR (midR (m ((c.tc : Thread nD τ).loc main_arg0)) (m ((c.tc : Thread nD τ).loc main_arg1)) (m ((c.tc : Thread nD τ).loc main_arg3)) (m ((c.tc : Thread nD τ).loc main_arg4)))
      (m ((c.tc : Thread nD τ).loc main_arg3)) (m ((c.tc : Thread nD τ).loc main_arg5)) (m ((c.tc : Thread nD τ).loc main_arg6)) (m ((c.tc : Thread nD τ).loc main_arg7)))
    (m ((c.tc : Thread nD τ).loc main_arg2)) (m ((c.tc : Thread nD τ).loc main_arg8)) (m ((c.tc : Thread nD τ).loc main_arg9))

end Cert.Ffn.Ref

end
-- ==== Proof.FfnPromptKern.lean ====
/- The same call on the prompt's rows: its payloads and its windows' blocks read at an element, and its result's row in the
   words of one row. -/
module

public import proofs.«01_k».proof.Proof.FfnRow
public import proofs.«01_k».proof.Proof.Gen.Kernel3Ideal.Value
public import Idealize.ShloMosaic.Lib.Pipeline.ValueKit
public import Idealize.ShloMosaic.Lib.StableHlo.ReadAt
public import Idealize.ShloMosaic.Lib.Pointwise

@[expose] public section

noncomputable section

namespace Cert.Ffn.Prompt

open Idealize.ShloMosaic Idealize.ShloMosaic.TcCoe Cert.Kernel3Ideal Cert.Kernel3Ideal.Gen

theorem mid_apply (h : FVec Ideal S256x1024 .f32) (o : FVec Ideal S256x1024 .bf16) (wo : FVec Ideal S1x1024x1024 .bf16) (g : FVec Ideal S1x1024 .f32)
    (r : Fin 256) (n : Fin 1024) :
    k0_pay2 (F := Ideal) h o wo g (ix2 r n)
      = mid (fun n => h (ix2 r n)) (fun k => o (ix2 r k)) (fun k n => wo (ix3 0 k n)) (fun n => g (ix2 0 n)) n := by
  pointwise [k0_pay2]
  rfl

theorem norm_apply (h : FVec Ideal S256x1024 .f32) (o : FVec Ideal S256x1024 .bf16) (wo : FVec Ideal S1x1024x1024 .bf16) (g g2 : FVec Ideal S1x1024 .f32)
    (r : Fin 256) (n : Fin 1024) :
    k0_pay3 (F := Ideal) h o wo g g2 (ix2 r n)
      = rms (fun n => k0_pay2 (F := Ideal) h o wo g (ix2 r n)) (fun n => g2 (ix2 0 n)) n := by
  pointwise [k0_pay3]
  rfl

theorem ffn_apply (x : FVec Ideal S256x1024 .f32) (z : FVec Ideal S256x1024 .bf16) (wg wu : FVec Ideal S1x1024x2816 .bf16) (wd : FVec Ideal S1x2816x1024 .bf16)
    (g : FVec Ideal S1x1024 .f32) (r : Fin 256) (n : Fin 1024) :
    k0_pay4 (F := Ideal) x z wg wu wd g (ix2 r n)
      = ffn (fun n => x (ix2 r n)) (fun n => z (ix2 r n)) (fun k n => wg (ix3 0 k n)) (fun k n => wu (ix3 0 k n)) (fun k n => wd (ix3 0 k n))
          (fun n => g (ix2 0 n)) n := by
  pointwise [k0_pay4]
  rfl

theorem gate_apply (x : FVec Ideal S256x1024 .f32) (z : FVec Ideal S256x1024 .bf16) (wg wu : FVec Ideal S1x1024x2816 .bf16) (wd : FVec Ideal S1x2816x1024 .bf16)
    (g : FVec Ideal S1x1024 .f32) (wpg : FVec Ideal S1x1024x1024 .bf16) (r : Fin 256) (n : Fin 1024) :
    k0_pay5 (F := Ideal) x z wg wu wd g wpg (ix2 r n)
      = Ideal.logistic (lin (fun n => k0_pay4 (F := Ideal) x z wg wu wd g (ix2 r n)) (fun k n => wpg (ix3 0 k n)) n) := by
  pointwise [k0_pay5]
  rfl

theorem end_apply (x s : FVec Ideal S256x1024 .f32) (p : FVec Ideal S1x256x256 .f32) (w : FVec Ideal S1x256x1024 .bf16) (r : Fin 256) (n : Fin 1024) :
    k0_pay1 (F := Ideal) x s (k0_pay6 p) w (ix2 r n)
      = x (ix2 r n) + s (ix2 r n) * lin (fun k => p (ix3 0 r k)) (fun k n => w (ix3 0 k n)) n := by
  pointwise [k0_pay1, k0_pay6]
  rfl

variable (m : (ℓ : Loc nD τ sig) → Buf (Elt Ideal) ℓ) (c : Dev nD)

theorem index0 (t : Fin cfg0.N) : win0_0.index t = ![t.val, 0] := (by decide +kernel : ∀ t : Fin grid0.N, win0_0.index t = ![t.val, 0]) t
theorem index1 (t : Fin cfg0.N) : win0_1.index t = ![t.val, 0] := (by decide +kernel : ∀ t : Fin grid0.N, win0_1.index t = ![t.val, 0]) t
theorem index2 (t : Fin cfg0.N) : win0_2.index t = ![3, t.val, 0] := (by decide +kernel : ∀ t : Fin grid0.N, win0_2.index t = ![3, t.val, 0]) t
theorem index3 (t : Fin cfg0.N) : win0_3.index t = ![0, 0] := (by decide +kernel : ∀ t : Fin grid0.N, win0_3.index t = ![0, 0]) t
theorem index4 (t : Fin cfg0.N) : win0_4.index t = ![1, 0, 0] := (by decide +kernel : ∀ t : Fin grid0.N, win0_4.index t = ![1, 0, 0]) t
theorem index5 (t : Fin cfg0.N) : win0_5.index t = ![3, 0, 0] := (by decide +kernel : ∀ t : Fin grid0.N, win0_5.index t = ![3, 0, 0]) t
theorem index6 (t : Fin cfg0.N) : win0_6.index t = ![3, 0, 0] := (by decide +kernel : ∀ t : Fin grid0.N, win0_6.index t = ![3, 0, 0]) t
theorem index7 (t : Fin cfg0.N) : win0_7.index t = ![3, 0, 0] := (by decide +kernel : ∀ t : Fin grid0.N, win0_7.index t = ![3, 0, 0]) t
theorem index8 (t : Fin cfg0.N) : win0_8.index t = ![3, 0, 0] := (by decide +kernel : ∀ t : Fin grid0.N, win0_8.index t = ![3, 0, 0]) t
theorem index9 (t : Fin cfg0.N) : win0_9.index t = ![3, 0, 0] := (by decide +kernel : ∀ t : Fin grid0.N, win0_9.index t = ![3, 0, 0]) t
theorem index10 (t : Fin cfg0.N) : win0_10.index t = ![t.val, 0] := (by decide +kernel : ∀ t : Fin grid0.N, win0_10.index t = ![t.val, 0]) t

theorem row_lt (t : Fin cfg0.N) (a : Fin 256) : 256 * t.val + a.val < 16384 := by
  have h : t.val < 64 := t.isLt
  omega

theorem iblk0_at (t : Fin cfg0.N) (a : Fin 256) (b : Fin 1024) :
    (iblk m c 0 t : Vec Ideal S256x1024 .f32) (ix2 a b) = (V m c main_v0 : FVec Ideal S16384x1024 .f32) (ix2 ⟨256 * t.val + a.val, row_lt t a⟩ b) := by
  show V m c main_v0 (((cfg0.win 0).blk t).view.emb (ix2 a b)) = _
  refine congrArg (V m c main_v0) (funext fun x => Fin.ext ?_)
  blk_simp [index0]
  match x with
  | ⟨0, _⟩ => show t.val * 256 + a.val = 256 * t.val + a.val; omega
  | ⟨1, _⟩ => show 0 * 1024 + b.val = b.val; omega

theorem iblk1_at (t : Fin cfg0.N) (a : Fin 256) (b : Fin 1024) :
    (iblk m c 1 t : Vec Ideal S256x1024 .bf16) (ix2 a b) = (V m c main_v1 : FVec Ideal S16384x1024 .bf16) (ix2 ⟨256 * t.val + a.val, row_lt t a⟩ b) := by
  show V m c main_v1 (((cfg0.win 1).blk t).view.emb (ix2 a b)) = _
  refine congrArg (V m c main_v1) (funext fun x => Fin.ext ?_)
  blk_simp [index1]
  match x with
  | ⟨0, _⟩ => show t.val * 256 + a.val = 256 * t.val + a.val; omega
  | ⟨1, _⟩ => show 0 * 1024 + b.val = b.val; omega

theorem iblk2_at (t : Fin cfg0.N) (a : Fin 256) (b : Fin 256) :
    (iblk m c 2 t : Vec Ideal S1x256x256 .f32) (ix3 0 a b) = (V m c main_v2 : FVec Ideal S4x16384x256 .f32) (ix3 3 ⟨256 * t.val + a.val, row_lt t a⟩ b) := by
  show V m c main_v2 (((cfg0.win 2).blk t).view.emb (ix3 0 a b)) = _
  refine congrArg (V m c main_v2) (funext fun x => Fin.ext ?_)
  blk_simp [index2]
  match x with
  | ⟨0, _⟩ => rfl
  | ⟨1, _⟩ => show t.val * 256 + a.val = 256 * t.val + a.val; omega
  | ⟨2, _⟩ => show 0 * 256 + b.val = b.val; omega

theorem iblk3_at (t : Fin cfg0.N) (a : Fin 4) (b : Fin 1024) :
    (iblk m c 3 t : Vec Ideal S4x1024 .f32) (ix2 a b) = (V m c main_v4 : FVec Ideal S4x1024 .f32) (ix2 a b) := by
  show V m c main_v4 (((cfg0.win 3).blk t).view.emb (ix2 a b)) = _
  refine congrArg (V m c main_v4) (funext fun x => Fin.ext ?_)
  blk_simp [index3]
  match x with
  | ⟨0, _⟩ => show 0 * 4 + a.val = a.val; omega
  | ⟨1, _⟩ => show 0 * 1024 + b.val = b.val; omega

theorem iblk4_at (t : Fin cfg0.N) (a : Fin 1024) (b : Fin 1024) :
    (iblk m c 4 t : Vec Ideal S1x1024x1024 .bf16) (ix3 0 a b) = (V m c main_v5 : FVec Ideal S2x1024x1024 .bf16) (ix3 1 a b) := by
  show V m c main_v5 (((cfg0.win 4).blk t).view.emb (ix3 0 a b)) = _
  refine congrArg (V m c main_v5) (funext fun x => Fin.ext ?_)
  blk_simp [index4]
  match x with
  | ⟨0, _⟩ => rfl
  | ⟨1, _⟩ => show 0 * 1024 + a.val = a.val; omega
  | ⟨2, _⟩ => show 0 * 1024 + b.val = b.val; omega

theorem iblk5_at (t : Fin cfg0.N) (a : Fin 1024) (b : Fin 2816) :
    (iblk m c 5 t : Vec Ideal S1x1024x2816 .bf16) (ix3 0 a b) = (V m c main_v6 : FVec Ideal S4x1024x2816 .bf16) (ix3 3 a b) := by
  show V m c main_v6 (((cfg0.win 5).blk t).view.emb (ix3 0 a b)) = _
  refine congrArg (V m c main_v6) (funext fun x => Fin.ext ?_)
  blk_simp [index5]
  match x with
  | ⟨0, _⟩ => rfl
  | ⟨1, _⟩ => show 0 * 1024 + a.val = a.val; omega
  | ⟨2, _⟩ => show 0 * 2816 + b.val = b.val; omega

theorem iblk6_at (t : Fin cfg0.N) (a : Fin 1024) (b : Fin 2816) :
    (iblk m c 6 t : Vec Ideal S1x1024x2816 .bf16) (ix3 0 a b) = (V m c main_v7 : FVec Ideal S4x1024x2816 .bf16) (ix3 3 a b) := by
  show V m c main_v7 (((cfg0.win 6).blk t).view.emb (ix3 0 a b)) = _
  refine congrArg (V m c main_v7) (funext fun x => Fin.ext ?_)
  blk_simp [index6]
  match x with
  | ⟨0, _⟩ => rfl
  | ⟨1, _⟩ => show 0 * 1024 + a.val = a.val; omega
  | ⟨2, _⟩ => show 0 * 2816 + b.val = b.val; omega

theorem iblk7_at (t : Fin cfg0.N) (a : Fin 2816) (b : Fin 1024) :
    (iblk m c 7 t : Vec Ideal S1x2816x1024 .bf16) (ix3 0 a b) = (V m c main_v8 : FVec Ideal S4x2816x1024 .bf16) (ix3 3 a b) := by
  show V m c main_v8 (((cfg0.win 7).blk t).view.emb (ix3 0 a b)) = _
  refine congrArg (V m c main_v8) (funext fun x => Fin.ext ?_)
  blk_simp [index7]
  match x with
  | ⟨0, _⟩ => rfl
  | ⟨1, _⟩ => show 0 * 2816 + a.val = a.val; omega
  | ⟨2, _⟩ => show 0 * 1024 + b.val = b.val; omega

theorem iblk8_at (t : Fin cfg0.N) (a : Fin 256) (b : Fin 1024) :
    (iblk m c 8 t : Vec Ideal S1x256x1024 .bf16) (ix3 0 a b) = (V m c main_v9 : FVec Ideal S4x256x1024 .bf16) (ix3 3 a b) := by
  show V m c main_v9 (((cfg0.win 8).blk t).view.emb (ix3 0 a b)) = _
  refine congrArg (V m c main_v9) (funext fun x => Fin.ext ?_)
  blk_simp [index8]
  match x with
  | ⟨0, _⟩ => rfl
  | ⟨1, _⟩ => show 0 * 256 + a.val = a.val; omega
  | ⟨2, _⟩ => show 0 * 1024 + b.val = b.val; omega

theorem iblk9_at (t : Fin cfg0.N) (a : Fin 1024) (b : Fin 1024) :
    (iblk m c 9 t : Vec Ideal S1x1024x1024 .bf16) (ix3 0 a b) = (V m c main_v10 : FVec Ideal S4x1024x1024 .bf16) (ix3 3 a b) := by
  show V m c main_v10 (((cfg0.win 9).blk t).view.emb (ix3 0 a b)) = _
  refine congrArg (V m c main_v10) (funext fun x => Fin.ext ?_)
  blk_simp [index9]
  match x with
  | ⟨0, _⟩ => rfl
  | ⟨1, _⟩ => show 0 * 1024 + a.val = a.val; omega
  | ⟨2, _⟩ => show 0 * 1024 + b.val = b.val; omega

abbrev arg0 : FVec Ideal S2x8192x1024 .f32 := m (c, Proc.tc.devRef main_arg0)
abbrev arg1 : FVec Ideal S2x8192x1024 .bf16 := m (c, Proc.tc.devRef main_arg1)
abbrev arg2 : FVec Ideal S4x2x8192x256 .f32 := m (c, Proc.tc.devRef main_arg2)
abbrev arg3 : FVec Ideal S4x4x1024 .f32 := m (c, Proc.tc.devRef main_arg3)
abbrev arg4 : FVec Ideal S2x1024x1024 .f32 := m (c, Proc.tc.devRef main_arg4)
abbrev arg5 : FVec Ideal S4x1024x2816 .f32 := m (c, Proc.tc.devRef main_arg5)
abbrev arg6 : FVec Ideal S4x1024x2816 .f32 := m (c, Proc.tc.devRef main_arg6)
abbrev arg7 : FVec Ideal S4x2816x1024 .f32 := m (c, Proc.tc.devRef main_arg7)
abbrev arg8 : FVec Ideal S4x256x1024 .f32 := m (c, Proc.tc.devRef main_arg8)
abbrev arg9 : FVec Ideal S4x1024x1024 .f32 := m (c, Proc.tc.devRef main_arg9)

theorem V0_at (r : Fin 16384) (n : Fin 1024) : (V m c main_v0 : FVec Ideal S16384x1024 .f32) (ix2 r n) = arg0 m c (ix3 ⟨r.val / 8192, by omega⟩ ⟨r.val % 8192, by omega⟩ n) := by
  unfold V
  after_reads_at

theorem V1_at (r : Fin 16384) (n : Fin 1024) : (V m c main_v1 : FVec Ideal S16384x1024 .bf16) (ix2 r n) = arg1 m c (ix3 ⟨r.val / 8192, by omega⟩ ⟨r.val % 8192, by omega⟩ n) := by
  unfold V
  after_reads_at

theorem V2_at (r : Fin 16384) (n : Fin 256) : (V m c main_v2 : FVec Ideal S4x16384x256 .f32) (ix3 3 r n) = arg2 m c (ix4 3 ⟨r.val / 8192, by omega⟩ ⟨r.val % 8192, by omega⟩ n) := by
  unfold V
  after_reads_at

theorem V3_at (r : Fin 4) (n : Fin 1024) : (V m c main_v4 : FVec Ideal S4x1024 .f32) (ix2 r n) = arg3 m c (ix3 3 r n) := by
  unfold V
  after_reads_at

theorem V4_at (r : Fin 1024) (n : Fin 1024) : (V m c main_v5 : FVec Ideal S2x1024x1024 .bf16) (ix3 1 r n) = arg4 m c (ix3 1 r n) := by
  unfold V
  after_reads_at

theorem V5_at (r : Fin 1024) (n : Fin 2816) : (V m c main_v6 : FVec Ideal S4x1024x2816 .bf16) (ix3 3 r n) = arg5 m c (ix3 3 r n) := by
  unfold V
  after_reads_at

theorem V6_at (r : Fin 1024) (n : Fin 2816) : (V m c main_v7 : FVec Ideal S4x1024x2816 .bf16) (ix3 3 r n) = arg6 m c (ix3 3 r n) := by
  unfold V
  after_reads_at

theorem V7_at (r : Fin 2816) (n : Fin 1024) : (V m c main_v8 : FVec Ideal S4x2816x1024 .bf16) (ix3 3 r n) = arg7 m c (ix3 3 r n) := by
  unfold V
  after_reads_at

theorem V8_at (r : Fin 256) (n : Fin 1024) : (V m c main_v9 : FVec Ideal S4x256x1024 .bf16) (ix3 3 r n) = arg8 m c (ix3 3 r n) := by
  unfold V
  after_reads_at

theorem V9_at (r : Fin 1024) (n : Fin 1024) : (V m c main_v10 : FVec Ideal S4x1024x1024 .bf16) (ix3 3 r n) = arg9 m c (ix3 3 r n) := by
  unfold V
  after_reads_at

/-- The body's result at an element, from its windows' blocks. -/
theorem body_apply (x0 : Vec Ideal S256x1024 .f32) (x1 : Vec Ideal S256x1024 .bf16) (x2 : Vec Ideal S1x256x256 .f32) (x3 : Vec Ideal S4x1024 .f32)
    (x4 : Vec Ideal S1x1024x1024 .bf16) (x5 x6 : Vec Ideal S1x1024x2816 .bf16) (x7 : Vec Ideal S1x2816x1024 .bf16) (x8 : Vec Ideal S1x256x1024 .bf16)
    (x9 : Vec Ideal S1x1024x1024 .bf16) (r : Fin 256) (n : Fin 1024) :
    out0_10 (F := Ideal) x0 x1 x2 x3 x4 x5 x6 x7 x8 x9 (ix2 r n)
      = row (fun n => x0 (ix2 r n)) (fun n => x1 (ix2 r n)) (fun n => x2 (ix3 0 r n)) (fun k n => x4 (ix3 0 k n)) (fun n => x3 (ix2 1 n))
          (fun n => x3 (ix2 2 n)) (fun n => x3 (ix2 3 n)) (fun k n => x5 (ix3 0 k n)) (fun k n => x6 (ix3 0 k n)) (fun k n => x7 (ix3 0 k n))
          (fun k n => x8 (ix3 0 k n)) (fun k n => x9 (ix3 0 k n)) n := by
  have e1 : ∀ n : Fin 1024, (View.ld x3 r0_2 : FVec Ideal S1x1024 .f32) (ix2 0 n) = x3 (ix2 1 n) := fun n => congrArg x3 (by funext a; apply Fin.ext; fin_cases a <;> simp [ix2])
  have e2 : ∀ n : Fin 1024, (View.ld x3 r0_3 : FVec Ideal S1x1024 .f32) (ix2 0 n) = x3 (ix2 2 n) := fun n => congrArg x3 (by funext a; apply Fin.ext; fin_cases a <;> simp [ix2])
  have e3 : ∀ n : Fin 1024, (View.ld x3 r0_6 : FVec Ideal S1x1024 .f32) (ix2 0 n) = x3 (ix2 3 n) := fun n => congrArg x3 (by funext a; apply Fin.ext; fin_cases a <;> simp [ix2])
  have l0 : (View.ld x0 r0_0 : Vec Ideal S256x1024 .f32) = x0 := View.ld_unit_lit _ x0 (by decide)
  have l1 : (View.ld x1 r0_0 : Vec Ideal S256x1024 .bf16) = x1 := View.ld_unit_lit _ x1 (by decide)
  have l2 : (View.ld x2 r0_7 : Vec Ideal S1x256x256 .f32) = x2 := View.ld_unit_lit _ x2 (by decide)
  have l4 : (View.ld x4 r0_1 : Vec Ideal S1x1024x1024 .bf16) = x4 := View.ld_unit_lit _ x4 (by decide)
  have l5 : (View.ld x5 r0_4 : Vec Ideal S1x1024x2816 .bf16) = x5 := View.ld_unit_lit _ x5 (by decide)
  have l6 : (View.ld x6 r0_4 : Vec Ideal S1x1024x2816 .bf16) = x6 := View.ld_unit_lit _ x6 (by decide)
  have l7 : (View.ld x7 r0_5 : Vec Ideal S1x2816x1024 .bf16) = x7 := View.ld_unit_lit _ x7 (by decide)
  have l8 : (View.ld x8 r0_8 : Vec Ideal S1x256x1024 .bf16) = x8 := View.ld_unit_lit _ x8 (by decide)
  have l9 : (View.ld x9 r0_1 : Vec Ideal S1x1024x1024 .bf16) = x9 := View.ld_unit_lit _ x9 (by decide)
  unfold out0_10 k0_pay7 k0_pay8
  rw [View.canon_cons_unit_lit _ _ _ (by decide), end_apply, gate_apply]
  simp only [ffn_apply, norm_apply, mid_apply, e1, e2, e3]
  rw [l0, l1, l2, l4, l5, l6, l7, l8, l9]
  rfl

/-- The kernel's result at an element. -/
theorem kernel_out (r : Fin 16384) (n : Fin 1024) :
    (((dats (F := Ideal) m 0 c).arrAt 10 cfg0.N) : FVec Ideal S16384x1024 .f32) (ix2 r n)
      = row (fun n => arg0 m c (ix3 ⟨r.val / 8192, by omega⟩ ⟨r.val % 8192, by omega⟩ n)) (fun n => arg1 m c (ix3 ⟨r.val / 8192, by omega⟩ ⟨r.val % 8192, by omega⟩ n))
          (fun n => arg2 m c (ix4 3 ⟨r.val / 8192, by omega⟩ ⟨r.val % 8192, by omega⟩ n)) (fun k n => arg4 m c (ix3 1 k n)) (fun n => arg3 m c (ix3 3 1 n))
          (fun n => arg3 m c (ix3 3 2 n)) (fun n => arg3 m c (ix3 3 3 n)) (fun k n => arg5 m c (ix3 3 k n)) (fun k n => arg6 m c (ix3 3 k n))
          (fun k n => arg7 m c (ix3 3 k n)) (fun k n => arg8 m c (ix3 3 k n)) (fun k n => arg9 m c (ix3 3 k n)) n := by
  obtain ⟨t, a, rfl⟩ : ∃ (t : Fin cfg0.N) (a : Fin 256), r = ⟨256 * t.val + a.val, row_lt t a⟩ :=
    ⟨⟨r.val / 256, show r.val / 256 < 64 by omega⟩, ⟨r.val % 256, by omega⟩, Fin.ext (show r.val = 256 * (r.val / 256) + r.val % 256 by omega)⟩
  have e : (((dats (F := Ideal) m 0 c).arrAt 10 cfg0.N) : FVec Ideal S16384x1024 .f32) (ix2 ⟨256 * t.val + a.val, row_lt t a⟩ n)
      = ((dats (F := Ideal) m 0 c).flushed 10 t : Vec Ideal S256x1024 .f32) (ix2 a n) := by
    rw [← Cert.Kernel3Ideal.Value.blocks10 m c t (flush0_10 t)]
    show _ = ((dats (F := Ideal) m 0 c).arrAt 10 cfg0.N) (((cfg0.win 10).blk t).view.emb (ix2 a n))
    refine congrArg ((dats (F := Ideal) m 0 c).arrAt 10 cfg0.N) (funext fun x => Fin.ext ?_)
    blk_simp [index10]
    match x with
    | ⟨0, _⟩ => show 256 * t.val + a.val = t.val * 256 + a.val; omega
    | ⟨1, _⟩ => show n.val = 0 * 1024 + n.val; omega
  rw [e, Cert.Kernel3Ideal.Value.flushed10]
  refine (body_apply _ _ _ _ _ _ _ _ _ _ a n).trans ?_
  exact row_congr (fun n => (iblk0_at m c t a n).trans (V0_at m c _ n)) (fun n => (iblk1_at m c t a n).trans (V1_at m c _ n))
    (fun n => (iblk2_at m c t a n).trans (V2_at m c _ n)) (fun k n => (iblk4_at m c t k n).trans (V4_at m c k n))
    (fun n => (iblk3_at m c t 1 n).trans (V3_at m c 1 n)) (fun n => (iblk3_at m c t 2 n).trans (V3_at m c 2 n)) (fun n => (iblk3_at m c t 3 n).trans (V3_at m c 3 n))
    (fun k n => (iblk5_at m c t k n).trans (V5_at m c k n)) (fun k n => (iblk6_at m c t k n).trans (V6_at m c k n)) (fun k n => (iblk7_at m c t k n).trans (V7_at m c k n))
    (fun k n => (iblk8_at m c t k n).trans (V8_at m c k n)) (fun k n => (iblk9_at m c t k n).trans (V9_at m c k n)) n

end Cert.Ffn.Prompt

end
-- ==== Proof.FfnPromptRef.lean ====
/- The reference's end of a layer on the prompt's rows, cut into its steps, and each step at an element in the words of one row. -/
module

public import proofs.«01_k».proof.Proof.Gen.Reference3Ideal.Run
public import proofs.«01_k».proof.Proof.FfnRow

@[expose] public section

noncomputable section

namespace Cert.Ffn.PromptRef

open Idealize.ShloMosaic Idealize.ShloMosaic.TcCoe Cert.Reference3Ideal Cert.Reference3Ideal.Gen Facts

/-- The attention's output, projected. -/
def oproj (o : FVec Ideal S2x8192x1024 .bf16) (w : FVec Ideal S2x1024x1024 .f32) : FVec Ideal S2x8192x1024 .f32 :=
  Host.dotGeneral dot_S2x8192x1024_S1024x1024_S2x8192x1024_2_0_01_1_n_n none (extf .f32 o bitsLt_bf16_f32) (shapeCast _ (extractStridedSlice S1x1024x1024 ![1, 0, 0] w slices_S2x1024x1024_S1x1024x1024_1_0_0) shapeCasts_S1x1024x1024_S1024x1024)

/-- Rows over the root of their mean square, times the gains. -/
def nrm (x : FVec Ideal S2x8192x1024 .f32) (g : FVec Ideal S1x1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1x1024_S1024)))

/-- Rows times the matrix of the last layer. -/
def up (z : FVec Ideal S2x8192x1024 .f32) (w : FVec Ideal S4x1024x2816 .f32) : FVec Ideal S2x8192x2816 .f32 :=
  Host.dotGeneral dot_S2x8192x1024_S1024x2816_S2x8192x2816_2_0_01_1_n_n none z (shapeCast _ (extractStridedSlice S1x1024x2816 ![3, 0, 0] w slices_S4x1024x2816_S1x1024x2816_3_0_0) shapeCasts_S1x1024x2816_S1024x2816)

/-- The gated hidden rows, times the matrix of the last layer. -/
def down (a b : FVec Ideal S2x8192x2816 .f32) (w : FVec Ideal S4x2816x1024 .f32) : FVec Ideal S2x8192x1024 .f32 :=
  Host.dotGeneral dot_S2x8192x2816_S2816x1024_S2x8192x1024_2_0_01_1_n_n none (mulf (mulf a (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf a))))) b) (shapeCast _ (extractStridedSlice S1x2816x1024 ![3, 0, 0] w slices_S4x2816x1024_S1x2816x1024_3_0_0) shapeCasts_S1x2816x1024_S2816x1024)

/-- The embedding, gated and added. -/
def emb (x : FVec Ideal S2x8192x1024 .f32) (p : FVec Ideal S4x2x8192x256 .f32) (wple : FVec Ideal S4x256x1024 .f32) (wpg : FVec Ideal S4x1024x1024 .f32) : FVec Ideal S16384x1024 .f32 :=
  shapeCast _ (addf x (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none x (shapeCast _ (extractStridedSlice S1x1024x1024 ![3, 0, 0] wpg slices_S4x1024x1024_S1x1024x1024_3_0_0) shapeCasts_S1x1024x1024_S1024x1024)))))) (Host.dotGeneral dot_S2x8192x256_S256x1024_S2x8192x1024_2_0_01_1_n_n none (shapeCast _ (extractStridedSlice S1x2x8192x256 ![3, 0, 0, 0] p slices_S4x2x8192x256_S1x2x8192x256_3_0_0_0) shapeCasts_S1x2x8192x256_S2x8192x256) (shapeCast _ (extractStridedSlice S1x256x1024 ![3, 0, 0] wple slices_S4x256x1024_S1x256x1024_3_0_0) shapeCasts_S1x256x1024_S256x1024)))) shapeCasts_S2x8192x1024_S16384x1024

/-- The three gains of the last layer. -/
def gain1 (g : FVec Ideal S4x4x1024 .f32) : FVec Ideal S1x1x1024 .f32 := extractStridedSlice S1x1x1024 ![3, 1, 0] g slices_S4x4x1024_S1x1x1024_3_1_0
def gain2 (g : FVec Ideal S4x4x1024 .f32) : FVec Ideal S1x1x1024 .f32 := extractStridedSlice S1x1x1024 ![3, 2, 0] g slices_S4x4x1024_S1x1x1024_3_2_0
def gain3 (g : FVec Ideal S4x4x1024 .f32) : FVec Ideal S1x1x1024 .f32 := extractStridedSlice S1x1x1024 ![3, 3, 0] g slices_S4x4x1024_S1x1x1024_3_3_0

/-- The rows after the projection, and after the feed-forward part. -/
def midR (h : FVec Ideal S2x8192x1024 .f32) (o : FVec Ideal S2x8192x1024 .bf16) (g : FVec Ideal S4x4x1024 .f32) (wo : FVec Ideal S2x1024x1024 .f32) : FVec Ideal S2x8192x1024 .f32 :=
  addf h (nrm (oproj o wo) (gain1 g))
def ffnR (x : FVec Ideal S2x8192x1024 .f32) (g : FVec Ideal S4x4x1024 .f32) (wg wu : FVec Ideal S4x1024x2816 .f32) (wd : FVec Ideal S4x2816x1024 .f32) : FVec Ideal S2x8192x1024 .f32 :=
  addf x (nrm (down (up (nrm x (gain2 g)) wg) (up (nrm x (gain2 g)) wu) wd) (gain3 g))

theorem oproj_apply (o : FVec Ideal S2x8192x1024 .bf16) (w : FVec Ideal S2x1024x1024 .f32) (b : Fin 2) (t : Fin 8192) (n : Fin 1024) :
    oproj o w (ix3 b t n) = lin (fun k => o (ix3 b t k)) (fun k n => w (ix3 1 k n)) n := by
  pointwise [oproj]
  rfl

theorem nrm_apply (x : FVec Ideal S2x8192x1024 .f32) (g : FVec Ideal S1x1x1024 .f32) (b : Fin 2) (t : Fin 8192) (n : Fin 1024) :
    nrm x g (ix3 b t n) = rms (fun n => x (ix3 b t n)) (fun n => g (ix3 0 0 n)) n := by
  pointwise [nrm]
  rfl

theorem up_apply (z : FVec Ideal S2x8192x1024 .f32) (w : FVec Ideal S4x1024x2816 .f32) (b : Fin 2) (t : Fin 8192) (n : Fin 2816) :
    up z w (ix3 b t n) = lin (fun k => z (ix3 b t k)) (fun k n => w (ix3 3 k n)) n := by
  pointwise [up]
  rfl

theorem down_apply (a d : FVec Ideal S2x8192x2816 .f32) (w : FVec Ideal S4x2816x1024 .f32) (b : Fin 2) (t : Fin 8192) (n : Fin 1024) :
    down a d w (ix3 b t n) = lin (fun k => a (ix3 b t k) * Ideal.logistic (a (ix3 b t k)) * d (ix3 b t k)) (fun k n => w (ix3 3 k n)) n := by
  pointwise [down]
  rfl

theorem emb_apply (x : FVec Ideal S2x8192x1024 .f32) (p : FVec Ideal S4x2x8192x256 .f32) (wple : FVec Ideal S4x256x1024 .f32) (wpg : FVec Ideal S4x1024x1024 .f32)
    (r : Fin 16384) (n : Fin 1024) :
    emb x p wple wpg (ix2 r n) = ple (fun n => x (ix3 ⟨r.val / 8192, by omega⟩ ⟨r.val % 8192, by omega⟩ n)) (fun k n => wpg (ix3 3 k n))
      (fun k => p (ix4 3 ⟨r.val / 8192, by omega⟩ ⟨r.val % 8192, by omega⟩ k)) (fun k n => wple (ix3 3 k n)) n := by
  pointwise [emb]
  rfl

theorem gain1_apply (g : FVec Ideal S4x4x1024 .f32) (n : Fin 1024) : gain1 g (ix3 0 0 n) = g (ix3 3 1 n) := by
  pointwise [gain1]
theorem gain2_apply (g : FVec Ideal S4x4x1024 .f32) (n : Fin 1024) : gain2 g (ix3 0 0 n) = g (ix3 3 2 n) := by
  pointwise [gain2]
theorem gain3_apply (g : FVec Ideal S4x4x1024 .f32) (n : Fin 1024) : gain3 g (ix3 0 0 n) = g (ix3 3 3 n) := by
  pointwise [gain3]

theorem midR_apply (h : FVec Ideal S2x8192x1024 .f32) (o : FVec Ideal S2x8192x1024 .bf16) (g : FVec Ideal S4x4x1024 .f32) (wo : FVec Ideal S2x1024x1024 .f32)
    (b : Fin 2) (t : Fin 8192) (n : Fin 1024) :
    midR h o g wo (ix3 b t n) = mid (fun n => h (ix3 b t n)) (fun k => o (ix3 b t k)) (fun k n => wo (ix3 1 k n)) (fun n => g (ix3 3 1 n)) n := by
  show (h (ix3 b t n) : EReal) + nrm (oproj o wo) (gain1 g) (ix3 b t n) = _
  rw [nrm_apply]
  simp only [oproj_apply, gain1_apply]
  rfl

theorem ffnR_apply (x : FVec Ideal S2x8192x1024 .f32) (g : FVec Ideal S4x4x1024 .f32) (wg wu : FVec Ideal S4x1024x2816 .f32) (wd : FVec Ideal S4x2816x1024 .f32)
    (b : Fin 2) (t : Fin 8192) (n : Fin 1024) :
    ffnR x g wg wu wd (ix3 b t n) = ffn (fun n => x (ix3 b t n)) (rms (fun n => x (ix3 b t n)) (fun n => g (ix3 3 2 n)))
      (fun k n => wg (ix3 3 k n)) (fun k n => wu (ix3 3 k n)) (fun k n => wd (ix3 3 k n)) (fun n => g (ix3 3 3 n)) n := by
  show (x (ix3 b t n) : EReal) + nrm (down (up (nrm x (gain2 g)) wg) (up (nrm x (gain2 g)) wu) wd) (gain3 g) (ix3 b t n) = _
  rw [nrm_apply]
  simp only [down_apply, up_apply, nrm_apply, gain2_apply, gain3_apply]
  rfl

/-- The reference's result at an element. -/
theorem out_apply (h : FVec Ideal S2x8192x1024 .f32) (o : FVec Ideal S2x8192x1024 .bf16) (p : FVec Ideal S4x2x8192x256 .f32) (g : FVec Ideal S4x4x1024 .f32)
    (wo : FVec Ideal S2x1024x1024 .f32) (wg wu : FVec Ideal S4x1024x2816 .f32) (wd : FVec Ideal S4x2816x1024 .f32) (wple : FVec Ideal S4x256x1024 .f32)
    (wpg : FVec Ideal S4x1024x1024 .f32) (r : Fin 16384) (n : Fin 1024) :
    emb (ffnR (midR h o g wo) g wg wu wd) p wple wpg (ix2 r n)
      = row (fun n => h (ix3 ⟨r.val / 8192, by omega⟩ ⟨r.val % 8192, by omega⟩ n)) (fun n => o (ix3 ⟨r.val / 8192, by omega⟩ ⟨r.val % 8192, by omega⟩ n))
          (fun n => p (ix4 3 ⟨r.val / 8192, by omega⟩ ⟨r.val % 8192, by omega⟩ n)) (fun k n => wo (ix3 1 k n)) (fun n => g (ix3 3 1 n)) (fun n => g (ix3 3 2 n))
          (fun n => g (ix3 3 3 n)) (fun k n => wg (ix3 3 k n)) (fun k n => wu (ix3 3 k n)) (fun k n => wd (ix3 3 k n)) (fun k n => wple (ix3 3 k n))
          (fun k n => wpg (ix3 3 k n)) n := by
  rw [emb_apply]
  simp only [ffnR_apply, midR_apply]
  rfl

variable (m : (ℓ : Loc nD τ sig) → Buf (Elt Ideal) ℓ)

/-- The reference's result, in these steps. -/
def result (c : Dev nD) : FVec Ideal S16384x1024 .f32 :=
  emb (ffnR (midR (m ((c.tc : Thread nD τ).loc main_arg0)) (m ((c.tc : Thread nD τ).loc main_arg1)) (m ((c.tc : Thread nD τ).loc main_arg3)) (m ((c.tc : Thread nD τ).loc main_arg4)))
      (m ((c.tc : Thread nD τ).loc main_arg3)) (m ((c.tc : Thread nD τ).loc main_arg5)) (m ((c.tc : Thread nD τ).loc main_arg6)) (m ((c.tc : Thread nD τ).loc main_arg7)))
    (m ((c.tc : Thread nD τ).loc main_arg2)) (m ((c.tc : Thread nD τ).loc main_arg8)) (m ((c.tc : Thread nD τ).loc main_arg9))

end Cert.Ffn.PromptRef

end
-- ==== Proof.KvqRow.lean ====
/- What the shared keys, values, gates and queries are for one row, over the extended reals; and the two laws by which the
   kernel's words and the reference's are the same. -/
module

public import proofs.«01_k».proof.Proof.FfnRow

@[expose] public section

noncomputable section

namespace Cert.Kvq

open Idealize.ShloMosaic
open scoped BigOperators

/-- A row, normed, times a matrix. -/
def proj {a b : ℕ} (x g : Fin a → EReal) (w : Fin a → Fin b → EReal) (n : Fin b) : EReal := Ffn.lin (Ffn.rms x g) w n

/-- The log of the logistic function. -/
def logsig (x : EReal) : EReal := min x 0 - Ideal.log1p (Ideal.exp (0 - max x (-x)))

theorem proj_congr {a b : ℕ} {x x' g g' : Fin a → EReal} {w w' : Fin a → Fin b → EReal} (hx : ∀ n, x n = x' n) (hg : ∀ n, g n = g' n)
    (hw : ∀ k n, w k n = w' k n) (n : Fin b) : proj x g w n = proj x' g' w' n := by
  obtain rfl : x = x' := funext hx
  obtain rfl : g = g' := funext hg
  obtain rfl : w = w' := funext fun k => funext (hw k)
  rfl

/-- The same of one column. -/
theorem proj_col {a b b' : ℕ} {x x' g g' : Fin a → EReal} {w : Fin a → Fin b → EReal} {w' : Fin a → Fin b' → EReal} (n : Fin b) (n' : Fin b')
    (hx : ∀ n, x n = x' n) (hg : ∀ n, g n = g' n) (hw : ∀ k, w k n = w' k n') : proj x g w n = proj x' g' w' n' := by
  obtain rfl : x = x' := funext hx
  obtain rfl : g = g' := funext hg
  unfold proj Ffn.lin
  exact Finset.sum_congr rfl fun k _ => congrArg (Ffn.rms x g k * ·) (hw k)

theorem soft_real (x : EReal) : ∃ l : ℝ, Ideal.log1p (Ideal.exp (-(max x (-x)))) = (l : EReal) := by
  have h0 : Ideal.log1p (Ideal.exp ⊥) = ((0 : ℝ) : EReal) := by
    show Ideal.log (1 + 0) = _
    rw [add_zero]
    show (if (1 : ℝ) ≤ 0 then ⊥ else ((Real.log 1 : ℝ) : EReal)) = _
    rw [if_neg (by norm_num), Real.log_one]
  induction x using EReal.rec with
  | bot => exact ⟨0, by simpa using h0⟩
  | top => exact ⟨0, by simpa using h0⟩
  | coe r =>
    have e : (-(max (r : EReal) (-(r : EReal)))) = ((-(max r (-r)) : ℝ) : EReal) := by
      rw [← EReal.coe_neg, ← EReal.coe_strictMono.monotone.map_max, ← EReal.coe_neg]
    refine ⟨Real.log (1 + Real.exp (-(max r (-r)))), ?_⟩
    rw [e]
    show Ideal.log (1 + ((Real.exp (-(max r (-r))) : ℝ) : EReal)) = _
    rw [← EReal.coe_one, ← EReal.coe_add]
    show (if (1 + Real.exp (-(max r (-r))) : ℝ) ≤ 0 then ⊥ else ((Real.log (1 + Real.exp (-(max r (-r)))) : ℝ) : EReal)) = _
    rw [if_neg (by have := Real.exp_pos (-(max r (-r))); linarith)]

/-- The reference's words for it. -/
theorem logsig_eq (x : EReal) : -(max (-x) 0 + Ideal.log1p (Ideal.exp (-(max (-x) (- -x))))) = logsig x := by
  unfold logsig
  obtain ⟨l, hl⟩ := soft_real x
  rw [neg_neg, max_comm (-x) x, zero_sub, hl, EReal.neg_add (Or.inr (EReal.coe_ne_top l)) (Or.inr (EReal.coe_ne_bot l))]
  congr 1
  rcases le_total x 0 with h | h
  · rw [min_eq_left h, max_eq_left (by simpa using EReal.neg_le_neg_iff.mpr h), neg_neg]
  · rw [min_eq_right h, max_eq_right (by simpa using EReal.neg_le_neg_iff.mpr h), neg_zero]

/-- A scale that is not negative and not infinite moves out of a product of a row and a matrix. -/
theorem lin_scale {a b : ℕ} (x : Fin a → EReal) (w : Fin a → Fin b → EReal) (s : EReal) (h0 : 0 ≤ s) (h1 : s ≠ ⊤) (n : Fin b) :
    Ffn.lin x (fun k n => w k n * s) n = Ffn.lin x w n * s := by
  unfold Ffn.lin
  have e : ∀ t : Finset (Fin a), ∑ k ∈ t, x k * (w k n * s) = (∑ k ∈ t, x k * w k n) * s := by
    intro t
    induction t using Finset.cons_induction with
    | empty => simp
    | cons i t hi ih => rw [Finset.sum_cons, Finset.sum_cons, ih, EReal.right_distrib_of_nonneg_of_ne_top h0 h1, mul_assoc]
  exact e Finset.univ

theorem scale_real : Ideal.ofBits .f32 0x3E000000#32 = ((1 / 8 : ℝ) : EReal) := by
  simp [Ideal.ofBits, Ideal.ieee]
  rw [← EReal.coe_mul]
  norm_num

end Cert.Kvq

end
-- ==== Proof.KvqKern.lean ====
/- The sample's keys, values, gates and queries: the call's payloads and its windows' blocks read at an element, and its
   results in the words of one row. -/
module

public import proofs.«01_k».proof.Proof.KvqRow
public import proofs.«01_k».proof.Proof.Gen.Kernel4Ideal.Value
public import Idealize.ShloMosaic.Lib.Pipeline.ValueKit
public import Idealize.ShloMosaic.Lib.StableHlo.ReadAt
public import Idealize.ShloMosaic.Lib.Pointwise

@[expose] public section

noncomputable section

namespace Cert.Kvq

open Idealize.ShloMosaic Idealize.ShloMosaic.TcCoe Cert.Kernel4Ideal Cert.Kernel4Ideal.Gen

/-! The payloads at an element. -/

theorem norm_apply (h : FVec Ideal S256x1024 .f32) (g : FVec Ideal S1x1024 .f32) (r : Fin 256) (n : Fin 1024) :
    k0_pay4 (F := Ideal) h g (ix2 r n) = Ffn.rms (fun n => h (ix2 r n)) (fun n => g (ix2 0 n)) n := by
  pointwise [k0_pay4, k0_pay3]
  rfl

theorem keys_apply (h : FVec Ideal S256x1024 .f32) (g : FVec Ideal S1x1024 .f32) (w : FVec Ideal S1024x1024 .bf16) (r : Fin 256) (n : Fin 1024) :
    k0_pay5 (F := Ideal) h g w (ix2 r n) = proj (fun n => h (ix2 r n)) (fun n => g (ix2 0 n)) (fun k n => w (ix2 k n)) n := by
  have e : k0_pay5 (F := Ideal) h g w (ix2 r n) = Ffn.lin (fun k => k0_pay4 (F := Ideal) h g (ix2 r k)) (fun k n => w (ix2 k n)) n := by
    pointwise [k0_pay5]
    rfl
  rw [e]
  simp only [norm_apply]
  rfl

theorem vals_apply (h : FVec Ideal S256x1024 .f32) (g : FVec Ideal S1x1024 .f32) (w : FVec Ideal S1024x1024 .bf16) (r : Fin 256) (n : Fin 1024) :
    k0_pay6 (F := Ideal) h g w (ix2 r n) = proj (fun n => h (ix2 r n)) (fun n => g (ix2 0 n)) (fun k n => w (ix2 k n)) n := by
  have e : k0_pay6 (F := Ideal) h g w (ix2 r n) = Ffn.lin (fun k => k0_pay4 (F := Ideal) h g (ix2 r k)) (fun k n => w (ix2 k n)) n := by
    pointwise [k0_pay6]
    rfl
  rw [e]
  simp only [norm_apply]
  rfl

theorem logit_apply (h : FVec Ideal S256x1024 .f32) (g : FVec Ideal S1x1024 .f32) (w : FVec Ideal S1024x128 .bf16) (b : FVec Ideal S1x128 .f32) (r : Fin 256) (n : Fin 128) :
    k0_pay7 (F := Ideal) h g w b (ix2 r n) = proj (fun n => h (ix2 r n)) (fun n => g (ix2 0 n)) (fun k n => w (ix2 k n)) n + b (ix2 0 n) := by
  have e : k0_pay7 (F := Ideal) h g w b (ix2 r n) = Ffn.lin (fun k => k0_pay4 (F := Ideal) h g (ix2 r k)) (fun k n => w (ix2 k n)) n + b (ix2 0 n) := by
    pointwise [k0_pay7]
    rfl
  rw [e]
  simp only [norm_apply]
  rfl

theorem min_apply (h : FVec Ideal S256x1024 .f32) (g : FVec Ideal S1x1024 .f32) (w : FVec Ideal S1024x128 .bf16) (b : FVec Ideal S1x128 .f32) (r : Fin 256) (n : Fin 128) :
    k0_pay8 (F := Ideal) h g w b (ix2 r n) = min (k0_pay7 (F := Ideal) h g w b (ix2 r n)) 0 := by
  pointwise [k0_pay8]

theorem gate_apply (x y : FVec Ideal S256x128 .f32) (r : Fin 256) (n : Fin 16) :
    k0_pay1 (F := Ideal) x y (ix2 r n) = y (ix2 r ⟨n.val, by omega⟩) - Ideal.log1p (Ideal.exp (0 - max (x (ix2 r ⟨n.val, by omega⟩)) (-(x (ix2 r ⟨n.val, by omega⟩))))) := by
  pointwise [k0_pay1]
  rfl

theorem query_apply (h : FVec Ideal S256x1024 .f32) (g : FVec Ideal S1x1024 .f32) (w : FVec Ideal S1024x1024 .bf16) (r : Fin 256) (n : Fin 1024) :
    k0_pay2 (F := Ideal) (k0_pay3 h) g w (ix2 r n) = proj (fun n => h (ix2 r n)) (fun n => g (ix2 0 n)) (fun k n => w (ix2 k n)) n := by
  pointwise [k0_pay2, k0_pay3]
  rfl

variable (m : (ℓ : Loc nD τ sig) → Buf (Elt Ideal) ℓ) (c : Dev nD)

theorem index0 (t : Fin cfg0.N) : win0_0.index t = ![0, 0] := (by decide +kernel : ∀ t : Fin grid0.N, win0_0.index t = ![0, 0]) t
theorem index1 (t : Fin cfg0.N) : win0_1.index t = ![0, 0] := (by decide +kernel : ∀ t : Fin grid0.N, win0_1.index t = ![0, 0]) t
theorem index2 (t : Fin cfg0.N) : win0_2.index t = ![0, 0] := (by decide +kernel : ∀ t : Fin grid0.N, win0_2.index t = ![0, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![0, 0] := (by decide +kernel : ∀ t : Fin grid0.N, win0_5.index t = ![0, 0]) t
theorem index6 (t : Fin cfg0.N) : win0_6.index t = ![0, 0] := (by decide +kernel : ∀ t : Fin grid0.N, win0_6.index t = ![0, 0]) t
theorem index7 (t : Fin cfg0.N) : win0_7.index t = ![0, 0] := (by decide +kernel : ∀ t : Fin grid0.N, win0_7.index t = ![0, 0]) t
theorem index8 (t : Fin cfg0.N) : win0_8.index t = ![0, 0] := (by decide +kernel : ∀ t : Fin grid0.N, win0_8.index t = ![0, 0]) t
theorem index9 (t : Fin cfg0.N) : win0_9.index t = ![0, 0] := (by decide +kernel : ∀ t : Fin grid0.N, win0_9.index t = ![0, 0]) t
theorem index10 (t : Fin cfg0.N) : win0_10.index t = ![0, 0] := (by decide +kernel : ∀ t : Fin grid0.N, win0_10.index t = ![0, 0]) t
theorem index11 (t : Fin cfg0.N) : win0_11.index t = ![0, 0] := (by decide +kernel : ∀ t : Fin grid0.N, win0_11.index t = ![0, 0]) t

theorem iblk0_at (t : Fin cfg0.N) (a : Fin 256) (b : Fin 1024) :
    (iblk m c 0 t : Vec Ideal S256x1024 .f32) (ix2 a b) = (V m c main_v7 : FVec Ideal S256x1024 .f32) (ix2 a b) := by
  show V m c main_v7 (((cfg0.win 0).blk t).view.emb (ix2 a b)) = _
  refine congrArg (V m c main_v7) (funext fun x => Fin.ext ?_)
  blk_simp [index0]
  match x with
  | ⟨0, _⟩ => show 0 * 256 + a.val = a.val; omega
  | ⟨1, _⟩ => show 0 * 1024 + b.val = b.val; omega

theorem iblk1_at (t : Fin cfg0.N) (a : Fin 1) (b : Fin 1024) :
    (iblk m c 1 t : Vec Ideal S1x1024 .f32) (ix2 a b) = (V m c main_v8 : FVec Ideal S1x1024 .f32) (ix2 a b) := by
  show V m c main_v8 (((cfg0.win 1).blk t).view.emb (ix2 a b)) = _
  refine congrArg (V m c main_v8) (funext fun x => Fin.ext ?_)
  blk_simp [index1]
  match x with
  | ⟨0, _⟩ => show 0 * 1 + a.val = a.val; omega
  | ⟨1, _⟩ => show 0 * 1024 + b.val = b.val; omega

theorem iblk2_at (t : Fin cfg0.N) (a : Fin 1) (b : Fin 1024) :
    (iblk m c 2 t : Vec Ideal S1x1024 .f32) (ix2 a b) = (V m c main_v10 : FVec Ideal S1x1024 .f32) (ix2 a b) := by
  show V m c main_v10 (((cfg0.win 2).blk t).view.emb (ix2 a b)) = _
  refine congrArg (V m c main_v10) (funext fun x => Fin.ext ?_)
  blk_simp [index2]
  match x with
  | ⟨0, _⟩ => show 0 * 1 + a.val = a.val; omega
  | ⟨1, _⟩ => show 0 * 1024 + b.val = b.val; omega

theorem iblk3_at (t : Fin cfg0.N) (a : Fin 1024) (b : Fin 1024) :
    (iblk m c 3 t : Vec Ideal S1024x1024 .bf16) (ix2 a b) = (V m c main_v11 : FVec Ideal S1024x1024 .bf16) (ix2 a b) := by
  show V m c main_v11 (((cfg0.win 3).blk t).view.emb (ix2 a b)) = _
  refine congrArg (V m c main_v11) (funext fun x => Fin.ext ?_)
  blk_simp [index3]
  match x with
  | ⟨0, _⟩ => show 0 * 1024 + a.val = a.val; omega
  | ⟨1, _⟩ => show 0 * 1024 + b.val = b.val; omega

theorem iblk4_at (t : Fin cfg0.N) (a : Fin 1024) (b : Fin 1024) :
    (iblk m c 4 t : Vec Ideal S1024x1024 .bf16) (ix2 a b) = (V m c main_v12 : FVec Ideal S1024x1024 .bf16) (ix2 a b) := by
  show V m c main_v12 (((cfg0.win 4).blk t).view.emb (ix2 a b)) = _
  refine congrArg (V m c main_v12) (funext fun x => Fin.ext ?_)
  blk_simp [index4]
  match x with
  | ⟨0, _⟩ => show 0 * 1024 + a.val = a.val; omega
  | ⟨1, _⟩ => show 0 * 1024 + b.val = b.val; omega

theorem iblk5_at (t : Fin cfg0.N) (a : Fin 1024) (b : Fin 128) :
    (iblk m c 5 t : Vec Ideal S1024x128 .bf16) (ix2 a b) = (V m c main_v1 : FVec Ideal S1024x128 .bf16) (ix2 a b) := by
  show V m c main_v1 (((cfg0.win 5).blk t).view.emb (ix2 a b)) = _
  refine congrArg (V m c main_v1) (funext fun x => Fin.ext ?_)
  blk_simp [index5]
  match x with
  | ⟨0, _⟩ => show 0 * 1024 + a.val = a.val; omega
  | ⟨1, _⟩ => show 0 * 128 + b.val = b.val; omega

theorem iblk6_at (t : Fin cfg0.N) (a : Fin 1) (b : Fin 128) :
    (iblk m c 6 t : Vec Ideal S1x128 .f32) (ix2 a b) = (V m c main_v3 : FVec Ideal S1x128 .f32) (ix2 a b) := by
  show V m c main_v3 (((cfg0.win 6).blk t).view.emb (ix2 a b)) = _
  refine congrArg (V m c main_v3) (funext fun x => Fin.ext ?_)
  blk_simp [index6]
  match x with
  | ⟨0, _⟩ => show 0 * 1 + a.val = a.val; omega
  | ⟨1, _⟩ => show 0 * 128 + b.val = b.val; omega

theorem iblk7_at (t : Fin cfg0.N) (a : Fin 1024) (b : Fin 1024) :
    (iblk m c 7 t : Vec Ideal S1024x1024 .bf16) (ix2 a b) = (V m c main_v14 : FVec Ideal S1024x1024 .bf16) (ix2 a b) := by
  show V m c main_v14 (((cfg0.win 7).blk t).view.emb (ix2 a b)) = _
  refine congrArg (V m c main_v14) (funext fun x => Fin.ext ?_)
  blk_simp [index7]
  match x with
  | ⟨0, _⟩ => show 0 * 1024 + a.val = a.val; omega
  | ⟨1, _⟩ => show 0 * 1024 + b.val = b.val; omega

abbrev arg0 : FVec Ideal S32x8x1024 .f32 := m (c, Proc.tc.devRef main_arg0)
abbrev arg1 : FVec Ideal S4x4x1024 .f32 := m (c, Proc.tc.devRef main_arg1)
abbrev arg2 : FVec Ideal S1024 .f32 := m (c, Proc.tc.devRef main_arg2)
abbrev arg3 : FVec Ideal S1024x1024 .f32 := m (c, Proc.tc.devRef main_arg3)
abbrev arg4 : FVec Ideal S1024x1024 .f32 := m (c, Proc.tc.devRef main_arg4)
abbrev arg5 : FVec Ideal S1024x16 .f32 := m (c, Proc.tc.devRef main_arg5)
abbrev arg6 : FVec Ideal S16 .f32 := m (c, Proc.tc.devRef main_arg6)
abbrev arg7 : FVec Ideal S2x1024x1024 .f32 := m (c, Proc.tc.devRef main_arg7)

theorem V0_at (r : Fin 256) (n : Fin 1024) : (V m c main_v7 : FVec Ideal S256x1024 .f32) (ix2 r n) = arg0 m c (ix3 ⟨r.val / 8, by omega⟩ ⟨r.val % 8, by omega⟩ n) := by
  unfold V
  after_reads_at

theorem V1_at (n : Fin 1024) : (V m c main_v8 : FVec Ideal S1x1024 .f32) (ix2 0 n) = arg2 m c (ix1 n) := by
  unfold V
  after_reads_at

theorem V2_at (n : Fin 1024) : (V m c main_v10 : FVec Ideal S1x1024 .f32) (ix2 0 n) = arg1 m c (ix3 2 0 n) := by
  unfold V
  after_reads_at

theorem V3_at (k n : Fin 1024) : (V m c main_v11 : FVec Ideal S1024x1024 .bf16) (ix2 k n) = arg3 m c (ix2 k n) := by
  unfold V
  after_reads_at

theorem V4_at (k n : Fin 1024) : (V m c main_v12 : FVec Ideal S1024x1024 .bf16) (ix2 k n) = arg4 m c (ix2 k n) := by
  unfold V
  after_reads_at

theorem V5_at (k : Fin 1024) (n : Fin 16) : (V m c main_v1 : FVec Ideal S1024x128 .bf16) (ix2 k ⟨n.val, by omega⟩) = arg5 m c (ix2 k n) := by
  unfold V
  after_reads_at

theorem V6_at (n : Fin 16) : (V m c main_v3 : FVec Ideal S1x128 .f32) (ix2 0 ⟨n.val, by omega⟩) = arg6 m c (ix1 n) := by
  unfold V
  after_reads_at

theorem V7_at (k n : Fin 1024) : (V m c main_v14 : FVec Ideal S1024x1024 .bf16) (ix2 k n) = (arg7 m c (ix3 0 k n) : EReal) * Ideal.ofBits .f32 0x3E000000#32 := by
  unfold V
  after_reads_at

/-- The only step. -/
def step : Fin cfg0.N := ⟨0, by decide⟩

theorem at8 (r : Fin 256) (n : Fin 1024) :
    (((dats (F := Ideal) m 0 c).arrAt 8 cfg0.N) : FVec Ideal S256x1024 .f32) (ix2 r n) = ((dats (F := Ideal) m 0 c).flushed 8 step : Vec Ideal S256x1024 .f32) (ix2 r n) := by
  rw [← Cert.Kernel4Ideal.Value.blocks8 m c step (flush0_8 step)]
  show _ = ((dats (F := Ideal) m 0 c).arrAt 8 cfg0.N) (((cfg0.win 8).blk step).view.emb (ix2 r n))
  refine congrArg ((dats (F := Ideal) m 0 c).arrAt 8 cfg0.N) (funext fun x => Fin.ext ?_)
  blk_simp [index8]
  match x with
  | ⟨0, _⟩ => show r.val = 0 * 256 + r.val; omega
  | ⟨1, _⟩ => show n.val = 0 * 1024 + n.val; omega

theorem at9 (r : Fin 256) (n : Fin 1024) :
    (((dats (F := Ideal) m 0 c).arrAt 9 cfg0.N) : FVec Ideal S256x1024 .f32) (ix2 r n) = ((dats (F := Ideal) m 0 c).flushed 9 step : Vec Ideal S256x1024 .f32) (ix2 r n) := by
  rw [← Cert.Kernel4Ideal.Value.blocks9 m c step (flush0_9 step)]
  show _ = ((dats (F := Ideal) m 0 c).arrAt 9 cfg0.N) (((cfg0.win 9).blk step).view.emb (ix2 r n))
  refine congrArg ((dats (F := Ideal) m 0 c).arrAt 9 cfg0.N) (funext fun x => Fin.ext ?_)
  blk_simp [index9]
  match x with
  | ⟨0, _⟩ => show r.val = 0 * 256 + r.val; omega
  | ⟨1, _⟩ => show n.val = 0 * 1024 + n.val; omega

theorem at10 (r : Fin 256) (n : Fin 16) :
    (((dats (F := Ideal) m 0 c).arrAt 10 cfg0.N) : FVec Ideal S256x16 .f32) (ix2 r n) = ((dats (F := Ideal) m 0 c).flushed 10 step : Vec Ideal S256x16 .f32) (ix2 r n) := by
  rw [← Cert.Kernel4Ideal.Value.blocks10 m c step (flush0_10 step)]
  show _ = ((dats (F := Ideal) m 0 c).arrAt 10 cfg0.N) (((cfg0.win 10).blk step).view.emb (ix2 r n))
  refine congrArg ((dats (F := Ideal) m 0 c).arrAt 10 cfg0.N) (funext fun x => Fin.ext ?_)
  blk_simp [index10]
  match x with
  | ⟨0, _⟩ => show r.val = 0 * 256 + r.val; omega
  | ⟨1, _⟩ => show n.val = 0 * 16 + n.val; omega

theorem at11 (r : Fin 256) (n : Fin 1024) :
    (((dats (F := Ideal) m 0 c).arrAt 11 cfg0.N) : FVec Ideal S256x1024 .f32) (ix2 r n) = ((dats (F := Ideal) m 0 c).flushed 11 step : Vec Ideal S256x1024 .f32) (ix2 r n) := by
  rw [← Cert.Kernel4Ideal.Value.blocks11 m c step (flush0_11 step)]
  show _ = ((dats (F := Ideal) m 0 c).arrAt 11 cfg0.N) (((cfg0.win 11).blk step).view.emb (ix2 r n))
  refine congrArg ((dats (F := Ideal) m 0 c).arrAt 11 cfg0.N) (funext fun x => Fin.ext ?_)
  blk_simp [index11]
  match x with
  | ⟨0, _⟩ => show r.val = 0 * 256 + r.val; omega
  | ⟨1, _⟩ => show n.val = 0 * 1024 + n.val; omega

/-- The rows of the residual stream. -/
abbrev hrow (r : Fin 256) (n : Fin 1024) : EReal := arg0 m c (ix3 ⟨r.val / 8, by omega⟩ ⟨r.val % 8, by omega⟩ n)

theorem keys_out (r : Fin 256) (n : Fin 1024) :
    (((dats (F := Ideal) m 0 c).arrAt 8 cfg0.N) : FVec Ideal S256x1024 .f32) (ix2 r n)
      = proj (hrow m c r) (fun n => arg2 m c (ix1 n)) (fun k n => arg3 m c (ix2 k n)) n := by
  rw [at8, Cert.Kernel4Ideal.Value.flushed8]
  unfold out0_8
  rw [View.canon_cons_unit_lit _ _ _ (by decide)]
  refine (keys_apply _ _ _ r n).trans (proj_congr (fun n => ?_) (fun n => ?_) (fun k n => ?_) n)
  · rw [View.ld_unit_lit _ _ (by decide)]; exact (iblk0_at m c step r n).trans (V0_at m c r n)
  · rw [View.ld_unit_lit _ _ (by decide)]; exact (iblk1_at m c step 0 n).trans (V1_at m c n)
  · rw [View.ld_unit_lit _ _ (by decide)]; exact (iblk3_at m c step k n).trans (V3_at m c k n)

theorem vals_out (r : Fin 256) (n : Fin 1024) :
    (((dats (F := Ideal) m 0 c).arrAt 9 cfg0.N) : FVec Ideal S256x1024 .f32) (ix2 r n)
      = proj (hrow m c r) (fun n => arg2 m c (ix1 n)) (fun k n => arg4 m c (ix2 k n)) n := by
  rw [at9, Cert.Kernel4Ideal.Value.flushed9]
  unfold out0_9
  rw [View.canon_cons_unit_lit _ _ _ (by decide)]
  refine (vals_apply _ _ _ r n).trans (proj_congr (fun n => ?_) (fun n => ?_) (fun k n => ?_) n)
  · rw [View.ld_unit_lit _ _ (by decide)]; exact (iblk0_at m c step r n).trans (V0_at m c r n)
  · rw [View.ld_unit_lit _ _ (by decide)]; exact (iblk1_at m c step 0 n).trans (V1_at m c n)
  · rw [View.ld_unit_lit _ _ (by decide)]; exact (iblk4_at m c step k n).trans (V4_at m c k n)

theorem gates_out (r : Fin 256) (n : Fin 16) :
    (((dats (F := Ideal) m 0 c).arrAt 10 cfg0.N) : FVec Ideal S256x16 .f32) (ix2 r n)
      = logsig (proj (hrow m c r) (fun n => arg2 m c (ix1 n)) (fun k n => arg5 m c (ix2 k n)) n + arg6 m c (ix1 n)) := by
  rw [at10, Cert.Kernel4Ideal.Value.flushed10]
  unfold out0_10
  rw [View.canon_cons_unit_lit _ _ _ (by decide)]
  refine (gate_apply _ _ r n).trans ?_
  rw [min_apply]
  show logsig (k0_pay7 (F := Ideal) _ _ _ _ (ix2 r ⟨n.val, _⟩)) = _
  refine congrArg logsig ((logit_apply _ _ _ _ r ⟨n.val, by omega⟩).trans (congrArg₂ (· + ·) ?_ ?_))
  · refine proj_col _ n (fun n => ?_) (fun n => ?_) (fun k => ?_)
    · rw [View.ld_unit_lit _ _ (by decide)]; exact (iblk0_at m c step r n).trans (V0_at m c r n)
    · rw [View.ld_unit_lit _ _ (by decide)]; exact (iblk1_at m c step 0 n).trans (V1_at m c n)
    · rw [View.ld_unit_lit _ _ (by decide)]; exact (iblk5_at m c step k _).trans (V5_at m c k n)
  · rw [View.ld_unit_lit _ _ (by decide)]; exact (iblk6_at m c step 0 _).trans (V6_at m c n)

theorem queries_out (r : Fin 256) (n : Fin 1024) :
    (((dats (F := Ideal) m 0 c).arrAt 11 cfg0.N) : FVec Ideal S256x1024 .f32) (ix2 r n)
      = proj (hrow m c r) (fun n => arg1 m c (ix3 2 0 n)) (fun k n => arg7 m c (ix3 0 k n)) n * Ideal.ofBits .f32 0x3E000000#32 := by
  rw [at11, Cert.Kernel4Ideal.Value.flushed11]
  unfold out0_11
  rw [View.canon_cons_unit_lit _ _ _ (by decide)]
  refine (query_apply _ _ _ r n).trans ?_
  refine (proj_congr (w' := fun k n => (arg7 m c (ix3 0 k n) : EReal) * Ideal.ofBits .f32 0x3E000000#32) (fun n => ?_) (fun n => ?_) (fun k n => ?_) n).trans
    (lin_scale _ _ _ (by rw [scale_real]; exact EReal.coe_nonneg.mpr (by norm_num)) (by rw [scale_real]; exact EReal.coe_ne_top _) n)
  · rw [View.ld_unit_lit _ _ (by decide)]; exact (iblk0_at m c step r n).trans (V0_at m c r n)
  · rw [View.ld_unit_lit _ _ (by decide)]; exact (iblk2_at m c step 0 n).trans (V2_at m c n)
  · rw [View.ld_unit_lit _ _ (by decide)]; exact (iblk7_at m c step k n).trans (V7_at m c k n)

end Cert.Kvq

end
-- ==== Proof.KvqRef.lean ====
/- The reference's shared keys, values, gates and queries, cut into their steps, and each at an element in the words of one row. -/
module

public import proofs.«01_k».proof.Proof.Gen.Reference4Ideal.Run
public import proofs.«01_k».proof.Proof.KvqRow

@[expose] public section

noncomputable section

namespace Cert.Kvq.Ref

open Idealize.ShloMosaic Idealize.ShloMosaic.TcCoe Cert.Reference4Ideal Cert.Reference4Ideal.Gen Facts

/-- Rows over the root of their mean square, times the gains. -/
def nrm (x : FVec Ideal S32x8x1024 .f32) (g : FVec Ideal S1024 .f32) : FVec Ideal S32x8x1024 .f32 :=
  mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))

/-- The gains of the first attention layer's queries. -/
def gain (g : FVec Ideal S4x4x1024 .f32) : FVec Ideal S1024 .f32 :=
  shapeCast _ (extractStridedSlice S1x1x1024 ![2, 0, 0] g slices_S4x4x1024_S1x1x1024_2_0_0) shapeCasts_S1x1x1024_S1024

/-- Rows times a matrix. -/
def times (z : FVec Ideal S32x8x1024 .f32) (w : FVec Ideal S1024x1024 .f32) : FVec Ideal S256x1024 .f32 :=
  shapeCast _ (Host.dotGeneral dot_S32x8x1024_S1024x1024_S32x8x1024_2_0_01_1_n_n none z w) shapeCasts_S32x8x1024_S256x1024

/-- The gates' logits. -/
def logit (z : FVec Ideal S32x8x1024 .f32) (w : FVec Ideal S1024x16 .f32) (b : FVec Ideal S16 .f32) : FVec Ideal S32x8x16 .f32 :=
  addf (Host.dotGeneral dot_S32x8x1024_S1024x16_S32x8x16_2_0_01_1_n_n none z w) (broadcastInDim S32x8x16 ![0, 1, 2] bcast_S1x1x16_S32x8x16_0_1_2 (broadcastInDim S1x1x16 ![2] bcast_S16_S1x1x16_2 b))

/-- The log of the logistic function of them. -/
def gates (y : FVec Ideal S32x8x16 .f32) : FVec Ideal S256x16 .f32 :=
  shapeCast _ (Host.negf (select (cmpf .une (subf (Host.negf y) (broadcastInDim S32x8x16 ![] bcast_S_S32x8x16 (constant S_ .f32 0x00000000#32))) (subf (Host.negf y) (broadcastInDim S32x8x16 ![] bcast_S_S32x8x16 (constant S_ .f32 0x00000000#32)))) (addf (Host.negf y) (broadcastInDim S32x8x16 ![] bcast_S_S32x8x16 (constant S_ .f32 0x00000000#32))) (addf (maximumf (Host.negf y) (broadcastInDim S32x8x16 ![] bcast_S_S32x8x16 (constant S_ .f32 0x00000000#32))) (Host.log1p (Host.exp (Host.negf (Host.absf (subf (Host.negf y) (broadcastInDim S32x8x16 ![] bcast_S_S32x8x16 (constant S_ .f32 0x00000000#32)))))))))) shapeCasts_S32x8x16_S256x16

/-- The queries, scaled. -/
def queries (z : FVec Ideal S32x8x1024 .f32) (w : FVec Ideal S2x1024x1024 .f32) : FVec Ideal S256x1024 .f32 :=
  shapeCast _ (mulf (Host.dotGeneral dot_S32x8x1024_S1024x1024_S32x8x1024_2_0_01_1_n_n none z (shapeCast _ (extractStridedSlice S1x1024x1024 ![0, 0, 0] w slices_S2x1024x1024_S1x1024x1024_0_0_0) shapeCasts_S1x1024x1024_S1024x1024)) (broadcastInDim S32x8x1024 ![] bcast_S_S32x8x1024 (constant S_ .f32 0x3E000000#32))) shapeCasts_S32x8x1024_S256x1024

theorem nrm_apply (x : FVec Ideal S32x8x1024 .f32) (g : FVec Ideal S1024 .f32) (b : Fin 32) (t : Fin 8) (n : Fin 1024) :
    nrm x g (ix3 b t n) = Ffn.rms (fun n => x (ix3 b t n)) (fun n => g (ix1 n)) n := by
  pointwise [nrm]
  rfl

theorem gain_apply (g : FVec Ideal S4x4x1024 .f32) (n : Fin 1024) : gain g (ix1 n) = g (ix3 2 0 n) := by
  pointwise [gain]

theorem times_apply (x : FVec Ideal S32x8x1024 .f32) (g : FVec Ideal S1024 .f32) (w : FVec Ideal S1024x1024 .f32) (r : Fin 256) (n : Fin 1024) :
    times (nrm x g) w (ix2 r n) = proj (fun n => x (ix3 ⟨r.val / 8, by omega⟩ ⟨r.val % 8, by omega⟩ n)) (fun n => g (ix1 n)) (fun k n => w (ix2 k n)) n := by
  have e : times (nrm x g) w (ix2 r n) = Ffn.lin (fun k => nrm x g (ix3 ⟨r.val / 8, by omega⟩ ⟨r.val % 8, by omega⟩ k)) (fun k n => w (ix2 k n)) n := by
    pointwise [times]
    rfl
  rw [e]
  simp only [nrm_apply]
  rfl

theorem logit_apply (x : FVec Ideal S32x8x1024 .f32) (g : FVec Ideal S1024 .f32) (w : FVec Ideal S1024x16 .f32) (b : FVec Ideal S16 .f32)
    (i : Fin 32) (t : Fin 8) (n : Fin 16) :
    logit (nrm x g) w b (ix3 i t n) = proj (fun n => x (ix3 i t n)) (fun n => g (ix1 n)) (fun k n => w (ix2 k n)) n + b (ix1 n) := by
  have e : logit (nrm x g) w b (ix3 i t n) = Ffn.lin (fun k => nrm x g (ix3 i t k)) (fun k n => w (ix2 k n)) n + b (ix1 n) := by
    pointwise [logit]
    rfl
  rw [e]
  simp only [nrm_apply]
  rfl

theorem gates_apply (y : FVec Ideal S32x8x16 .f32) (r : Fin 256) (n : Fin 16) :
    gates y (ix2 r n) = logsig (y (ix3 ⟨r.val / 8, by omega⟩ ⟨r.val % 8, by omega⟩ n)) := by
  rw [← logsig_eq]
  pointwise [gates]
  simp [FloatOps.cmpf]
  generalize y (ix3 ⟨r.val / 8, by omega⟩ ⟨r.val % 8, by omega⟩ n) = z
  show max (-z) 0 + Ideal.log1p (Ideal.exp (-(max (-z) (-(-z))))) = _
  rw [neg_neg]

theorem queries_apply (x : FVec Ideal S32x8x1024 .f32) (g : FVec Ideal S4x4x1024 .f32) (w : FVec Ideal S2x1024x1024 .f32) (r : Fin 256) (n : Fin 1024) :
    queries (nrm x (gain g)) w (ix2 r n)
      = proj (fun n => x (ix3 ⟨r.val / 8, by omega⟩ ⟨r.val % 8, by omega⟩ n)) (fun n => g (ix3 2 0 n)) (fun k n => w (ix3 0 k n)) n * Ideal.ofBits .f32 0x3E000000#32 := by
  have e : queries (nrm x (gain g)) w (ix2 r n) = Ffn.lin (fun k => nrm x (gain g) (ix3 ⟨r.val / 8, by omega⟩ ⟨r.val % 8, by omega⟩ k)) (fun k n => w (ix3 0 k n)) n * Ideal.ofBits .f32 0x3E000000#32 := by
    pointwise [queries]
    rfl
  rw [e]
  simp only [nrm_apply, gain_apply]
  rfl

end Cert.Kvq.Ref

end
-- ==== Proof.ConvRow.lean ====
/- What the short convolution is for one row of a sequence, over the extended reals. -/
module

public import proofs.«01_k».proof.Proof.KvqRow

@[expose] public section

noncomputable section

namespace Cert.Conv

open Idealize.ShloMosaic Cert.Kvq
open scoped BigOperators

/-- The gated input of the convolution: two thirds of the projection, multiplied. -/
def cu (x g : Fin 1024 → EReal) (w : Fin 1024 → Fin 3072 → EReal) (n : Fin 1024) : EReal :=
  proj x g w ⟨1024 + n.val, by omega⟩ * proj x g w ⟨2048 + n.val, by omega⟩

/-- The two rows before the sequence, then its rows. -/
def pad (s : Fin 2 → EReal) (c : Fin 8 → EReal) (j : ℕ) : EReal :=
  if h : j < 2 then s ⟨j, h⟩ else if h' : j - 2 < 8 then c ⟨j - 2, h'⟩ else 0

/-- The convolution of width three. -/
def conv (w : Fin 3 → EReal) (s : Fin 2 → EReal) (c : Fin 8 → EReal) (t : Fin 8) : EReal :=
  w 0 * pad s c t.val + w 1 * pad s c (t.val + 1) + w 2 * c t

/-- The gated convolution of row `t`. -/
def gated (x : Fin 8 → Fin 1024 → EReal) (s : Fin 2 → Fin 1024 → EReal) (g0 : Fin 1024 → EReal) (win : Fin 1024 → Fin 3072 → EReal)
    (wc : Fin 3 → Fin 1024 → EReal) (t : Fin 8) (n : Fin 1024) : EReal :=
  proj (x t) g0 win ⟨n.val, by omega⟩ * conv (fun j => wc j n) (fun j => s j n) (fun t => cu (x t) g0 win n) t

/-- The whole row `t`. -/
def row (x : Fin 8 → Fin 1024 → EReal) (s : Fin 2 → Fin 1024 → EReal) (g0 g1 : Fin 1024 → EReal) (win : Fin 1024 → Fin 3072 → EReal)
    (wc : Fin 3 → Fin 1024 → EReal) (wout : Fin 1024 → Fin 1024 → EReal) (t : Fin 8) (n : Fin 1024) : EReal :=
  x t n + Ffn.rms (Ffn.lin (gated x s g0 win wc t) wout) g1 n

theorem cu_congr {x x' g g' : Fin 1024 → EReal} {w w' : Fin 1024 → Fin 3072 → EReal} (hx : ∀ n, x n = x' n) (hg : ∀ n, g n = g' n)
    (hw : ∀ k n, w k n = w' k n) (n : Fin 1024) : cu x g w n = cu x' g' w' n := by
  unfold cu
  rw [proj_congr hx hg hw, proj_congr hx hg hw]

theorem pad_zero (s : Fin 2 → EReal) (c : Fin 8 → EReal) (j : ℕ) (h : j < 2) : pad s c j = s ⟨j, h⟩ := by
  unfold pad
  rw [dif_pos h]

theorem pad_next (s : Fin 2 → EReal) (c : Fin 8 → EReal) (j : ℕ) (t : Fin 8) (h : j = t.val + 2) : pad s c j = c t := by
  subst h
  unfold pad
  rw [dif_neg (by omega), dif_pos (show t.val + 2 - 2 < 8 by omega)]
  rfl

end Cert.Conv

end
-- ==== Proof.ConvKern.lean ====
/- The sample's short convolution: the call's payloads and its windows' blocks read at an element, and its results in the
   words of one row. -/
module

public import proofs.«01_k».proof.Proof.ConvRow
public import proofs.«01_k».proof.Proof.Gen.Kernel5Ideal.Value
public import Idealize.ShloMosaic.Lib.Pipeline.ValueKit
public import Idealize.ShloMosaic.Lib.StableHlo.ReadAt
public import Idealize.ShloMosaic.Lib.Pointwise

@[expose] public section

noncomputable section

namespace Cert.Conv

open scoped BigOperators
open Idealize.ShloMosaic Idealize.ShloMosaic.TcCoe Cert.Kernel5Ideal Cert.Kernel5Ideal.Gen Cert.Kvq

/-! The payloads at an element. -/

theorem same_apply (h : FVec Ideal S256x1024 .f32) (r : Fin 256) (n : Fin 1024) : k0_pay2 (F := Ideal) h (ix2 r n) = h (ix2 r n) := by
  pointwise [k0_pay2]

theorem gain_apply (g : FVec Ideal S1x1024 .f32) (n : Fin 1024) : k0_pay11 (F := Ideal) g (ix2 0 n) = g (ix2 0 n) := by
  pointwise [k0_pay11]

theorem proj_apply (h : FVec Ideal S256x1024 .f32) (g : FVec Ideal S1x1024 .f32) (w : FVec Ideal S1x1024x3072 .bf16) (r : Fin 256) (n : Fin 3072) :
    k0_pay3 (F := Ideal) h g w (ix2 r n) = proj (fun n => h (ix2 r n)) (fun n => g (ix2 0 n)) (fun k n => w (ix3 0 k n)) n := by
  pointwise [k0_pay3, k0_pay2]
  rfl

theorem gate_apply (h : FVec Ideal S256x1024 .f32) (g : FVec Ideal S1x1024 .f32) (w : FVec Ideal S1x1024x3072 .bf16) (r : Fin 256) (n : Fin 1024) :
    k0_pay4 (F := Ideal) h g w (ix2 r n) = proj (fun n => h (ix2 r n)) (fun n => g (ix2 0 n)) (fun k n => w (ix3 0 k n)) ⟨n.val, by omega⟩ := by
  have e : k0_pay4 (F := Ideal) h g w (ix2 r n) = k0_pay3 (F := Ideal) h g w (ix2 r ⟨n.val, by omega⟩) := by
    pointwise [k0_pay4]
  rw [e, proj_apply]

theorem cu_apply (h : FVec Ideal S256x1024 .f32) (g : FVec Ideal S1x1024 .f32) (w : FVec Ideal S1x1024x3072 .bf16) (r : Fin 256) (n : Fin 1024) :
    k0_pay5 (F := Ideal) h g w (ix2 r n) = cu (fun n => h (ix2 r n)) (fun n => g (ix2 0 n)) (fun k n => w (ix3 0 k n)) n := by
  have e : k0_pay5 (F := Ideal) h g w (ix2 r n)
      = k0_pay3 (F := Ideal) h g w (ix2 r ⟨1024 + n.val, by omega⟩) * k0_pay3 (F := Ideal) h g w (ix2 r ⟨2048 + n.val, by omega⟩) := by
    pointwise [k0_pay5]
  rw [e, proj_apply, proj_apply]
  rfl

theorem turn1_apply (h : FVec Ideal S256x1024 .f32) (g : FVec Ideal S1x1024 .f32) (w : FVec Ideal S1x1024x3072 .bf16) (r : Fin 256) (n : Fin 1024)
    (r' : Fin 256) (hr : r.val = r'.val + 1) :
    k0_pay6 (F := Ideal) h g w (ix2 r n) = k0_pay5 (F := Ideal) h g w (ix2 r' n) := by
  pointwise [k0_pay6]
  congr 2
  apply Fin.ext
  simp
  omega

theorem turn2_apply (h : FVec Ideal S256x1024 .f32) (g : FVec Ideal S1x1024 .f32) (w : FVec Ideal S1x1024x3072 .bf16) (r : Fin 256) (n : Fin 1024)
    (r' : Fin 256) (hr : r.val = r'.val + 2) :
    k0_pay7 (F := Ideal) h g w (ix2 r n) = k0_pay5 (F := Ideal) h g w (ix2 r' n) := by
  pointwise [k0_pay7]
  congr 2
  apply Fin.ext
  simp
  omega

/-- The place of a row in its sequence, as the call computes it. -/
def place : IVec S256x1 32 := select k0_pay9 (addi k0_pay8 (broadcast S256x1 (Scalar.select (Scalar.cmpi .eq 8#32 0#32) 1#32 8#32))) k0_pay8

theorem place_apply : ∀ r : Fin 256, place (ix2 r 0) = BitVec.ofNat 32 (r.val % 8) := by
  decide +kernel

theorem first_apply (r : Fin 256) : (cmpi .eq place (broadcast S256x1 0#32) : IVec S256x1 1) (ix2 r 0) = if r.val % 8 = 0 then 1#1 else 0#1 := by
  have e : (cmpi .eq place (broadcast S256x1 0#32) : IVec S256x1 1) (ix2 r 0) = Scalar.cmpi .eq (place (ix2 r 0)) 0#32 := rfl
  rw [e, place_apply]
  exact (by decide +kernel : ∀ r : Fin 256, Scalar.cmpi .eq (BitVec.ofNat 32 (r.val % 8)) 0#32 = if r.val % 8 = 0 then 1#1 else 0#1) r

theorem second_apply (r : Fin 256) : (cmpi .slt place (broadcast S256x1 2#32) : IVec S256x1 1) (ix2 r 0) = if r.val % 8 < 2 then 1#1 else 0#1 := by
  have e : (cmpi .slt place (broadcast S256x1 2#32) : IVec S256x1 1) (ix2 r 0) = Scalar.cmpi .slt (place (ix2 r 0)) 2#32 := rfl
  rw [e, place_apply]
  exact (by decide +kernel : ∀ r : Fin 256, Scalar.cmpi .slt (BitVec.ofNat 32 (r.val % 8)) 2#32 = if r.val % 8 < 2 then 1#1 else 0#1) r

/-- The gated convolution times the matrix, with the masks named. -/
def endW (M1 M2 : IVec S256x1 1) (v20 v23 v24 v25 v45 v52 : FVec Ideal S256x1024 .f32) (v57 v61 v66 : FVec Ideal S1x1024 .f32) (v73 : FVec Ideal S1x1024x1024 .bf16) :
    FVec Ideal S256x1024 .f32 :=
  matmul dot_S256x1024_S1024x1024_S256x1024_1_0_0_1_n_n none
    (truncf .bf16 (mulf v20 (addf (addf
      (mulf (broadcastTo S256x1024 (shapeCast S1x1024 v57 shapeCasts_S1x1024_S1x1024) broadcasts_S1x1024_S256x1024)
        (select (broadcastTo S256x1024 (shapeCast S256x1 M2 shapeCasts_S256x1_S256x1) broadcasts_S256x1_S256x1024) (shapeCast S256x1024 v52 shapeCasts_S256x1024_S256x1024) v25))
      (mulf (broadcastTo S256x1024 (shapeCast S1x1024 v61 shapeCasts_S1x1024_S1x1024) broadcasts_S1x1024_S256x1024)
        (select (broadcastTo S256x1024 (shapeCast S256x1 M1 shapeCasts_S256x1_S256x1) broadcasts_S256x1_S256x1024) (shapeCast S256x1024 v45 shapeCasts_S256x1024_S256x1024) v24)))
      (mulf (broadcastTo S256x1024 (shapeCast S1x1024 v66 shapeCasts_S1x1024_S1x1024) broadcasts_S1x1024_S256x1024) v23))) bitsLt_bf16_f32)
    (shapeCast S1024x1024 v73 shapeCasts_S1x1024x1024_S1024x1024) (constant S256x1024 .f32 0x00000000#32)

theorem endW_eq (v20 v23 v24 v25 v45 v52 : FVec Ideal S256x1024 .f32) (v57 v61 v66 : FVec Ideal S1x1024 .f32) (v73 : FVec Ideal S1x1024x1024 .bf16) :
    k0_pay10 (F := Ideal) v20 v23 v24 v25 (Scalar.select (Scalar.cmpi .eq 8#32 0#32) 1#32 8#32) k0_pay8 k0_pay9 v45 v52 v57 v61 v66 v73
      = endW (cmpi .eq place (broadcast S256x1 0#32)) (cmpi .slt place (broadcast S256x1 2#32)) v20 v23 v24 v25 v45 v52 v57 v61 v66 v73 := rfl

theorem endW_apply (M1 M2 : IVec S256x1 1) (v20 v23 v24 v25 v45 v52 : FVec Ideal S256x1024 .f32) (v57 v61 v66 : FVec Ideal S1x1024 .f32) (v73 : FVec Ideal S1x1024x1024 .bf16)
    (r : Fin 256) (n : Fin 1024) :
    endW M1 M2 v20 v23 v24 v25 v45 v52 v57 v61 v66 v73 (ix2 r n)
      = Ffn.lin (fun k => (v20 (ix2 r k) : EReal) * (v57 (ix2 0 k) * (if M2 (ix2 r 0) = 1#1 then v52 (ix2 r k) else v25 (ix2 r k))
          + v61 (ix2 0 k) * (if M1 (ix2 r 0) = 1#1 then v45 (ix2 r k) else v24 (ix2 r k)) + v66 (ix2 0 k) * v23 (ix2 r k))) (fun k n => v73 (ix3 0 k n)) n := by
  pointwise [endW]
  rfl

theorem squares_apply (v20 v23 v24 v25 v45 v52 : FVec Ideal S256x1024 .f32) (v57 v61 v66 : FVec Ideal S1x1024 .f32) (v73 : FVec Ideal S1x1024x1024 .bf16)
    (a : BitVec 32) (b : IVec S256x1 32) (d : IVec S256x1 1) (r : Fin 256) :
    k0_pay12 (F := Ideal) v20 v23 v24 v25 a b d v45 v52 v57 v61 v66 v73 (ix2 r 0)
      = ∑ n : Fin 1024, k0_pay10 (F := Ideal) v20 v23 v24 v25 a b d v45 v52 v57 v61 v66 v73 (ix2 r n) * k0_pay10 (F := Ideal) v20 v23 v24 v25 a b d v45 v52 v57 v61 v66 v73 (ix2 r n) := by
  pointwise [k0_pay12]

theorem end_apply (x y : FVec Ideal S256x1024 .f32) (g : FVec Ideal S1x1024 .f32) (s : FVec Ideal S256x1 .f32) (r : Fin 256) (n : Fin 1024) :
    k0_pay1 (F := Ideal) x y g s (ix2 r n)
      = x (ix2 r n) + y (ix2 r n) * Ideal.rsqrt (Ideal.div (s (ix2 r 0)) (Ideal.ofBits .f32 0x44800000#32) + Ideal.ofBits .f32 0x358637BD#32) * g (ix2 0 n) := by
  pointwise [k0_pay1]

/-- What is convolved, when the rows before a row are those of the sequence and those of the state. -/
theorem conv_eq (w : Fin 3 → EReal) (s : Fin 2 → EReal) (u : Fin 8 → EReal) (t : Fin 8) (f1 f2 p1 p2 : EReal)
    (h1 : t.val = 0 → f1 = s 1) (h2 : ∀ h : t.val < 2, f2 = s ⟨t.val, h⟩)
    (h3 : ∀ h : t.val ≠ 0, p1 = u ⟨t.val - 1, by omega⟩) (h4 : ∀ h : ¬ t.val < 2, p2 = u ⟨t.val - 2, by omega⟩) :
    w 0 * (if t.val < 2 then f2 else p2) + w 1 * (if t.val = 0 then f1 else p1) + w 2 * u t = conv w s u t := by
  unfold conv
  have a : (if t.val < 2 then f2 else p2) = pad s u t.val := by
    by_cases h : t.val < 2
    · rw [if_pos h, pad_zero _ _ _ h, h2 h]
    · rw [if_neg h, h4 h, pad_next _ _ _ ⟨t.val - 2, by omega⟩ (show t.val = t.val - 2 + 2 by omega)]
  have b : (if t.val = 0 then f1 else p1) = pad s u (t.val + 1) := by
    by_cases h : t.val = 0
    · rw [if_pos h, h1 h, pad_zero _ _ _ (show t.val + 1 < 2 by omega)]
      exact congrArg s (Fin.ext (show 1 = t.val + 1 by omega))
    · rw [if_neg h, h3 h, pad_next _ _ _ ⟨t.val - 1, by omega⟩ (show t.val + 1 = t.val - 1 + 2 by omega)]
  rw [a, b]

variable (m : (ℓ : Loc nD τ sig) → Buf (Elt Ideal) ℓ) (c : Dev nD)

theorem index0 (t : Fin cfg0.N) : win0_0.index t = ![0, 0] := (by decide +kernel : ∀ t : Fin grid0.N, win0_0.index t = ![0, 0]) t
theorem index1 (t : Fin cfg0.N) : win0_1.index t = ![0, 0] := (by decide +kernel : ∀ t : Fin grid0.N, win0_1.index t = ![0, 0]) t
theorem index2 (t : Fin cfg0.N) : win0_2.index t = ![0, 0] := (by decide +kernel : ∀ t : Fin grid0.N, win0_2.index t = ![0, 0]) t
theorem index3 (t : Fin cfg0.N) : win0_3.index t = ![0, 0] := (by decide +kernel : ∀ t : Fin grid0.N, win0_3.index t = ![0, 0]) t
theorem index4 (t : Fin cfg0.N) : win0_4.index t = ![1, 0, 0] := (by decide +kernel : ∀ t : Fin grid0.N, win0_4.index t = ![1, 0, 0]) t
theorem index5 (t : Fin cfg0.N) : win0_5.index t = ![0, 0] := (by decide +kernel : ∀ t : Fin grid0.N, win0_5.index t = ![0, 0]) t
theorem index6 (t : Fin cfg0.N) : win0_6.index t = ![1, 0, 0] := (by decide +kernel : ∀ t : Fin grid0.N, win0_6.index t = ![1, 0, 0]) t
theorem index7 (t : Fin cfg0.N) : win0_7.index t = ![0, 0] := (by decide +kernel : ∀ t : Fin grid0.N, win0_7.index t = ![0, 0]) t
theorem index8 (t : Fin cfg0.N) : win0_8.index t = ![0, 0] := (by decide +kernel : ∀ t : Fin grid0.N, win0_8.index t = ![0, 0]) t

theorem iblk0_at (t : Fin cfg0.N) (a : Fin 256) (b : Fin 1024) :
    (iblk m c 0 t : Vec Ideal S256x1024 .f32) (ix2 a b) = (V m c main_v9 : FVec Ideal S256x1024 .f32) (ix2 a b) := by
  show V m c main_v9 (((cfg0.win 0).blk t).view.emb (ix2 a b)) = _
  refine congrArg (V m c main_v9) (funext fun x => Fin.ext ?_)
  blk_simp [index0]
  match x with
  | ⟨0, _⟩ => show 0 * 256 + a.val = a.val; omega
  | ⟨1, _⟩ => show 0 * 1024 + b.val = b.val; omega

theorem iblk1_at (t : Fin cfg0.N) (a : Fin 256) (b : Fin 1024) :
    (iblk m c 1 t : Vec Ideal S256x1024 .f32) (ix2 a b) = (V m c main_v6 : FVec Ideal S256x1024 .f32) (ix2 a b) := by
  show V m c main_v6 (((cfg0.win 1).blk t).view.emb (ix2 a b)) = _
  refine congrArg (V m c main_v6) (funext fun x => Fin.ext ?_)
  blk_simp [index1]
  match x with
  | ⟨0, _⟩ => show 0 * 256 + a.val = a.val; omega
  | ⟨1, _⟩ => show 0 * 1024 + b.val = b.val; omega

theorem iblk2_at (t : Fin cfg0.N) (a : Fin 256) (b : Fin 1024) :
    (iblk m c 2 t : Vec Ideal S256x1024 .f32) (ix2 a b) = (V m c main_v8 : FVec Ideal S256x1024 .f32) (ix2 a b) := by
  show V m c main_v8 (((cfg0.win 2).blk t).view.emb (ix2 a b)) = _
  refine congrArg (V m c main_v8) (funext fun x => Fin.ext ?_)
  blk_simp [index2]
  match x with
  | ⟨0, _⟩ => show 0 * 256 + a.val = a.val; omega
  | ⟨1, _⟩ => show 0 * 1024 + b.val = b.val; omega

theorem iblk3_at (t : Fin cfg0.N) (a : Fin 4) (b : Fin 1024) :
    (iblk m c 3 t : Vec Ideal S4x1024 .f32) (ix2 a b) = (V m c main_v11 : FVec Ideal S4x1024 .f32) (ix2 a b) := by
  show V m c main_v11 (((cfg0.win 3).blk t).view.emb (ix2 a b)) = _
  refine congrArg (V m c main_v11) (funext fun x => Fin.ext ?_)
  blk_simp [index3]
  match x with
  | ⟨0, _⟩ => show 0 * 4 + a.val = a.val; omega
  | ⟨1, _⟩ => show 0 * 1024 + b.val = b.val; omega

theorem iblk4_at (t : Fin cfg0.N) (a : Fin 1024) (b : Fin 3072) :
    (iblk m c 4 t : Vec Ideal S1x1024x3072 .bf16) (ix3 0 a b) = (V m c main_v12 : FVec Ideal S2x1024x3072 .bf16) (ix3 1 a b) := by
  show V m c main_v12 (((cfg0.win 4).blk t).view.emb (ix3 0 a b)) = _
  refine congrArg (V m c main_v12) (funext fun x => Fin.ext ?_)
  blk_simp [index4]
  match x with
  | ⟨0, _⟩ => rfl
  | ⟨1, _⟩ => show 0 * 1024 + a.val = a.val; omega
  | ⟨2, _⟩ => show 0 * 3072 + b.val = b.val; omega

theorem iblk5_at (t : Fin cfg0.N) (a : Fin 3) (b : Fin 1024) :
    (iblk m c 5 t : Vec Ideal S3x1024 .f32) (ix2 a b) = (V m c main_v14 : FVec Ideal S3x1024 .f32) (ix2 a b) := by
  show V m c main_v14 (((cfg0.win 5).blk t).view.emb (ix2 a b)) = _
  refine congrArg (V m c main_v14) (funext fun x => Fin.ext ?_)
  blk_simp [index5]
  match x with
  | ⟨0, _⟩ => show 0 * 3 + a.val = a.val; omega
  | ⟨1, _⟩ => show 0 * 1024 + b.val = b.val; omega

theorem iblk6_at (t : Fin cfg0.N) (a : Fin 1024) (b : Fin 1024) :
    (iblk m c 6 t : Vec Ideal S1x1024x1024 .bf16) (ix3 0 a b) = (V m c main_v15 : FVec Ideal S2x1024x1024 .bf16) (ix3 1 a b) := by
  show V m c main_v15 (((cfg0.win 6).blk t).view.emb (ix3 0 a b)) = _
  refine congrArg (V m c main_v15) (funext fun x => Fin.ext ?_)
  blk_simp [index6]
  match x with
  | ⟨0, _⟩ => rfl
  | ⟨1, _⟩ => show 0 * 1024 + a.val = a.val; omega
  | ⟨2, _⟩ => show 0 * 1024 + b.val = b.val; omega

abbrev arg0 : FVec Ideal S32x8x1024 .f32 := m (c, Proc.tc.devRef main_arg0)
abbrev arg1 : FVec Ideal S2x32x2x1024 .f32 := m (c, Proc.tc.devRef main_arg1)
abbrev arg2 : FVec Ideal S4x4x1024 .f32 := m (c, Proc.tc.devRef main_arg2)
abbrev arg3 : FVec Ideal S2x1024x3072 .f32 := m (c, Proc.tc.devRef main_arg3)
abbrev arg4 : FVec Ideal S2x3x1024 .f32 := m (c, Proc.tc.devRef main_arg4)
abbrev arg5 : FVec Ideal S2x1024x1024 .f32 := m (c, Proc.tc.devRef main_arg5)

theorem V0_at (r : Fin 256) (n : Fin 1024) : (V m c main_v9 : FVec Ideal S256x1024 .f32) (ix2 r n) = arg0 m c (ix3 ⟨r.val / 8, by omega⟩ ⟨r.val % 8, by omega⟩ n) := by
  unfold V
  after_reads_at

/-- The first row of a sequence meets the last row of the state one place before. -/
theorem V1_at (r : Fin 256) (n : Fin 1024) (h : r.val % 8 = 0) :
    (V m c main_v6 : FVec Ideal S256x1024 .f32) (ix2 r n) = arg1 m c (ix4 1 ⟨r.val / 8, by omega⟩ 1 n) := by
  unfold V
  after_reads_at
  rw [dif_pos (by omega)]
  after_reads_at
  exact congrArg (fun j : Fin 2 => arg1 m c (ix4 1 ⟨r.val / 8, by omega⟩ j n)) (Fin.ext (show 1 + r.val % 8 = 1 by omega))

/-- The first two rows of a sequence meet the state's rows two places before. -/
theorem V2_at (r : Fin 256) (n : Fin 1024) (h : r.val % 8 < 2) :
    (V m c main_v8 : FVec Ideal S256x1024 .f32) (ix2 r n) = arg1 m c (ix4 1 ⟨r.val / 8, by omega⟩ ⟨r.val % 8, h⟩ n) := by
  unfold V
  after_reads_at
  rw [dif_pos h]
  after_reads_at

theorem V3_at (i : Fin 4) (n : Fin 1024) : (V m c main_v11 : FVec Ideal S4x1024 .f32) (ix2 i n) = arg2 m c (ix3 1 i n) := by
  unfold V
  after_reads_at

theorem V4_at (k : Fin 1024) (n : Fin 3072) : (V m c main_v12 : FVec Ideal S2x1024x3072 .bf16) (ix3 1 k n) = arg3 m c (ix3 1 k n) := by
  unfold V
  after_reads_at

theorem V5_at (i : Fin 3) (n : Fin 1024) : (V m c main_v14 : FVec Ideal S3x1024 .f32) (ix2 i n) = arg4 m c (ix3 1 i n) := by
  unfold V
  after_reads_at

theorem V6_at (k n : Fin 1024) : (V m c main_v15 : FVec Ideal S2x1024x1024 .bf16) (ix3 1 k n) = arg5 m c (ix3 1 k n) := by
  unfold V
  after_reads_at

/-- The only step. -/
def step : Fin cfg0.N := ⟨0, by decide⟩

theorem at7 (r : Fin 256) (n : Fin 1024) :
    (((dats (F := Ideal) m 0 c).arrAt 7 cfg0.N) : FVec Ideal S256x1024 .f32) (ix2 r n) = ((dats (F := Ideal) m 0 c).flushed 7 step : Vec Ideal S256x1024 .f32) (ix2 r n) := by
  rw [← Cert.Kernel5Ideal.Value.blocks7 m c step (flush0_7 step)]
  show _ = ((dats (F := Ideal) m 0 c).arrAt 7 cfg0.N) (((cfg0.win 7).blk step).view.emb (ix2 r n))
  refine congrArg ((dats (F := Ideal) m 0 c).arrAt 7 cfg0.N) (funext fun x => Fin.ext ?_)
  blk_simp [index7]
  match x with
  | ⟨0, _⟩ => show r.val = 0 * 256 + r.val; omega
  | ⟨1, _⟩ => show n.val = 0 * 1024 + n.val; omega

theorem at8 (r : Fin 256) (n : Fin 1024) :
    (((dats (F := Ideal) m 0 c).arrAt 8 cfg0.N) : FVec Ideal S256x1024 .f32) (ix2 r n) = ((dats (F := Ideal) m 0 c).flushed 8 step : Vec Ideal S256x1024 .f32) (ix2 r n) := by
  rw [← Cert.Kernel5Ideal.Value.blocks8 m c step (flush0_8 step)]
  show _ = ((dats (F := Ideal) m 0 c).arrAt 8 cfg0.N) (((cfg0.win 8).blk step).view.emb (ix2 r n))
  refine congrArg ((dats (F := Ideal) m 0 c).arrAt 8 cfg0.N) (funext fun x => Fin.ext ?_)
  blk_simp [index8]
  match x with
  | ⟨0, _⟩ => show r.val = 0 * 256 + r.val; omega
  | ⟨1, _⟩ => show n.val = 0 * 1024 + n.val; omega

/-- The rows of the layer's input. -/
abbrev hrow (r : Fin 256) (n : Fin 1024) : EReal := arg0 m c (ix3 ⟨r.val / 8, by omega⟩ ⟨r.val % 8, by omega⟩ n)

/-- The gated inputs of the convolution. -/
theorem cu_out (r : Fin 256) (n : Fin 1024) :
    (((dats (F := Ideal) m 0 c).arrAt 8 cfg0.N) : FVec Ideal S256x1024 .f32) (ix2 r n)
      = cu (hrow m c r) (fun n => arg2 m c (ix3 1 0 n)) (fun k n => arg3 m c (ix3 1 k n)) n := by
  rw [at8, Cert.Kernel5Ideal.Value.flushed8]
  unfold out0_8 k0_pay14
  rw [View.canon_cons_unit_lit _ _ _ (by decide)]
  refine (cu_apply _ _ _ r n).trans (cu_congr (fun n => ?_) (fun n => ?_) (fun k n => ?_) n)
  · rw [View.ld_unit_lit _ _ (by decide)]; exact (iblk0_at m c step r n).trans (V0_at m c r n)
  · refine Eq.trans (congrArg (iblk m c 3 step) ?_) ((iblk3_at m c step 0 n).trans (V3_at m c 0 n))
    funext a; apply Fin.ext; fin_cases a <;> simp [ix2]
  · rw [View.ld_unit_lit _ _ (by decide)]; exact (iblk4_at m c step k n).trans (V4_at m c k n)

/-- The body's row, from its windows' blocks. -/
theorem body_apply (x0 x1 x2 : Vec Ideal S256x1024 .f32) (x3 : Vec Ideal S4x1024 .f32) (x4 : Vec Ideal S1x1024x3072 .bf16) (x5 : Vec Ideal S3x1024 .f32)
    (x6 : Vec Ideal S1x1024x1024 .bf16) (b : Fin 32) (t : Fin 8) (r : Fin 256) (hr : r.val = 8 * b.val + t.val) (n : Fin 1024)
    (x : Fin 8 → Fin 1024 → EReal) (s : Fin 2 → Fin 1024 → EReal) (g0 g1 : Fin 1024 → EReal) (win : Fin 1024 → Fin 3072 → EReal)
    (wc : Fin 3 → Fin 1024 → EReal) (wout : Fin 1024 → Fin 1024 → EReal)
    (hx : ∀ (t : Fin 8) (n : Fin 1024), x0 (ix2 ⟨8 * b.val + t.val, by omega⟩ n) = x t n)
    (h1 : t.val = 0 → ∀ n : Fin 1024, x1 (ix2 r n) = s 1 n) (h2 : ∀ (h : t.val < 2) (n : Fin 1024), x2 (ix2 r n) = s ⟨t.val, h⟩ n)
    (hg0 : ∀ n : Fin 1024, x3 (ix2 0 n) = g0 n) (hg1 : ∀ n : Fin 1024, x3 (ix2 1 n) = g1 n) (hw : ∀ (k : Fin 1024) (n : Fin 3072), x4 (ix3 0 k n) = win k n)
    (hc : ∀ (i : Fin 3) (n : Fin 1024), x5 (ix2 i n) = wc i n) (ho : ∀ k n : Fin 1024, x6 (ix3 0 k n) = wout k n) :
    out0_7 (F := Ideal) x0 x1 x2 x3 x4 x5 x6 (ix2 r n) = row x s g0 g1 win wc wout t n := by
  have e0 : ∀ n : Fin 1024, (View.ld x3 r0_1 : FVec Ideal S1x1024 .f32) (ix2 0 n) = g0 n := fun n =>
    Eq.trans (congrArg x3 (by funext a; apply Fin.ext; fin_cases a <;> simp [ix2])) (hg0 n)
  have e1 : ∀ n : Fin 1024, (View.ld x3 r0_7 : FVec Ideal S1x1024 .f32) (ix2 0 n) = g1 n := fun n =>
    Eq.trans (congrArg x3 (by funext a; apply Fin.ext; fin_cases a <;> simp [ix2])) (hg1 n)
  have c0 : ∀ n : Fin 1024, (View.ld x5 r0_3 : FVec Ideal S1x1024 .f32) (ix2 0 n) = wc 0 n := fun n =>
    Eq.trans (congrArg x5 (by funext a; apply Fin.ext; fin_cases a <;> simp [ix2])) (hc 0 n)
  have c1 : ∀ n : Fin 1024, (View.ld x5 r0_4 : FVec Ideal S1x1024 .f32) (ix2 0 n) = wc 1 n := fun n =>
    Eq.trans (congrArg x5 (by funext a; apply Fin.ext; fin_cases a <;> simp [ix2])) (hc 1 n)
  have c2 : ∀ n : Fin 1024, (View.ld x5 r0_5 : FVec Ideal S1x1024 .f32) (ix2 0 n) = wc 2 n := fun n =>
    Eq.trans (congrArg x5 (by funext a; apply Fin.ext; fin_cases a <;> simp [ix2])) (hc 2 n)
  have l0 : (View.ld x0 r0_0 : Vec Ideal S256x1024 .f32) = x0 := View.ld_unit_lit _ x0 (by decide)
  have l1 : (View.ld x1 r0_0 : Vec Ideal S256x1024 .f32) = x1 := View.ld_unit_lit _ x1 (by decide)
  have l2 : (View.ld x2 r0_0 : Vec Ideal S256x1024 .f32) = x2 := View.ld_unit_lit _ x2 (by decide)
  have l4 : (View.ld x4 r0_2 : Vec Ideal S1x1024x3072 .bf16) = x4 := View.ld_unit_lit _ x4 (by decide)
  have l6 : (View.ld x6 r0_6 : Vec Ideal S1x1024x1024 .bf16) = x6 := View.ld_unit_lit _ x6 (by decide)
  have hm : r.val % 8 = t.val := by omega
  have hcu : ∀ (t' : Fin 8) (n : Fin 1024), k0_pay5 (F := Ideal) x0 (View.ld x3 r0_1) x4 (ix2 ⟨8 * b.val + t'.val, by omega⟩ n) = cu (x t') g0 win n := fun t' n =>
    (cu_apply _ _ _ _ n).trans (cu_congr (fun n => hx t' n) e0 hw n)
  have hrr : r = ⟨8 * b.val + t.val, by omega⟩ := Fin.ext hr
  have key : ∀ n : Fin 1024, k0_pay10 (F := Ideal) (k0_pay4 x0 (View.ld x3 r0_1) x4) (k0_pay5 x0 (View.ld x3 r0_1) x4) (k0_pay6 x0 (View.ld x3 r0_1) x4)
      (k0_pay7 x0 (View.ld x3 r0_1) x4) (Scalar.select (Scalar.cmpi .eq 8#32 0#32) 1#32 8#32) k0_pay8 k0_pay9 x1 x2 (View.ld x5 r0_3) (View.ld x5 r0_4) (View.ld x5 r0_5) x6 (ix2 r n)
        = Ffn.lin (gated x s g0 win wc t) wout n := by
    intro n
    rw [endW_eq, endW_apply, first_apply, second_apply, hm]
    unfold Ffn.lin
    refine Finset.sum_congr rfl fun k _ => congrArg₂ (· * ·) ?_ (ho k n)
    unfold gated
    refine congrArg₂ (· * ·) ?_ ?_
    · rw [gate_apply, hrr]
      exact proj_congr (fun n => hx t n) e0 hw _
    · rw [c0, c1, c2]
      have d2 : (if (if t.val < 2 then 1#1 else 0#1) = 1#1 then x2 (ix2 r k) else k0_pay7 (F := Ideal) x0 (View.ld x3 r0_1) x4 (ix2 r k))
          = if t.val < 2 then x2 (ix2 r k) else k0_pay7 (F := Ideal) x0 (View.ld x3 r0_1) x4 (ix2 r k) := by
        by_cases h : t.val < 2 <;> simp [h]
      have d1 : (if (if t.val = 0 then 1#1 else 0#1) = 1#1 then x1 (ix2 r k) else k0_pay6 (F := Ideal) x0 (View.ld x3 r0_1) x4 (ix2 r k))
          = if t.val = 0 then x1 (ix2 r k) else k0_pay6 (F := Ideal) x0 (View.ld x3 r0_1) x4 (ix2 r k) := by
        by_cases h : t.val = 0 <;> simp [h]
      rw [d1, d2, show k0_pay5 (F := Ideal) x0 (View.ld x3 r0_1) x4 (ix2 r k) = cu (x t) g0 win k by rw [hrr]; exact hcu t k]
      refine conv_eq (fun j => wc j k) (fun j => s j k) (fun t => cu (x t) g0 win k) t _ _ _ _ (fun h => h1 h k) (fun h => h2 h k) (fun h => ?_) (fun h => ?_)
      · exact (turn1_apply _ _ _ r k ⟨8 * b.val + (t.val - 1), by omega⟩ (show r.val = 8 * b.val + (t.val - 1) + 1 by omega)).trans (hcu ⟨t.val - 1, by omega⟩ k)
      · exact (turn2_apply _ _ _ r k ⟨8 * b.val + (t.val - 2), by omega⟩ (show r.val = 8 * b.val + (t.val - 2) + 2 by omega)).trans (hcu ⟨t.val - 2, by omega⟩ k)
  unfold out0_7 k0_pay13 k0_pay14 k0_pay15 k0_pay16 k0_pay17 k0_pay18
  rw [View.canon_cons_unit_lit _ _ _ (by decide), end_apply, l0, l1, l2, l4, l6, same_apply, gain_apply, squares_apply, e1, key]
  simp only [key]
  unfold row
  rw [← hx t n, hrr]
  rfl

/-- The rows of the layer's input after the convolution is added. -/
theorem row_out (r : Fin 256) (n : Fin 1024) :
    (((dats (F := Ideal) m 0 c).arrAt 7 cfg0.N) : FVec Ideal S256x1024 .f32) (ix2 r n)
      = row (fun t n => arg0 m c (ix3 ⟨r.val / 8, by omega⟩ t n)) (fun i n => arg1 m c (ix4 1 ⟨r.val / 8, by omega⟩ i n)) (fun n => arg2 m c (ix3 1 0 n))
          (fun n => arg2 m c (ix3 1 1 n)) (fun k n => arg3 m c (ix3 1 k n)) (fun i n => arg4 m c (ix3 1 i n)) (fun k n => arg5 m c (ix3 1 k n)) ⟨r.val % 8, by omega⟩ n := by
  rw [at7, Cert.Kernel5Ideal.Value.flushed7]
  refine body_apply _ _ _ _ _ _ _ ⟨r.val / 8, by omega⟩ ⟨r.val % 8, by omega⟩ r (show r.val = 8 * (r.val / 8) + r.val % 8 by omega) n _ _ _ _ _ _ _
    (fun t n => ?_) (fun h n => (iblk1_at m c step r n).trans (V1_at m c r n h)) (fun h n => (iblk2_at m c step r n).trans (V2_at m c r n h))
    (fun n => (iblk3_at m c step 0 n).trans (V3_at m c 0 n)) (fun n => (iblk3_at m c step 1 n).trans (V3_at m c 1 n))
    (fun k n => (iblk4_at m c step k n).trans (V4_at m c k n)) (fun i n => (iblk5_at m c step i n).trans (V5_at m c i n))
    (fun k n => (iblk6_at m c step k n).trans (V6_at m c k n))
  refine (iblk0_at m c step _ n).trans ((V0_at m c _ n).trans (congrArg₂ (fun a d => arg0 m c (ix3 a d n)) (Fin.ext ?_) (Fin.ext ?_)))
  · show (8 * (r.val / 8) + t.val) / 8 = r.val / 8; omega
  · show (8 * (r.val / 8) + t.val) % 8 = t.val; omega

end Cert.Conv

end
-- ==== Proof.ConvRef.lean ====
/- The reference's short convolution, cut into its steps, and each step at an element in the words of one row. -/
module

public import proofs.«01_k».proof.Proof.Gen.Reference5Ideal.Run
public import proofs.«01_k».proof.Proof.ConvRow

@[expose] public section

noncomputable section

namespace Cert.Conv.Ref

open Idealize.ShloMosaic Idealize.ShloMosaic.TcCoe Cert.Reference5Ideal Cert.Reference5Ideal.Gen Facts Cert.Kvq

/-- Rows over the root of their mean square, times the gains. -/
def nrm (x : FVec Ideal S32x8x1024 .f32) (g : FVec Ideal S1024 .f32) : FVec Ideal S32x8x1024 .f32 :=
  mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))

/-- The two gains of the layer. -/
def gain0 (g : FVec Ideal S4x4x1024 .f32) : FVec Ideal S1024 .f32 := shapeCast _ (extractStridedSlice S1x1x1024 ![1, 0, 0] g slices_S4x4x1024_S1x1x1024_1_0_0) shapeCasts_S1x1x1024_S1024
def gain1 (g : FVec Ideal S4x4x1024 .f32) : FVec Ideal S1024 .f32 := shapeCast _ (extractStridedSlice S1x1x1024 ![1, 1, 0] g slices_S4x4x1024_S1x1x1024_1_1_0) shapeCasts_S1x1x1024_S1024

/-- The projection. -/
def xin (z : FVec Ideal S32x8x1024 .f32) (w : FVec Ideal S2x1024x3072 .f32) : FVec Ideal S32x8x3072 .f32 :=
  Host.dotGeneral dot_S32x8x1024_S1024x3072_S32x8x3072_2_0_01_1_n_n none z (shapeCast _ (extractStridedSlice S1x1024x3072 ![1, 0, 0] w slices_S2x1024x3072_S1x1024x3072_1_0_0) shapeCasts_S1x1024x3072_S1024x3072)

/-- Two thirds of it, multiplied. -/
def cuR (p : FVec Ideal S32x8x3072 .f32) : FVec Ideal S32x8x1024 .f32 :=
  mulf (extractStridedSlice S32x8x1024 ![0, 0, 1024] p slices_S32x8x3072_S32x8x1024_0_0_1024) (extractStridedSlice S32x8x1024 ![0, 0, 2048] p slices_S32x8x3072_S32x8x1024_0_0_2048)

/-- The state's rows in front. -/
def padR (s : FVec Ideal S2x32x2x1024 .f32) (x : FVec Ideal S32x8x1024 .f32) : FVec Ideal S32x10x1024 .f32 :=
  concatenate S32x10x1024 1 [⟨S32x2x1024, (shapeCast _ (extractStridedSlice S1x32x2x1024 ![1, 0, 0, 0] s slices_S2x32x2x1024_S1x32x2x1024_1_0_0_0) shapeCasts_S1x32x2x1024_S32x2x1024)⟩, ⟨S32x8x1024, x⟩] concatenates_S32x2x1024_S32x8x1024_S32x10x1024_d1

/-- The three rows that meet in the convolution. -/
def sl0 (x : FVec Ideal S32x10x1024 .f32) : FVec Ideal S32x8x1024 .f32 := extractStridedSlice S32x8x1024 ![0, 0, 0] x slices_S32x10x1024_S32x8x1024_0_0_0
def sl1 (x : FVec Ideal S32x10x1024 .f32) : FVec Ideal S32x8x1024 .f32 := extractStridedSlice S32x8x1024 ![0, 1, 0] x slices_S32x10x1024_S32x8x1024_0_1_0
def sl2 (x : FVec Ideal S32x10x1024 .f32) : FVec Ideal S32x8x1024 .f32 := extractStridedSlice S32x8x1024 ![0, 2, 0] x slices_S32x10x1024_S32x8x1024_0_2_0

/-- The gated convolution, times the matrix of the layer. -/
def outR (p : FVec Ideal S32x8x3072 .f32) (a b c : FVec Ideal S32x8x1024 .f32) (w : FVec Ideal S2x3x1024 .f32) (wo : FVec Ideal S2x1024x1024 .f32) : FVec Ideal S32x8x1024 .f32 :=
  Host.dotGeneral dot_S32x8x1024_S1024x1024_S32x8x1024_2_0_01_1_n_n none (mulf (extractStridedSlice S32x8x1024 ![0, 0, 0] p slices_S32x8x3072_S32x8x1024_0_0_0) (addf (addf (mulf (broadcastInDim S32x8x1024 ![0, 1, 2] bcast_S1x1x1024_S32x8x1024_0_1_2 (broadcastInDim S1x1x1024 ![2] bcast_S1024_S1x1x1024_2 (shapeCast _ (extractStridedSlice S1x1x1024 ![1, 0, 0] w slices_S2x3x1024_S1x1x1024_1_0_0) shapeCasts_S1x1x1024_S1024))) a) (mulf (broadcastInDim S32x8x1024 ![0, 1, 2] bcast_S1x1x1024_S32x8x1024_0_1_2 (broadcastInDim S1x1x1024 ![2] bcast_S1024_S1x1x1024_2 (shapeCast _ (extractStridedSlice S1x1x1024 ![1, 1, 0] w slices_S2x3x1024_S1x1x1024_1_1_0) shapeCasts_S1x1x1024_S1024))) b)) (mulf (broadcastInDim S32x8x1024 ![0, 1, 2] bcast_S1x1x1024_S32x8x1024_0_1_2 (broadcastInDim S1x1x1024 ![2] bcast_S1024_S1x1x1024_2 (shapeCast _ (extractStridedSlice S1x1x1024 ![1, 2, 0] w slices_S2x3x1024_S1x1x1024_1_2_0) shapeCasts_S1x1x1024_S1024))) c))) (shapeCast _ (extractStridedSlice S1x1024x1024 ![1, 0, 0] wo slices_S2x1024x1024_S1x1024x1024_1_0_0) shapeCasts_S1x1024x1024_S1024x1024)

/-- Laid out as 256 rows. -/
def flat (x : FVec Ideal S32x8x1024 .f32) : FVec Ideal S256x1024 .f32 := shapeCast _ x shapeCasts_S32x8x1024_S256x1024

/-- The two results. -/
def cuOut (h : FVec Ideal S32x8x1024 .f32) (g : FVec Ideal S4x4x1024 .f32) (w : FVec Ideal S2x1024x3072 .f32) : FVec Ideal S256x1024 .f32 :=
  flat (cuR (xin (nrm h (gain0 g)) w))
def rowOut (h : FVec Ideal S32x8x1024 .f32) (s : FVec Ideal S2x32x2x1024 .f32) (g : FVec Ideal S4x4x1024 .f32) (w : FVec Ideal S2x1024x3072 .f32) (wc : FVec Ideal S2x3x1024 .f32)
    (wo : FVec Ideal S2x1024x1024 .f32) : FVec Ideal S256x1024 .f32 :=
  flat (addf h (nrm (outR (xin (nrm h (gain0 g)) w) (sl0 (padR s (cuR (xin (nrm h (gain0 g)) w)))) (sl1 (padR s (cuR (xin (nrm h (gain0 g)) w))))
    (sl2 (padR s (cuR (xin (nrm h (gain0 g)) w)))) wc wo) (gain1 g)))

theorem nrm_apply (x : FVec Ideal S32x8x1024 .f32) (g : FVec Ideal S1024 .f32) (b : Fin 32) (t : Fin 8) (n : Fin 1024) :
    nrm x g (ix3 b t n) = Ffn.rms (fun n => x (ix3 b t n)) (fun n => g (ix1 n)) n := by
  pointwise [nrm]
  rfl

theorem gain0_apply (g : FVec Ideal S4x4x1024 .f32) (n : Fin 1024) : gain0 g (ix1 n) = g (ix3 1 0 n) := by
  pointwise [gain0]
theorem gain1_apply (g : FVec Ideal S4x4x1024 .f32) (n : Fin 1024) : gain1 g (ix1 n) = g (ix3 1 1 n) := by
  pointwise [gain1]

theorem xin_apply (x : FVec Ideal S32x8x1024 .f32) (g : FVec Ideal S4x4x1024 .f32) (w : FVec Ideal S2x1024x3072 .f32) (b : Fin 32) (t : Fin 8) (n : Fin 3072) :
    xin (nrm x (gain0 g)) w (ix3 b t n) = proj (fun n => x (ix3 b t n)) (fun n => g (ix3 1 0 n)) (fun k n => w (ix3 1 k n)) n := by
  have e : xin (nrm x (gain0 g)) w (ix3 b t n) = Ffn.lin (fun k => nrm x (gain0 g) (ix3 b t k)) (fun k n => w (ix3 1 k n)) n := by
    pointwise [xin]
    rfl
  rw [e]
  simp only [nrm_apply, gain0_apply]
  rfl

theorem cuR_split (p : FVec Ideal S32x8x3072 .f32) (b : Fin 32) (t : Fin 8) (n : Fin 1024) :
    cuR p (ix3 b t n) = p (ix3 b t ⟨1024 + n.val, by omega⟩) * p (ix3 b t ⟨2048 + n.val, by omega⟩) := by
  pointwise [cuR]

theorem cuR_apply (x : FVec Ideal S32x8x1024 .f32) (g : FVec Ideal S4x4x1024 .f32) (w : FVec Ideal S2x1024x3072 .f32) (b : Fin 32) (t : Fin 8) (n : Fin 1024) :
    cuR (xin (nrm x (gain0 g)) w) (ix3 b t n) = cu (fun n => x (ix3 b t n)) (fun n => g (ix3 1 0 n)) (fun k n => w (ix3 1 k n)) n := by
  rw [cuR_split, xin_apply, xin_apply]
  rfl

theorem padR_apply (s : FVec Ideal S2x32x2x1024 .f32) (x : FVec Ideal S32x8x1024 .f32) (b : Fin 32) (j : Fin 10) (n : Fin 1024) :
    padR s x (ix3 b j n) = pad (fun i => s (ix4 1 b i n)) (fun t => x (ix3 b t n)) j.val := by
  by_cases h : j.val < 2
  · rw [pad_zero _ _ _ h]
    pointwise [padR]
    rw [dif_pos h]
  · rw [pad_next _ _ _ ⟨j.val - 2, by omega⟩ (show j.val = j.val - 2 + 2 by omega)]
    pointwise [padR]
    rw [dif_neg h]

theorem sl0_apply (x : FVec Ideal S32x10x1024 .f32) (b : Fin 32) (t : Fin 8) (n : Fin 1024) : sl0 x (ix3 b t n) = x (ix3 b ⟨t.val, by omega⟩ n) := by
  pointwise [sl0]
theorem sl1_apply (x : FVec Ideal S32x10x1024 .f32) (b : Fin 32) (t : Fin 8) (n : Fin 1024) : sl1 x (ix3 b t n) = x (ix3 b ⟨1 + t.val, by omega⟩ n) := by
  pointwise [sl1]
theorem sl2_apply (x : FVec Ideal S32x10x1024 .f32) (b : Fin 32) (t : Fin 8) (n : Fin 1024) : sl2 x (ix3 b t n) = x (ix3 b ⟨2 + t.val, by omega⟩ n) := by
  pointwise [sl2]

theorem outR_apply (p : FVec Ideal S32x8x3072 .f32) (a d e : FVec Ideal S32x8x1024 .f32) (w : FVec Ideal S2x3x1024 .f32) (wo : FVec Ideal S2x1024x1024 .f32)
    (b : Fin 32) (t : Fin 8) (n : Fin 1024) :
    outR p a d e w wo (ix3 b t n)
      = Ffn.lin (fun k => (p (ix3 b t ⟨k.val, by omega⟩) : EReal) * (w (ix3 1 0 k) * a (ix3 b t k) + w (ix3 1 1 k) * d (ix3 b t k) + w (ix3 1 2 k) * e (ix3 b t k)))
          (fun k n => wo (ix3 1 k n)) n := by
  pointwise [outR]
  rfl

theorem flat_apply (x : FVec Ideal S32x8x1024 .f32) (r : Fin 256) (n : Fin 1024) :
    flat x (ix2 r n) = x (ix3 ⟨r.val / 8, by omega⟩ ⟨r.val % 8, by omega⟩ n) := by
  pointwise [flat]

theorem cuOut_apply (h : FVec Ideal S32x8x1024 .f32) (g : FVec Ideal S4x4x1024 .f32) (w : FVec Ideal S2x1024x3072 .f32) (r : Fin 256) (n : Fin 1024) :
    cuOut h g w (ix2 r n) = cu (fun n => h (ix3 ⟨r.val / 8, by omega⟩ ⟨r.val % 8, by omega⟩ n)) (fun n => g (ix3 1 0 n)) (fun k n => w (ix3 1 k n)) n := by
  unfold cuOut
  rw [flat_apply, cuR_apply]

theorem gated_eq (h : FVec Ideal S32x8x1024 .f32) (s : FVec Ideal S2x32x2x1024 .f32) (g : FVec Ideal S4x4x1024 .f32) (w : FVec Ideal S2x1024x3072 .f32) (wc : FVec Ideal S2x3x1024 .f32)
    (b : Fin 32) (t : Fin 8) (k : Fin 1024) :
    (xin (nrm h (gain0 g)) w (ix3 b t ⟨k.val, by omega⟩) : EReal) * (wc (ix3 1 0 k) * sl0 (padR s (cuR (xin (nrm h (gain0 g)) w))) (ix3 b t k)
        + wc (ix3 1 1 k) * sl1 (padR s (cuR (xin (nrm h (gain0 g)) w))) (ix3 b t k) + wc (ix3 1 2 k) * sl2 (padR s (cuR (xin (nrm h (gain0 g)) w))) (ix3 b t k))
      = gated (fun t n => h (ix3 b t n)) (fun i n => s (ix4 1 b i n)) (fun n => g (ix3 1 0 n)) (fun k n => w (ix3 1 k n)) (fun i n => wc (ix3 1 i n)) t k := by
  rw [sl0_apply, sl1_apply, sl2_apply, padR_apply, padR_apply, padR_apply, xin_apply,
    pad_next _ _ _ t (show 2 + t.val = t.val + 2 by omega), show (⟨1 + t.val, by omega⟩ : Fin 10).val = t.val + 1 from Nat.add_comm 1 t.val]
  simp only [cuR_apply]
  rfl

theorem rowOut_apply (h : FVec Ideal S32x8x1024 .f32) (s : FVec Ideal S2x32x2x1024 .f32) (g : FVec Ideal S4x4x1024 .f32) (w : FVec Ideal S2x1024x3072 .f32) (wc : FVec Ideal S2x3x1024 .f32)
    (wo : FVec Ideal S2x1024x1024 .f32) (r : Fin 256) (n : Fin 1024) :
    rowOut h s g w wc wo (ix2 r n)
      = row (fun t n => h (ix3 ⟨r.val / 8, by omega⟩ t n)) (fun i n => s (ix4 1 ⟨r.val / 8, by omega⟩ i n)) (fun n => g (ix3 1 0 n)) (fun n => g (ix3 1 1 n))
          (fun k n => w (ix3 1 k n)) (fun i n => wc (ix3 1 i n)) (fun k n => wo (ix3 1 k n)) ⟨r.val % 8, by omega⟩ n := by
  unfold rowOut
  rw [flat_apply]
  show (h _ : EReal) + nrm _ _ _ = _
  rw [nrm_apply]
  simp only [outR_apply, gated_eq, gain1_apply]
  rfl

end Cert.Conv.Ref

end
-- ==== Proof.FfnPlainRow.lean ====
/- One row of the feed-forward part and the embedding of a layer without attention, over the extended reals. -/
module

public import proofs.«01_k».proof.Proof.FfnRow

@[expose] public section

noncomputable section

namespace Cert.Ffn

/-- The whole row. -/
def plain {a f e : ℕ} (h : Fin a → EReal) (p : Fin e → EReal) (g2 g3 : Fin a → EReal)
    (wg wu : Fin a → Fin f → EReal) (wd : Fin f → Fin a → EReal) (wple : Fin e → Fin a → EReal) (wpg : Fin a → Fin a → EReal) : Fin a → EReal :=
  ple (ffn h (rms h g2) wg wu wd g3) wpg p wple

theorem plain_congr {a f e : ℕ} {h h' : Fin a → EReal} {p p' : Fin e → EReal} {g2 g3 g2' g3' : Fin a → EReal}
    {wg wu wg' wu' : Fin a → Fin f → EReal} {wd wd' : Fin f → Fin a → EReal} {wple wple' : Fin e → Fin a → EReal} {wpg wpg' : Fin a → Fin a → EReal}
    (hh : ∀ n, h n = h' n) (hp : ∀ n, p n = p' n) (h2 : ∀ n, g2 n = g2' n)
    (h3 : ∀ n, g3 n = g3' n) (hwg : ∀ k n, wg k n = wg' k n) (hwu : ∀ k n, wu k n = wu' k n) (hwd : ∀ k n, wd k n = wd' k n)
    (hwple : ∀ k n, wple k n = wple' k n) (hwpg : ∀ k n, wpg k n = wpg' k n) (n : Fin a) :
    plain h p g2 g3 wg wu wd wple wpg n = plain h' p' g2' g3' wg' wu' wd' wple' wpg' n := by
  obtain rfl : h = h' := funext hh
  obtain rfl : p = p' := funext hp
  obtain rfl : g2 = g2' := funext h2
  obtain rfl : g3 = g3' := funext h3
  obtain rfl : wg = wg' := funext fun k => funext (hwg k)
  obtain rfl : wu = wu' := funext fun k => funext (hwu k)
  obtain rfl : wd = wd' := funext fun k => funext (hwd k)
  obtain rfl : wple = wple' := funext fun k => funext (hwple k)
  obtain rfl : wpg = wpg' := funext fun k => funext (hwpg k)
  rfl

end Cert.Ffn

end
-- ==== Proof.FfnPlainKern.lean ====
/- The feed-forward part of a convolution layer on the prompt's rows: its payloads and its windows' blocks read at an element, and its result's row in the
   words of one row. -/
module

public import proofs.«01_k».proof.Proof.FfnPlainRow
public import proofs.«01_k».proof.Proof.Gen.Kernel6Ideal.Value
public import Idealize.ShloMosaic.Lib.Pipeline.ValueKit
public import Idealize.ShloMosaic.Lib.StableHlo.ReadAt
public import Idealize.ShloMosaic.Lib.Pointwise

@[expose] public section

noncomputable section

namespace Cert.Ffn.Plain

open scoped BigOperators
open Idealize.ShloMosaic Idealize.ShloMosaic.TcCoe Cert.Kernel6Ideal Cert.Kernel6Ideal.Gen

theorem same_apply (h : FVec Ideal S256x1024 .f32) (r : Fin 256) (n : Fin 1024) : k0_pay2 (F := Ideal) h (ix2 r n) = h (ix2 r n) := by
  pointwise [k0_pay2]

theorem gain_apply (g : FVec Ideal S1x1024 .f32) (n : Fin 1024) : k0_pay4 (F := Ideal) g (ix2 0 n) = g (ix2 0 n) := by
  pointwise [k0_pay4]

theorem down_apply (h : FVec Ideal S256x1024 .f32) (g : FVec Ideal S1x1024 .f32) (wg wu : FVec Ideal S1x1024x2816 .bf16) (wd : FVec Ideal S1x2816x1024 .bf16)
    (r : Fin 256) (n : Fin 1024) :
    k0_pay3 (F := Ideal) h g wg wu wd (ix2 r n)
      = lin (act (rms (fun n => h (ix2 r n)) (fun n => g (ix2 0 n))) (fun k n => wg (ix3 0 k n)) (fun k n => wu (ix3 0 k n))) (fun k n => wd (ix3 0 k n)) n := by
  pointwise [k0_pay3, k0_pay2]
  rfl

theorem squares_apply (h : FVec Ideal S256x1024 .f32) (g : FVec Ideal S1x1024 .f32) (wg wu : FVec Ideal S1x1024x2816 .bf16) (wd : FVec Ideal S1x2816x1024 .bf16)
    (r : Fin 256) :
    k0_pay5 (F := Ideal) h g wg wu wd (ix2 r 0)
      = ∑ n : Fin 1024, k0_pay3 (F := Ideal) h g wg wu wd (ix2 r n) * k0_pay3 (F := Ideal) h g wg wu wd (ix2 r n) := by
  pointwise [k0_pay5]

theorem width_apply (r : Fin 256) : k0_pay6 (F := Ideal) (ix2 r 0) = Ideal.ofBits .f32 0x44800000#32 := rfl

theorem end_apply (x y : FVec Ideal S256x1024 .f32) (g : FVec Ideal S1x1024 .f32) (s d : FVec Ideal S256x1 .f32) (wpg : FVec Ideal S1x1024x1024 .bf16)
    (p : FVec Ideal S1x256x256 .f32) (w : FVec Ideal S1x256x1024 .bf16) (r : Fin 256) (n : Fin 1024) :
    k0_pay1 (F := Ideal) x y g s d wpg p w (ix2 r n)
      = ple (fun n => x (ix2 r n) + y (ix2 r n) * Ideal.rsqrt (Ideal.div (s (ix2 r 0)) (d (ix2 r 0)) + Ideal.ofBits .f32 0x358637BD#32) * g (ix2 0 n))
          (fun k n => wpg (ix3 0 k n)) (fun k => p (ix3 0 r k)) (fun k n => w (ix3 0 k n)) n := by
  pointwise [k0_pay1]
  rfl

variable (m : (ℓ : Loc nD τ sig) → Buf (Elt Ideal) ℓ) (c : Dev nD)

theorem index0 (t : Fin cfg0.N) : win0_0.index t = ![t.val, 0] := (by decide +kernel : ∀ t : Fin grid0.N, win0_0.index t = ![t.val, 0]) t
theorem index1 (t : Fin cfg0.N) : win0_1.index t = ![1, t.val, 0] := (by decide +kernel : ∀ t : Fin grid0.N, win0_1.index t = ![1, t.val, 0]) t
theorem index2 (t : Fin cfg0.N) : win0_2.index t = ![0, 0] := (by decide +kernel : ∀ t : Fin grid0.N, win0_2.index t = ![0, 0]) t
theorem index3 (t : Fin cfg0.N) : win0_3.index t = ![1, 0, 0] := (by decide +kernel : ∀ t : Fin grid0.N, win0_3.index t = ![1, 0, 0]) t
theorem index4 (t : Fin cfg0.N) : win0_4.index t = ![1, 0, 0] := (by decide +kernel : ∀ t : Fin grid0.N, win0_4.index t = ![1, 0, 0]) t
theorem index5 (t : Fin cfg0.N) : win0_5.index t = ![1, 0, 0] := (by decide +kernel : ∀ t : Fin grid0.N, win0_5.index t = ![1, 0, 0]) t
theorem index6 (t : Fin cfg0.N) : win0_6.index t = ![1, 0, 0] := (by decide +kernel : ∀ t : Fin grid0.N, win0_6.index t = ![1, 0, 0]) t
theorem index7 (t : Fin cfg0.N) : win0_7.index t = ![1, 0, 0] := (by decide +kernel : ∀ t : Fin grid0.N, win0_7.index t = ![1, 0, 0]) t
theorem index8 (t : Fin cfg0.N) : win0_8.index t = ![t.val, 0] := (by decide +kernel : ∀ t : Fin grid0.N, win0_8.index t = ![t.val, 0]) t

theorem row_lt (t : Fin cfg0.N) (a : Fin 256) : 256 * t.val + a.val < 16384 := by
  have h : t.val < 64 := t.isLt
  omega

theorem iblk0_at (t : Fin cfg0.N) (a : Fin 256) (b : Fin 1024) :
    (iblk m c 0 t : Vec Ideal S256x1024 .f32) (ix2 a b) = (V m c main_v0 : FVec Ideal S16384x1024 .f32) (ix2 ⟨256 * t.val + a.val, row_lt t a⟩ b) := by
  show V m c main_v0 (((cfg0.win 0).blk t).view.emb (ix2 a b)) = _
  refine congrArg (V m c main_v0) (funext fun x => Fin.ext ?_)
  blk_simp [index0]
  match x with
  | ⟨0, _⟩ => show t.val * 256 + a.val = 256 * t.val + a.val; omega
  | ⟨1, _⟩ => show 0 * 1024 + b.val = b.val; omega

theorem iblk1_at (t : Fin cfg0.N) (a : Fin 256) (b : Fin 256) :
    (iblk m c 1 t : Vec Ideal S1x256x256 .f32) (ix3 0 a b) = (V m c main_v1 : FVec Ideal S4x16384x256 .f32) (ix3 1 ⟨256 * t.val + a.val, row_lt t a⟩ b) := by
  show V m c main_v1 (((cfg0.win 1).blk t).view.emb (ix3 0 a b)) = _
  refine congrArg (V m c main_v1) (funext fun x => Fin.ext ?_)
  blk_simp [index1]
  match x with
  | ⟨0, _⟩ => rfl
  | ⟨1, _⟩ => show t.val * 256 + a.val = 256 * t.val + a.val; omega
  | ⟨2, _⟩ => show 0 * 256 + b.val = b.val; omega

theorem iblk2_at (t : Fin cfg0.N) (a : Fin 4) (b : Fin 1024) :
    (iblk m c 2 t : Vec Ideal S4x1024 .f32) (ix2 a b) = (V m c main_v3 : FVec Ideal S4x1024 .f32) (ix2 a b) := by
  show V m c main_v3 (((cfg0.win 2).blk t).view.emb (ix2 a b)) = _
  refine congrArg (V m c main_v3) (funext fun x => Fin.ext ?_)
  blk_simp [index2]
  match x with
  | ⟨0, _⟩ => show 0 * 4 + a.val = a.val; omega
  | ⟨1, _⟩ => show 0 * 1024 + b.val = b.val; omega

theorem iblk3_at (t : Fin cfg0.N) (a : Fin 1024) (b : Fin 2816) :
    (iblk m c 3 t : Vec Ideal S1x1024x2816 .bf16) (ix3 0 a b) = (V m c main_v4 : FVec Ideal S4x1024x2816 .bf16) (ix3 1 a b) := by
  show V m c main_v4 (((cfg0.win 3).blk t).view.emb (ix3 0 a b)) = _
  refine congrArg (V m c main_v4) (funext fun x => Fin.ext ?_)
  blk_simp [index3]
  match x with
  | ⟨0, _⟩ => rfl
  | ⟨1, _⟩ => show 0 * 1024 + a.val = a.val; omega
  | ⟨2, _⟩ => show 0 * 2816 + b.val = b.val; omega

theorem iblk4_at (t : Fin cfg0.N) (a : Fin 1024) (b : Fin 2816) :
    (iblk m c 4 t : Vec Ideal S1x1024x2816 .bf16) (ix3 0 a b) = (V m c main_v5 : FVec Ideal S4x1024x2816 .bf16) (ix3 1 a b) := by
  show V m c main_v5 (((cfg0.win 4).blk t).view.emb (ix3 0 a b)) = _
  refine congrArg (V m c main_v5) (funext fun x => Fin.ext ?_)
  blk_simp [index4]
  match x with
  | ⟨0, _⟩ => rfl
  | ⟨1, _⟩ => show 0 * 1024 + a.val = a.val; omega
  | ⟨2, _⟩ => show 0 * 2816 + b.val = b.val; omega

theorem iblk5_at (t : Fin cfg0.N) (a : Fin 2816) (b : Fin 1024) :
    (iblk m c 5 t : Vec Ideal S1x2816x1024 .bf16) (ix3 0 a b) = (V m c main_v6 : FVec Ideal S4x2816x1024 .bf16) (ix3 1 a b) := by
  show V m c main_v6 (((cfg0.win 5).blk t).view.emb (ix3 0 a b)) = _
  refine congrArg (V m c main_v6) (funext fun x => Fin.ext ?_)
  blk_simp [index5]
  match x with
  | ⟨0, _⟩ => rfl
  | ⟨1, _⟩ => show 0 * 2816 + a.val = a.val; omega
  | ⟨2, _⟩ => show 0 * 1024 + b.val = b.val; omega

theorem iblk6_at (t : Fin cfg0.N) (a : Fin 256) (b : Fin 1024) :
    (iblk m c 6 t : Vec Ideal S1x256x1024 .bf16) (ix3 0 a b) = (V m c main_v7 : FVec Ideal S4x256x1024 .bf16) (ix3 1 a b) := by
  show V m c main_v7 (((cfg0.win 6).blk t).view.emb (ix3 0 a b)) = _
  refine congrArg (V m c main_v7) (funext fun x => Fin.ext ?_)
  blk_simp [index6]
  match x with
  | ⟨0, _⟩ => rfl
  | ⟨1, _⟩ => show 0 * 256 + a.val = a.val; omega
  | ⟨2, _⟩ => show 0 * 1024 + b.val = b.val; omega

theorem iblk7_at (t : Fin cfg0.N) (a : Fin 1024) (b : Fin 1024) :
    (iblk m c 7 t : Vec Ideal S1x1024x1024 .bf16) (ix3 0 a b) = (V m c main_v8 : FVec Ideal S4x1024x1024 .bf16) (ix3 1 a b) := by
  show V m c main_v8 (((cfg0.win 7).blk t).view.emb (ix3 0 a b)) = _
  refine congrArg (V m c main_v8) (funext fun x => Fin.ext ?_)
  blk_simp [index7]
  match x with
  | ⟨0, _⟩ => rfl
  | ⟨1, _⟩ => show 0 * 1024 + a.val = a.val; omega
  | ⟨2, _⟩ => show 0 * 1024 + b.val = b.val; omega

abbrev arg0 : FVec Ideal S2x8192x1024 .f32 := m (c, Proc.tc.devRef main_arg0)
abbrev arg1 : FVec Ideal S4x2x8192x256 .f32 := m (c, Proc.tc.devRef main_arg1)
abbrev arg2 : FVec Ideal S4x4x1024 .f32 := m (c, Proc.tc.devRef main_arg2)
abbrev arg3 : FVec Ideal S4x1024x2816 .f32 := m (c, Proc.tc.devRef main_arg3)
abbrev arg4 : FVec Ideal S4x1024x2816 .f32 := m (c, Proc.tc.devRef main_arg4)
abbrev arg5 : FVec Ideal S4x2816x1024 .f32 := m (c, Proc.tc.devRef main_arg5)
abbrev arg6 : FVec Ideal S4x256x1024 .f32 := m (c, Proc.tc.devRef main_arg6)
abbrev arg7 : FVec Ideal S4x1024x1024 .f32 := m (c, Proc.tc.devRef main_arg7)

theorem V0_at (r : Fin 16384) (n : Fin 1024) : (V m c main_v0 : FVec Ideal S16384x1024 .f32) (ix2 r n) = arg0 m c (ix3 ⟨r.val / 8192, by omega⟩ ⟨r.val % 8192, by omega⟩ n) := by
  unfold V
  after_reads_at

theorem V1_at (r : Fin 16384) (n : Fin 256) : (V m c main_v1 : FVec Ideal S4x16384x256 .f32) (ix3 1 r n) = arg1 m c (ix4 1 ⟨r.val / 8192, by omega⟩ ⟨r.val % 8192, by omega⟩ n) := by
  unfold V
  after_reads_at

theorem V2_at (r : Fin 4) (n : Fin 1024) : (V m c main_v3 : FVec Ideal S4x1024 .f32) (ix2 r n) = arg2 m c (ix3 1 r n) := by
  unfold V
  after_reads_at

theorem V3_at (r : Fin 1024) (n : Fin 2816) : (V m c main_v4 : FVec Ideal S4x1024x2816 .bf16) (ix3 1 r n) = arg3 m c (ix3 1 r n) := by
  unfold V
  after_reads_at

theorem V4_at (r : Fin 1024) (n : Fin 2816) : (V m c main_v5 : FVec Ideal S4x1024x2816 .bf16) (ix3 1 r n) = arg4 m c (ix3 1 r n) := by
  unfold V
  after_reads_at

theorem V5_at (r : Fin 2816) (n : Fin 1024) : (V m c main_v6 : FVec Ideal S4x2816x1024 .bf16) (ix3 1 r n) = arg5 m c (ix3 1 r n) := by
  unfold V
  after_reads_at

theorem V6_at (r : Fin 256) (n : Fin 1024) : (V m c main_v7 : FVec Ideal S4x256x1024 .bf16) (ix3 1 r n) = arg6 m c (ix3 1 r n) := by
  unfold V
  after_reads_at

theorem V7_at (r : Fin 1024) (n : Fin 1024) : (V m c main_v8 : FVec Ideal S4x1024x1024 .bf16) (ix3 1 r n) = arg7 m c (ix3 1 r n) := by
  unfold V
  after_reads_at

/-- The body's result at an element, from its windows' blocks. -/
theorem body_apply (x0 : Vec Ideal S256x1024 .f32) (x1 : Vec Ideal S1x256x256 .f32) (x2 : Vec Ideal S4x1024 .f32)
    (x3 x4 : Vec Ideal S1x1024x2816 .bf16) (x5 : Vec Ideal S1x2816x1024 .bf16) (x6 : Vec Ideal S1x256x1024 .bf16)
    (x7 : Vec Ideal S1x1024x1024 .bf16) (r : Fin 256) (n : Fin 1024) :
    out0_8 (F := Ideal) x0 x1 x2 x3 x4 x5 x6 x7 (ix2 r n)
      = plain (fun n => x0 (ix2 r n)) (fun n => x1 (ix3 0 r n)) (fun n => x2 (ix2 2 n)) (fun n => x2 (ix2 3 n))
          (fun k n => x3 (ix3 0 k n)) (fun k n => x4 (ix3 0 k n)) (fun k n => x5 (ix3 0 k n)) (fun k n => x6 (ix3 0 k n)) (fun k n => x7 (ix3 0 k n)) n := by
  have e1 : ∀ n : Fin 1024, (View.ld x2 r0_1 : FVec Ideal S1x1024 .f32) (ix2 0 n) = x2 (ix2 2 n) := fun n => congrArg x2 (by funext a; apply Fin.ext; fin_cases a <;> simp [ix2])
  have e2 : ∀ n : Fin 1024, (View.ld x2 r0_4 : FVec Ideal S1x1024 .f32) (ix2 0 n) = x2 (ix2 3 n) := fun n => congrArg x2 (by funext a; apply Fin.ext; fin_cases a <;> simp [ix2])
  have l0 : (View.ld x0 r0_0 : Vec Ideal S256x1024 .f32) = x0 := View.ld_unit_lit _ x0 (by decide)
  have l1 : (View.ld x1 r0_6 : Vec Ideal S1x256x256 .f32) = x1 := View.ld_unit_lit _ x1 (by decide)
  have l3 : (View.ld x3 r0_2 : Vec Ideal S1x1024x2816 .bf16) = x3 := View.ld_unit_lit _ x3 (by decide)
  have l4 : (View.ld x4 r0_2 : Vec Ideal S1x1024x2816 .bf16) = x4 := View.ld_unit_lit _ x4 (by decide)
  have l5 : (View.ld x5 r0_3 : Vec Ideal S1x2816x1024 .bf16) = x5 := View.ld_unit_lit _ x5 (by decide)
  have l6 : (View.ld x6 r0_7 : Vec Ideal S1x256x1024 .bf16) = x6 := View.ld_unit_lit _ x6 (by decide)
  have l7 : (View.ld x7 r0_5 : Vec Ideal S1x1024x1024 .bf16) = x7 := View.ld_unit_lit _ x7 (by decide)
  unfold out0_8
  rw [View.canon_cons_unit_lit _ _ _ (by decide), end_apply]
  simp only [same_apply, gain_apply, squares_apply, width_apply, down_apply, e1, e2]
  rw [l0, l1, l3, l4, l5, l6, l7]
  rfl

/-- The kernel's result at an element. -/
theorem kernel_out (r : Fin 16384) (n : Fin 1024) :
    (((dats (F := Ideal) m 0 c).arrAt 8 cfg0.N) : FVec Ideal S16384x1024 .f32) (ix2 r n)
      = plain (fun n => arg0 m c (ix3 ⟨r.val / 8192, by omega⟩ ⟨r.val % 8192, by omega⟩ n))
          (fun n => arg1 m c (ix4 1 ⟨r.val / 8192, by omega⟩ ⟨r.val % 8192, by omega⟩ n))
          (fun n => arg2 m c (ix3 1 2 n)) (fun n => arg2 m c (ix3 1 3 n)) (fun k n => arg3 m c (ix3 1 k n)) (fun k n => arg4 m c (ix3 1 k n))
          (fun k n => arg5 m c (ix3 1 k n)) (fun k n => arg6 m c (ix3 1 k n)) (fun k n => arg7 m c (ix3 1 k n)) n := by
  obtain ⟨t, a, rfl⟩ : ∃ (t : Fin cfg0.N) (a : Fin 256), r = ⟨256 * t.val + a.val, row_lt t a⟩ :=
    ⟨⟨r.val / 256, show r.val / 256 < 64 by omega⟩, ⟨r.val % 256, by omega⟩, Fin.ext (show r.val = 256 * (r.val / 256) + r.val % 256 by omega)⟩
  have e : (((dats (F := Ideal) m 0 c).arrAt 8 cfg0.N) : FVec Ideal S16384x1024 .f32) (ix2 ⟨256 * t.val + a.val, row_lt t a⟩ n)
      = ((dats (F := Ideal) m 0 c).flushed 8 t : Vec Ideal S256x1024 .f32) (ix2 a n) := by
    rw [← Cert.Kernel6Ideal.Value.blocks8 m c t (flush0_8 t)]
    show _ = ((dats (F := Ideal) m 0 c).arrAt 8 cfg0.N) (((cfg0.win 8).blk t).view.emb (ix2 a n))
    refine congrArg ((dats (F := Ideal) m 0 c).arrAt 8 cfg0.N) (funext fun x => Fin.ext ?_)
    blk_simp [index8]
    match x with
    | ⟨0, _⟩ => show 256 * t.val + a.val = t.val * 256 + a.val; omega
    | ⟨1, _⟩ => show n.val = 0 * 1024 + n.val; omega
  rw [e, Cert.Kernel6Ideal.Value.flushed8]
  refine (body_apply _ _ _ _ _ _ _ _ a n).trans ?_
  exact plain_congr (fun n => (iblk0_at m c t a n).trans (V0_at m c _ n))
    (fun n => (iblk1_at m c t a n).trans (V1_at m c _ n))
    (fun n => (iblk2_at m c t 2 n).trans (V2_at m c 2 n)) (fun n => (iblk2_at m c t 3 n).trans (V2_at m c 3 n))
    (fun k n => (iblk3_at m c t k n).trans (V3_at m c k n)) (fun k n => (iblk4_at m c t k n).trans (V4_at m c k n)) (fun k n => (iblk5_at m c t k n).trans (V5_at m c k n))
    (fun k n => (iblk6_at m c t k n).trans (V6_at m c k n)) (fun k n => (iblk7_at m c t k n).trans (V7_at m c k n)) n

end Cert.Ffn.Plain

end
-- ==== Proof.FfnPlainRef.lean ====
/- The reference's feed-forward part of a convolution layer on the prompt's rows, cut into its steps, and each step at an element in the words of one row. -/
module

public import proofs.«01_k».proof.Proof.Gen.Reference6Ideal.Run
public import proofs.«01_k».proof.Proof.FfnPlainRow

@[expose] public section

noncomputable section

namespace Cert.Ffn.PlainRef

open Idealize.ShloMosaic Idealize.ShloMosaic.TcCoe Cert.Reference6Ideal Cert.Reference6Ideal.Gen Facts

/-- Rows over the root of their mean square, times the gains. -/
def nrm (x : FVec Ideal S2x8192x1024 .f32) (g : FVec Ideal S1x1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1x1024_S1024)))

/-- Rows times the matrix of the layer. -/
def up (z : FVec Ideal S2x8192x1024 .f32) (w : FVec Ideal S4x1024x2816 .f32) : FVec Ideal S2x8192x2816 .f32 :=
  Host.dotGeneral dot_S2x8192x1024_S1024x2816_S2x8192x2816_2_0_01_1_n_n none z (shapeCast _ (extractStridedSlice S1x1024x2816 ![1, 0, 0] w slices_S4x1024x2816_S1x1024x2816_1_0_0) shapeCasts_S1x1024x2816_S1024x2816)

/-- The gated hidden rows, times the matrix of the layer. -/
def down (a b : FVec Ideal S2x8192x2816 .f32) (w : FVec Ideal S4x2816x1024 .f32) : FVec Ideal S2x8192x1024 .f32 :=
  Host.dotGeneral dot_S2x8192x2816_S2816x1024_S2x8192x1024_2_0_01_1_n_n none (mulf (mulf a (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf a))))) b) (shapeCast _ (extractStridedSlice S1x2816x1024 ![1, 0, 0] w slices_S4x2816x1024_S1x2816x1024_1_0_0) shapeCasts_S1x2816x1024_S2816x1024)

/-- The embedding, gated and added. -/
def emb (x : FVec Ideal S2x8192x1024 .f32) (p : FVec Ideal S4x2x8192x256 .f32) (wple : FVec Ideal S4x256x1024 .f32) (wpg : FVec Ideal S4x1024x1024 .f32) : FVec Ideal S16384x1024 .f32 :=
  shapeCast _ (addf x (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none x (shapeCast _ (extractStridedSlice S1x1024x1024 ![1, 0, 0] wpg slices_S4x1024x1024_S1x1024x1024_1_0_0) shapeCasts_S1x1024x1024_S1024x1024)))))) (Host.dotGeneral dot_S2x8192x256_S256x1024_S2x8192x1024_2_0_01_1_n_n none (shapeCast _ (extractStridedSlice S1x2x8192x256 ![1, 0, 0, 0] p slices_S4x2x8192x256_S1x2x8192x256_1_0_0_0) shapeCasts_S1x2x8192x256_S2x8192x256) (shapeCast _ (extractStridedSlice S1x256x1024 ![1, 0, 0] wple slices_S4x256x1024_S1x256x1024_1_0_0) shapeCasts_S1x256x1024_S256x1024)))) shapeCasts_S2x8192x1024_S16384x1024

/-- The two gains of the layer. -/
def gain2 (g : FVec Ideal S4x4x1024 .f32) : FVec Ideal S1x1x1024 .f32 := extractStridedSlice S1x1x1024 ![1, 2, 0] g slices_S4x4x1024_S1x1x1024_1_2_0
def gain3 (g : FVec Ideal S4x4x1024 .f32) : FVec Ideal S1x1x1024 .f32 := extractStridedSlice S1x1x1024 ![1, 3, 0] g slices_S4x4x1024_S1x1x1024_1_3_0

/-- The rows after the feed-forward part. -/
def ffnR (x : FVec Ideal S2x8192x1024 .f32) (g : FVec Ideal S4x4x1024 .f32) (wg wu : FVec Ideal S4x1024x2816 .f32) (wd : FVec Ideal S4x2816x1024 .f32) : FVec Ideal S2x8192x1024 .f32 :=
  addf x (nrm (down (up (nrm x (gain2 g)) wg) (up (nrm x (gain2 g)) wu) wd) (gain3 g))

theorem nrm_apply (x : FVec Ideal S2x8192x1024 .f32) (g : FVec Ideal S1x1x1024 .f32) (b : Fin 2) (t : Fin 8192) (n : Fin 1024) :
    nrm x g (ix3 b t n) = rms (fun n => x (ix3 b t n)) (fun n => g (ix3 0 0 n)) n := by
  pointwise [nrm]
  rfl

theorem up_apply (z : FVec Ideal S2x8192x1024 .f32) (w : FVec Ideal S4x1024x2816 .f32) (b : Fin 2) (t : Fin 8192) (n : Fin 2816) :
    up z w (ix3 b t n) = lin (fun k => z (ix3 b t k)) (fun k n => w (ix3 1 k n)) n := by
  pointwise [up]
  rfl

theorem down_apply (a d : FVec Ideal S2x8192x2816 .f32) (w : FVec Ideal S4x2816x1024 .f32) (b : Fin 2) (t : Fin 8192) (n : Fin 1024) :
    down a d w (ix3 b t n) = lin (fun k => a (ix3 b t k) * Ideal.logistic (a (ix3 b t k)) * d (ix3 b t k)) (fun k n => w (ix3 1 k n)) n := by
  pointwise [down]
  rfl

theorem emb_apply (x : FVec Ideal S2x8192x1024 .f32) (p : FVec Ideal S4x2x8192x256 .f32) (wple : FVec Ideal S4x256x1024 .f32) (wpg : FVec Ideal S4x1024x1024 .f32)
    (r : Fin 16384) (n : Fin 1024) :
    emb x p wple wpg (ix2 r n) = ple (fun n => x (ix3 ⟨r.val / 8192, by omega⟩ ⟨r.val % 8192, by omega⟩ n)) (fun k n => wpg (ix3 1 k n))
      (fun k => p (ix4 1 ⟨r.val / 8192, by omega⟩ ⟨r.val % 8192, by omega⟩ k)) (fun k n => wple (ix3 1 k n)) n := by
  pointwise [emb]
  rfl

theorem gain2_apply (g : FVec Ideal S4x4x1024 .f32) (n : Fin 1024) : gain2 g (ix3 0 0 n) = g (ix3 1 2 n) := by
  pointwise [gain2]
theorem gain3_apply (g : FVec Ideal S4x4x1024 .f32) (n : Fin 1024) : gain3 g (ix3 0 0 n) = g (ix3 1 3 n) := by
  pointwise [gain3]

theorem ffnR_apply (x : FVec Ideal S2x8192x1024 .f32) (g : FVec Ideal S4x4x1024 .f32) (wg wu : FVec Ideal S4x1024x2816 .f32) (wd : FVec Ideal S4x2816x1024 .f32)
    (b : Fin 2) (t : Fin 8192) (n : Fin 1024) :
    ffnR x g wg wu wd (ix3 b t n) = ffn (fun n => x (ix3 b t n)) (rms (fun n => x (ix3 b t n)) (fun n => g (ix3 1 2 n)))
      (fun k n => wg (ix3 1 k n)) (fun k n => wu (ix3 1 k n)) (fun k n => wd (ix3 1 k n)) (fun n => g (ix3 1 3 n)) n := by
  show (x (ix3 b t n) : EReal) + nrm (down (up (nrm x (gain2 g)) wg) (up (nrm x (gain2 g)) wu) wd) (gain3 g) (ix3 b t n) = _
  rw [nrm_apply]
  simp only [down_apply, up_apply, nrm_apply, gain2_apply, gain3_apply]
  rfl

/-- The reference's result at an element. -/
theorem out_apply (h : FVec Ideal S2x8192x1024 .f32) (p : FVec Ideal S4x2x8192x256 .f32) (g : FVec Ideal S4x4x1024 .f32)
    (wg wu : FVec Ideal S4x1024x2816 .f32) (wd : FVec Ideal S4x2816x1024 .f32) (wple : FVec Ideal S4x256x1024 .f32)
    (wpg : FVec Ideal S4x1024x1024 .f32) (r : Fin 16384) (n : Fin 1024) :
    emb (ffnR h g wg wu wd) p wple wpg (ix2 r n)
      = plain (fun n => h (ix3 ⟨r.val / 8192, by omega⟩ ⟨r.val % 8192, by omega⟩ n))
          (fun n => p (ix4 1 ⟨r.val / 8192, by omega⟩ ⟨r.val % 8192, by omega⟩ n)) (fun n => g (ix3 1 2 n))
          (fun n => g (ix3 1 3 n)) (fun k n => wg (ix3 1 k n)) (fun k n => wu (ix3 1 k n)) (fun k n => wd (ix3 1 k n)) (fun k n => wple (ix3 1 k n))
          (fun k n => wpg (ix3 1 k n)) n := by
  rw [emb_apply]
  simp only [ffnR_apply]
  rfl

variable (m : (ℓ : Loc nD τ sig) → Buf (Elt Ideal) ℓ)

/-- The reference's result, in these steps. -/
def result (c : Dev nD) : FVec Ideal S16384x1024 .f32 :=
  emb (ffnR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
    (m ((c.tc : Thread nD τ).loc main_arg1)) (m ((c.tc : Thread nD τ).loc main_arg6)) (m ((c.tc : Thread nD τ).loc main_arg7))

end Cert.Ffn.PlainRef

end
-- ==== Proof.ConvPromptRow.lean ====
/- What the short convolution is for one row of a long sequence with nothing before it, over the extended reals. -/
module

public import proofs.«01_k».proof.Proof.ConvRow

@[expose] public section

noncomputable section

namespace Cert.ConvPrompt

open Idealize.ShloMosaic Cert.Kvq Cert.Conv
open scoped BigOperators

/-- Two zero rows, then the sequence's rows. -/
def pad {L : ℕ} (c : Fin L → EReal) (j : ℕ) : EReal :=
  if j < 2 then 0 else if h' : j - 2 < L then c ⟨j - 2, h'⟩ else 0

/-- The convolution of width three. -/
def conv {L : ℕ} (w : Fin 3 → EReal) (c : Fin L → EReal) (t : Fin L) : EReal :=
  w 0 * pad c t.val + w 1 * pad c (t.val + 1) + w 2 * c t

/-- The gated convolution of row `t`. -/
def gated {L : ℕ} (x : Fin L → Fin 1024 → EReal) (g0 : Fin 1024 → EReal) (win : Fin 1024 → Fin 3072 → EReal)
    (wc : Fin 3 → Fin 1024 → EReal) (t : Fin L) (n : Fin 1024) : EReal :=
  proj (x t) g0 win ⟨n.val, by omega⟩ * conv (fun j => wc j n) (fun t => cu (x t) g0 win n) t

/-- The whole row `t`. -/
def row {L : ℕ} (x : Fin L → Fin 1024 → EReal) (g0 g1 : Fin 1024 → EReal) (win : Fin 1024 → Fin 3072 → EReal)
    (wc : Fin 3 → Fin 1024 → EReal) (wout : Fin 1024 → Fin 1024 → EReal) (t : Fin L) (n : Fin 1024) : EReal :=
  x t n + Ffn.rms (Ffn.lin (gated x g0 win wc t) wout) g1 n

theorem pad_zero {L : ℕ} (c : Fin L → EReal) (j : ℕ) (h : j < 2) : pad c j = 0 := by
  unfold pad
  rw [if_pos h]

theorem pad_next {L : ℕ} (c : Fin L → EReal) (j : ℕ) (t : Fin L) (h : j = t.val + 2) : pad c j = c t := by
  subst h
  unfold pad
  rw [if_neg (by omega), dif_pos (show t.val + 2 - 2 < L by omega)]
  rfl

end Cert.ConvPrompt

end
-- ==== Proof.ConvPromptKern.lean ====
/- The prompt's short convolution: the call's payloads and its windows' blocks read at an element, the two rows it carries
   from step to step, and its results in the words of one row. -/
module

public import proofs.«01_k».proof.Proof.ConvPromptRow
public import proofs.«01_k».proof.Proof.Gen.Kernel7Ideal.Value
public import Idealize.ShloMosaic.Lib.Pipeline.ValueKit
public import Idealize.ShloMosaic.Lib.Pipeline.ReadBack
public import Idealize.ShloMosaic.Lib.WholeRead
public import Idealize.ShloMosaic.Lib.WritesUnit
public import Idealize.ShloMosaic.Lib.StableHlo.ReadAt
public import Idealize.ShloMosaic.Lib.Pointwise

@[expose] public section

noncomputable section

namespace Cert.ConvPrompt

open scoped BigOperators
open Idealize.ShloMosaic Idealize.ShloMosaic.TcCoe Cert.Kernel7Ideal Cert.Kernel7Ideal.Gen Cert.Kvq Cert.Conv

/-! The payloads at an element. -/

theorem same_apply (h : FVec Ideal S1x512x1024 .f32) (r : Fin 512) (n : Fin 1024) : k0_pay6 (F := Ideal) h (ix2 r n) = h (ix3 0 r n) := by
  pointwise [k0_pay6]

theorem gain_apply (g : FVec Ideal S1x1024 .f32) (n : Fin 1024) : k0_pay14 (F := Ideal) g (ix2 0 n) = g (ix2 0 n) := by
  pointwise [k0_pay14]

theorem proj_apply (h : FVec Ideal S1x512x1024 .f32) (g : FVec Ideal S1x1024 .f32) (w : FVec Ideal S1x1024x3072 .bf16) (r : Fin 512) (n : Fin 3072) :
    k0_pay7 (F := Ideal) h g w (ix2 r n) = proj (fun n => h (ix3 0 r n)) (fun n => g (ix2 0 n)) (fun k n => w (ix3 0 k n)) n := by
  pointwise [k0_pay7, k0_pay6]
  rfl

theorem gate_apply (h : FVec Ideal S1x512x1024 .f32) (g : FVec Ideal S1x1024 .f32) (w : FVec Ideal S1x1024x3072 .bf16) (r : Fin 512) (n : Fin 1024) :
    k0_pay8 (F := Ideal) h g w (ix2 r n) = proj (fun n => h (ix3 0 r n)) (fun n => g (ix2 0 n)) (fun k n => w (ix3 0 k n)) ⟨n.val, by omega⟩ := by
  have e : k0_pay8 (F := Ideal) h g w (ix2 r n) = k0_pay7 (F := Ideal) h g w (ix2 r ⟨n.val, by omega⟩) := by
    pointwise [k0_pay8]
  rw [e, proj_apply]

theorem cu_apply (h : FVec Ideal S1x512x1024 .f32) (g : FVec Ideal S1x1024 .f32) (w : FVec Ideal S1x1024x3072 .bf16) (r : Fin 512) (n : Fin 1024) :
    k0_pay9 (F := Ideal) h g w (ix2 r n) = cu (fun n => h (ix3 0 r n)) (fun n => g (ix2 0 n)) (fun k n => w (ix3 0 k n)) n := by
  have e : k0_pay9 (F := Ideal) h g w (ix2 r n)
      = k0_pay7 (F := Ideal) h g w (ix2 r ⟨1024 + n.val, by omega⟩) * k0_pay7 (F := Ideal) h g w (ix2 r ⟨2048 + n.val, by omega⟩) := by
    pointwise [k0_pay9]
  rw [e, proj_apply, proj_apply]
  rfl

theorem turn1_apply (h : FVec Ideal S1x512x1024 .f32) (g : FVec Ideal S1x1024 .f32) (w : FVec Ideal S1x1024x3072 .bf16) (r : Fin 512) (n : Fin 1024)
    (r' : Fin 512) (hr : r.val = r'.val + 1) :
    k0_pay10 (F := Ideal) h g w (ix2 r n) = k0_pay9 (F := Ideal) h g w (ix2 r' n) := by
  pointwise [k0_pay10]
  congr 2
  apply Fin.ext
  simp
  omega

theorem turn2_apply (h : FVec Ideal S1x512x1024 .f32) (g : FVec Ideal S1x1024 .f32) (w : FVec Ideal S1x1024x3072 .bf16) (r : Fin 512) (n : Fin 1024)
    (r' : Fin 512) (hr : r.val = r'.val + 2) :
    k0_pay11 (F := Ideal) h g w (ix2 r n) = k0_pay9 (F := Ideal) h g w (ix2 r' n) := by
  pointwise [k0_pay11]
  congr 2
  apply Fin.ext
  simp
  omega

theorem end_rows_apply (v : FVec Ideal S512x1024 .f32) (i : Fin 2) (n : Fin 1024) : k0_pay3 (F := Ideal) v (ix2 i n) = v (ix2 ⟨510 + i.val, by omega⟩ n) := by
  pointwise [k0_pay3, k0_pay2]

theorem end_state_apply (v : FVec Ideal S512x1024 .f32) (i : Fin 2) (n : Fin 1024) : k0_pay4 (F := Ideal) v (ix3 0 i n) = v (ix2 ⟨510 + i.val, by omega⟩ n) := by
  pointwise [k0_pay4, k0_pay2]

/-- The rows' numbers. -/
abbrev nums : IVec S512x1 32 := iota .tc S512x1 32 [0] iota_S512x1_d0_w32

/-- Which row is the first, and which the second. -/
def first : IVec S512x1 1 := cmpi .eq nums (broadcast S512x1 0#32)
def second : IVec S512x1 1 := cmpi .eq nums (broadcast S512x1 1#32)

theorem first_apply : ∀ r : Fin 512, first (ix2 r 0) = if r.val = 0 then 1#1 else 0#1 := by
  decide +kernel

theorem second_apply : ∀ r : Fin 512, second (ix2 r 0) = if r.val = 1 then 1#1 else 0#1 := by
  decide +kernel

/-- The gated convolution times the matrix, with the masks named. -/
def endW (M0 M1 : IVec S512x1 1) (v23 v26 v27 v28 : FVec Ideal S512x1024 .f32) (p2 p1 a b d : FVec Ideal S1x1024 .f32) (o : FVec Ideal S1x1024x1024 .bf16) :
    FVec Ideal S512x1024 .f32 :=
  matmul dot_S512x1024_S1024x1024_S512x1024_1_0_0_1_n_n none
    (truncf .bf16 (mulf v23 (addf (addf
      (mulf (broadcastTo S512x1024 (shapeCast S1x1024 a shapeCasts_S1x1024_S1x1024) broadcasts_S1x1024_S512x1024)
        (select (broadcastTo S512x1024 (shapeCast S512x1 M0 shapeCasts_S512x1_S512x1) broadcasts_S512x1_S512x1024)
          (broadcastTo S512x1024 (shapeCast S1x1024 p2 shapeCasts_S1x1024_S1x1024) broadcasts_S1x1024_S512x1024)
          (select (broadcastTo S512x1024 (shapeCast S512x1 M1 shapeCasts_S512x1_S512x1) broadcasts_S512x1_S512x1024)
            (broadcastTo S512x1024 (shapeCast S1x1024 p1 shapeCasts_S1x1024_S1x1024) broadcasts_S1x1024_S512x1024) v28)))
      (mulf (broadcastTo S512x1024 (shapeCast S1x1024 b shapeCasts_S1x1024_S1x1024) broadcasts_S1x1024_S512x1024)
        (select (broadcastTo S512x1024 (shapeCast S512x1 M0 shapeCasts_S512x1_S512x1) broadcasts_S512x1_S512x1024)
          (broadcastTo S512x1024 (shapeCast S1x1024 p1 shapeCasts_S1x1024_S1x1024) broadcasts_S1x1024_S512x1024) v27)))
      (mulf (broadcastTo S512x1024 (shapeCast S1x1024 d shapeCasts_S1x1024_S1x1024) broadcasts_S1x1024_S512x1024) v26))) bitsLt_bf16_f32)
    (shapeCast S1024x1024 o shapeCasts_S1x1024x1024_S1024x1024) (constant S512x1024 .f32 0x00000000#32)

theorem endW_eq (v23 v26 v27 v28 : FVec Ideal S512x1024 .f32) (p2 p1 a b d : FVec Ideal S1x1024 .f32) (o : FVec Ideal S1x1024x1024 .bf16) :
    k0_pay13 (F := Ideal) v23 v26 v27 v28 nums p2 p1 k0_pay12 a b d o = endW first second v23 v26 v27 v28 p2 p1 a b d o := rfl

theorem endW_apply (M0 M1 : IVec S512x1 1) (v23 v26 v27 v28 : FVec Ideal S512x1024 .f32) (p2 p1 a b d : FVec Ideal S1x1024 .f32) (o : FVec Ideal S1x1024x1024 .bf16)
    (r : Fin 512) (n : Fin 1024) :
    endW M0 M1 v23 v26 v27 v28 p2 p1 a b d o (ix2 r n)
      = Ffn.lin (fun k => (v23 (ix2 r k) : EReal) * (a (ix2 0 k) * (if M0 (ix2 r 0) = 1#1 then p2 (ix2 0 k) else if M1 (ix2 r 0) = 1#1 then p1 (ix2 0 k) else v28 (ix2 r k))
          + b (ix2 0 k) * (if M0 (ix2 r 0) = 1#1 then p1 (ix2 0 k) else v27 (ix2 r k)) + d (ix2 0 k) * v26 (ix2 r k))) (fun k n => o (ix3 0 k n)) n := by
  pointwise [endW]
  rfl

theorem squares_apply (v23 v26 v27 v28 : FVec Ideal S512x1024 .f32) (I : IVec S512x1 32) (M : IVec S512x1024 1) (p2 p1 a b d : FVec Ideal S1x1024 .f32)
    (o : FVec Ideal S1x1024x1024 .bf16) (r : Fin 512) :
    k0_pay15 (F := Ideal) v23 v26 v27 v28 I p2 p1 M a b d o (ix2 r 0)
      = Ideal.div (∑ n : Fin 1024, k0_pay13 (F := Ideal) v23 v26 v27 v28 I p2 p1 M a b d o (ix2 r n) * k0_pay13 (F := Ideal) v23 v26 v27 v28 I p2 p1 M a b d o (ix2 r n))
          (Ideal.ofBits .f32 0x44800000#32) := by
  pointwise [k0_pay15]

theorem end_apply (x y : FVec Ideal S512x1024 .f32) (g : FVec Ideal S1x1024 .f32) (s : FVec Ideal S512x1 .f32) (e : Ideal .f32) (r : Fin 512) (n : Fin 1024) :
    k0_pay1 (F := Ideal) x y g s e (ix3 0 r n)
      = x (ix2 r n) + y (ix2 r n) * Ideal.rsqrt (s (ix2 r 0) + e) * g (ix2 0 n) := by
  pointwise [k0_pay1]

/-- What is convolved in row `r` of step `T` of a sequence, when the two rows carried are the ones before the step. -/
theorem conv_eq (w : Fin 3 → EReal) (u : Fin 8192 → EReal) (T r : ℕ) (s : Fin 8192) (hs : s.val = 512 * T + r) (p2 p1 q1 q2 : EReal)
    (h2 : p2 = pad u (512 * T)) (h1 : p1 = pad u (512 * T + 1))
    (h3 : ∀ h : r ≠ 0, q1 = u ⟨s.val - 1, by omega⟩) (h4 : ∀ (_ : r ≠ 0) (_ : r ≠ 1), q2 = u ⟨s.val - 2, by omega⟩) :
    w 0 * (if r = 0 then p2 else if r = 1 then p1 else q2) + w 1 * (if r = 0 then p1 else q1) + w 2 * u s = conv w u s := by
  unfold conv
  have a : (if r = 0 then p2 else if r = 1 then p1 else q2) = pad u s.val := by
    by_cases h : r = 0
    · rw [if_pos h, h2]
      exact congrArg (pad u) (by omega)
    · by_cases h' : r = 1
      · rw [if_neg h, if_pos h', h1]
        exact congrArg (pad u) (by omega)
      · rw [if_neg h, if_neg h', h4 h h', pad_next _ _ ⟨s.val - 2, by omega⟩ (show s.val = s.val - 2 + 2 by omega)]
  have b : (if r = 0 then p1 else q1) = pad u (s.val + 1) := by
    by_cases h : r = 0
    · rw [if_pos h, h1]
      exact congrArg (pad u) (by omega)
    · rw [if_neg h, h3 h, pad_next _ _ ⟨s.val - 1, by omega⟩ (show s.val + 1 = s.val - 1 + 2 by omega)]
  rw [a, b]

/-- What a step stores as rows, from what it loads. -/
def rowsF (h : FVec Ideal S1x512x1024 .f32) (g0 : FVec Ideal S1x1024 .f32) (w : FVec Ideal S1x1024x3072 .bf16) (p2 p1 a b d : FVec Ideal S1x1024 .f32)
    (o : FVec Ideal S1x1024x1024 .bf16) (g1 : FVec Ideal S1x1024 .f32) : FVec Ideal S1x512x1024 .f32 :=
  k0_pay1 (F := Ideal) (k0_pay6 h) (k0_pay13 (k0_pay8 h g0 w) (k0_pay9 h g0 w) (k0_pay10 h g0 w) (k0_pay11 h g0 w) nums p2 p1 k0_pay12 a b d o) (k0_pay14 g1)
    (k0_pay15 (k0_pay8 h g0 w) (k0_pay9 h g0 w) (k0_pay10 h g0 w) (k0_pay11 h g0 w) nums p2 p1 k0_pay12 a b d o) (Scalar.ofBits .f32 0x358637BD#32)

/-- Those rows in the words of one row. -/
theorem rowsF_apply (h : FVec Ideal S1x512x1024 .f32) (g0 : FVec Ideal S1x1024 .f32) (w : FVec Ideal S1x1024x3072 .bf16) (p2 p1 a b d : FVec Ideal S1x1024 .f32)
    (o : FVec Ideal S1x1024x1024 .bf16) (g1 : FVec Ideal S1x1024 .f32) (T : Fin 16) (r : Fin 512) (s : Fin 8192) (hs : s.val = 512 * T.val + r.val) (n : Fin 1024)
    (x : Fin 8192 → Fin 1024 → EReal) (G0 G1 : Fin 1024 → EReal) (win : Fin 1024 → Fin 3072 → EReal) (wc : Fin 3 → Fin 1024 → EReal) (wout : Fin 1024 → Fin 1024 → EReal)
    (hx : ∀ (r : Fin 512) (n : Fin 1024), h (ix3 0 r n) = x ⟨512 * T.val + r.val, by omega⟩ n)
    (hg0 : ∀ n : Fin 1024, g0 (ix2 0 n) = G0 n) (hg1 : ∀ n : Fin 1024, g1 (ix2 0 n) = G1 n) (hw : ∀ (k : Fin 1024) (n : Fin 3072), w (ix3 0 k n) = win k n)
    (ha : ∀ n : Fin 1024, a (ix2 0 n) = wc 0 n) (hb : ∀ n : Fin 1024, b (ix2 0 n) = wc 1 n) (hd : ∀ n : Fin 1024, d (ix2 0 n) = wc 2 n)
    (ho : ∀ k n : Fin 1024, o (ix3 0 k n) = wout k n)
    (h2 : ∀ n : Fin 1024, p2 (ix2 0 n) = pad (fun t => cu (x t) G0 win n) (512 * T.val))
    (h1 : ∀ n : Fin 1024, p1 (ix2 0 n) = pad (fun t => cu (x t) G0 win n) (512 * T.val + 1)) :
    rowsF h g0 w p2 p1 a b d o g1 (ix3 0 r n) = row x G0 G1 win wc wout s n := by
  have hcu : ∀ (r' : Fin 512) (n : Fin 1024), k0_pay9 (F := Ideal) h g0 w (ix2 r' n) = cu (x ⟨512 * T.val + r'.val, by omega⟩) G0 win n := fun r' n =>
    (cu_apply _ _ _ _ n).trans (cu_congr (fun n => hx r' n) hg0 hw n)
  have es : s = ⟨512 * T.val + r.val, by omega⟩ := Fin.ext hs
  rw [es]
  have key : ∀ n : Fin 1024, k0_pay13 (F := Ideal) (k0_pay8 h g0 w) (k0_pay9 h g0 w) (k0_pay10 h g0 w) (k0_pay11 h g0 w) nums p2 p1 k0_pay12 a b d o (ix2 r n)
        = Ffn.lin (gated x G0 win wc ⟨512 * T.val + r.val, by omega⟩) wout n := by
    intro n
    rw [endW_eq, endW_apply, first_apply, second_apply]
    unfold Ffn.lin
    refine Finset.sum_congr rfl fun k _ => congrArg₂ (· * ·) ?_ (ho k n)
    unfold gated
    refine congrArg₂ (· * ·) ?_ ?_
    · rw [gate_apply]
      exact proj_congr (fun n => hx r n) hg0 hw _
    · have d0 : ∀ y z : EReal, (if (if r.val = 0 then 1#1 else 0#1 : BitVec 1) = 1#1 then y else z) = if r.val = 0 then y else z := fun y z => by
        by_cases h : r.val = 0 <;> simp [h]
      have d1 : ∀ y z : EReal, (if (if r.val = 1 then 1#1 else 0#1 : BitVec 1) = 1#1 then y else z) = if r.val = 1 then y else z := fun y z => by
        by_cases h : r.val = 1 <;> simp [h]
      rw [d0, d0, d1, ha, hb, hd, hcu]
      refine conv_eq (fun j => wc j k) (fun t => cu (x t) G0 win k) T.val r.val _ rfl _ _ _ _ (h2 k) (h1 k) (fun hr => ?_) (fun hr hr' => ?_)
      · refine (turn1_apply _ _ _ r k ⟨r.val - 1, by omega⟩ (show r.val = r.val - 1 + 1 by omega)).trans ((hcu ⟨r.val - 1, by omega⟩ k).trans ?_)
        exact congrArg (fun t => cu (x t) G0 win k) (Fin.ext (show 512 * T.val + (r.val - 1) = 512 * T.val + r.val - 1 by omega))
      · refine (turn2_apply _ _ _ r k ⟨r.val - 2, by omega⟩ (show r.val = r.val - 2 + 2 by omega)).trans ((hcu ⟨r.val - 2, by omega⟩ k).trans ?_)
        exact congrArg (fun t => cu (x t) G0 win k) (Fin.ext (show 512 * T.val + (r.val - 2) = 512 * T.val + r.val - 2 by omega))
  unfold rowsF
  rw [end_apply, same_apply, gain_apply, squares_apply, hg1, key]
  simp only [key]
  unfold row
  rw [hx r n]
  rfl

variable (m : (ℓ : Loc nD τ sig) → Buf (Elt Ideal) ℓ) (c : Dev nD)

/-! The windows. -/

theorem steps (t : Fin cfg0.N) : t.val < 32 := lt_of_lt_of_eq t.isLt N_0

theorem index0 (t : Fin cfg0.N) : win0_0.index t = ![t.val / 16, t.val % 16, 0] := (by decide +kernel : ∀ t : Fin grid0.N, win0_0.index t = ![t.val / 16, t.val % 16, 0]) t
theorem index1 (t : Fin cfg0.N) : win0_1.index t = ![0, 0] := (by decide +kernel : ∀ t : Fin grid0.N, win0_1.index t = ![0, 0]) t
theorem index2 (t : Fin cfg0.N) : win0_2.index t = ![1, 0, 0] := (by decide +kernel : ∀ t : Fin grid0.N, win0_2.index t = ![1, 0, 0]) t
theorem index3 (t : Fin cfg0.N) : win0_3.index t = ![0, 0] := (by decide +kernel : ∀ t : Fin grid0.N, win0_3.index t = ![0, 0]) t
theorem index4 (t : Fin cfg0.N) : win0_4.index t = ![1, 0, 0] := (by decide +kernel : ∀ t : Fin grid0.N, win0_4.index t = ![1, 0, 0]) t
theorem index5 (t : Fin cfg0.N) : win0_5.index t = ![t.val / 16, t.val % 16, 0] := (by decide +kernel : ∀ t : Fin grid0.N, win0_5.index t = ![t.val / 16, t.val % 16, 0]) t
theorem index6 (t : Fin cfg0.N) : win0_6.index t = ![t.val / 16, 0, 0] := (by decide +kernel : ∀ t : Fin grid0.N, win0_6.index t = ![t.val / 16, 0, 0]) t

abbrev arg0 : FVec Ideal S2x8192x1024 .f32 := m (c, Proc.tc.devRef main_arg0)
abbrev arg1 : FVec Ideal S4x4x1024 .f32 := m (c, Proc.tc.devRef main_arg1)
abbrev arg2 : FVec Ideal S2x1024x3072 .f32 := m (c, Proc.tc.devRef main_arg2)
abbrev arg3 : FVec Ideal S2x3x1024 .f32 := m (c, Proc.tc.devRef main_arg3)
abbrev arg4 : FVec Ideal S2x1024x1024 .f32 := m (c, Proc.tc.devRef main_arg4)

theorem iblk0_at (t : Fin cfg0.N) (b : Fin 2) (s : Fin 8192) (r : Fin 512) (n : Fin 1024) (hb : b.val = t.val / 16) (hs : s.val = 512 * (t.val % 16) + r.val) :
    (iblk m c 0 t : Vec Ideal S1x512x1024 .f32) (ix3 0 r n) = arg0 m c (ix3 b s n) := by
  refine Eq.trans ?_ (congrFun (V_main_arg0 m c) (ix3 b s n))
  show V m c main_arg0 (((cfg0.win 0).blk t).view.emb (ix3 0 r n)) = _
  refine congrArg (V m c main_arg0) (funext fun x => Fin.ext ?_)
  blk_simp [index0]
  match x with
  | ⟨0, _⟩ => show t.val / 16 * 1 + 0 = b.val; omega
  | ⟨1, _⟩ => show t.val % 16 * 512 + r.val = s.val; omega
  | ⟨2, _⟩ => show 0 * 1024 + n.val = n.val; omega

theorem iblk1_at (t : Fin cfg0.N) (a : Fin 4) (b : Fin 1024) :
    (iblk m c 1 t : Vec Ideal S4x1024 .f32) (ix2 a b) = (V m c main_v1 : FVec Ideal S4x1024 .f32) (ix2 a b) := by
  show V m c main_v1 (((cfg0.win 1).blk t).view.emb (ix2 a b)) = _
  refine congrArg (V m c main_v1) (funext fun x => Fin.ext ?_)
  blk_simp [index1]
  match x with
  | ⟨0, _⟩ => show 0 * 4 + a.val = a.val; omega
  | ⟨1, _⟩ => show 0 * 1024 + b.val = b.val; omega

theorem iblk2_at (t : Fin cfg0.N) (a : Fin 1024) (b : Fin 3072) :
    (iblk m c 2 t : Vec Ideal S1x1024x3072 .bf16) (ix3 0 a b) = (V m c main_v2 : FVec Ideal S2x1024x3072 .bf16) (ix3 1 a b) := by
  show V m c main_v2 (((cfg0.win 2).blk t).view.emb (ix3 0 a b)) = _
  refine congrArg (V m c main_v2) (funext fun x => Fin.ext ?_)
  blk_simp [index2]
  match x with
  | ⟨0, _⟩ => rfl
  | ⟨1, _⟩ => show 0 * 1024 + a.val = a.val; omega
  | ⟨2, _⟩ => show 0 * 3072 + b.val = b.val; omega

theorem iblk3_at (t : Fin cfg0.N) (a : Fin 3) (b : Fin 1024) :
    (iblk m c 3 t : Vec Ideal S3x1024 .f32) (ix2 a b) = (V m c main_v4 : FVec Ideal S3x1024 .f32) (ix2 a b) := by
  show V m c main_v4 (((cfg0.win 3).blk t).view.emb (ix2 a b)) = _
  refine congrArg (V m c main_v4) (funext fun x => Fin.ext ?_)
  blk_simp [index3]
  match x with
  | ⟨0, _⟩ => show 0 * 3 + a.val = a.val; omega
  | ⟨1, _⟩ => show 0 * 1024 + b.val = b.val; omega

theorem iblk4_at (t : Fin cfg0.N) (a : Fin 1024) (b : Fin 1024) :
    (iblk m c 4 t : Vec Ideal S1x1024x1024 .bf16) (ix3 0 a b) = (V m c main_v5 : FVec Ideal S2x1024x1024 .bf16) (ix3 1 a b) := by
  show V m c main_v5 (((cfg0.win 4).blk t).view.emb (ix3 0 a b)) = _
  refine congrArg (V m c main_v5) (funext fun x => Fin.ext ?_)
  blk_simp [index4]
  match x with
  | ⟨0, _⟩ => rfl
  | ⟨1, _⟩ => show 0 * 1024 + a.val = a.val; omega
  | ⟨2, _⟩ => show 0 * 1024 + b.val = b.val; omega

theorem V1_at (i : Fin 4) (n : Fin 1024) : (V m c main_v1 : FVec Ideal S4x1024 .f32) (ix2 i n) = arg1 m c (ix3 1 i n) := by
  unfold V
  after_reads_at

theorem V2_at (k : Fin 1024) (n : Fin 3072) : (V m c main_v2 : FVec Ideal S2x1024x3072 .bf16) (ix3 1 k n) = arg2 m c (ix3 1 k n) := by
  unfold V
  after_reads_at

theorem V4_at (i : Fin 3) (n : Fin 1024) : (V m c main_v4 : FVec Ideal S3x1024 .f32) (ix2 i n) = arg3 m c (ix3 1 i n) := by
  unfold V
  after_reads_at

theorem V5_at (k n : Fin 1024) : (V m c main_v5 : FVec Ideal S2x1024x1024 .bf16) (ix3 1 k n) = arg4 m c (ix3 1 k n) := by
  unfold V
  after_reads_at

/-! What a step leaves, from what it loads. -/

section Steps

/-- A load from a buffer that is held whole. -/
theorem ld_whole {sig' : RefSig} {κ : Kind} {sp : Space} {S : Shape} {e : EltTy} {M : Memref sig' κ sp S e} (h : M.IsWhole) (X : S.Idx → Elt Ideal e) (R : Rect S) :
    View.readAt (Elt Ideal) M.view R.toLoadRect (h.unread X) = View.ld X R := funext fun x => h.readAt_unread X R.toLoadRect x

variable (t : Fin cfg0.N) (x0 : Vec Ideal S1x512x1024 .f32) (x1 : Vec Ideal S4x1024 .f32) (x2 : Vec Ideal S1x1024x3072 .bf16) (x3 : Vec Ideal S3x1024 .f32)
  (x4 : Vec Ideal S1x1024x1024 .bf16) (xs : Vec Ideal S8x1024 .f32)

/-- The rows loaded one by one. -/
abbrev gl0 : FVec Ideal S1x1024 .f32 := View.ld x1 (Rect.unit (s := S4x1024) ![0, 0] S1x1024.size inb_S4x1024_S1x1024_0_0)
abbrev gl1 : FVec Ideal S1x1024 .f32 := View.ld x1 (Rect.unit (s := S4x1024) ![1, 0] S1x1024.size inb_S4x1024_S1x1024_1_0)
abbrev cl0 : FVec Ideal S1x1024 .f32 := View.ld x3 (Rect.unit (s := S3x1024) ![0, 0] S1x1024.size inb_S3x1024_S1x1024_0_0)
abbrev cl1 : FVec Ideal S1x1024 .f32 := View.ld x3 (Rect.unit (s := S3x1024) ![1, 0] S1x1024.size inb_S3x1024_S1x1024_1_0)
abbrev cl2 : FVec Ideal S1x1024 .f32 := View.ld x3 (Rect.unit (s := S3x1024) ![2, 0] S1x1024.size inb_S3x1024_S1x1024_2_0)
abbrev sl0 : FVec Ideal S1x1024 .f32 := View.ld xs (Rect.unit (s := S8x1024) ![0, 0] S1x1024.size inb_S8x1024_S1x1024_0_0)
abbrev sl1 : FVec Ideal S1x1024 .f32 := View.ld xs (Rect.unit (s := S8x1024) ![1, 0] S1x1024.size inb_S8x1024_S1x1024_1_0)

abbrev xl0 : FVec Ideal S1x512x1024 .f32 := View.ld x0 (Rect.unit (s := S1x512x1024) ![0, 0, 0] S1x512x1024.size inb_S1x512x1024_S1x512x1024_0_0_0)
abbrev xl2 : FVec Ideal S1x1024x3072 .bf16 := View.ld x2 (Rect.unit (s := S1x1024x3072) ![0, 0, 0] S1x1024x3072.size inb_S1x1024x3072_S1x1024x3072_0_0_0)
abbrev xl4 : FVec Ideal S1x1024x1024 .bf16 := View.ld x4 (Rect.unit (s := S1x1024x1024) ![0, 0, 0] S1x1024x1024.size inb_S1x1024x1024_S1x1024x1024_0_0_0)

theorem l0 : xl0 x0 = x0 := View.ld_unit_lit _ x0 (by decide)
theorem l2 : xl2 x2 = x2 := View.ld_unit_lit _ x2 (by decide)
theorem l4 : xl4 x4 = x4 := View.ld_unit_lit _ x4 (by decide)

theorem ld_scratch (R : Rect S8x1024) :
    View.readAt (Elt Ideal) (View.whole cc0_scratch0) R.toLoadRect ((Memref.isWhole_whole _ : scM0_0.IsWhole).unread xs) = View.ld xs R := ld_whole _ xs R

theorem scratch_rows {κ : Kind} {sp : Space} (v : View sig κ sp S8x1024 .f32) (f : v.ty.Contents (Elt Ideal)) (inb : ∀ a : Fin 2, (![0, 0] : Fin 2 → ℕ) a + (![2, 1024] : Fin 2 → ℕ) a ≤ S8x1024.size a)
    (w : FVec Ideal S2x1024 .f32) (L : List (View.Piece (Elt Ideal) S8x1024 .f32)) (i : Fin 2) (n : Fin 1024) :
    v.read (Elt Ideal) (v.writes (Elt Ideal) f ((⟨Rect.unit (s := S8x1024) ![0, 0] ![2, 1024] inb, w⟩ : View.Piece (Elt Ideal) S8x1024 .f32) :: L)) (ix2 ⟨i.val, by omega⟩ n) = w (ix2 i n) :=
  View.read_writes_cons_unit_of_mem (off' := ![0, 0]) v f inb w L (ix2 ⟨i.val, by omega⟩ n) (ix2 i n) rfl (fun a => by
    match a with
    | ⟨0, _⟩ => exact (Nat.zero_add _).symm
    | ⟨1, _⟩ => exact (Nat.zero_add _).symm)

theorem outA5 (h : cond0_0 (grid0.coords t)) : out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4
    = rowsF x0 (gl0 x1) x2 (sl0 (k0_pay5 (F := Ideal))) (sl1 (k0_pay5 (F := Ideal))) (cl0 x3) (cl1 x3) (cl2 x3) x4 (gl1 x1) := by
  refine Eq.trans (b := rowsF (xl0 x0) (gl0 x1) (xl2 x2) (sl0 (k0_pay5 (F := Ideal))) (sl1 (k0_pay5 (F := Ideal))) (cl0 x3) (cl1 x3) (cl2 x3) (xl4 x4) (gl1 x1)) ?_ (by rw [l0, l2, l4])
  unfold out0_A_5 kernelRun0_A
  dsimp only
  rw [View.read_writes_junk_eq_canon]
  refine (View.canon_cons_unit_lit _ _ _ (by decide)).trans ?_
  unfold kernelRun0_A.sl.r kernelRun0_A.sl.r_5 kernelRun0_A.sl.r_6 kernelRun0_A.sl.r_7 kernelRun0_A.sl.r_1 kernelRun0_A.sl.r_2 kernelRun0_A.sl.r_3 kernelRun0_A.sl.r_4
    kernelRun0_A.sl.v30 kernelRun0_A.sl.v31 kernelRun0_A.sl.HS0_1
  simp only [ld_whole]
  rw [View.readCov_fill _ _ _ _ _ (by decide), View.readCov_fill _ _ _ _ _ (by decide)]
  rfl

theorem outB5 (h : ¬ cond0_0 (grid0.coords t)) : out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 xs
    = rowsF x0 (gl0 x1) x2 (sl0 xs) (sl1 xs) (cl0 x3) (cl1 x3) (cl2 x3) x4 (gl1 x1) := by
  refine Eq.trans (b := rowsF (xl0 x0) (gl0 x1) (xl2 x2) (sl0 xs) (sl1 xs) (cl0 x3) (cl1 x3) (cl2 x3) (xl4 x4) (gl1 x1)) ?_ (by rw [l0, l2, l4])
  unfold out0_B_5 kernelRun0_B
  dsimp only
  rw [View.read_writes_junk_eq_canon]
  refine (View.canon_cons_unit_lit _ _ _ (by decide)).trans ?_
  unfold kernelRun0_B.sl.r kernelRun0_B.sl.r_7 kernelRun0_B.sl.r_8 kernelRun0_B.sl.r_9 kernelRun0_B.sl.r_1 kernelRun0_B.sl.r_2 kernelRun0_B.sl.r_3 kernelRun0_B.sl.r_4
    kernelRun0_B.sl.r_5 kernelRun0_B.sl.r_6
  simp only [ld_whole, ld_scratch]
  rfl

theorem outA6 (h : cond0_0 (grid0.coords t)) : out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 = k0_pay4 (k0_pay9 x0 (gl0 x1) x2) := by
  refine Eq.trans (b := k0_pay4 (F := Ideal) (k0_pay9 (xl0 x0) (gl0 x1) (xl2 x2))) ?_ (by rw [l0, l2])
  unfold out0_A_6 kernelRun0_A
  dsimp only
  rw [View.read_writes_junk_eq_canon]
  refine (View.canon_cons_unit_lit _ _ _ (by decide)).trans ?_
  unfold kernelRun0_A.sl.r_2
  simp only [ld_whole]

theorem outB6 (h : ¬ cond0_0 (grid0.coords t)) : out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 xs = k0_pay4 (k0_pay9 x0 (gl0 x1) x2) := by
  refine Eq.trans (b := k0_pay4 (F := Ideal) (k0_pay9 (xl0 x0) (gl0 x1) (xl2 x2))) ?_ (by rw [l0, l2])
  unfold out0_B_6 kernelRun0_B
  dsimp only
  rw [View.read_writes_junk_eq_canon]
  refine (View.canon_cons_unit_lit _ _ _ (by decide)).trans ?_
  unfold kernelRun0_B.sl.r_2
  simp only [ld_whole]

theorem soutA (h : cond0_0 (grid0.coords t)) (i : Fin 2) (n : Fin 1024) : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 (ix2 ⟨i.val, by omega⟩ n)
    = k0_pay3 (F := Ideal) (k0_pay9 x0 (gl0 x1) x2) (ix2 i n) := by
  refine Eq.trans (b := k0_pay3 (F := Ideal) (k0_pay9 (xl0 x0) (gl0 x1) (xl2 x2)) (ix2 i n)) ?_ (by rw [l0, l2])
  unfold sout0_A_0 kernelRun0_A
  dsimp only
  refine (scratch_rows _ _ _ _ _ i n).trans ?_
  unfold kernelRun0_A.sl.r_2
  simp only [ld_whole]

theorem soutB (h : ¬ cond0_0 (grid0.coords t)) (i : Fin 2) (n : Fin 1024) : sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 xs (ix2 ⟨i.val, by omega⟩ n)
    = k0_pay3 (F := Ideal) (k0_pay9 x0 (gl0 x1) x2) (ix2 i n) := by
  refine Eq.trans (b := k0_pay3 (F := Ideal) (k0_pay9 (xl0 x0) (gl0 x1) (xl2 x2)) (ix2 i n)) ?_ (by rw [l0, l2])
  unfold sout0_B_0 kernelRun0_B
  dsimp only
  refine (scratch_rows _ _ _ _ _ i n).trans ?_
  unfold kernelRun0_B.sl.r_2
  simp only [ld_whole]

theorem gl0_at (n : Fin 1024) : gl0 x1 (ix2 0 n) = x1 (ix2 0 n) := congrArg x1 (by funext a; apply Fin.ext; fin_cases a <;> simp [ix2])
theorem gl1_at (n : Fin 1024) : gl1 x1 (ix2 0 n) = x1 (ix2 1 n) := congrArg x1 (by funext a; apply Fin.ext; fin_cases a <;> simp [ix2])
theorem cl0_at (n : Fin 1024) : cl0 x3 (ix2 0 n) = x3 (ix2 0 n) := congrArg x3 (by funext a; apply Fin.ext; fin_cases a <;> simp [ix2])
theorem cl1_at (n : Fin 1024) : cl1 x3 (ix2 0 n) = x3 (ix2 1 n) := congrArg x3 (by funext a; apply Fin.ext; fin_cases a <;> simp [ix2])
theorem cl2_at (n : Fin 1024) : cl2 x3 (ix2 0 n) = x3 (ix2 2 n) := congrArg x3 (by funext a; apply Fin.ext; fin_cases a <;> simp [ix2])
theorem sl0_at (n : Fin 1024) : sl0 xs (ix2 0 n) = xs (ix2 0 n) := congrArg xs (by funext a; apply Fin.ext; fin_cases a <;> simp [ix2])
theorem sl1_at (n : Fin 1024) : sl1 xs (ix2 0 n) = xs (ix2 1 n) := congrArg xs (by funext a; apply Fin.ext; fin_cases a <;> simp [ix2])

theorem zeros_apply (i : Fin 8) (n : Fin 1024) : k0_pay5 (F := Ideal) (ix2 i n) = 0 := by
  pointwise [k0_pay5]

end Steps

/-! The results. -/

/-- The rows of a sequence, and what of them is convolved. -/
abbrev seq (b : Fin 2) (s : Fin 8192) (n : Fin 1024) : EReal := arg0 m c (ix3 b s n)
abbrev cuAt (b : Fin 2) (n : Fin 1024) (s : Fin 8192) : EReal := cu (seq m c b s) (fun n => arg1 m c (ix3 1 0 n)) (fun k n => arg2 m c (ix3 1 k n)) n

theorem cu_block (t : Fin cfg0.N) (b : Fin 2) (hb : b.val = t.val / 16) (r : Fin 512) (s : Fin 8192) (hs : s.val = 512 * (t.val % 16) + r.val) (n : Fin 1024) :
    k0_pay9 (F := Ideal) (iblk m c 0 t) (gl0 (iblk m c 1 t)) (iblk m c 2 t) (ix2 r n) = cuAt m c b n s :=
  (cu_apply _ _ _ r n).trans (cu_congr (fun n => iblk0_at m c t b s r n hb hs) (fun n => (gl0_at _ n).trans ((iblk1_at m c t 0 n).trans (V1_at m c 0 n)))
    (fun k n => (iblk2_at m c t k n).trans (V2_at m c k n)) n)

/-- What the scratch carries out of a step: the last two rows of what is convolved. -/
theorem carry_at (t : Fin cfg0.N) (b : Fin 2) (hb : b.val = t.val / 16) (i : Fin 2) (s : Fin 8192) (hs : s.val = 512 * (t.val % 16) + (510 + i.val)) (n : Fin 1024) :
    (outsAt0 (F := Ideal) m c t.val t.isLt).2.2 (ix2 ⟨i.val, by omega⟩ n) = cuAt m c b n s := by
  by_cases h0 : t.val % 16 = 0
  · rw [outsAt0_A m c t h0]
    dsimp only
    exact (soutA c t (iblk m c 0 t) (iblk m c 1 t) (iblk m c 2 t) (iblk m c 3 t) (iblk m c 4 t) ((hcond0_0 t).mpr h0) i n).trans ((end_rows_apply _ i n).trans (cu_block m c t b hb _ s hs n))
  · rw [outsAt0_B m c t h0]
    dsimp only
    exact (soutB c t (iblk m c 0 t) (iblk m c 1 t) (iblk m c 2 t) (iblk m c 3 t) (iblk m c 4 t) (outsAt0 (F := Ideal) m c (t.val - 1) (Nat.lt_of_le_of_lt (Nat.sub_le _ _) t.isLt)).2.2 (fun h => h0 ((hcond0_0 t).mp h)) i n).trans ((end_rows_apply _ i n).trans (cu_block m c t b hb _ s hs n))

/-- What a step leaves as the state: the same rows. -/
theorem state_at (t : Fin cfg0.N) (b : Fin 2) (hb : b.val = t.val / 16) (i : Fin 2) (s : Fin 8192) (hs : s.val = 512 * (t.val % 16) + (510 + i.val)) (n : Fin 1024) :
    (outsAt0 (F := Ideal) m c t.val t.isLt).2.1 (ix3 0 i n) = cuAt m c b n s := by
  by_cases h0 : t.val % 16 = 0
  · rw [outsAt0_A m c t h0]
    dsimp only
    exact (congrFun (outA6 c t (iblk m c 0 t) (iblk m c 1 t) (iblk m c 2 t) (iblk m c 3 t) (iblk m c 4 t) ((hcond0_0 t).mpr h0)) (ix3 0 i n)).trans ((end_state_apply _ i n).trans (cu_block m c t b hb _ s hs n))
  · rw [outsAt0_B m c t h0]
    dsimp only
    exact (congrFun (outB6 c t (iblk m c 0 t) (iblk m c 1 t) (iblk m c 2 t) (iblk m c 3 t) (iblk m c 4 t) (outsAt0 (F := Ideal) m c (t.val - 1) (Nat.lt_of_le_of_lt (Nat.sub_le _ _) t.isLt)).2.2 (fun h => h0 ((hcond0_0 t).mp h))) (ix3 0 i n)).trans ((end_state_apply _ i n).trans (cu_block m c t b hb _ s hs n))

/-- A step's rows, when the two rows it starts from are the ones before it. -/
theorem rows_step (t : Fin cfg0.N) (p2 p1 : FVec Ideal S1x1024 .f32) (b : Fin 2) (hb : b.val = t.val / 16) (r : Fin 512) (s : Fin 8192)
    (hs : s.val = 512 * (t.val % 16) + r.val) (n : Fin 1024)
    (h2 : ∀ n : Fin 1024, p2 (ix2 0 n) = pad (cuAt m c b n) (512 * (t.val % 16))) (h1 : ∀ n : Fin 1024, p1 (ix2 0 n) = pad (cuAt m c b n) (512 * (t.val % 16) + 1)) :
    rowsF (iblk m c 0 t) (gl0 (iblk m c 1 t)) (iblk m c 2 t) p2 p1 (cl0 (iblk m c 3 t)) (cl1 (iblk m c 3 t)) (cl2 (iblk m c 3 t)) (iblk m c 4 t) (gl1 (iblk m c 1 t)) (ix3 0 r n)
      = row (seq m c b) (fun n => arg1 m c (ix3 1 0 n)) (fun n => arg1 m c (ix3 1 1 n)) (fun k n => arg2 m c (ix3 1 k n)) (fun i n => arg3 m c (ix3 1 i n))
          (fun k n => arg4 m c (ix3 1 k n)) s n :=
  rowsF_apply _ _ _ _ _ _ _ _ _ _ ⟨t.val % 16, by omega⟩ r s hs n _ _ _ _ _ _ (fun r n => iblk0_at m c t b _ r n hb rfl)
    (fun n => (gl0_at _ n).trans ((iblk1_at m c t 0 n).trans (V1_at m c 0 n))) (fun n => (gl1_at _ n).trans ((iblk1_at m c t 1 n).trans (V1_at m c 1 n)))
    (fun k n => (iblk2_at m c t k n).trans (V2_at m c k n)) (fun n => (cl0_at _ n).trans ((iblk3_at m c t 0 n).trans (V4_at m c 0 n)))
    (fun n => (cl1_at _ n).trans ((iblk3_at m c t 1 n).trans (V4_at m c 1 n))) (fun n => (cl2_at _ n).trans ((iblk3_at m c t 2 n).trans (V4_at m c 2 n)))
    (fun k n => (iblk4_at m c t k n).trans (V5_at m c k n)) h2 h1

theorem rows_at (t : Fin cfg0.N) (b : Fin 2) (hb : b.val = t.val / 16) (r : Fin 512) (s : Fin 8192) (hs : s.val = 512 * (t.val % 16) + r.val) (n : Fin 1024) :
    (outsAt0 (F := Ideal) m c t.val t.isLt).1 (ix3 0 r n)
      = row (seq m c b) (fun n => arg1 m c (ix3 1 0 n)) (fun n => arg1 m c (ix3 1 1 n)) (fun k n => arg2 m c (ix3 1 k n)) (fun i n => arg3 m c (ix3 1 i n))
          (fun k n => arg4 m c (ix3 1 k n)) s n := by
  by_cases h0 : t.val % 16 = 0
  · rw [outsAt0_A m c t h0]
    dsimp only
    refine (congrFun (outA5 c t (iblk m c 0 t) (iblk m c 1 t) (iblk m c 2 t) (iblk m c 3 t) (iblk m c 4 t) ((hcond0_0 t).mpr h0)) (ix3 0 r n)).trans (rows_step m c t _ _ b hb r s hs n (fun n => ?_) (fun n => ?_))
    · exact (sl0_at _ n).trans ((zeros_apply 0 n).trans (pad_zero _ _ (by omega)).symm)
    · exact (sl1_at _ n).trans ((zeros_apply 1 n).trans (pad_zero _ _ (by omega)).symm)
  · rw [outsAt0_B m c t h0]
    dsimp only
    refine (congrFun (outB5 c t (iblk m c 0 t) (iblk m c 1 t) (iblk m c 2 t) (iblk m c 3 t) (iblk m c 4 t) (outsAt0 (F := Ideal) m c (t.val - 1) (Nat.lt_of_le_of_lt (Nat.sub_le _ _) t.isLt)).2.2 (fun h => h0 ((hcond0_0 t).mp h))) (ix3 0 r n)).trans (rows_step m c t _ _ b hb r s hs n (fun n => ?_) (fun n => ?_))
    · refine (sl0_at _ n).trans ((carry_at m c ⟨t.val - 1, Nat.lt_of_le_of_lt (Nat.sub_le _ _) t.isLt⟩ b (show b.val = (t.val - 1) / 16 by omega) 0
        ⟨512 * (t.val % 16) - 2, by omega⟩ (show 512 * (t.val % 16) - 2 = 512 * ((t.val - 1) % 16) + (510 + 0) by omega) n).trans ?_)
      exact (pad_next (cuAt m c b n) _ ⟨512 * (t.val % 16) - 2, by omega⟩ (show 512 * (t.val % 16) = 512 * (t.val % 16) - 2 + 2 by omega)).symm
    · refine (sl1_at _ n).trans ((carry_at m c ⟨t.val - 1, Nat.lt_of_le_of_lt (Nat.sub_le _ _) t.isLt⟩ b (show b.val = (t.val - 1) / 16 by omega) 1
        ⟨512 * (t.val % 16) - 1, by omega⟩ (show 512 * (t.val % 16) - 1 = 512 * ((t.val - 1) % 16) + (510 + 1) by omega) n).trans ?_)
      exact (pad_next (cuAt m c b n) _ ⟨512 * (t.val % 16) - 1, by omega⟩ (show 512 * (t.val % 16) + 1 = 512 * (t.val % 16) - 1 + 2 by omega)).symm

theorem at5 (t : Fin cfg0.N) (b : Fin 2) (hb : b.val = t.val / 16) (r : Fin 512) (s : Fin 8192) (hs : s.val = 512 * (t.val % 16) + r.val) (n : Fin 1024) :
    (((dats (F := Ideal) m 0 c).arrAt 5 cfg0.N) : FVec Ideal S2x8192x1024 .f32) (ix3 b s n) = ((dats (F := Ideal) m 0 c).flushed 5 t : Vec Ideal S1x512x1024 .f32) (ix3 0 r n) := by
  rw [← Cert.Kernel7Ideal.Value.blocks5 m c t (flush0_5 t)]
  show _ = ((dats (F := Ideal) m 0 c).arrAt 5 cfg0.N) (((cfg0.win 5).blk t).view.emb (ix3 0 r n))
  refine congrArg ((dats (F := Ideal) m 0 c).arrAt 5 cfg0.N) (funext fun x => Fin.ext ?_)
  blk_simp [index5]
  match x with
  | ⟨0, _⟩ => show b.val = t.val / 16 * 1 + 0; omega
  | ⟨1, _⟩ => show s.val = t.val % 16 * 512 + r.val; omega
  | ⟨2, _⟩ => show n.val = 0 * 1024 + n.val; omega

theorem at6 (t : Fin cfg0.N) (ht : t.val % 16 = 15) (b : Fin 2) (hb : b.val = t.val / 16) (i : Fin 2) (n : Fin 1024) :
    (((dats (F := Ideal) m 0 c).arrAt 6 cfg0.N) : FVec Ideal S2x2x1024 .f32) (ix3 b i n) = ((dats (F := Ideal) m 0 c).flushed 6 t : Vec Ideal S1x2x1024 .f32) (ix3 0 i n) := by
  rw [Cert.Kernel7Ideal.Value.flushed6_eq m c t ((flush0_6 t).mpr ht), Cert.Kernel7Ideal.Value.final6]
  show _ = Cert.Kernel7Ideal.Value.G6 m c (((cfg0.win 6).blk t).view.emb (ix3 0 i n))
  refine congrArg (Cert.Kernel7Ideal.Value.G6 m c) (funext fun x => Fin.ext ?_)
  blk_simp [index6]
  match x with
  | ⟨0, _⟩ => show b.val = t.val / 16 * 1 + 0; omega
  | ⟨1, _⟩ => show i.val = 0 * 2 + i.val; omega
  | ⟨2, _⟩ => show n.val = 0 * 1024 + n.val; omega

/-- The rows of the layer's input after the convolution is added. -/
theorem row_out (b : Fin 2) (s : Fin 8192) (n : Fin 1024) :
    (((dats (F := Ideal) m 0 c).arrAt 5 cfg0.N) : FVec Ideal S2x8192x1024 .f32) (ix3 b s n)
      = row (seq m c b) (fun n => arg1 m c (ix3 1 0 n)) (fun n => arg1 m c (ix3 1 1 n)) (fun k n => arg2 m c (ix3 1 k n)) (fun i n => arg3 m c (ix3 1 i n))
          (fun k n => arg4 m c (ix3 1 k n)) s n := by
  have hN : 16 * b.val + s.val / 512 < cfg0.N := lt_of_lt_of_eq (by omega) N_0.symm
  have hb : b.val = (⟨16 * b.val + s.val / 512, hN⟩ : Fin cfg0.N).val / 16 := by show b.val = (16 * b.val + s.val / 512) / 16; omega
  have hs : s.val = 512 * ((⟨16 * b.val + s.val / 512, hN⟩ : Fin cfg0.N).val % 16) + (⟨s.val % 512, by omega⟩ : Fin 512).val := by
    show s.val = 512 * ((16 * b.val + s.val / 512) % 16) + s.val % 512; omega
  rw [at5 m c _ b hb _ s hs n, Cert.Kernel7Ideal.Value.flushed5]
  exact rows_at m c _ b hb _ s hs n

/-- The last two rows of what is convolved. -/
theorem last_out (b : Fin 2) (i : Fin 2) (n : Fin 1024) :
    (((dats (F := Ideal) m 0 c).arrAt 6 cfg0.N) : FVec Ideal S2x2x1024 .f32) (ix3 b i n) = cuAt m c b n ⟨8190 + i.val, by omega⟩ := by
  have hN : 16 * b.val + 15 < cfg0.N := lt_of_lt_of_eq (by omega) N_0.symm
  have ht : (⟨16 * b.val + 15, hN⟩ : Fin cfg0.N).val % 16 = 15 := by show (16 * b.val + 15) % 16 = 15; omega
  have hb : b.val = (⟨16 * b.val + 15, hN⟩ : Fin cfg0.N).val / 16 := by show b.val = (16 * b.val + 15) / 16; omega
  rw [at6 m c _ ht b hb i n, Cert.Kernel7Ideal.Value.flushed6]
  exact state_at m c _ b hb i ⟨8190 + i.val, by omega⟩ (by rw [ht]; show 8190 + i.val = 512 * 15 + (510 + i.val); omega) n

end Cert.ConvPrompt

end
-- ==== Proof.ConvPromptRef.lean ====
/- The reference's short convolution of the prompt, cut into its steps, and each step at an element in the words of one row. -/
module

public import proofs.«01_k».proof.Proof.Gen.Reference7Ideal.Run
public import proofs.«01_k».proof.Proof.ConvPromptRow

@[expose] public section

noncomputable section

namespace Cert.ConvPrompt.Ref

open Idealize.ShloMosaic Idealize.ShloMosaic.TcCoe Cert.Reference7Ideal Cert.Reference7Ideal.Gen Facts Cert.Kvq Cert.Conv

/-- Rows over the root of their mean square, times the gains. -/
def nrm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The two gains of the layer. -/
def gain0 (g : FVec Ideal S4x4x1024 .f32) : FVec Ideal S1024 .f32 := shapeCast _ (extractStridedSlice S1x1x1024 ![1, 0, 0] g slices_S4x4x1024_S1x1x1024_1_0_0) shapeCasts_S1x1x1024_S1024
def gain1 (g : FVec Ideal S4x4x1024 .f32) : FVec Ideal S1024 .f32 := shapeCast _ (extractStridedSlice S1x1x1024 ![1, 1, 0] g slices_S4x4x1024_S1x1x1024_1_1_0) shapeCasts_S1x1x1024_S1024

/-- The projection. -/
def xin (z : FVec Ideal S2x8192x1024 .f32) (w : FVec Ideal S2x1024x3072 .f32) : FVec Ideal S2x8192x3072 .f32 :=
  Host.dotGeneral dot_S2x8192x1024_S1024x3072_S2x8192x3072_2_0_01_1_n_n none z (shapeCast _ (extractStridedSlice S1x1024x3072 ![1, 0, 0] w slices_S2x1024x3072_S1x1024x3072_1_0_0) shapeCasts_S1x1024x3072_S1024x3072)

/-- Two thirds of it, multiplied. -/
def cuR (p : FVec Ideal S2x8192x3072 .f32) : FVec Ideal S2x8192x1024 .f32 :=
  mulf (extractStridedSlice S2x8192x1024 ![0, 0, 1024] p slices_S2x8192x3072_S2x8192x1024_0_0_1024) (extractStridedSlice S2x8192x1024 ![0, 0, 2048] p slices_S2x8192x3072_S2x8192x1024_0_0_2048)

/-- Two zero rows in front. -/
def padR (x : FVec Ideal S2x8192x1024 .f32) : FVec Ideal S2x8194x1024 .f32 :=
  concatenate S2x8194x1024 1 [⟨S2x2x1024, (broadcastInDim S2x2x1024 ![] bcast_S_S2x2x1024 (constant S_ .f32 0x00000000#32))⟩, ⟨S2x8192x1024, x⟩] concatenates_S2x2x1024_S2x8192x1024_S2x8194x1024_d1

/-- The three rows that meet in the convolution. -/
def sl0 (x : FVec Ideal S2x8194x1024 .f32) : FVec Ideal S2x8192x1024 .f32 := extractStridedSlice S2x8192x1024 ![0, 0, 0] x slices_S2x8194x1024_S2x8192x1024_0_0_0
def sl1 (x : FVec Ideal S2x8194x1024 .f32) : FVec Ideal S2x8192x1024 .f32 := extractStridedSlice S2x8192x1024 ![0, 1, 0] x slices_S2x8194x1024_S2x8192x1024_0_1_0
def sl2 (x : FVec Ideal S2x8194x1024 .f32) : FVec Ideal S2x8192x1024 .f32 := extractStridedSlice S2x8192x1024 ![0, 2, 0] x slices_S2x8194x1024_S2x8192x1024_0_2_0

/-- The gated convolution, times the matrix of the layer. -/
def outR (p : FVec Ideal S2x8192x3072 .f32) (a b c : FVec Ideal S2x8192x1024 .f32) (w : FVec Ideal S2x3x1024 .f32) (wo : FVec Ideal S2x1024x1024 .f32) : FVec Ideal S2x8192x1024 .f32 :=
  Host.dotGeneral dot_S2x8192x1024_S1024x1024_S2x8192x1024_2_0_01_1_n_n none (mulf (extractStridedSlice S2x8192x1024 ![0, 0, 0] p slices_S2x8192x3072_S2x8192x1024_0_0_0) (addf (addf (mulf (broadcastInDim S2x8192x1024 ![0, 1, 2] bcast_S1x1x1024_S2x8192x1024_0_1_2 (broadcastInDim S1x1x1024 ![2] bcast_S1024_S1x1x1024_2 (shapeCast _ (extractStridedSlice S1x1x1024 ![1, 0, 0] w slices_S2x3x1024_S1x1x1024_1_0_0) shapeCasts_S1x1x1024_S1024))) a) (mulf (broadcastInDim S2x8192x1024 ![0, 1, 2] bcast_S1x1x1024_S2x8192x1024_0_1_2 (broadcastInDim S1x1x1024 ![2] bcast_S1024_S1x1x1024_2 (shapeCast _ (extractStridedSlice S1x1x1024 ![1, 1, 0] w slices_S2x3x1024_S1x1x1024_1_1_0) shapeCasts_S1x1x1024_S1024))) b)) (mulf (broadcastInDim S2x8192x1024 ![0, 1, 2] bcast_S1x1x1024_S2x8192x1024_0_1_2 (broadcastInDim S1x1x1024 ![2] bcast_S1024_S1x1x1024_2 (shapeCast _ (extractStridedSlice S1x1x1024 ![1, 2, 0] w slices_S2x3x1024_S1x1x1024_1_2_0) shapeCasts_S1x1x1024_S1024))) c))) (shapeCast _ (extractStridedSlice S1x1024x1024 ![1, 0, 0] wo slices_S2x1024x1024_S1x1024x1024_1_0_0) shapeCasts_S1x1024x1024_S1024x1024)

/-- The two results. -/
def lastOut (h : FVec Ideal S2x8192x1024 .f32) (g : FVec Ideal S4x4x1024 .f32) (w : FVec Ideal S2x1024x3072 .f32) : FVec Ideal S2x2x1024 .f32 :=
  extractStridedSlice S2x2x1024 ![0, 8192, 0] (padR (cuR (xin (nrm h (gain0 g)) w))) slices_S2x8194x1024_S2x2x1024_0_8192_0
def rowOut (h : FVec Ideal S2x8192x1024 .f32) (g : FVec Ideal S4x4x1024 .f32) (w : FVec Ideal S2x1024x3072 .f32) (wc : FVec Ideal S2x3x1024 .f32)
    (wo : FVec Ideal S2x1024x1024 .f32) : FVec Ideal S2x8192x1024 .f32 :=
  addf h (nrm (outR (xin (nrm h (gain0 g)) w) (sl0 (padR (cuR (xin (nrm h (gain0 g)) w)))) (sl1 (padR (cuR (xin (nrm h (gain0 g)) w))))
    (sl2 (padR (cuR (xin (nrm h (gain0 g)) w)))) wc wo) (gain1 g))

theorem nrm_apply (x : FVec Ideal S2x8192x1024 .f32) (g : FVec Ideal S1024 .f32) (b : Fin 2) (t : Fin 8192) (n : Fin 1024) :
    nrm x g (ix3 b t n) = Ffn.rms (fun n => x (ix3 b t n)) (fun n => g (ix1 n)) n := by
  pointwise [nrm]
  rfl

theorem gain0_apply (g : FVec Ideal S4x4x1024 .f32) (n : Fin 1024) : gain0 g (ix1 n) = g (ix3 1 0 n) := by
  pointwise [gain0]
theorem gain1_apply (g : FVec Ideal S4x4x1024 .f32) (n : Fin 1024) : gain1 g (ix1 n) = g (ix3 1 1 n) := by
  pointwise [gain1]

theorem xin_apply (x : FVec Ideal S2x8192x1024 .f32) (g : FVec Ideal S4x4x1024 .f32) (w : FVec Ideal S2x1024x3072 .f32) (b : Fin 2) (t : Fin 8192) (n : Fin 3072) :
    xin (nrm x (gain0 g)) w (ix3 b t n) = proj (fun n => x (ix3 b t n)) (fun n => g (ix3 1 0 n)) (fun k n => w (ix3 1 k n)) n := by
  have e : xin (nrm x (gain0 g)) w (ix3 b t n) = Ffn.lin (fun k => nrm x (gain0 g) (ix3 b t k)) (fun k n => w (ix3 1 k n)) n := by
    pointwise [xin]
    rfl
  rw [e]
  simp only [nrm_apply, gain0_apply]
  rfl

theorem cuR_split (p : FVec Ideal S2x8192x3072 .f32) (b : Fin 2) (t : Fin 8192) (n : Fin 1024) :
    cuR p (ix3 b t n) = p (ix3 b t ⟨1024 + n.val, by omega⟩) * p (ix3 b t ⟨2048 + n.val, by omega⟩) := by
  pointwise [cuR]

theorem cuR_apply (x : FVec Ideal S2x8192x1024 .f32) (g : FVec Ideal S4x4x1024 .f32) (w : FVec Ideal S2x1024x3072 .f32) (b : Fin 2) (t : Fin 8192) (n : Fin 1024) :
    cuR (xin (nrm x (gain0 g)) w) (ix3 b t n) = cu (fun n => x (ix3 b t n)) (fun n => g (ix3 1 0 n)) (fun k n => w (ix3 1 k n)) n := by
  rw [cuR_split, xin_apply, xin_apply]
  rfl

theorem padR_apply (x : FVec Ideal S2x8192x1024 .f32) (b : Fin 2) (j : Fin 8194) (n : Fin 1024) :
    padR x (ix3 b j n) = pad (fun t => x (ix3 b t n)) j.val := by
  by_cases h : j.val < 2
  · rw [pad_zero _ _ h]
    pointwise [padR]
    rw [dif_pos h]
  · rw [pad_next _ _ ⟨j.val - 2, by omega⟩ (show j.val = j.val - 2 + 2 by omega)]
    pointwise [padR]
    rw [dif_neg h]

theorem sl0_apply (x : FVec Ideal S2x8194x1024 .f32) (b : Fin 2) (t : Fin 8192) (n : Fin 1024) : sl0 x (ix3 b t n) = x (ix3 b ⟨t.val, by omega⟩ n) := by
  pointwise [sl0]
theorem sl1_apply (x : FVec Ideal S2x8194x1024 .f32) (b : Fin 2) (t : Fin 8192) (n : Fin 1024) : sl1 x (ix3 b t n) = x (ix3 b ⟨1 + t.val, by omega⟩ n) := by
  pointwise [sl1]
theorem sl2_apply (x : FVec Ideal S2x8194x1024 .f32) (b : Fin 2) (t : Fin 8192) (n : Fin 1024) : sl2 x (ix3 b t n) = x (ix3 b ⟨2 + t.val, by omega⟩ n) := by
  pointwise [sl2]

theorem outR_apply (p : FVec Ideal S2x8192x3072 .f32) (a d e : FVec Ideal S2x8192x1024 .f32) (w : FVec Ideal S2x3x1024 .f32) (wo : FVec Ideal S2x1024x1024 .f32)
    (b : Fin 2) (t : Fin 8192) (n : Fin 1024) :
    outR p a d e w wo (ix3 b t n)
      = Ffn.lin (fun k => (p (ix3 b t ⟨k.val, by omega⟩) : EReal) * (w (ix3 1 0 k) * a (ix3 b t k) + w (ix3 1 1 k) * d (ix3 b t k) + w (ix3 1 2 k) * e (ix3 b t k)))
          (fun k n => wo (ix3 1 k n)) n := by
  pointwise [outR]
  rfl

theorem gated_eq (h : FVec Ideal S2x8192x1024 .f32) (g : FVec Ideal S4x4x1024 .f32) (w : FVec Ideal S2x1024x3072 .f32) (wc : FVec Ideal S2x3x1024 .f32)
    (b : Fin 2) (t : Fin 8192) (k : Fin 1024) :
    (xin (nrm h (gain0 g)) w (ix3 b t ⟨k.val, by omega⟩) : EReal) * (wc (ix3 1 0 k) * sl0 (padR (cuR (xin (nrm h (gain0 g)) w))) (ix3 b t k)
        + wc (ix3 1 1 k) * sl1 (padR (cuR (xin (nrm h (gain0 g)) w))) (ix3 b t k) + wc (ix3 1 2 k) * sl2 (padR (cuR (xin (nrm h (gain0 g)) w))) (ix3 b t k))
      = gated (fun t n => h (ix3 b t n)) (fun n => g (ix3 1 0 n)) (fun k n => w (ix3 1 k n)) (fun i n => wc (ix3 1 i n)) t k := by
  rw [sl0_apply, sl1_apply, sl2_apply, padR_apply, padR_apply, padR_apply, xin_apply,
    pad_next _ _ t (show 2 + t.val = t.val + 2 by omega), show (⟨1 + t.val, by omega⟩ : Fin 8194).val = t.val + 1 from Nat.add_comm 1 t.val]
  simp only [cuR_apply]
  rfl

theorem rowOut_apply (h : FVec Ideal S2x8192x1024 .f32) (g : FVec Ideal S4x4x1024 .f32) (w : FVec Ideal S2x1024x3072 .f32) (wc : FVec Ideal S2x3x1024 .f32)
    (wo : FVec Ideal S2x1024x1024 .f32) (b : Fin 2) (t : Fin 8192) (n : Fin 1024) :
    rowOut h g w wc wo (ix3 b t n)
      = row (fun t n => h (ix3 b t n)) (fun n => g (ix3 1 0 n)) (fun n => g (ix3 1 1 n))
          (fun k n => w (ix3 1 k n)) (fun i n => wc (ix3 1 i n)) (fun k n => wo (ix3 1 k n)) t n := by
  unfold rowOut
  show (h _ : EReal) + nrm _ _ _ = _
  rw [nrm_apply]
  simp only [outR_apply, gated_eq, gain1_apply]
  rfl

theorem last_split (x : FVec Ideal S2x8194x1024 .f32) (b : Fin 2) (i : Fin 2) (n : Fin 1024) :
    extractStridedSlice S2x2x1024 ![0, 8192, 0] x slices_S2x8194x1024_S2x2x1024_0_8192_0 (ix3 b i n) = x (ix3 b ⟨8192 + i.val, by omega⟩ n) := by
  pointwise []

theorem lastOut_apply (h : FVec Ideal S2x8192x1024 .f32) (g : FVec Ideal S4x4x1024 .f32) (w : FVec Ideal S2x1024x3072 .f32) (b : Fin 2) (i : Fin 2) (n : Fin 1024) :
    lastOut h g w (ix3 b i n) = cu (fun n => h (ix3 b ⟨8190 + i.val, by omega⟩ n)) (fun n => g (ix3 1 0 n)) (fun k n => w (ix3 1 k n)) n := by
  unfold lastOut
  rw [last_split, padR_apply, pad_next _ _ ⟨8190 + i.val, by omega⟩ (show 8192 + i.val = 8190 + i.val + 2 by omega), cuR_apply]

end Cert.ConvPrompt.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.KernelIdeal.Frame
public import proofs.«01_k».proof.Proof.KernelIdeal.Value
public import proofs.«01_k».proof.Proof.SameText
public import proofs.«01_k».proof.Proof.Real
public import proofs.«01_k».proof.Proof.Same
public import proofs.«01_k».proof.Proof.FfnKern
public import proofs.«01_k».proof.Proof.FfnRef
public import proofs.«01_k».proof.Proof.FfnPromptKern
public import proofs.«01_k».proof.Proof.FfnPromptRef
public import proofs.«01_k».proof.Proof.KvqKern
public import proofs.«01_k».proof.Proof.KvqRef
public import proofs.«01_k».proof.Proof.ConvKern
public import proofs.«01_k».proof.Proof.ConvRef
public import proofs.«01_k».proof.Proof.FfnPlainKern
public import proofs.«01_k».proof.Proof.FfnPlainRef
public import proofs.«01_k».proof.Proof.ConvPromptKern
public import proofs.«01_k».proof.Proof.ConvPromptRef
public import Idealize.ShloMosaic.Lib.Quiescent
public import Idealize.ShloMosaic.Adequacy
public import Idealize.ShloMosaic.Init

@[expose] public section

noncomputable section

namespace Cert.Proof

open Idealize.ShloMosaic Idealize.SL.Sem

theorem preFacts : Cert.Pre_finite_qkf.Facts := ⟨by decide, by decide⟩

/-- The reference has no kernel and declares no counter. -/
theorem frame_reference : Cert.quiescent_ReferenceIdeal (hReferenceIdeal := Cert.ReferenceIdeal.Gen.facts) :=
  fun m g _ => (θ_run _ _ _).mono
    (fun r h => ⟨fun c => (h c).2, sem_eq_zero_of_no_sems (by decide) r.2⟩) (Cert.ReferenceIdeal.Value.run m g)

theorem algebraic : Cert.algebraic_KernelIdeal_ReferenceIdeal_pre_finite_qkf (hKernelIdeal := Cert.KernelIdeal.Gen.facts)
    (hReferenceIdeal := Cert.ReferenceIdeal.Gen.facts) (hPre_finite_qkf := preFacts) := by
  intro m g m' g' hpre hargs
  refine ⟨fun c => (Cert.KernelIdeal.Gen.dats (F := Ideal) m 0 c).arrAt 3 Cert.KernelIdeal.cfg0.N, Cert.KernelIdeal.Value.run_blocks m g, ?_⟩
  refine (θ_run _ _ _).mono (fun r h c => ⟨(h c).1.trans ?_, (h c).2⟩) (Cert.ReferenceIdeal.Value.run m' g')
  haveI := preFacts
  obtain ⟨h0, h1, h2, h3⟩ := hargs c
  obtain ⟨p0, p1, p2⟩ := hpre c
  have hq := Cert.Flash.q_real _ _ _ _ p0
  have hk := Cert.Flash.k_real _ _ _ _ p1
  have hf := Cert.Flash.cum_real _ (Cert.Flash.f_real _ _ _ _ p2)
  choose q hq using hq
  choose k hk using hk
  choose f hf using hf
  rw [Cert.Flash.Ref.res_eq, h0, h1, h2, h3]
  funext x
  obtain ⟨b, i, n, rfl⟩ : ∃ (b : Fin 2) (i : Fin 8192) (n : Fin 1024), x = ix3 b i n := ⟨x 0, x 1, x 2, by funext d; fin_cases d <;> rfl⟩
  exact (Cert.Flash.ref_out q k f _ _ _ _ hq hk hf b i n).trans (Cert.Flash.kernel_out m c q k f hq hk hf b i n).symm

/-- Nor has the reference of the layer's end. -/
theorem frame_reference2 : Cert.quiescent_Reference2Ideal (hReference2Ideal := Cert.Reference2Ideal.Gen.facts) :=
  fun m g _ => (θ_run _ _ _).mono
    (fun r h => ⟨fun c => (h c).2, sem_eq_zero_of_no_sems (by decide) r.2⟩) (Cert.Reference2Ideal.Value.run m g)

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats (F := Ideal) m 0 c).arrAt 10 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6, h7, h8, h9⟩ := hargs c
  show Cert.Ffn.Ref.result m' c = _
  unfold Cert.Ffn.Ref.result
  rw [h0, h1, h2, h3, h4, h5, h6, h7, h8, h9]
  funext x
  obtain ⟨r, n, rfl⟩ : ∃ (r : Fin 256) (n : Fin 1024), x = ix2 r n := ⟨x 0, x 1, by funext d; fin_cases d <;> rfl⟩
  exact (Cert.Ffn.Ref.out_apply _ _ _ _ _ _ _ _ _ _ r n).trans (Cert.Ffn.kernel_out m c r n).symm

theorem frame_reference3 : Cert.quiescent_Reference3Ideal (hReference3Ideal := Cert.Reference3Ideal.Gen.facts) :=
  fun m g _ => (θ_run _ _ _).mono
    (fun r h => ⟨fun c => (h c).2, sem_eq_zero_of_no_sems (by decide) r.2⟩) (Cert.Reference3Ideal.Value.run m g)

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats (F := Ideal) m 0 c).arrAt 10 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4, h5, h6, h7, h8, h9⟩ := hargs c
  show Cert.Ffn.PromptRef.result m' c = _
  unfold Cert.Ffn.PromptRef.result
  rw [h0, h1, h2, h3, h4, h5, h6, h7, h8, h9]
  funext x
  obtain ⟨r, n, rfl⟩ : ∃ (r : Fin 16384) (n : Fin 1024), x = ix2 r n := ⟨x 0, x 1, by funext d; fin_cases d <;> rfl⟩
  exact (Cert.Ffn.PromptRef.out_apply _ _ _ _ _ _ _ _ _ _ r n).trans (Cert.Ffn.Prompt.kernel_out m c r n).symm

theorem frame_reference4 : Cert.quiescent_Reference4Ideal (hReference4Ideal := Cert.Reference4Ideal.Gen.facts) :=
  fun m g _ => (θ_run _ _ _).mono
    (fun r h => ⟨fun c => (h c).2.2.2.2, sem_eq_zero_of_no_sems (by decide) r.2⟩) (Cert.Reference4Ideal.Value.run m g)

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats (F := Ideal) m 0 c).arrAt 8 Cert.Kernel4Ideal.cfg0.N,
    fun c => (Cert.Kernel4Ideal.Gen.dats (F := Ideal) m 0 c).arrAt 9 Cert.Kernel4Ideal.cfg0.N,
    fun c => (Cert.Kernel4Ideal.Gen.dats (F := Ideal) m 0 c).arrAt 10 Cert.Kernel4Ideal.cfg0.N,
    fun c => (Cert.Kernel4Ideal.Gen.dats (F := Ideal) m 0 c).arrAt 11 Cert.Kernel4Ideal.cfg0.N, Cert.Kernel4Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference4Ideal.Value.run m' g')
  all_goals obtain ⟨h0, h1, h2, h3, h4, h5, h6, h7⟩ := hargs c
  · rw [h0, h2, h3]
    funext x
    obtain ⟨r, n, rfl⟩ : ∃ (r : Fin 256) (n : Fin 1024), x = ix2 r n := ⟨x 0, x 1, by funext d; fin_cases d <;> rfl⟩
    exact (Cert.Kvq.Ref.times_apply _ _ _ r n).trans (Cert.Kvq.keys_out m c r n).symm
  · rw [h0, h2, h4]
    funext x
    obtain ⟨r, n, rfl⟩ : ∃ (r : Fin 256) (n : Fin 1024), x = ix2 r n := ⟨x 0, x 1, by funext d; fin_cases d <;> rfl⟩
    exact (Cert.Kvq.Ref.times_apply _ _ _ r n).trans (Cert.Kvq.vals_out m c r n).symm
  · show Cert.Kvq.Ref.gates (Cert.Kvq.Ref.logit (Cert.Kvq.Ref.nrm _ _) _ _) = _
    rw [h0, h2, h5, h6]
    funext x
    obtain ⟨r, n, rfl⟩ : ∃ (r : Fin 256) (n : Fin 16), x = ix2 r n := ⟨x 0, x 1, by funext d; fin_cases d <;> rfl⟩
    exact ((Cert.Kvq.Ref.gates_apply _ r n).trans (congrArg Cert.Kvq.logsig (Cert.Kvq.Ref.logit_apply _ _ _ _ _ _ n))).trans
      (Cert.Kvq.gates_out m c r n).symm
  · rw [h0, h1, h7]
    funext x
    obtain ⟨r, n, rfl⟩ : ∃ (r : Fin 256) (n : Fin 1024), x = ix2 r n := ⟨x 0, x 1, by funext d; fin_cases d <;> rfl⟩
    exact (Cert.Kvq.Ref.queries_apply _ _ _ r n).trans (Cert.Kvq.queries_out m c r n).symm

theorem frame_reference5 : Cert.quiescent_Reference5Ideal (hReference5Ideal := Cert.Reference5Ideal.Gen.facts) :=
  fun m g _ => (θ_run _ _ _).mono
    (fun r h => ⟨fun c => (h c).2.2, sem_eq_zero_of_no_sems (by decide) r.2⟩) (Cert.Reference5Ideal.Value.run m g)

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats (F := Ideal) m 0 c).arrAt 7 Cert.Kernel5Ideal.cfg0.N,
    fun c => (Cert.Kernel5Ideal.Gen.dats (F := Ideal) m 0 c).arrAt 8 Cert.Kernel5Ideal.cfg0.N, Cert.Kernel5Ideal.Value.run_blocks m g, ?_⟩
  refine (θ_run _ _ _).mono (fun r h c => ⟨(h c).1.trans ?_, (h c).2.1.trans ?_, (h c).2.2⟩) (Cert.Reference5Ideal.Value.run m' g')
  all_goals obtain ⟨h0, h1, h2, h3, h4, h5⟩ := hargs c
  · show Cert.Conv.Ref.rowOut _ _ _ _ _ _ = _
    rw [h0, h1, h2, h3, h4, h5]
    funext x
    obtain ⟨r, n, rfl⟩ : ∃ (r : Fin 256) (n : Fin 1024), x = ix2 r n := ⟨x 0, x 1, by funext d; fin_cases d <;> rfl⟩
    exact (Cert.Conv.Ref.rowOut_apply _ _ _ _ _ _ r n).trans (Cert.Conv.row_out m c r n).symm
  · show Cert.Conv.Ref.cuOut _ _ _ = _
    rw [h0, h2, h3]
    funext x
    obtain ⟨r, n, rfl⟩ : ∃ (r : Fin 256) (n : Fin 1024), x = ix2 r n := ⟨x 0, x 1, by funext d; fin_cases d <;> rfl⟩
    exact (Cert.Conv.Ref.cuOut_apply _ _ _ r n).trans (Cert.Conv.cu_out m c r n).symm

theorem frame_reference6 : Cert.quiescent_Reference6Ideal (hReference6Ideal := Cert.Reference6Ideal.Gen.facts) :=
  fun m g _ => (θ_run _ _ _).mono
    (fun r h => ⟨fun c => (h c).2, sem_eq_zero_of_no_sems (by decide) r.2⟩) (Cert.Reference6Ideal.Value.run m g)

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats (F := Ideal) m 0 c).arrAt 8 Cert.Kernel6Ideal.cfg0.N, Cert.Kernel6Ideal.Value.run_blocks m g, ?_⟩
  refine (θ_run _ _ _).mono (fun r h c => ⟨(h c).1.trans ?_, (h c).2⟩) (Cert.Reference6Ideal.Value.run m' g')
  obtain ⟨h0, h1, h2, h3, h4, h5, h6, h7⟩ := hargs c
  show Cert.Ffn.PlainRef.result m' c = _
  unfold Cert.Ffn.PlainRef.result
  rw [h0, h1, h2, h3, h4, h5, h6, h7]
  funext x
  obtain ⟨r, n, rfl⟩ : ∃ (r : Fin 16384) (n : Fin 1024), x = ix2 r n := ⟨x 0, x 1, by funext d; fin_cases d <;> rfl⟩
  exact (Cert.Ffn.PlainRef.out_apply _ _ _ _ _ _ _ _ r n).trans (Cert.Ffn.Plain.kernel_out m c r n).symm

theorem frame_reference7 : Cert.quiescent_Reference7Ideal (hReference7Ideal := Cert.Reference7Ideal.Gen.facts) :=
  fun m g _ => (θ_run _ _ _).mono
    (fun r h => ⟨fun c => (h c).2.2, sem_eq_zero_of_no_sems (by decide) r.2⟩) (Cert.Reference7Ideal.Value.run m g)

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats (F := Ideal) m 0 c).arrAt 5 Cert.Kernel7Ideal.cfg0.N,
    fun c => (Cert.Kernel7Ideal.Gen.dats (F := Ideal) m 0 c).arrAt 6 Cert.Kernel7Ideal.cfg0.N, Cert.Kernel7Ideal.Value.run_blocks m g, ?_⟩
  refine (θ_run _ _ _).mono (fun r h c => ⟨(h c).1.trans ?_, (h c).2.1.trans ?_, (h c).2.2⟩) (Cert.Reference7Ideal.Value.run m' g')
  all_goals obtain ⟨h0, h1, h2, h3, h4⟩ := hargs c
  · show Cert.ConvPrompt.Ref.rowOut _ _ _ _ _ = _
    rw [h0, h1, h2, h3, h4]
    funext x
    obtain ⟨b, t, n, rfl⟩ : ∃ (b : Fin 2) (t : Fin 8192) (n : Fin 1024), x = ix3 b t n := ⟨x 0, x 1, x 2, by funext d; fin_cases d <;> rfl⟩
    exact (Cert.ConvPrompt.Ref.rowOut_apply _ _ _ _ _ b t n).trans (Cert.ConvPrompt.row_out m c b t n).symm
  · show Cert.ConvPrompt.Ref.lastOut _ _ _ = _
    rw [h0, h1, h2]
    funext x
    obtain ⟨b, i, n, rfl⟩ : ∃ (b : Fin 2) (i : Fin 2) (n : Fin 1024), x = ix3 b i n := ⟨x 0, x 1, x 2, by funext d; fin_cases d <;> rfl⟩
    exact (Cert.ConvPrompt.Ref.lastOut_apply _ _ _ b i n).trans (Cert.ConvPrompt.last_out m c b i n).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    preFacts,
    Cert.Flash.frame_printed, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    trivial, algebraic, trivial, algebraic2, trivial, algebraic3, trivial, algebraic4, trivial, algebraic5, trivial, algebraic6, trivial, algebraic7⟩

end Cert.Proof

end
